-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidReferenceIdeal (m : (ℓ : Loc Cert.FfnMidReferenceIdeal.nD Cert.FfnMidReferenceIdeal.τ Cert.FfnMidReferenceIdeal.sig) → Buf (Elt Ideal) ℓ) : Prop :=
  True

def Pre_Slabs (m : (ℓ : Loc Cert.Slabs.nD Cert.Slabs.τ Cert.Slabs.sig) → Buf (Elt Bits) ℓ) : Prop :=
  True

def Pre_SlabsIdeal (m : (ℓ : Loc Cert.SlabsIdeal.nD Cert.SlabsIdeal.τ Cert.SlabsIdeal.sig) → Buf (Elt Ideal) ℓ) : Prop :=
  True

def Pre_SlabsReferenceIdeal (m : (ℓ : Loc Cert.SlabsReferenceIdeal.nD Cert.SlabsReferenceIdeal.τ Cert.SlabsReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite_keys [hPre_finite_keys : Cert.Pre_finite_keys.Facts] (m : (ℓ : Loc Cert.XattnIdeal.nD Cert.XattnIdeal.τ Cert.XattnIdeal.sig) → Buf (Elt Ideal) ℓ) : Prop :=
  ∀ c : Dev Cert.XattnIdeal.nD,
    (Cert.Pre_finite_keys.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5))) = (fun _ => 1#1)

def Pre_XattnReferenceIdeal (m : (ℓ : Loc Cert.XattnReferenceIdeal.nD Cert.XattnReferenceIdeal.τ Cert.XattnReferenceIdeal.sig) → Buf (Elt Ideal) ℓ) : Prop :=
  True

def Pre_XattnReferenceIdeal_finite_keys [hPre_finite_keys : Cert.Pre_finite_keys.Facts] (m : (ℓ : Loc Cert.XattnReferenceIdeal.nD Cert.XattnReferenceIdeal.τ Cert.XattnReferenceIdeal.sig) → Buf (Elt Ideal) ℓ) : Prop :=
  ∀ c : Dev Cert.XattnReferenceIdeal.nD,
    (Cert.Pre_finite_keys.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5))) = (fun _ => 1#1)

def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4)
      ∧ r.2.mem ((c.tc : Thread Cert.FfnMid.nD Cert.FfnMid.τ).loc Cert.FfnMid.main_arg5) = m ((c.tc : Thread Cert.FfnMid.nD Cert.FfnMid.τ).loc Cert.FfnMid.main_arg5))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ r.2.sem = fun _ => 0)

def quiescent_FfnMidReferenceIdeal [hFfnMidReferenceIdeal : Cert.FfnMidReferenceIdeal.Facts] : Prop :=
  ∀ (m : (ℓ : Loc Cert.FfnMidReferenceIdeal.nD Cert.FfnMidReferenceIdeal.τ Cert.FfnMidReferenceIdeal.sig) → Buf (Elt Ideal) ℓ) (g : Dev Cert.FfnMidReferenceIdeal.nD → PrngReg), Pre_FfnMidReferenceIdeal m →
    θ_run (Cert.FfnMidReferenceIdeal.defs (F := Ideal)) (onTc (τ := Cert.FfnMidReferenceIdeal.τ) (Cert.FfnMidReferenceIdeal.main (F := Ideal))) ⟨m, fun _ => 0, g⟩ (fun r => (∀ c : Dev Cert.FfnMidReferenceIdeal.nD,
      r.2.mem ((c.tc : Thread Cert.FfnMidReferenceIdeal.nD Cert.FfnMidReferenceIdeal.τ).loc Cert.FfnMidReferenceIdeal.main_arg0) = m ((c.tc : Thread Cert.FfnMidReferenceIdeal.nD Cert.FfnMidReferenceIdeal.τ).loc Cert.FfnMidReferenceIdeal.main_arg0)
      ∧ r.2.mem ((c.tc : Thread Cert.FfnMidReferenceIdeal.nD Cert.FfnMidReferenceIdeal.τ).loc Cert.FfnMidReferenceIdeal.main_arg1) = m ((c.tc : Thread Cert.FfnMidReferenceIdeal.nD Cert.FfnMidReferenceIdeal.τ).loc Cert.FfnMidReferenceIdeal.main_arg1)
      ∧ r.2.mem ((c.tc : Thread Cert.FfnMidReferenceIdeal.nD Cert.FfnMidReferenceIdeal.τ).loc Cert.FfnMidReferenceIdeal.main_arg2) = m ((c.tc : Thread Cert.FfnMidReferenceIdeal.nD Cert.FfnMidReferenceIdeal.τ).loc Cert.FfnMidReferenceIdeal.main_arg2)
      ∧ r.2.mem ((c.tc : Thread Cert.FfnMidReferenceIdeal.nD Cert.FfnMidReferenceIdeal.τ).loc Cert.FfnMidReferenceIdeal.main_arg3) = m ((c.tc : Thread Cert.FfnMidReferenceIdeal.nD Cert.FfnMidReferenceIdeal.τ).loc Cert.FfnMidReferenceIdeal.main_arg3)
      ∧ r.2.mem ((c.tc : Thread Cert.FfnMidReferenceIdeal.nD Cert.FfnMidReferenceIdeal.τ).loc Cert.FfnMidReferenceIdeal.main_arg4) = m ((c.tc : Thread Cert.FfnMidReferenceIdeal.nD Cert.FfnMidReferenceIdeal.τ).loc Cert.FfnMidReferenceIdeal.main_arg4)
      ∧ r.2.mem ((c.tc : Thread Cert.FfnMidReferenceIdeal.nD Cert.FfnMidReferenceIdeal.τ).loc Cert.FfnMidReferenceIdeal.main_arg5) = m ((c.tc : Thread Cert.FfnMidReferenceIdeal.nD Cert.FfnMidReferenceIdeal.τ).loc Cert.FfnMidReferenceIdeal.main_arg5))
      ∧ r.2.sem = fun _ => 0)

def quiescent_Slabs [hSlabs : Cert.Slabs.Facts] : Prop :=
  ∀ (m : (ℓ : Loc Cert.Slabs.nD Cert.Slabs.τ Cert.Slabs.sig) → Buf (Elt Bits) ℓ) (g : Dev Cert.Slabs.nD → PrngReg), Pre_Slabs m →
    θ_run (Cert.Slabs.defs (F := Bits)) (onTc (τ := Cert.Slabs.τ) (Cert.Slabs.main (F := Bits))) ⟨m, fun _ => 0, g⟩ (fun r => (∀ c : Dev Cert.Slabs.nD,
      r.2.mem ((c.tc : Thread Cert.Slabs.nD Cert.Slabs.τ).loc Cert.Slabs.main_arg0) = m ((c.tc : Thread Cert.Slabs.nD Cert.Slabs.τ).loc Cert.Slabs.main_arg0)
      ∧ r.2.mem ((c.tc : Thread Cert.Slabs.nD Cert.Slabs.τ).loc Cert.Slabs.main_arg1) = m ((c.tc : Thread Cert.Slabs.nD Cert.Slabs.τ).loc Cert.Slabs.main_arg1)
      ∧ r.2.mem ((c.tc : Thread Cert.Slabs.nD Cert.Slabs.τ).loc Cert.Slabs.main_arg2) = m ((c.tc : Thread Cert.Slabs.nD Cert.Slabs.τ).loc Cert.Slabs.main_arg2))
      ∧ r.2.sem = fun _ => 0)

def quiescent_SlabsIdeal [hSlabsIdeal : Cert.SlabsIdeal.Facts] : Prop :=
  ∀ (m : (ℓ : Loc Cert.SlabsIdeal.nD Cert.SlabsIdeal.τ Cert.SlabsIdeal.sig) → Buf (Elt Ideal) ℓ) (g : Dev Cert.SlabsIdeal.nD → PrngReg), Pre_SlabsIdeal m →
    θ_run (Cert.SlabsIdeal.defs (F := Ideal)) (onTc (τ := Cert.SlabsIdeal.τ) (Cert.SlabsIdeal.main (F := Ideal))) ⟨m, fun _ => 0, g⟩ (fun r => (∀ c : Dev Cert.SlabsIdeal.nD,
      r.2.mem ((c.tc : Thread Cert.SlabsIdeal.nD Cert.SlabsIdeal.τ).loc Cert.SlabsIdeal.main_arg0) = m ((c.tc : Thread Cert.SlabsIdeal.nD Cert.SlabsIdeal.τ).loc Cert.SlabsIdeal.main_arg0)
      ∧ r.2.mem ((c.tc : Thread Cert.SlabsIdeal.nD Cert.SlabsIdeal.τ).loc Cert.SlabsIdeal.main_arg1) = m ((c.tc : Thread Cert.SlabsIdeal.nD Cert.SlabsIdeal.τ).loc Cert.SlabsIdeal.main_arg1)
      ∧ r.2.mem ((c.tc : Thread Cert.SlabsIdeal.nD Cert.SlabsIdeal.τ).loc Cert.SlabsIdeal.main_arg2) = m ((c.tc : Thread Cert.SlabsIdeal.nD Cert.SlabsIdeal.τ).loc Cert.SlabsIdeal.main_arg2))
      ∧ r.2.sem = fun _ => 0)

def quiescent_SlabsReferenceIdeal [hSlabsReferenceIdeal : Cert.SlabsReferenceIdeal.Facts] : Prop :=
  ∀ (m : (ℓ : Loc Cert.SlabsReferenceIdeal.nD Cert.SlabsReferenceIdeal.τ Cert.SlabsReferenceIdeal.sig) → Buf (Elt Ideal) ℓ) (g : Dev Cert.SlabsReferenceIdeal.nD → PrngReg), Pre_SlabsReferenceIdeal m →
    θ_run (Cert.SlabsReferenceIdeal.defs (F := Ideal)) (onTc (τ := Cert.SlabsReferenceIdeal.τ) (Cert.SlabsReferenceIdeal.main (F := Ideal))) ⟨m, fun _ => 0, g⟩ (fun r => (∀ c : Dev Cert.SlabsReferenceIdeal.nD,
      r.2.mem ((c.tc : Thread Cert.SlabsReferenceIdeal.nD Cert.SlabsReferenceIdeal.τ).loc Cert.SlabsReferenceIdeal.main_arg0) = m ((c.tc : Thread Cert.SlabsReferenceIdeal.nD Cert.SlabsReferenceIdeal.τ).loc Cert.SlabsReferenceIdeal.main_arg0)
      ∧ r.2.mem ((c.tc : Thread Cert.SlabsReferenceIdeal.nD Cert.SlabsReferenceIdeal.τ).loc Cert.SlabsReferenceIdeal.main_arg1) = m ((c.tc : Thread Cert.SlabsReferenceIdeal.nD Cert.SlabsReferenceIdeal.τ).loc Cert.SlabsReferenceIdeal.main_arg1)
      ∧ r.2.mem ((c.tc : Thread Cert.SlabsReferenceIdeal.nD Cert.SlabsReferenceIdeal.τ).loc Cert.SlabsReferenceIdeal.main_arg2) = m ((c.tc : Thread Cert.SlabsReferenceIdeal.nD Cert.SlabsReferenceIdeal.τ).loc Cert.SlabsReferenceIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ r.2.sem = fun _ => 0)

def quiescent_XattnIdeal_pre_finite_keys [hXattnIdeal : Cert.XattnIdeal.Facts] [hPre_finite_keys : Cert.Pre_finite_keys.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite_keys m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ r.2.sem = fun _ => 0)

def quiescent_XattnReferenceIdeal [hXattnReferenceIdeal : Cert.XattnReferenceIdeal.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
      ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
      ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
      ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5))
      ∧ r.2.sem = fun _ => 0)

def quiescent_XattnReferenceIdeal_pre_finite_keys [hXattnReferenceIdeal : Cert.XattnReferenceIdeal.Facts] [hPre_finite_keys : Cert.Pre_finite_keys.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal_finite_keys m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
      ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
      ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
      ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5))
      ∧ r.2.sem = fun _ => 0)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2)
      ∧ r.2.mem ((c.tc : Thread Cert.Mem.nD Cert.Mem.τ).loc Cert.Mem.main_arg3) = m ((c.tc : Thread Cert.Mem.nD Cert.Mem.τ).loc Cert.Mem.main_arg3))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
      ∧ r.2.mem ((c.tc : Thread Cert.MemIdeal.nD Cert.MemIdeal.τ).loc Cert.MemIdeal.main_arg3) = m ((c.tc : Thread Cert.MemIdeal.nD Cert.MemIdeal.τ).loc Cert.MemIdeal.main_arg3))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v40) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_FfnMid_FfnMidIdeal : Prop :=
  True

def algebraic_FfnMidIdeal_FfnMidReferenceIdeal [hFfnMidIdeal : Cert.FfnMidIdeal.Facts] [hFfnMidReferenceIdeal : Cert.FfnMidReferenceIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidReferenceIdeal.nD Cert.FfnMidReferenceIdeal.τ Cert.FfnMidReferenceIdeal.sig) → Buf (Elt Ideal) ℓ) (g' : Dev Cert.FfnMidReferenceIdeal.nD → PrngReg), Pre_FfnMidIdeal m →
    (∀ c : Dev Cert.FfnMidIdeal.nD,
      m' ((c.tc : Thread Cert.FfnMidReferenceIdeal.nD Cert.FfnMidReferenceIdeal.τ).loc Cert.FfnMidReferenceIdeal.main_arg0) = m ((c.tc : Thread Cert.FfnMidIdeal.nD Cert.FfnMidIdeal.τ).loc Cert.FfnMidIdeal.main_arg0)
      ∧ m' ((c.tc : Thread Cert.FfnMidReferenceIdeal.nD Cert.FfnMidReferenceIdeal.τ).loc Cert.FfnMidReferenceIdeal.main_arg1) = m ((c.tc : Thread Cert.FfnMidIdeal.nD Cert.FfnMidIdeal.τ).loc Cert.FfnMidIdeal.main_arg1)
      ∧ m' ((c.tc : Thread Cert.FfnMidReferenceIdeal.nD Cert.FfnMidReferenceIdeal.τ).loc Cert.FfnMidReferenceIdeal.main_arg2) = m ((c.tc : Thread Cert.FfnMidIdeal.nD Cert.FfnMidIdeal.τ).loc Cert.FfnMidIdeal.main_arg2)
      ∧ m' ((c.tc : Thread Cert.FfnMidReferenceIdeal.nD Cert.FfnMidReferenceIdeal.τ).loc Cert.FfnMidReferenceIdeal.main_arg3) = m ((c.tc : Thread Cert.FfnMidIdeal.nD Cert.FfnMidIdeal.τ).loc Cert.FfnMidIdeal.main_arg3)
      ∧ m' ((c.tc : Thread Cert.FfnMidReferenceIdeal.nD Cert.FfnMidReferenceIdeal.τ).loc Cert.FfnMidReferenceIdeal.main_arg4) = m ((c.tc : Thread Cert.FfnMidIdeal.nD Cert.FfnMidIdeal.τ).loc Cert.FfnMidIdeal.main_arg4)
      ∧ m' ((c.tc : Thread Cert.FfnMidReferenceIdeal.nD Cert.FfnMidReferenceIdeal.τ).loc Cert.FfnMidReferenceIdeal.main_arg5) = m ((c.tc : Thread Cert.FfnMidIdeal.nD Cert.FfnMidIdeal.τ).loc Cert.FfnMidIdeal.main_arg5)) →
    ∃ (v0 : (c : Dev Cert.FfnMidIdeal.nD) → Buf (Elt Ideal) ((c.tc : Thread Cert.FfnMidIdeal.nD Cert.FfnMidIdeal.τ).loc Cert.FfnMidIdeal.main_v8)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v8) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
          ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ θ_run (Cert.FfnMidReferenceIdeal.defs (F := Ideal)) (onTc (τ := Cert.FfnMidReferenceIdeal.τ) (Cert.FfnMidReferenceIdeal.main (F := Ideal))) ⟨m', fun _ => 0, g'⟩ (fun r => ∀ c : Dev Cert.FfnMidReferenceIdeal.nD,
          r.2.mem ((c.tc : Thread Cert.FfnMidReferenceIdeal.nD Cert.FfnMidReferenceIdeal.τ).loc Cert.FfnMidReferenceIdeal.main_v27) = v0 c
          ∧ r.2.mem ((c.tc : Thread Cert.FfnMidReferenceIdeal.nD Cert.FfnMidReferenceIdeal.τ).loc Cert.FfnMidReferenceIdeal.main_arg0) = m' ((c.tc : Thread Cert.FfnMidReferenceIdeal.nD Cert.FfnMidReferenceIdeal.τ).loc Cert.FfnMidReferenceIdeal.main_arg0)
          ∧ r.2.mem ((c.tc : Thread Cert.FfnMidReferenceIdeal.nD Cert.FfnMidReferenceIdeal.τ).loc Cert.FfnMidReferenceIdeal.main_arg1) = m' ((c.tc : Thread Cert.FfnMidReferenceIdeal.nD Cert.FfnMidReferenceIdeal.τ).loc Cert.FfnMidReferenceIdeal.main_arg1)
          ∧ r.2.mem ((c.tc : Thread Cert.FfnMidReferenceIdeal.nD Cert.FfnMidReferenceIdeal.τ).loc Cert.FfnMidReferenceIdeal.main_arg2) = m' ((c.tc : Thread Cert.FfnMidReferenceIdeal.nD Cert.FfnMidReferenceIdeal.τ).loc Cert.FfnMidReferenceIdeal.main_arg2)
          ∧ r.2.mem ((c.tc : Thread Cert.FfnMidReferenceIdeal.nD Cert.FfnMidReferenceIdeal.τ).loc Cert.FfnMidReferenceIdeal.main_arg3) = m' ((c.tc : Thread Cert.FfnMidReferenceIdeal.nD Cert.FfnMidReferenceIdeal.τ).loc Cert.FfnMidReferenceIdeal.main_arg3)
          ∧ r.2.mem ((c.tc : Thread Cert.FfnMidReferenceIdeal.nD Cert.FfnMidReferenceIdeal.τ).loc Cert.FfnMidReferenceIdeal.main_arg4) = m' ((c.tc : Thread Cert.FfnMidReferenceIdeal.nD Cert.FfnMidReferenceIdeal.τ).loc Cert.FfnMidReferenceIdeal.main_arg4)
          ∧ r.2.mem ((c.tc : Thread Cert.FfnMidReferenceIdeal.nD Cert.FfnMidReferenceIdeal.τ).loc Cert.FfnMidReferenceIdeal.main_arg5) = m' ((c.tc : Thread Cert.FfnMidReferenceIdeal.nD Cert.FfnMidReferenceIdeal.τ).loc Cert.FfnMidReferenceIdeal.main_arg5))

def preserves_Slabs_SlabsIdeal : Prop :=
  True

def algebraic_SlabsIdeal_SlabsReferenceIdeal [hSlabsIdeal : Cert.SlabsIdeal.Facts] [hSlabsReferenceIdeal : Cert.SlabsReferenceIdeal.Facts] : Prop :=
  ∀ (m : (ℓ : Loc Cert.SlabsIdeal.nD Cert.SlabsIdeal.τ Cert.SlabsIdeal.sig) → Buf (Elt Ideal) ℓ) (g : Dev Cert.SlabsIdeal.nD → PrngReg)
    (m' : (ℓ : Loc Cert.SlabsReferenceIdeal.nD Cert.SlabsReferenceIdeal.τ Cert.SlabsReferenceIdeal.sig) → Buf (Elt Ideal) ℓ) (g' : Dev Cert.SlabsReferenceIdeal.nD → PrngReg), Pre_SlabsIdeal m →
    (∀ c : Dev Cert.SlabsIdeal.nD,
      m' ((c.tc : Thread Cert.SlabsReferenceIdeal.nD Cert.SlabsReferenceIdeal.τ).loc Cert.SlabsReferenceIdeal.main_arg0) = m ((c.tc : Thread Cert.SlabsIdeal.nD Cert.SlabsIdeal.τ).loc Cert.SlabsIdeal.main_arg0)
      ∧ m' ((c.tc : Thread Cert.SlabsReferenceIdeal.nD Cert.SlabsReferenceIdeal.τ).loc Cert.SlabsReferenceIdeal.main_arg1) = m ((c.tc : Thread Cert.SlabsIdeal.nD Cert.SlabsIdeal.τ).loc Cert.SlabsIdeal.main_arg1)
      ∧ m' ((c.tc : Thread Cert.SlabsReferenceIdeal.nD Cert.SlabsReferenceIdeal.τ).loc Cert.SlabsReferenceIdeal.main_arg2) = m ((c.tc : Thread Cert.SlabsIdeal.nD Cert.SlabsIdeal.τ).loc Cert.SlabsIdeal.main_arg2)) →
    ∃ (v0 : (c : Dev Cert.SlabsIdeal.nD) → Buf (Elt Ideal) ((c.tc : Thread Cert.SlabsIdeal.nD Cert.SlabsIdeal.τ).loc Cert.SlabsIdeal.main_v5)),
      θ_run (Cert.SlabsIdeal.defs (F := Ideal)) (onTc (τ := Cert.SlabsIdeal.τ) (Cert.SlabsIdeal.main (F := Ideal))) ⟨m, fun _ => 0, g⟩ (fun r => ∀ c : Dev Cert.SlabsIdeal.nD,
          r.2.mem ((c.tc : Thread Cert.SlabsIdeal.nD Cert.SlabsIdeal.τ).loc Cert.SlabsIdeal.main_v5) = v0 c
          ∧ r.2.mem ((c.tc : Thread Cert.SlabsIdeal.nD Cert.SlabsIdeal.τ).loc Cert.SlabsIdeal.main_arg0) = m ((c.tc : Thread Cert.SlabsIdeal.nD Cert.SlabsIdeal.τ).loc Cert.SlabsIdeal.main_arg0)
          ∧ r.2.mem ((c.tc : Thread Cert.SlabsIdeal.nD Cert.SlabsIdeal.τ).loc Cert.SlabsIdeal.main_arg1) = m ((c.tc : Thread Cert.SlabsIdeal.nD Cert.SlabsIdeal.τ).loc Cert.SlabsIdeal.main_arg1)
          ∧ r.2.mem ((c.tc : Thread Cert.SlabsIdeal.nD Cert.SlabsIdeal.τ).loc Cert.SlabsIdeal.main_arg2) = m ((c.tc : Thread Cert.SlabsIdeal.nD Cert.SlabsIdeal.τ).loc Cert.SlabsIdeal.main_arg2))
      ∧ θ_run (Cert.SlabsReferenceIdeal.defs (F := Ideal)) (onTc (τ := Cert.SlabsReferenceIdeal.τ) (Cert.SlabsReferenceIdeal.main (F := Ideal))) ⟨m', fun _ => 0, g'⟩ (fun r => ∀ c : Dev Cert.SlabsReferenceIdeal.nD,
          r.2.mem ((c.tc : Thread Cert.SlabsReferenceIdeal.nD Cert.SlabsReferenceIdeal.τ).loc Cert.SlabsReferenceIdeal.main_v19) = v0 c
          ∧ r.2.mem ((c.tc : Thread Cert.SlabsReferenceIdeal.nD Cert.SlabsReferenceIdeal.τ).loc Cert.SlabsReferenceIdeal.main_arg0) = m' ((c.tc : Thread Cert.SlabsReferenceIdeal.nD Cert.SlabsReferenceIdeal.τ).loc Cert.SlabsReferenceIdeal.main_arg0)
          ∧ r.2.mem ((c.tc : Thread Cert.SlabsReferenceIdeal.nD Cert.SlabsReferenceIdeal.τ).loc Cert.SlabsReferenceIdeal.main_arg1) = m' ((c.tc : Thread Cert.SlabsReferenceIdeal.nD Cert.SlabsReferenceIdeal.τ).loc Cert.SlabsReferenceIdeal.main_arg1)
          ∧ r.2.mem ((c.tc : Thread Cert.SlabsReferenceIdeal.nD Cert.SlabsReferenceIdeal.τ).loc Cert.SlabsReferenceIdeal.main_arg2) = m' ((c.tc : Thread Cert.SlabsReferenceIdeal.nD Cert.SlabsReferenceIdeal.τ).loc Cert.SlabsReferenceIdeal.main_arg2))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v14)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v14) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v50) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def preserves_Xattn_XattnIdeal : Prop :=
  True

def algebraic_XattnIdeal_XattnReferenceIdeal_pre_finite_keys [hXattnIdeal : Cert.XattnIdeal.Facts] [hXattnReferenceIdeal : Cert.XattnReferenceIdeal.Facts] [hPre_finite_keys : Cert.Pre_finite_keys.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnReferenceIdeal.nD Cert.XattnReferenceIdeal.τ Cert.XattnReferenceIdeal.sig) → Buf (Elt Ideal) ℓ) (g' : Dev Cert.XattnReferenceIdeal.nD → PrngReg), Pre_XattnIdeal_finite_keys m →
    (∀ c : Dev Cert.XattnIdeal.nD,
      m' ((c.tc : Thread Cert.XattnReferenceIdeal.nD Cert.XattnReferenceIdeal.τ).loc Cert.XattnReferenceIdeal.main_arg0) = m ((c.tc : Thread Cert.XattnIdeal.nD Cert.XattnIdeal.τ).loc Cert.XattnIdeal.main_arg0)
      ∧ m' ((c.tc : Thread Cert.XattnReferenceIdeal.nD Cert.XattnReferenceIdeal.τ).loc Cert.XattnReferenceIdeal.main_arg1) = m ((c.tc : Thread Cert.XattnIdeal.nD Cert.XattnIdeal.τ).loc Cert.XattnIdeal.main_arg1)
      ∧ m' ((c.tc : Thread Cert.XattnReferenceIdeal.nD Cert.XattnReferenceIdeal.τ).loc Cert.XattnReferenceIdeal.main_arg2) = m ((c.tc : Thread Cert.XattnIdeal.nD Cert.XattnIdeal.τ).loc Cert.XattnIdeal.main_arg2)
      ∧ m' ((c.tc : Thread Cert.XattnReferenceIdeal.nD Cert.XattnReferenceIdeal.τ).loc Cert.XattnReferenceIdeal.main_arg3) = m ((c.tc : Thread Cert.XattnIdeal.nD Cert.XattnIdeal.τ).loc Cert.XattnIdeal.main_arg3)
      ∧ m' ((c.tc : Thread Cert.XattnReferenceIdeal.nD Cert.XattnReferenceIdeal.τ).loc Cert.XattnReferenceIdeal.main_arg4) = m ((c.tc : Thread Cert.XattnIdeal.nD Cert.XattnIdeal.τ).loc Cert.XattnIdeal.main_arg4)
      ∧ m' ((c.tc : Thread Cert.XattnReferenceIdeal.nD Cert.XattnReferenceIdeal.τ).loc Cert.XattnReferenceIdeal.main_arg5) = m ((c.tc : Thread Cert.XattnIdeal.nD Cert.XattnIdeal.τ).loc Cert.XattnIdeal.main_arg5)) →
    ∃ (v0 : (c : Dev Cert.XattnIdeal.nD) → Buf (Elt Ideal) ((c.tc : Thread Cert.XattnIdeal.nD Cert.XattnIdeal.τ).loc Cert.XattnIdeal.main_v7)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v7) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ θ_run (Cert.XattnReferenceIdeal.defs (F := Ideal)) (onTc (τ := Cert.XattnReferenceIdeal.τ) (Cert.XattnReferenceIdeal.main (F := Ideal))) ⟨m', fun _ => 0, g'⟩ (fun r => ∀ c : Dev Cert.XattnReferenceIdeal.nD,
          r.2.mem ((c.tc : Thread Cert.XattnReferenceIdeal.nD Cert.XattnReferenceIdeal.τ).loc Cert.XattnReferenceIdeal.main_v41) = v0 c
          ∧ r.2.mem ((c.tc : Thread Cert.XattnReferenceIdeal.nD Cert.XattnReferenceIdeal.τ).loc Cert.XattnReferenceIdeal.main_arg0) = m' ((c.tc : Thread Cert.XattnReferenceIdeal.nD Cert.XattnReferenceIdeal.τ).loc Cert.XattnReferenceIdeal.main_arg0)
          ∧ r.2.mem ((c.tc : Thread Cert.XattnReferenceIdeal.nD Cert.XattnReferenceIdeal.τ).loc Cert.XattnReferenceIdeal.main_arg1) = m' ((c.tc : Thread Cert.XattnReferenceIdeal.nD Cert.XattnReferenceIdeal.τ).loc Cert.XattnReferenceIdeal.main_arg1)
          ∧ r.2.mem ((c.tc : Thread Cert.XattnReferenceIdeal.nD Cert.XattnReferenceIdeal.τ).loc Cert.XattnReferenceIdeal.main_arg2) = m' ((c.tc : Thread Cert.XattnReferenceIdeal.nD Cert.XattnReferenceIdeal.τ).loc Cert.XattnReferenceIdeal.main_arg2)
          ∧ r.2.mem ((c.tc : Thread Cert.XattnReferenceIdeal.nD Cert.XattnReferenceIdeal.τ).loc Cert.XattnReferenceIdeal.main_arg3) = m' ((c.tc : Thread Cert.XattnReferenceIdeal.nD Cert.XattnReferenceIdeal.τ).loc Cert.XattnReferenceIdeal.main_arg3)
          ∧ r.2.mem ((c.tc : Thread Cert.XattnReferenceIdeal.nD Cert.XattnReferenceIdeal.τ).loc Cert.XattnReferenceIdeal.main_arg4) = m' ((c.tc : Thread Cert.XattnReferenceIdeal.nD Cert.XattnReferenceIdeal.τ).loc Cert.XattnReferenceIdeal.main_arg4)
          ∧ r.2.mem ((c.tc : Thread Cert.XattnReferenceIdeal.nD Cert.XattnReferenceIdeal.τ).loc Cert.XattnReferenceIdeal.main_arg5) = m' ((c.tc : Thread Cert.XattnReferenceIdeal.nD Cert.XattnReferenceIdeal.τ).loc Cert.XattnReferenceIdeal.main_arg5))

def preserves_Mem_MemIdeal : Prop :=
  True

def algebraic_MemIdeal_MemReferenceIdeal [hMemIdeal : Cert.MemIdeal.Facts] [hMemReferenceIdeal : Cert.MemReferenceIdeal.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemIdeal m →
    (∀ c : Dev Cert.MemIdeal.nD,
      m' ((c.tc : Thread Cert.MemReferenceIdeal.nD Cert.MemReferenceIdeal.τ).loc Cert.MemReferenceIdeal.main_arg0) = m ((c.tc : Thread Cert.MemIdeal.nD Cert.MemIdeal.τ).loc Cert.MemIdeal.main_arg0)
      ∧ m' ((c.tc : Thread Cert.MemReferenceIdeal.nD Cert.MemReferenceIdeal.τ).loc Cert.MemReferenceIdeal.main_arg1) = m ((c.tc : Thread Cert.MemIdeal.nD Cert.MemIdeal.τ).loc Cert.MemIdeal.main_arg1)
      ∧ m' ((c.tc : Thread Cert.MemReferenceIdeal.nD Cert.MemReferenceIdeal.τ).loc Cert.MemReferenceIdeal.main_arg2) = m ((c.tc : Thread Cert.MemIdeal.nD Cert.MemIdeal.τ).loc Cert.MemIdeal.main_arg2)
      ∧ m' ((c.tc : Thread Cert.MemReferenceIdeal.nD Cert.MemReferenceIdeal.τ).loc Cert.MemReferenceIdeal.main_arg3) = m ((c.tc : Thread Cert.MemIdeal.nD Cert.MemIdeal.τ).loc Cert.MemIdeal.main_arg3)) →
    ∃ (v0 : (c : Dev Cert.MemIdeal.nD) → Buf (Elt Ideal) ((c.tc : Thread Cert.MemIdeal.nD Cert.MemIdeal.τ).loc Cert.MemIdeal.main_v6)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v6) = v0 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
          ∧ r.2.mem ((c.tc : Thread Cert.MemIdeal.nD Cert.MemIdeal.τ).loc Cert.MemIdeal.main_arg3) = m ((c.tc : Thread Cert.MemIdeal.nD Cert.MemIdeal.τ).loc Cert.MemIdeal.main_arg3))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v23) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnMid : Cert.FfnMid.Facts) (hFfnMidIdeal : Cert.FfnMidIdeal.Facts) (hFfnMidReferenceIdeal : Cert.FfnMidReferenceIdeal.Facts) (hSlabs : Cert.Slabs.Facts) (hSlabsIdeal : Cert.SlabsIdeal.Facts) (hSlabsReferenceIdeal : Cert.SlabsReferenceIdeal.Facts) (hMix : Cert.Mix.Facts) (hMixIdeal : Cert.MixIdeal.Facts) (hMixReferenceIdeal : Cert.MixReferenceIdeal.Facts) (hXattn : Cert.Xattn.Facts) (hXattnIdeal : Cert.XattnIdeal.Facts) (hXattnReferenceIdeal : Cert.XattnReferenceIdeal.Facts) (hMem : Cert.Mem.Facts) (hMemIdeal : Cert.MemIdeal.Facts) (hMemReferenceIdeal : Cert.MemReferenceIdeal.Facts) (hPre_finite : Cert.Pre_finite.Facts) (hPre_finite_keys : Cert.Pre_finite_keys.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnMid (hFfnMid := hFfnMid)
    ∧ quiescent_FfnMidIdeal (hFfnMidIdeal := hFfnMidIdeal)
    ∧ quiescent_FfnMidReferenceIdeal (hFfnMidReferenceIdeal := hFfnMidReferenceIdeal)
    ∧ quiescent_Slabs (hSlabs := hSlabs)
    ∧ quiescent_SlabsIdeal (hSlabsIdeal := hSlabsIdeal)
    ∧ quiescent_SlabsReferenceIdeal (hSlabsReferenceIdeal := hSlabsReferenceIdeal)
    ∧ quiescent_Mix (hMix := hMix)
    ∧ quiescent_MixIdeal (hMixIdeal := hMixIdeal)
    ∧ quiescent_MixReferenceIdeal (hMixReferenceIdeal := hMixReferenceIdeal)
    ∧ quiescent_Xattn (hXattn := hXattn)
    ∧ quiescent_XattnIdeal (hXattnIdeal := hXattnIdeal)
    ∧ quiescent_XattnIdeal_pre_finite_keys (hXattnIdeal := hXattnIdeal) (hPre_finite_keys := hPre_finite_keys)
    ∧ quiescent_XattnReferenceIdeal (hXattnReferenceIdeal := hXattnReferenceIdeal)
    ∧ quiescent_XattnReferenceIdeal_pre_finite_keys (hXattnReferenceIdeal := hXattnReferenceIdeal) (hPre_finite_keys := hPre_finite_keys)
    ∧ quiescent_Mem (hMem := hMem)
    ∧ quiescent_MemIdeal (hMemIdeal := hMemIdeal)
    ∧ quiescent_MemReferenceIdeal (hMemReferenceIdeal := hMemReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_FfnMid_FfnMidIdeal
    ∧ algebraic_FfnMidIdeal_FfnMidReferenceIdeal (hFfnMidIdeal := hFfnMidIdeal) (hFfnMidReferenceIdeal := hFfnMidReferenceIdeal)
    ∧ preserves_Slabs_SlabsIdeal
    ∧ algebraic_SlabsIdeal_SlabsReferenceIdeal (hSlabsIdeal := hSlabsIdeal) (hSlabsReferenceIdeal := hSlabsReferenceIdeal)
    ∧ preserves_Mix_MixIdeal
    ∧ algebraic_MixIdeal_MixReferenceIdeal (hMixIdeal := hMixIdeal) (hMixReferenceIdeal := hMixReferenceIdeal)
    ∧ preserves_Xattn_XattnIdeal
    ∧ algebraic_XattnIdeal_XattnReferenceIdeal_pre_finite_keys (hXattnIdeal := hXattnIdeal) (hXattnReferenceIdeal := hXattnReferenceIdeal) (hPre_finite_keys := hPre_finite_keys)
    ∧ preserves_Mem_MemIdeal
    ∧ algebraic_MemIdeal_MemReferenceIdeal (hMemIdeal := hMemIdeal) (hMemReferenceIdeal := hMemReferenceIdeal)
-- ==== Pre_finite.lean ====
abbrev S8x4096x5376 : Shape := ⟨3, ![8, 4096, 5376]⟩
abbrev S8 : Shape := ⟨1, ![8]⟩
abbrev S_ : Shape := ⟨0, ![]⟩

class Facts : Prop where
  bcast_S_S8x4096x5376 : S_.BroadcastsInDim S8x4096x5376 (![] : Fin 0 → Fin S8x4096x5376.rank)
  reducesTo_S8x4096x5376_S_d0_1_2 : S8x4096x5376.ReducesTo [0, 1, 2] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S8x4096x5376 .f32) (main_arg1 : FVec F S8 .f32) : IVec S_ 1 :=
  let main_v0 : FVec F S8x4096x5376 .f32 := Host.absf main_arg0
  let main_cst : FVec F S_ .f32 := constant S_ .f32 0x7F800000#32
  let main_v1 : FVec F S8x4096x5376 .f32 := broadcastInDim S8x4096x5376 ![] bcast_S_S8x4096x5376 main_cst
  let main_v2 : IVec S8x4096x5376 1 := cmpf .olt main_v0 main_v1
  let main_c : IVec S_ 1 := constantI S_ 1 1#1
  let main_v3 : IVec S_ 1 := (fun x v => Host.reduce IntOp.andi x v reducesTo_S8x4096x5376_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  main_v8
-- ==== Pre_finite_keys.lean ====
abbrev S8x4096x2048 : Shape := ⟨3, ![8, 4096, 2048]⟩
abbrev S4x2048 : Shape := ⟨2, ![4, 2048]⟩
abbrev S4x2048x512 : Shape := ⟨3, ![4, 2048, 512]⟩
abbrev S8x256x512 : Shape := ⟨3, ![8, 256, 512]⟩
abbrev S4x512x2048 : Shape := ⟨3, ![4, 512, 2048]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel
  bcast_S_S4x2048x512 : S_.BroadcastsInDim S4x2048x512 (![] : Fin 0 → Fin S4x2048x512.rank)
  reducesTo_S4x2048x512_S_d0_1_2 : S4x2048x512.ReducesTo [0, 1, 2] S_
  bcast_S_S8x256x512 : S_.BroadcastsInDim S8x256x512 (![] : Fin 0 → Fin S8x256x512.rank)
  reducesTo_S8x256x512_S_d0_1_2 : S8x256x512.ReducesTo [0, 1, 2] S_

variable [Facts]

def fn {F : FTy → Type} [FloatOps F] (main_arg0 : FVec F S8x4096x2048 .f32) (main_arg1 : FVec F S4x2048 .f32) (main_arg2 : FVec F S4x2048x512 .f32) (main_arg3 : FVec F S8x256x512 .f32) (main_arg4 : FVec F S8x256x512 .f32) (main_arg5 : FVec F S4x512x2048 .f32) : IVec S_ 1 :=
  let main_v0 : FVec F S4x2048 .f32 := Host.absf main_arg1
  let main_cst : FVec F S_ .f32 := constant S_ .f32 0x7F800000#32
  let main_v1 : FVec F S4x2048 .f32 := broadcastInDim S4x2048 ![] bcast_S_S4x2048 main_cst
  let main_v2 : IVec S4x2048 1 := cmpf .olt main_v0 main_v1
  let main_c : IVec S_ 1 := constantI S_ 1 1#1
  let main_v3 : IVec S_ 1 := (fun x v => Host.reduce IntOp.andi x v reducesTo_S4x2048_S_d0_1 h_S_) main_v2 main_c
  let main_v4 : FVec F S4x2048x512 .f32 := Host.absf main_arg2
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S8x256x512 .f32 := Host.absf main_arg3
  let main_cst_2 : FVec F S_ .f32 := constant S_ .f32 0x7F800000#32
  let main_v10 : FVec F S8x256x512 .f32 := broadcastInDim S8x256x512 ![] bcast_S_S8x256x512 main_cst_2
  let main_v11 : IVec S8x256x512 1 := cmpf .olt main_v9 main_v10
  let main_c_3 : IVec S_ 1 := constantI S_ 1 1#1
  let main_v12 : IVec S_ 1 := (fun x v => Host.reduce IntOp.andi x v reducesTo_S8x256x512_S_d0_1_2 h_S_) main_v11 main_c_3
  let main_v13 : IVec S_ 1 := andi main_v8 main_v12
  main_v13
-- ==== Kernel.lean ====
abbrev S8x4096x5376 : Shape := ⟨3, ![8, 4096, 5376]⟩
abbrev S8 : Shape := ⟨1, ![8]⟩
abbrev S8x4096x42x128 : Shape := ⟨4, ![8, 4096, 42, 128]⟩
abbrev S42x8x4096x128 : Shape := ⟨4, ![42, 8, 4096, 128]⟩
abbrev S8x4096x512 : Shape := ⟨3, ![8, 4096, 512]⟩
abbrev S4x1x1024x128 : Shape := ⟨4, ![4, 1, 1024, 128]⟩
abbrev S1x1x4096x128 : Shape := ⟨4, ![1, 1, 4096, 128]⟩
abbrev S1x1024x512 : Shape := ⟨3, ![1, 1024, 512]⟩
abbrev S32x128x128 : Shape := ⟨3, ![32, 128, 128]⟩
abbrev S8x2x256x128 : Shape := ⟨4, ![8, 2, 256, 128]⟩
abbrev S128x128 : Shape := ⟨2, ![128, 128]⟩
abbrev S16x256 : Shape := ⟨2, ![16, 256]⟩
abbrev S256x128 : Shape := ⟨2, ![256, 128]⟩
abbrev S1 : Shape := ⟨1, ![1]⟩
abbrev S1x1x256x128 : Shape := ⟨4, ![1, 1, 256, 128]⟩
abbrev S1x1x128x128 : Shape := ⟨4, ![1, 1, 128, 128]⟩
abbrev S1x128x128 : Shape := ⟨3, ![1, 128, 128]⟩
abbrev S1024x128 : Shape := ⟨2, ![1024, 128]⟩
abbrev S256x1024 : Shape := ⟨2, ![256, 1024]⟩
abbrev S1x128 : Shape := ⟨2, ![1, 128]⟩
abbrev S128x256 : Shape := ⟨2, ![128, 256]⟩
abbrev S128 : Shape := ⟨1, ![128]⟩
abbrev S64x256 : Shape := ⟨2, ![64, 256]⟩
abbrev S80x256 : Shape := ⟨2, ![80, 256]⟩
abbrev S256x512 : Shape := ⟨2, ![256, 512]⟩
abbrev S80x512 : Shape := ⟨2, ![80, 512]⟩
abbrev S64x128 : Shape := ⟨2, ![64, 128]⟩

abbrev nBuf : Space → Nat
  | .hbm => 6
  | .vmem => 11
  | .smem => 2
  | _ => 0

abbrev bufTy : (tb : Table) → Fin (tcTables nBuf tb) → BufTy
  | .hbm, ⟨0, _⟩ => ⟨S8x4096x5376, .f32⟩
  | .hbm, ⟨1, _⟩ => ⟨S8, .f32⟩
  | .hbm, ⟨2, _⟩ => ⟨S8, .f32⟩
  | .hbm, ⟨3, _⟩ => ⟨S8x4096x42x128, .f32⟩
  | .hbm, ⟨4, _⟩ => ⟨S42x8x4096x128, .f32⟩
  | .hbm, ⟨5, _⟩ => ⟨S8x4096x512, .f32⟩
  | .local _ .vmem, ⟨0, _⟩ => ⟨S4x1x1024x128, .f32⟩
  | .local _ .vmem, ⟨1, _⟩ => ⟨S4x1x1024x128, .f32⟩
  | .local _ .vmem, ⟨2, _⟩ => ⟨S1x1x4096x128, .f32⟩
  | .local _ .vmem, ⟨3, _⟩ => ⟨S1x1x4096x128, .f32⟩
  | .local _ .vmem, ⟨4, _⟩ => ⟨S1x1x4096x128, .f32⟩
  | .local _ .vmem, ⟨5, _⟩ => ⟨S1x1x4096x128, .f32⟩
  | .local _ .vmem, ⟨6, _⟩ => ⟨S1x1024x512, .f32⟩
  | .local _ .vmem, ⟨7, _⟩ => ⟨S1x1024x512, .f32⟩
  | .local _ .vmem, ⟨8, _⟩ => ⟨S32x128x128, .bf16⟩
  | .local _ .vmem, ⟨9, _⟩ => ⟨S32x128x128, .bf16⟩
  | .local _ .vmem, ⟨10, _⟩ => ⟨S8x2x256x128, .f32⟩
  | .local _ .smem, ⟨0, _⟩ => ⟨S8, .f32⟩
  | .local _ .smem, ⟨1, _⟩ => ⟨S8, .f32⟩
  | _, _ => ⟨S8x4096x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

@[reducible] def k0_t1_loop : Scf.Loop 32 :=
  let c0_i32_109 : BitVec 32 := 0#32
  let c8_i32 : BitVec 32 := 8#32
  let v155 : BitVec 32 := Scalar.addi c0_i32_109 c8_i32
  let c1_i32_110 : BitVec 32 := 1#32
  ⟨c0_i32_109, v155, c1_i32_110⟩
def k0_mult1 (k0_t1 : Fin k0_t1_loop.trips) : BitVec 32 :=
  let c4_i32 : BitVec 32 := 4#32
  let c0_i32_109 : BitVec 32 := 0#32
  let c1_i32_110 : BitVec 32 := 1#32
  let arg11 : BitVec 32 := Scf.iv c0_i32_109 c1_i32_110 k0_t1
  let v156 : BitVec 32 := Scalar.muli c4_i32 arg11
  let c0_i32_112 : BitVec 32 := 0#32
  let v157 : BitVec 32 := Scalar.addi v156 c0_i32_112
  let c128_i32_113 : BitVec 32 := 128#32
  let v158 : BitVec 32 := Scalar.muli v157 c128_i32_113
  v158
def k0_off1 (k0_t1 : Fin k0_t1_loop.trips) (c0_i32_112 : BitVec 32) : Fin 4 → Nat :=
  let c0_114 : Index := 0#32
  let c0_115 : Index := 0#32
  let c4_i32 : BitVec 32 := 4#32
  let c0_i32_109 : BitVec 32 := 0#32
  let c1_i32_110 : BitVec 32 := 1#32
  let arg11 : BitVec 32 := Scf.iv c0_i32_109 c1_i32_110 k0_t1
  let v156 : BitVec 32 := Scalar.muli c4_i32 arg11
  let v157 : BitVec 32 := Scalar.addi v156 c0_i32_112
  let c128_i32_113 : BitVec 32 := 128#32
  let v158 : BitVec 32 := Scalar.muli v157 c128_i32_113
  let v159 : BitVec 32 := v158
  let v160 : Index := Scalar.indexCast v159
  let c0_116 : Index := 0#32
  ![0, 0, v160.toNat, 0]
def k0_off2 (k0_t1 : Fin k0_t1_loop.trips) (c0_i32_118 : BitVec 32) : Fin 3 → Nat :=
  let c4_i32_117 : BitVec 32 := 4#32
  let c0_i32_109 : BitVec 32 := 0#32
  let c1_i32_110 : BitVec 32 := 1#32
  let arg11 : BitVec 32 := Scf.iv c0_i32_109 c1_i32_110 k0_t1
  let v164 : BitVec 32 := Scalar.muli c4_i32_117 arg11
  let v165 : BitVec 32 := Scalar.addi v164 c0_i32_118
  let v166 : Index := Scalar.indexCast v165
  let c0_119 : Index := 0#32
  let c0_120 : Index := 0#32
  ![v166.toNat, 0, 0]
def k0_mult2 (k0_t1 : Fin k0_t1_loop.trips) : BitVec 32 :=
  let c4_i32_128 : BitVec 32 := 4#32
  let c0_i32_109 : BitVec 32 := 0#32
  let c1_i32_110 : BitVec 32 := 1#32
  let arg11 : BitVec 32 := Scf.iv c0_i32_109 c1_i32_110 k0_t1
  let v181 : BitVec 32 := Scalar.muli c4_i32_128 arg11
  let c1_i32_129 : BitVec 32 := 1#32
  let v182 : BitVec 32 := Scalar.addi v181 c1_i32_129
  let c128_i32_130 : BitVec 32 := 128#32
  let v183 : BitVec 32 := Scalar.muli v182 c128_i32_130
  v183
def k0_mult3 (k0_t1 : Fin k0_t1_loop.trips) : BitVec 32 :=
  let c4_i32_145 : BitVec 32 := 4#32
  let c0_i32_109 : BitVec 32 := 0#32
  let c1_i32_110 : BitVec 32 := 1#32
  let arg11 : BitVec 32 := Scf.iv c0_i32_109 c1_i32_110 k0_t1
  let v206 : BitVec 32 := Scalar.muli c4_i32_145 arg11
  let c2_i32_146 : BitVec 32 := 2#32
  let v207 : BitVec 32 := Scalar.addi v206 c2_i32_146
  let c128_i32_147 : BitVec 32 := 128#32
  let v208 : BitVec 32 := Scalar.muli v207 c128_i32_147
  v208
def k0_mult4 (k0_t1 : Fin k0_t1_loop.trips) : BitVec 32 :=
  let c4_i32_162 : BitVec 32 := 4#32
  let c0_i32_109 : BitVec 32 := 0#32
  let c1_i32_110 : BitVec 32 := 1#32
  let arg11 : BitVec 32 := Scf.iv c0_i32_109 c1_i32_110 k0_t1
  let v231 : BitVec 32 := Scalar.muli c4_i32_162 arg11
  let c3_i32 : BitVec 32 := 3#32
  let v232 : BitVec 32 := Scalar.addi v231 c3_i32
  let c128_i32_163 : BitVec 32 := 128#32
  let v233 : BitVec 32 := Scalar.muli v232 c128_i32_163
  v233
@[reducible] def k0_t2_loop : Scf.Loop 32 :=
  let c0_i32_1 : BitVec 32 := 0#32
  let c2_i32 : BitVec 32 := 2#32
  let v7 : BitVec 32 := Scalar.addi c0_i32_1 c2_i32
  let c1_i32 : BitVec 32 := 1#32
  ⟨c0_i32_1, v7, c1_i32⟩
def k0_mult5 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c4_i32 : BitVec 32 := 4#32
  let v8 : BitVec 32 := Scalar.muli arg11 c4_i32
  let c0_i32_3 : BitVec 32 := 0#32
  let v9 : BitVec 32 := Scalar.addi v8 c0_i32_3
  let c128_i32 : BitVec 32 := 128#32
  let v22 : BitVec 32 := Scalar.muli v9 c128_i32
  v22
def k0_off3 (k0_t2 : Fin k0_t2_loop.trips) (c0_i32_3 : BitVec 32) : Fin 4 → Nat :=
  let c0 : Index := 0#32
  let c0_14 : Index := 0#32
  let c0_i32_1 : BitVec 32 := 0#32
  let c1_i32 : BitVec 32 := 1#32
  let arg11 : BitVec 32 := Scf.iv c0_i32_1 c1_i32 k0_t2
  let c4_i32 : BitVec 32 := 4#32
  let v8 : BitVec 32 := Scalar.muli arg11 c4_i32
  let v9 : BitVec 32 := Scalar.addi v8 c0_i32_3
  let c128_i32 : BitVec 32 := 128#32
  let v22 : BitVec 32 := Scalar.muli v9 c128_i32
  let v23 : BitVec 32 := v22
  let v24 : Index := Scalar.indexCast v23
  let c0_15 : Index := 0#32
  ![0, 0, v24.toNat, 0]
def k0_off4 (k0_t2 : Fin k0_t2_loop.trips) (c0_i32_3 : BitVec 32) : Fin 4 → Nat :=
  let c1 : Index := 1#32
  let c0_24 : Index := 0#32
  let c0_i32_1 : BitVec 32 := 0#32
  let c1_i32 : BitVec 32 := 1#32
  let arg11 : BitVec 32 := Scf.iv c0_i32_1 c1_i32 k0_t2
  let c4_i32 : BitVec 32 := 4#32
  let v8 : BitVec 32 := Scalar.muli arg11 c4_i32
  let v9 : BitVec 32 := Scalar.addi v8 c0_i32_3
  let c128_i32 : BitVec 32 := 128#32
  let v22 : BitVec 32 := Scalar.muli v9 c128_i32
  let v23 : BitVec 32 := v22
  let v39 : Index := Scalar.indexCast v23
  let c0_25 : Index := 0#32
  ![1, 0, v39.toNat, 0]
def k0_off5 (k0_t2 : Fin k0_t2_loop.trips) (c0_i32_3 : BitVec 32) : Fin 4 → Nat :=
  let c2 : Index := 2#32
  let c0_34 : Index := 0#32
  let c0_i32_1 : BitVec 32 := 0#32
  let c1_i32 : BitVec 32 := 1#32
  let arg11 : BitVec 32 := Scf.iv c0_i32_1 c1_i32 k0_t2
  let c4_i32 : BitVec 32 := 4#32
  let v8 : BitVec 32 := Scalar.muli arg11 c4_i32
  let v9 : BitVec 32 := Scalar.addi v8 c0_i32_3
  let c128_i32 : BitVec 32 := 128#32
  let v22 : BitVec 32 := Scalar.muli v9 c128_i32
  let v23 : BitVec 32 := v22
  let v54 : Index := Scalar.indexCast v23
  let c0_35 : Index := 0#32
  ![2, 0, v54.toNat, 0]
def k0_off6 (k0_t2 : Fin k0_t2_loop.trips) (c0_i32_3 : BitVec 32) : Fin 4 → Nat :=
  let c3 : Index := 3#32
  let c0_46 : Index := 0#32
  let c0_i32_1 : BitVec 32 := 0#32
  let c1_i32 : BitVec 32 := 1#32
  let arg11 : BitVec 32 := Scf.iv c0_i32_1 c1_i32 k0_t2
  let c4_i32 : BitVec 32 := 4#32
  let v8 : BitVec 32 := Scalar.muli arg11 c4_i32
  let v9 : BitVec 32 := Scalar.addi v8 c0_i32_3
  let c128_i32 : BitVec 32 := 128#32
  let v22 : BitVec 32 := Scalar.muli v9 c128_i32
  let v23 : BitVec 32 := v22
  let v71 : Index := Scalar.indexCast v23
  let c0_47 : Index := 0#32
  ![3, 0, v71.toNat, 0]
def k0_off7 (i : grid0.Coords) (k0_t2 : Fin k0_t2_loop.trips) (c0_i32_3 : BitVec 32) : Fin 3 → Nat :=
  let arg1 : BitVec 32 := BitVec.ofNat 32 (i 1).val
  let c8_i32 : BitVec 32 := 8#32
  let v16 : BitVec 32 := Scalar.muli arg1 c8_i32
  let c0_i32_1 : BitVec 32 := 0#32
  let c1_i32 : BitVec 32 := 1#32
  let arg11 : BitVec 32 := Scf.iv c0_i32_1 c1_i32 k0_t2
  let c4_i32 : BitVec 32 := 4#32
  let v8 : BitVec 32 := Scalar.muli arg11 c4_i32
  let v9 : BitVec 32 := Scalar.addi v8 c0_i32_3
  let v17 : BitVec 32 := Scalar.addi v16 v9
  let c1_i32_9 : BitVec 32 := 1#32
  let v18 : BitVec 32 := Scalar.subi v17 c1_i32_9
  let c0_i32_10 : BitVec 32 := 0#32
  let v19 : BitVec 32 := Scalar.maxsi v18 c0_i32_10
  let v90 : Index := Scalar.indexCast v19
  let c0_58 : Index := 0#32
  let c0_59 : Index := 0#32
  ![v90.toNat, 0, 0]
def k0_off8 (i : grid0.Coords) (k0_t2 : Fin k0_t2_loop.trips) (c0_i32_3 : BitVec 32) : Fin 3 → Nat :=
  let arg1 : BitVec 32 := BitVec.ofNat 32 (i 1).val
  let c8_i32 : BitVec 32 := 8#32
  let v16 : BitVec 32 := Scalar.muli arg1 c8_i32
  let c0_i32_1 : BitVec 32 := 0#32
  let c1_i32 : BitVec 32 := 1#32
  let arg11 : BitVec 32 := Scf.iv c0_i32_1 c1_i32 k0_t2
  let c4_i32 : BitVec 32 := 4#32
  let v8 : BitVec 32 := Scalar.muli arg11 c4_i32
  let v9 : BitVec 32 := Scalar.addi v8 c0_i32_3
  let v17 : BitVec 32 := Scalar.addi v16 v9
  let v93 : Index := Scalar.indexCast v17
  let c0_60 : Index := 0#32
  let c0_61 : Index := 0#32
  ![v93.toNat, 0, 0]
def k0_mult6 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c4_i32_4 : BitVec 32 := 4#32
  let v10 : BitVec 32 := Scalar.muli arg11 c4_i32_4
  let c1_i32_5 : BitVec 32 := 1#32
  let v11 : BitVec 32 := Scalar.addi v10 c1_i32_5
  let c128_i32_69 : BitVec 32 := 128#32
  let v104 : BitVec 32 := Scalar.muli v11 c128_i32_69
  v104
def k0_mult7 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c4_i32_6 : BitVec 32 := 4#32
  let v12 : BitVec 32 := Scalar.muli arg11 c4_i32_6
  let c2_i32_7 : BitVec 32 := 2#32
  let v13 : BitVec 32 := Scalar.addi v12 c2_i32_7
  let c128_i32_129 : BitVec 32 := 128#32
  let v186 : BitVec 32 := Scalar.muli v13 c128_i32_129
  v186
def k0_mult8 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c4_i32_8 : BitVec 32 := 4#32
  let v14 : BitVec 32 := Scalar.muli arg11 c4_i32_8
  let c3_i32 : BitVec 32 := 3#32
  let v15 : BitVec 32 := Scalar.addi v14 c3_i32
  let c128_i32_189 : BitVec 32 := 128#32
  let v268 : BitVec 32 := Scalar.muli v15 c128_i32_189
  v268
def k0_mult9 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c4_i32 : BitVec 32 := 4#32
  let v8 : BitVec 32 := Scalar.muli arg11 c4_i32
  let c0_i32_3 : BitVec 32 := 0#32
  let v9 : BitVec 32 := Scalar.addi v8 c0_i32_3
  let c128_i32_247 : BitVec 32 := 128#32
  let v351 : BitVec 32 := Scalar.muli v9 c128_i32_247
  v351
def k0_off9 (i : grid0.Coords) (k0_t2 : Fin k0_t2_loop.trips) (c0_i32_3 : BitVec 32) : Fin 4 → Nat :=
  let c0_252 : Index := 0#32
  let arg1 : BitVec 32 := BitVec.ofNat 32 (i 1).val
  let c8_i32 : BitVec 32 := 8#32
  let v16 : BitVec 32 := Scalar.muli arg1 c8_i32
  let c0_i32_1 : BitVec 32 := 0#32
  let c1_i32 : BitVec 32 := 1#32
  let arg11 : BitVec 32 := Scf.iv c0_i32_1 c1_i32 k0_t2
  let c4_i32 : BitVec 32 := 4#32
  let v8 : BitVec 32 := Scalar.muli arg11 c4_i32
  let v9 : BitVec 32 := Scalar.addi v8 c0_i32_3
  let v17 : BitVec 32 := Scalar.addi v16 v9
  let c0_i32_11 : BitVec 32 := 0#32
  let v20 : BitVec 1 := Scalar.cmpi .sgt v17 c0_i32_11
  let c1_i32_12 : BitVec 32 := 1#32
  let c0_i32_13 : BitVec 32 := 0#32
  let v21 : BitVec 32 := Scalar.select v20 c1_i32_12 c0_i32_13
  let v361 : Index := Scalar.indexCast v21
  let c0_253 : Index := 0#32
  let c0_254 : Index := 0#32
  ![0, v361.toNat, 0, 0]
def k0_off10 (i : grid0.Coords) (k0_t2 : Fin k0_t2_loop.trips) (c0_i32_3 : BitVec 32) : Fin 4 → Nat :=
  let c1_258 : Index := 1#32
  let arg1 : BitVec 32 := BitVec.ofNat 32 (i 1).val
  let c8_i32 : BitVec 32 := 8#32
  let v16 : BitVec 32 := Scalar.muli arg1 c8_i32
  let c0_i32_1 : BitVec 32 := 0#32
  let c1_i32 : BitVec 32 := 1#32
  let arg11 : BitVec 32 := Scf.iv c0_i32_1 c1_i32 k0_t2
  let c4_i32 : BitVec 32 := 4#32
  let v8 : BitVec 32 := Scalar.muli arg11 c4_i32
  let v9 : BitVec 32 := Scalar.addi v8 c0_i32_3
  let v17 : BitVec 32 := Scalar.addi v16 v9
  let c0_i32_11 : BitVec 32 := 0#32
  let v20 : BitVec 1 := Scalar.cmpi .sgt v17 c0_i32_11
  let c1_i32_12 : BitVec 32 := 1#32
  let c0_i32_13 : BitVec 32 := 0#32
  let v21 : BitVec 32 := Scalar.select v20 c1_i32_12 c0_i32_13
  let v377 : Index := Scalar.indexCast v21
  let c0_259 : Index := 0#32
  let c0_260 : Index := 0#32
  ![1, v377.toNat, 0, 0]
def k0_off11 (i : grid0.Coords) (k0_t2 : Fin k0_t2_loop.trips) (c0_i32_3 : BitVec 32) : Fin 4 → Nat :=
  let c2_264 : Index := 2#32
  let arg1 : BitVec 32 := BitVec.ofNat 32 (i 1).val
  let c8_i32 : BitVec 32 := 8#32
  let v16 : BitVec 32 := Scalar.muli arg1 c8_i32
  let c0_i32_1 : BitVec 32 := 0#32
  let c1_i32 : BitVec 32 := 1#32
  let arg11 : BitVec 32 := Scf.iv c0_i32_1 c1_i32 k0_t2
  let c4_i32 : BitVec 32 := 4#32
  let v8 : BitVec 32 := Scalar.muli arg11 c4_i32
  let v9 : BitVec 32 := Scalar.addi v8 c0_i32_3
  let v17 : BitVec 32 := Scalar.addi v16 v9
  let c0_i32_11 : BitVec 32 := 0#32
  let v20 : BitVec 1 := Scalar.cmpi .sgt v17 c0_i32_11
  let c1_i32_12 : BitVec 32 := 1#32
  let c0_i32_13 : BitVec 32 := 0#32
  let v21 : BitVec 32 := Scalar.select v20 c1_i32_12 c0_i32_13
  let v392 : Index := Scalar.indexCast v21
  let c0_265 : Index := 0#32
  let c0_266 : Index := 0#32
  ![2, v392.toNat, 0, 0]
def k0_off12 (i : grid0.Coords) (k0_t2 : Fin k0_t2_loop.trips) (c0_i32_3 : BitVec 32) : Fin 4 → Nat :=
  let c3_270 : Index := 3#32
  let arg1 : BitVec 32 := BitVec.ofNat 32 (i 1).val
  let c8_i32 : BitVec 32 := 8#32
  let v16 : BitVec 32 := Scalar.muli arg1 c8_i32
  let c0_i32_1 : BitVec 32 := 0#32
  let c1_i32 : BitVec 32 := 1#32
  let arg11 : BitVec 32 := Scf.iv c0_i32_1 c1_i32 k0_t2
  let c4_i32 : BitVec 32 := 4#32
  let v8 : BitVec 32 := Scalar.muli arg11 c4_i32
  let v9 : BitVec 32 := Scalar.addi v8 c0_i32_3
  let v17 : BitVec 32 := Scalar.addi v16 v9
  let c0_i32_11 : BitVec 32 := 0#32
  let v20 : BitVec 1 := Scalar.cmpi .sgt v17 c0_i32_11
  let c1_i32_12 : BitVec 32 := 1#32
  let c0_i32_13 : BitVec 32 := 0#32
  let v21 : BitVec 32 := Scalar.select v20 c1_i32_12 c0_i32_13
  let v407 : Index := Scalar.indexCast v21
  let c0_271 : Index := 0#32
  let c0_272 : Index := 0#32
  ![3, v407.toNat, 0, 0]
def k0_off13 (i : grid0.Coords) (k0_t2 : Fin k0_t2_loop.trips) (c0_i32_3 : BitVec 32) : Fin 4 → Nat :=
  let c4 : Index := 4#32
  let arg1 : BitVec 32 := BitVec.ofNat 32 (i 1).val
  let c8_i32 : BitVec 32 := 8#32
  let v16 : BitVec 32 := Scalar.muli arg1 c8_i32
  let c0_i32_1 : BitVec 32 := 0#32
  let c1_i32 : BitVec 32 := 1#32
  let arg11 : BitVec 32 := Scf.iv c0_i32_1 c1_i32 k0_t2
  let c4_i32 : BitVec 32 := 4#32
  let v8 : BitVec 32 := Scalar.muli arg11 c4_i32
  let v9 : BitVec 32 := Scalar.addi v8 c0_i32_3
  let v17 : BitVec 32 := Scalar.addi v16 v9
  let c0_i32_11 : BitVec 32 := 0#32
  let v20 : BitVec 1 := Scalar.cmpi .sgt v17 c0_i32_11
  let c1_i32_12 : BitVec 32 := 1#32
  let c0_i32_13 : BitVec 32 := 0#32
  let v21 : BitVec 32 := Scalar.select v20 c1_i32_12 c0_i32_13
  let v474 : Index := Scalar.indexCast v21
  let c0_289 : Index := 0#32
  let c0_290 : Index := 0#32
  ![4, v474.toNat, 0, 0]
def k0_off14 (i : grid0.Coords) (k0_t2 : Fin k0_t2_loop.trips) (c0_i32_3 : BitVec 32) : Fin 4 → Nat :=
  let c5 : Index := 5#32
  let arg1 : BitVec 32 := BitVec.ofNat 32 (i 1).val
  let c8_i32 : BitVec 32 := 8#32
  let v16 : BitVec 32 := Scalar.muli arg1 c8_i32
  let c0_i32_1 : BitVec 32 := 0#32
  let c1_i32 : BitVec 32 := 1#32
  let arg11 : BitVec 32 := Scf.iv c0_i32_1 c1_i32 k0_t2
  let c4_i32 : BitVec 32 := 4#32
  let v8 : BitVec 32 := Scalar.muli arg11 c4_i32
  let v9 : BitVec 32 := Scalar.addi v8 c0_i32_3
  let v17 : BitVec 32 := Scalar.addi v16 v9
  let c0_i32_11 : BitVec 32 := 0#32
  let v20 : BitVec 1 := Scalar.cmpi .sgt v17 c0_i32_11
  let c1_i32_12 : BitVec 32 := 1#32
  let c0_i32_13 : BitVec 32 := 0#32
  let v21 : BitVec 32 := Scalar.select v20 c1_i32_12 c0_i32_13
  let v489 : Index := Scalar.indexCast v21
  let c0_294 : Index := 0#32
  let c0_295 : Index := 0#32
  ![5, v489.toNat, 0, 0]
def k0_off15 (i : grid0.Coords) (k0_t2 : Fin k0_t2_loop.trips) (c0_i32_3 : BitVec 32) : Fin 4 → Nat :=
  let c6 : Index := 6#32
  let arg1 : BitVec 32 := BitVec.ofNat 32 (i 1).val
  let c8_i32 : BitVec 32 := 8#32
  let v16 : BitVec 32 := Scalar.muli arg1 c8_i32
  let c0_i32_1 : BitVec 32 := 0#32
  let c1_i32 : BitVec 32 := 1#32
  let arg11 : BitVec 32 := Scf.iv c0_i32_1 c1_i32 k0_t2
  let c4_i32 : BitVec 32 := 4#32
  let v8 : BitVec 32 := Scalar.muli arg11 c4_i32
  let v9 : BitVec 32 := Scalar.addi v8 c0_i32_3
  let v17 : BitVec 32 := Scalar.addi v16 v9
  let c0_i32_11 : BitVec 32 := 0#32
  let v20 : BitVec 1 := Scalar.cmpi .sgt v17 c0_i32_11
  let c1_i32_12 : BitVec 32 := 1#32
  let c0_i32_13 : BitVec 32 := 0#32
  let v21 : BitVec 32 := Scalar.select v20 c1_i32_12 c0_i32_13
  let v504 : Index := Scalar.indexCast v21
  let c0_299 : Index := 0#32
  let c0_300 : Index := 0#32
  ![6, v504.toNat, 0, 0]
def k0_off16 (i : grid0.Coords) (k0_t2 : Fin k0_t2_loop.trips) (c0_i32_3 : BitVec 32) : Fin 4 → Nat :=
  let c7 : Index := 7#32
  let arg1 : BitVec 32 := BitVec.ofNat 32 (i 1).val
  let c8_i32 : BitVec 32 := 8#32
  let v16 : BitVec 32 := Scalar.muli arg1 c8_i32
  let c0_i32_1 : BitVec 32 := 0#32
  let c1_i32 : BitVec 32 := 1#32
  let arg11 : BitVec 32 := Scf.iv c0_i32_1 c1_i32 k0_t2
  let c4_i32 : BitVec 32 := 4#32
  let v8 : BitVec 32 := Scalar.muli arg11 c4_i32
  let v9 : BitVec 32 := Scalar.addi v8 c0_i32_3
  let v17 : BitVec 32 := Scalar.addi v16 v9
  let c0_i32_11 : BitVec 32 := 0#32
  let v20 : BitVec 1 := Scalar.cmpi .sgt v17 c0_i32_11
  let c1_i32_12 : BitVec 32 := 1#32
  let c0_i32_13 : BitVec 32 := 0#32
  let v21 : BitVec 32 := Scalar.select v20 c1_i32_12 c0_i32_13
  let v519 : Index := Scalar.indexCast v21
  let c0_304 : Index := 0#32
  let c0_305 : Index := 0#32
  ![7, v519.toNat, 0, 0]
def k0_off17 (k0_t2 : Fin k0_t2_loop.trips) (c0_i32_3 : BitVec 32) : Fin 3 → Nat :=
  let c0_322 : Index := 0#32
  let c0_i32_1 : BitVec 32 := 0#32
  let c1_i32 : BitVec 32 := 1#32
  let arg11 : BitVec 32 := Scf.iv c0_i32_1 c1_i32 k0_t2
  let c4_i32 : BitVec 32 := 4#32
  let v8 : BitVec 32 := Scalar.muli arg11 c4_i32
  let v9 : BitVec 32 := Scalar.addi v8 c0_i32_3
  let c128_i32_247 : BitVec 32 := 128#32
  let v351 : BitVec 32 := Scalar.muli v9 c128_i32_247
  let v352 : BitVec 32 := v351
  let v587 : Index := Scalar.indexCast v352
  let c0_323 : Index := 0#32
  ![0, v587.toNat, 0]
def k0_off18 (k0_t2 : Fin k0_t2_loop.trips) (c0_i32_3 : BitVec 32) : Fin 3 → Nat :=
  let c0_324 : Index := 0#32
  let c0_i32_1 : BitVec 32 := 0#32
  let c1_i32 : BitVec 32 := 1#32
  let arg11 : BitVec 32 := Scf.iv c0_i32_1 c1_i32 k0_t2
  let c4_i32 : BitVec 32 := 4#32
  let v8 : BitVec 32 := Scalar.muli arg11 c4_i32
  let v9 : BitVec 32 := Scalar.addi v8 c0_i32_3
  let c128_i32_247 : BitVec 32 := 128#32
  let v351 : BitVec 32 := Scalar.muli v9 c128_i32_247
  let v352 : BitVec 32 := v351
  let v593 : Index := Scalar.indexCast v352
  let c128 : Index := 128#32
  ![0, v593.toNat, 128]
def k0_off19 (k0_t2 : Fin k0_t2_loop.trips) (c0_i32_3 : BitVec 32) : Fin 3 → Nat :=
  let c0_325 : Index := 0#32
  let c0_i32_1 : BitVec 32 := 0#32
  let c1_i32 : BitVec 32 := 1#32
  let arg11 : BitVec 32 := Scf.iv c0_i32_1 c1_i32 k0_t2
  let c4_i32 : BitVec 32 := 4#32
  let v8 : BitVec 32 := Scalar.muli arg11 c4_i32
  let v9 : BitVec 32 := Scalar.addi v8 c0_i32_3
  let c128_i32_247 : BitVec 32 := 128#32
  let v351 : BitVec 32 := Scalar.muli v9 c128_i32_247
  let v352 : BitVec 32 := v351
  let v599 : Index := Scalar.indexCast v352
  let c256 : Index := 256#32
  ![0, v599.toNat, 256]
def k0_off20 (k0_t2 : Fin k0_t2_loop.trips) (c0_i32_3 : BitVec 32) : Fin 3 → Nat :=
  let c0_326 : Index := 0#32
  let c0_i32_1 : BitVec 32 := 0#32
  let c1_i32 : BitVec 32 := 1#32
  let arg11 : BitVec 32 := Scf.iv c0_i32_1 c1_i32 k0_t2
  let c4_i32 : BitVec 32 := 4#32
  let v8 : BitVec 32 := Scalar.muli arg11 c4_i32
  let v9 : BitVec 32 := Scalar.addi v8 c0_i32_3
  let c128_i32_247 : BitVec 32 := 128#32
  let v351 : BitVec 32 := Scalar.muli v9 c128_i32_247
  let v352 : BitVec 32 := v351
  let v605 : Index := Scalar.indexCast v352
  let c384 : Index := 384#32
  ![0, v605.toNat, 384]
def k0_mult10 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c4_i32_4 : BitVec 32 := 4#32
  let v10 : BitVec 32 := Scalar.muli arg11 c4_i32_4
  let c1_i32_5 : BitVec 32 := 1#32
  let v11 : BitVec 32 := Scalar.addi v10 c1_i32_5
  let c128_i32_327 : BitVec 32 := 128#32
  let v609 : BitVec 32 := Scalar.muli v11 c128_i32_327
  v609
def k0_mult11 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c4_i32_6 : BitVec 32 := 4#32
  let v12 : BitVec 32 := Scalar.muli arg11 c4_i32_6
  let c2_i32_7 : BitVec 32 := 2#32
  let v13 : BitVec 32 := Scalar.addi v12 c2_i32_7
  let c128_i32_414 : BitVec 32 := 128#32
  let v866 : BitVec 32 := Scalar.muli v13 c128_i32_414
  v866
def k0_mult12 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c4_i32_8 : BitVec 32 := 4#32
  let v14 : BitVec 32 := Scalar.muli arg11 c4_i32_8
  let c3_i32 : BitVec 32 := 3#32
  let v15 : BitVec 32 := Scalar.addi v14 c3_i32
  let c128_i32_501 : BitVec 32 := 128#32
  let v1123 : BitVec 32 := Scalar.muli v15 c128_i32_501
  v1123
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![c5_i32.toNat, arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "scale" => some (((1 / 8) * (Real.log 2)⁻¹ : ℝ) : EReal)
  | _ => none
-- ==== ReferenceIdeal.lean ====
abbrev S8x4096x5376 : Shape := ⟨3, ![8, 4096, 5376]⟩
abbrev S8 : Shape := ⟨1, ![8]⟩
abbrev S8x4096x512 : Shape := ⟨3, ![8, 4096, 512]⟩
abbrev S8x4096x2x4x64 : Shape := ⟨5, ![8, 4096, 2, 4, 64]⟩
abbrev S8x2x4x4096x64 : Shape := ⟨5, ![8, 2, 4, 4096, 64]⟩
abbrev S8x4096x128 : Shape := ⟨3, ![8, 4096, 128]⟩
abbrev S8x4096x2x64 : Shape := ⟨4, ![8, 4096, 2, 64]⟩
abbrev S8x2x4096x64 : Shape := ⟨4, ![8, 2, 4096, 64]⟩
abbrev S8x2x4x32x128x64 : Shape := ⟨6, ![8, 2, 4, 32, 128, 64]⟩
abbrev S8x2x32x128x64 : Shape := ⟨5, ![8, 2, 32, 128, 64]⟩
abbrev S8x2x1x128x64 : Shape := ⟨5, ![8, 2, 1, 128, 64]⟩
abbrev S_ : Shape := ⟨0, ![]⟩
abbrev S8x2x31x128x64 : Shape := ⟨5, ![8, 2, 31, 128, 64]⟩
abbrev S8x2x32x256x64 : Shape := ⟨5, ![8, 2, 32, 256, 64]⟩
abbrev S8x2x32x256x4x128 : Shape := ⟨6, ![8, 2, 32, 256, 4, 128]⟩
abbrev S8x2x4x32x128x256 : Shape := ⟨6, ![8, 2, 4, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S1 : Shape := ⟨1, ![1]⟩
abbrev S2x4 : Shape := ⟨2, ![2, 4]⟩
abbrev S2x4x1x1x1 : Shape := ⟨5, ![2, 4, 1, 1, 1]⟩
abbrev S1x1x1x128x256 : Shape := ⟨5, ![1, 1, 1, 128, 256]⟩
abbrev S2x4x1x128x256 : Shape := ⟨5, ![2, 4, 1, 128, 256]⟩
abbrev S1x2x4x1x128x256 : Shape := ⟨6, ![1, 2, 4, 1, 128, 256]⟩
abbrev S8x2x4x32x128 : Shape := ⟨5, ![8, 2, 4, 32, 128]⟩
abbrev S8x2x4x32x128x1 : Shape := ⟨6, ![8, 2, 4, 32, 128, 1]⟩
abbrev S1x2x4x1x1x1 : Shape := ⟨6, ![1, 2, 4, 1, 1, 1]⟩
abbrev S8x2x32x64x4x128 : Shape := ⟨6, ![8, 2, 32, 64, 4, 128]⟩

abbrev nBuf : Space → Nat
  | .hbm => 127
  | .vmem => 0
  | .smem => 0
  | _ => 0

abbrev bufTy : (tb : Table) → Fin (tcTables nBuf tb) → BufTy
  | .hbm, ⟨0, _⟩ => ⟨S8x4096x5376, .f32⟩
  | .hbm, ⟨1, _⟩ => ⟨S8, .f32⟩
  | .hbm, ⟨2, _⟩ => ⟨S8x4096x512, .f32⟩
  | .hbm, ⟨3, _⟩ => ⟨S8x4096x2x4x64, .f32⟩
  | .hbm, ⟨4, _⟩ => ⟨S8x2x4x4096x64, .f32⟩
  | .hbm, ⟨5, _⟩ => ⟨S8x4096x128, .f32⟩
  | .hbm, ⟨6, _⟩ => ⟨S8x4096x2x64, .f32⟩
  | .hbm, ⟨7, _⟩ => ⟨S8x2x4096x64, .f32⟩
  | .hbm, ⟨8, _⟩ => ⟨S8x4096x128, .f32⟩
  | .hbm, ⟨9, _⟩ => ⟨S8x4096x2x64, .f32⟩
  | .hbm, ⟨10, _⟩ => ⟨S8x2x4096x64, .f32⟩
  | .hbm, ⟨11, _⟩ => ⟨S8x2x4x32x128x64, .f32⟩
  | .hbm, ⟨12, _⟩ => ⟨S8x2x32x128x64, .f32⟩
  | .hbm, ⟨13, _⟩ => ⟨S8x2x1x128x64, .f32⟩
  | .hbm, ⟨14, _⟩ => ⟨S_, .f32⟩
  | .hbm, ⟨15, _⟩ => ⟨S8x2x1x128x64, .f32⟩
  | .hbm, ⟨16, _⟩ => ⟨S8x2x31x128x64, .f32⟩
  | .hbm, ⟨17, _⟩ => ⟨S8x2x32x128x64, .f32⟩
  | .hbm, ⟨18, _⟩ => ⟨S8x2x32x256x64, .f32⟩
  | .hbm, ⟨19, _⟩ => ⟨S8x2x32x128x64, .f32⟩
  | .hbm, ⟨20, _⟩ => ⟨S8x2x1x128x64, .f32⟩
  | .hbm, ⟨21, _⟩ => ⟨S_, .f32⟩
  | .hbm, ⟨22, _⟩ => ⟨S8x2x1x128x64, .f32⟩
  | .hbm, ⟨23, _⟩ => ⟨S8x2x31x128x64, .f32⟩
  | .hbm, ⟨24, _⟩ => ⟨S8x2x32x128x64, .f32⟩
  | .hbm, ⟨25, _⟩ => ⟨S8x2x32x256x64, .f32⟩
  | .hbm, ⟨26, _⟩ => ⟨S8x2x32x256x4x128, .f32⟩
  | .hbm, ⟨27, _⟩ => ⟨S8x2x4x32x128x256, .f32⟩
  | .hbm, ⟨28, _⟩ => ⟨S_, .f32⟩
  | .hbm, ⟨29, _⟩ => ⟨S8x2x4x32x128x256, .f32⟩
  | .hbm, ⟨30, _⟩ => ⟨S8x2x4x32x128x256, .f32⟩
  | .hbm, ⟨31, _⟩ => ⟨S128, .i32⟩
  | .hbm, ⟨32, _⟩ => ⟨S128x1, .i32⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S256, .i32⟩
  | .hbm, ⟨37, _⟩ => ⟨S1x256, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S32, .i32⟩
  | .hbm, ⟨42, _⟩ => ⟨S32x1, .i32⟩
  | .hbm, ⟨43, _⟩ => ⟨S_, .i32⟩
  | .hbm, ⟨44, _⟩ => ⟨S32x1, .i32⟩
  | .hbm, ⟨45, _⟩ => ⟨S32x1, .i32⟩
  | .hbm, ⟨46, _⟩ => ⟨S_, .i32⟩
  | .hbm, ⟨47, _⟩ => ⟨S32x1, .i32⟩
  | .hbm, ⟨48, _⟩ => ⟨S32x1, .i32⟩
  | .hbm, ⟨49, _⟩ => ⟨S256, .i32⟩
  | .hbm, ⟨50, _⟩ => ⟨S1x256, .i32⟩
  | .hbm, ⟨51, _⟩ => ⟨S32x256, .i32⟩
  | .hbm, ⟨52, _⟩ => ⟨S32x256, .i32⟩
  | .hbm, ⟨53, _⟩ => ⟨S32x256, .i32⟩
  | .hbm, ⟨54, _⟩ => ⟨S_, .i32⟩
  | .hbm, ⟨55, _⟩ => ⟨S32x256, .i32⟩
  | .hbm, ⟨56, _⟩ => ⟨S32x256, .i1⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S_, .i32⟩
  | .hbm, ⟨61, _⟩ => ⟨S128x256, .i32⟩
  | .hbm, ⟨62, _⟩ => ⟨S128x256, .i1⟩
  | .hbm, ⟨63, _⟩ => ⟨S128x256, .i1⟩
  | .hbm, ⟨64, _⟩ => ⟨S1x128x256, .i1⟩
  | .hbm, ⟨65, _⟩ => ⟨S32x1x256, .i1⟩
  | .hbm, ⟨66, _⟩ => ⟨S32x128x256, .i1⟩
  | .hbm, ⟨67, _⟩ => ⟨S32x128x256, .i1⟩
  | .hbm, ⟨68, _⟩ => ⟨S32x128x256, .i1⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S1, .f32⟩
  | .hbm, ⟨78, _⟩ => ⟨S1, .f32⟩
  | .hbm, ⟨79, _⟩ => ⟨S1, .f32⟩
  | .hbm, ⟨80, _⟩ => ⟨S1, .f32⟩
  | .hbm, ⟨81, _⟩ => ⟨S1, .f32⟩
  | .hbm, ⟨82, _⟩ => ⟨S1, .f32⟩
  | .hbm, ⟨83, _⟩ => ⟨S1, .f32⟩
  | .hbm, ⟨84, _⟩ => ⟨S1, .f32⟩
  | .hbm, ⟨85, _⟩ => ⟨S8, .f32⟩
  | .hbm, ⟨86, _⟩ => ⟨S2x4, .f32⟩
  | .hbm, ⟨87, _⟩ => ⟨S2x4x1x1x1, .f32⟩
  | .hbm, ⟨88, _⟩ => ⟨S128x256, .f32⟩
  | .hbm, ⟨89, _⟩ => ⟨S1x1x1x128x256, .f32⟩
  | .hbm, ⟨90, _⟩ => ⟨S2x4x1x128x256, .f32⟩
  | .hbm, ⟨91, _⟩ => ⟨S2x4x1x128x256, .f32⟩
  | .hbm, ⟨92, _⟩ => ⟨S2x4x1x128x256, .f32⟩
  | .hbm, ⟨93, _⟩ => ⟨S1x2x4x1x128x256, .f32⟩
  | .hbm, ⟨94, _⟩ => ⟨S8x2x4x32x128x256, .f32⟩
  | .hbm, ⟨95, _⟩ => ⟨S8x2x4x32x128x256, .f32⟩
  | .hbm, ⟨96, _⟩ => ⟨S_, .f32⟩
  | .hbm, ⟨97, _⟩ => ⟨S_, .f32⟩
  | .hbm, ⟨98, _⟩ => ⟨S8x2x4x32x128x256, .i1⟩
  | .hbm, ⟨99, _⟩ => ⟨S8x2x4x32x128x256, .f32⟩
  | .hbm, ⟨100, _⟩ => ⟨S8x2x4x32x128x256, .f32⟩
  | .hbm, ⟨101, _⟩ => ⟨S2x4, .f32⟩
  | .hbm, ⟨102, _⟩ => ⟨S2x4x1x1x1, .f32⟩
  | .hbm, ⟨103, _⟩ => ⟨S_, .f32⟩
  | .hbm, ⟨104, _⟩ => ⟨S8x2x4x32x128, .f32⟩
  | .hbm, ⟨105, _⟩ => ⟨S8x2x4x32x128x1, .f32⟩
  | .hbm, ⟨106, _⟩ => ⟨S1x2x4x1x1x1, .f32⟩
  | .hbm, ⟨107, _⟩ => ⟨S8x2x4x32x128x1, .f32⟩
  | .hbm, ⟨108, _⟩ => ⟨S8x2x4x32x128x1, .f32⟩
  | .hbm, ⟨109, _⟩ => ⟨S8x2x4x32x128x256, .f32⟩
  | .hbm, ⟨110, _⟩ => ⟨S8x2x4x32x128x256, .f32⟩
  | .hbm, ⟨111, _⟩ => ⟨S8x2x4x32x128x256, .f32⟩
  | .hbm, ⟨112, _⟩ => ⟨S_, .f32⟩
  | .hbm, ⟨113, _⟩ => ⟨S8x2x4x32x128, .f32⟩
  | .hbm, ⟨114, _⟩ => ⟨S8x2x4x32x128x1, .f32⟩
  | .hbm, ⟨115, _⟩ => ⟨S1x2x4x1x1x1, .f32⟩
  | .hbm, ⟨116, _⟩ => ⟨S8x2x4x32x128x1, .f32⟩
  | .hbm, ⟨117, _⟩ => ⟨S8x2x4x32x128x1, .f32⟩
  | .hbm, ⟨118, _⟩ => ⟨S8x2x4x32x128x1, .f32⟩
  | .hbm, ⟨119, _⟩ => ⟨S8x2x4x32x128x1, .f32⟩
  | .hbm, ⟨120, _⟩ => ⟨S8x2x4x32x128x256, .f32⟩
  | .hbm, ⟨121, _⟩ => ⟨S8x2x4x32x128x256, .f32⟩
  | .hbm, ⟨122, _⟩ => ⟨S8x2x32x64x4x128, .f32⟩
  | .hbm, ⟨123, _⟩ => ⟨S8x2x4x32x128x64, .f32⟩
  | .hbm, ⟨124, _⟩ => ⟨S8x2x4x4096x64, .f32⟩
  | .hbm, ⟨125, _⟩ => ⟨S8x4096x2x4x64, .f32⟩
  | .hbm, ⟨126, _⟩ => ⟨S8x4096x512, .f32⟩
  | _, _ => ⟨S8x4096x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_c_2 : Ref sig .tc := ⟨.hbm, 43, rfl⟩
abbrev main_v37 : Ref sig .tc := ⟨.hbm, 44, rfl⟩
abbrev main_v38 : Ref sig .tc := ⟨.hbm, 45, rfl⟩
abbrev main_c_3 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c_4 : Ref sig .tc := ⟨.hbm, 54, rfl⟩
abbrev main_v46 : Ref sig .tc := ⟨.hbm, 55, rfl⟩
abbrev main_v47 : Ref sig .tc := ⟨.hbm, 56, rfl⟩
abbrev main_c_5 : Ref sig .tc := ⟨.hbm, 57, rfl⟩
abbrev main_v48 : Ref sig .tc := ⟨.hbm, 58, rfl⟩
abbrev main_v49 : Ref sig .tc := ⟨.hbm, 59, rfl⟩
abbrev main_c_6 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_7 : Ref sig .tc := ⟨.hbm, 69, rfl⟩
abbrev main_cst_8 : Ref sig .tc := ⟨.hbm, 70, rfl⟩
abbrev main_cst_9 : Ref sig .tc := ⟨.hbm, 71, rfl⟩
abbrev main_cst_10 : Ref sig .tc := ⟨.hbm, 72, rfl⟩
abbrev main_cst_11 : Ref sig .tc := ⟨.hbm, 73, rfl⟩
abbrev main_cst_12 : Ref sig .tc := ⟨.hbm, 74, rfl⟩
abbrev main_cst_13 : Ref sig .tc := ⟨.hbm, 75, rfl⟩
abbrev main_cst_14 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_15 : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_16 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_17 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩

abbrev nD : Nat := 1
abbrev τ : Topo := Topo.v7x

variable {F : FTy → Type} [FloatOps F]
-- ==== Ffn.lean ====
abbrev S8x4096x2048 : Shape := ⟨3, ![8, 4096, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S2048 : Shape := ⟨1, ![2048]⟩
abbrev S32768x2048 : Shape := ⟨2, ![32768, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 15
  | .vmem => 13
  | .smem => 0
  | _ => 0

abbrev bufTy : (tb : Table) → Fin (tcTables nBuf tb) → BufTy
  | .hbm, ⟨0, _⟩ => ⟨S8x4096x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S2048, .f32⟩
  | .hbm, ⟨6, _⟩ => ⟨S4x2048x5632, .bf16⟩
  | .hbm, ⟨7, _⟩ => ⟨S4x2048x5632, .bf16⟩
  | .hbm, ⟨8, _⟩ => ⟨S4x5632x2048, .bf16⟩
  | .hbm, ⟨9, _⟩ => ⟨S32768x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnReferenceIdeal.lean ====
abbrev S8x4096x2048 : Shape := ⟨3, ![8, 4096, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S2048 : Shape := ⟨1, ![2048]⟩
abbrev S1x2048 : Shape := ⟨2, ![1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S8x4096x5632 : Shape := ⟨3, ![8, 4096, 5632]⟩
abbrev S1x5632x2048 : Shape := ⟨3, ![1, 5632, 2048]⟩
abbrev S5632x2048 : Shape := ⟨2, ![5632, 2048]⟩
abbrev S32768x2048 : Shape := ⟨2, ![32768, 2048]⟩

abbrev nBuf : Space → Nat
  | .hbm => 61
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S8x4096x2048, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x2048, .f32⟩
  | .hbm, ⟨20, _⟩ => ⟨S8x4096x2048, .f32⟩
  | .hbm, ⟨21, _⟩ => ⟨S1x1x2048, .f32⟩
  | .hbm, ⟨22, _⟩ => ⟨S8x4096x2048, .f32⟩
  | .hbm, ⟨23, _⟩ => ⟨S8x4096x2048, .f32⟩
  | .hbm, ⟨24, _⟩ => ⟨S1x2048x5632, .f32⟩
  | .hbm, ⟨25, _⟩ => ⟨S2048x5632, .f32⟩
  | .hbm, ⟨26, _⟩ => ⟨S8x4096x5632, .f32⟩
  | .hbm, ⟨27, _⟩ => ⟨S8x4096x5632, .f32⟩
  | .hbm, ⟨28, _⟩ => ⟨S8x4096x5632, .f32⟩
  | .hbm, ⟨29, _⟩ => ⟨S_, .f32⟩
  | .hbm, ⟨30, _⟩ => ⟨S8x4096x5632, .f32⟩
  | .hbm, ⟨31, _⟩ => ⟨S8x4096x5632, .f32⟩
  | .hbm, ⟨32, _⟩ => ⟨S_, .f32⟩
  | .hbm, ⟨33, _⟩ => ⟨S8x4096x5632, .f32⟩
  | .hbm, ⟨34, _⟩ => ⟨S8x4096x5632, .f32⟩
  | .hbm, ⟨35, _⟩ => ⟨S8x4096x5632, .f32⟩
  | .hbm, ⟨36, _⟩ => ⟨S1x2048x5632, .f32⟩
  | .hbm, ⟨37, _⟩ => ⟨S2048x5632, .f32⟩
  | .hbm, ⟨38, _⟩ => ⟨S8x4096x5632, .f32⟩
  | .hbm, ⟨39, _⟩ => ⟨S8x4096x5632, .f32⟩
  | .hbm, ⟨40, _⟩ => ⟨S1x5632x2048, .f32⟩
  | .hbm, ⟨41, _⟩ => ⟨S5632x2048, .f32⟩
  | .hbm, ⟨42, _⟩ => ⟨S8x4096x2048, .f32⟩
  | .hbm, ⟨43, _⟩ => ⟨S8x4096x2048, .f32⟩
  | .hbm, ⟨44, _⟩ => ⟨S8x4096x2048, .f32⟩
  | .hbm, ⟨45, _⟩ => ⟨S_, .f32⟩
  | .hbm, ⟨46, _⟩ => ⟨S8x4096, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x1, .f32⟩
  | .hbm, ⟨55, _⟩ => ⟨S8x4096x2048, .f32⟩
  | .hbm, ⟨56, _⟩ => ⟨S8x4096x2048, .f32⟩
  | .hbm, ⟨57, _⟩ => ⟨S1x1x2048, .f32⟩
  | .hbm, ⟨58, _⟩ => ⟨S8x4096x2048, .f32⟩
  | .hbm, ⟨59, _⟩ => ⟨S8x4096x2048, .f32⟩
  | .hbm, ⟨60, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== FfnMid.lean ====
abbrev S8x4096x2048 : Shape := ⟨3, ![8, 4096, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S2048 : Shape := ⟨1, ![2048]⟩
abbrev S32768x2048 : Shape := ⟨2, ![32768, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 15
  | .vmem => 13
  | .smem => 0
  | _ => 0

abbrev bufTy : (tb : Table) → Fin (tcTables nBuf tb) → BufTy
  | .hbm, ⟨0, _⟩ => ⟨S8x4096x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S2048, .f32⟩
  | .hbm, ⟨6, _⟩ => ⟨S4x2048x5632, .bf16⟩
  | .hbm, ⟨7, _⟩ => ⟨S4x2048x5632, .bf16⟩
  | .hbm, ⟨8, _⟩ => ⟨S4x5632x2048, .bf16⟩
  | .hbm, ⟨9, _⟩ => ⟨S32768x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnMidReferenceIdeal.lean ====
abbrev S8x4096x2048 : Shape := ⟨3, ![8, 4096, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S2048 : Shape := ⟨1, ![2048]⟩
abbrev S1x2048 : Shape := ⟨2, ![1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S8x4096x5632 : Shape := ⟨3, ![8, 4096, 5632]⟩
abbrev S1x5632x2048 : Shape := ⟨3, ![1, 5632, 2048]⟩
abbrev S5632x2048 : Shape := ⟨2, ![5632, 2048]⟩
abbrev S32768x2048 : Shape := ⟨2, ![32768, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S8x4096x2048, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x2048, .f32⟩
  | .hbm, ⟨20, _⟩ => ⟨S8x4096x2048, .f32⟩
  | .hbm, ⟨21, _⟩ => ⟨S1x1x2048, .f32⟩
  | .hbm, ⟨22, _⟩ => ⟨S8x4096x2048, .f32⟩
  | .hbm, ⟨23, _⟩ => ⟨S8x4096x2048, .f32⟩
  | .hbm, ⟨24, _⟩ => ⟨S1x2048x5632, .f32⟩
  | .hbm, ⟨25, _⟩ => ⟨S2048x5632, .f32⟩
  | .hbm, ⟨26, _⟩ => ⟨S8x4096x5632, .f32⟩
  | .hbm, ⟨27, _⟩ => ⟨S8x4096x5632, .f32⟩
  | .hbm, ⟨28, _⟩ => ⟨S8x4096x5632, .f32⟩
  | .hbm, ⟨29, _⟩ => ⟨S_, .f32⟩
  | .hbm, ⟨30, _⟩ => ⟨S8x4096x5632, .f32⟩
  | .hbm, ⟨31, _⟩ => ⟨S8x4096x5632, .f32⟩
  | .hbm, ⟨32, _⟩ => ⟨S_, .f32⟩
  | .hbm, ⟨33, _⟩ => ⟨S8x4096x5632, .f32⟩
  | .hbm, ⟨34, _⟩ => ⟨S8x4096x5632, .f32⟩
  | .hbm, ⟨35, _⟩ => ⟨S8x4096x5632, .f32⟩
  | .hbm, ⟨36, _⟩ => ⟨S1x2048x5632, .f32⟩
  | .hbm, ⟨37, _⟩ => ⟨S2048x5632, .f32⟩
  | .hbm, ⟨38, _⟩ => ⟨S8x4096x5632, .f32⟩
  | .hbm, ⟨39, _⟩ => ⟨S8x4096x5632, .f32⟩
  | .hbm, ⟨40, _⟩ => ⟨S1x5632x2048, .f32⟩
  | .hbm, ⟨41, _⟩ => ⟨S5632x2048, .f32⟩
  | .hbm, ⟨42, _⟩ => ⟨S8x4096x2048, .f32⟩
  | .hbm, ⟨43, _⟩ => ⟨S8x4096x2048, .f32⟩
  | .hbm, ⟨44, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Slabs.lean ====
abbrev S8x4096x2048 : Shape := ⟨3, ![8, 4096, 2048]⟩
abbrev S4x2048 : Shape := ⟨2, ![4, 2048]⟩
abbrev S4x2048x5376 : Shape := ⟨3, ![4, 2048, 5376]⟩
abbrev S32768x2048 : Shape := ⟨2, ![32768, 2048]⟩
abbrev S1x2048 : Shape := ⟨2, ![1, 2048]⟩
abbrev S2048 : Shape := ⟨1, ![2048]⟩
abbrev S42x32768x128 : Shape := ⟨3, ![42, 32768, 128]⟩
abbrev S1024x2048 : Shape := ⟨2, ![1024, 2048]⟩
abbrev S1x2048x1792 : Shape := ⟨3, ![1, 2048, 1792]⟩
abbrev S14x1024x128 : Shape := ⟨3, ![14, 1024, 128]⟩
abbrev S1024 : Shape := ⟨1, ![1024]⟩
abbrev S1024x1 : Shape := ⟨2, ![1024, 1]⟩
abbrev S2048x1792 : Shape := ⟨2, ![2048, 1792]⟩
abbrev S1024x1792 : Shape := ⟨2, ![1024, 1792]⟩
abbrev S1024x128 : Shape := ⟨2, ![1024, 128]⟩
abbrev S1x1024x128 : Shape := ⟨3, ![1, 1024, 128]⟩

abbrev nBuf : Space → Nat
  | .hbm => 9
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S4x2048, .f32⟩
  | .hbm, ⟨2, _⟩ => ⟨S4x2048x5376, .f32⟩
  | .hbm, ⟨3, _⟩ => ⟨S4x2048x5376, .bf16⟩
  | .hbm, ⟨4, _⟩ => ⟨S32768x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S42x32768x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1792, .bf16⟩
  | .local _ .vmem, ⟨4, _⟩ => ⟨S1x2048x1792, .bf16⟩
  | .local _ .vmem, ⟨5, _⟩ => ⟨S14x1024x128, .f32⟩
  | .local _ .vmem, ⟨6, _⟩ => ⟨S14x1024x128, .f32⟩
  | .local _ .vmem, ⟨7, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S14x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SlabsReferenceIdeal.lean ====
abbrev S8x4096x2048 : Shape := ⟨3, ![8, 4096, 2048]⟩
abbrev S4x2048 : Shape := ⟨2, ![4, 2048]⟩
abbrev S4x2048x5376 : Shape := ⟨3, ![4, 2048, 5376]⟩
abbrev S1x2048 : Shape := ⟨2, ![1, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S1x2048x5376 : Shape := ⟨3, ![1, 2048, 5376]⟩
abbrev S2048x5376 : Shape := ⟨2, ![2048, 5376]⟩
abbrev S8x4096x5376 : Shape := ⟨3, ![8, 4096, 5376]⟩
abbrev S32768x42x128 : Shape := ⟨3, ![32768, 42, 128]⟩
abbrev S42x32768x128 : Shape := ⟨3, ![42, 32768, 128]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S4x2048, .f32⟩
  | .hbm, ⟨2, _⟩ => ⟨S4x2048x5376, .f32⟩
  | .hbm, ⟨3, _⟩ => ⟨S1x2048, .f32⟩
  | .hbm, ⟨4, _⟩ => ⟨S2048, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x2048, .f32⟩
  | .hbm, ⟨17, _⟩ => ⟨S8x4096x2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S1x2048x5376, .f32⟩
  | .hbm, ⟨22, _⟩ => ⟨S2048x5376, .f32⟩
  | .hbm, ⟨23, _⟩ => ⟨S8x4096x5376, .f32⟩
  | .hbm, ⟨24, _⟩ => ⟨S32768x42x128, .f32⟩
  | .hbm, ⟨25, _⟩ => ⟨S42x32768x128, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Mix.lean ====
abbrev S8x4096x512 : Shape := ⟨3, ![8, 4096, 512]⟩
abbrev S8x4096x1024 : Shape := ⟨3, ![8, 4096, 1024]⟩
abbrev S4x512 : Shape := ⟨2, ![4, 512]⟩
abbrev S4x1024 : Shape := ⟨2, ![4, 1024]⟩
abbrev S8x4096x2048 : Shape := ⟨3, ![8, 4096, 2048]⟩
abbrev S4x2048x2048 : Shape := ⟨3, ![4, 2048, 2048]⟩
abbrev S32768x512 : Shape := ⟨2, ![32768, 512]⟩
abbrev S32768x1024 : Shape := ⟨2, ![32768, 1024]⟩
abbrev S1x512 : Shape := ⟨2, ![1, 512]⟩
abbrev S512 : Shape := ⟨1, ![512]⟩
abbrev S1x1024 : Shape := ⟨2, ![1, 1024]⟩
abbrev S1024 : Shape := ⟨1, ![1024]⟩
abbrev S32768x2048 : Shape := ⟨2, ![32768, 2048]⟩
abbrev S512x512 : Shape := ⟨2, ![512, 512]⟩
abbrev S512x1024 : Shape := ⟨2, ![512, 1024]⟩
abbrev S512x2048 : Shape := ⟨2, ![512, 2048]⟩
abbrev S1x2048x2048 : Shape := ⟨3, ![1, 2048, 2048]⟩
abbrev S512x1 : Shape := ⟨2, ![512, 1]⟩
abbrev S2048x2048 : Shape := ⟨2, ![2048, 2048]⟩

abbrev nBuf : Space → Nat
  | .hbm => 23
  | .vmem => 14
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S4x512, .f32⟩
  | .hbm, ⟨4, _⟩ => ⟨S4x512, .f32⟩
  | .hbm, ⟨5, _⟩ => ⟨S4x1024, .f32⟩
  | .hbm, ⟨6, _⟩ => ⟨S8x4096x2048, .f32⟩
  | .hbm, ⟨7, _⟩ => ⟨S4x2048x2048, .f32⟩
  | .hbm, ⟨8, _⟩ => ⟨S4x2048x2048, .bf16⟩
  | .hbm, ⟨9, _⟩ => ⟨S32768x512, .f32⟩
  | .hbm, ⟨10, _⟩ => ⟨S32768x512, .f32⟩
  | .hbm, ⟨11, _⟩ => ⟨S32768x1024, .f32⟩
  | .hbm, ⟨12, _⟩ => ⟨S1x512, .f32⟩
  | .hbm, ⟨13, _⟩ => ⟨S512, .f32⟩
  | .hbm, ⟨14, _⟩ => ⟨S1x512, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S32768x2048, .f32⟩
  | .hbm, ⟨22, _⟩ => ⟨S32768x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S1x1024, .f32⟩
  | .local _ .vmem, ⟨9, _⟩ => ⟨S512x2048, .f32⟩
  | .local _ .vmem, ⟨10, _⟩ => ⟨S512x2048, .f32⟩
  | .local _ .vmem, ⟨11, _⟩ => ⟨S1x2048x2048, .bf16⟩
  | .local _ .vmem, ⟨12, _⟩ => ⟨S512x2048, .f32⟩
  | .local _ .vmem, ⟨13, _⟩ => ⟨S512x2048, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixReferenceIdeal.lean ====
abbrev S8x4096x512 : Shape := ⟨3, ![8, 4096, 512]⟩
abbrev S8x4096x1024 : Shape := ⟨3, ![8, 4096, 1024]⟩
abbrev S4x512 : Shape := ⟨2, ![4, 512]⟩
abbrev S4x1024 : Shape := ⟨2, ![4, 1024]⟩
abbrev S8x4096x2048 : Shape := ⟨3, ![8, 4096, 2048]⟩
abbrev S4x2048x2048 : Shape := ⟨3, ![4, 2048, 2048]⟩
abbrev S1x512 : Shape := ⟨2, ![1, 512]⟩
abbrev S512 : Shape := ⟨1, ![512]⟩
abbrev S_ : Shape := ⟨0, ![]⟩
abbrev S8x4096 : Shape := ⟨2, ![8, 4096]⟩
abbrev S8x4096x1 : Shape := ⟨3, ![8, 4096, 1]⟩
abbrev S1x1x512 : Shape := ⟨3, ![1, 1, 512]⟩
abbrev S1x1024 : Shape := ⟨2, ![1, 1024]⟩
abbrev S1024 : Shape := ⟨1, ![1024]⟩
abbrev S1x1x1024 : Shape := ⟨3, ![1, 1, 1024]⟩
abbrev S1x2048x2048 : Shape := ⟨3, ![1, 2048, 2048]⟩
abbrev S2048x2048 : Shape := ⟨2, ![2048, 2048]⟩
abbrev S32768x2048 : Shape := ⟨2, ![32768, 2048]⟩

abbrev nBuf : Space → Nat
  | .hbm => 68
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S4x512, .f32⟩
  | .hbm, ⟨4, _⟩ => ⟨S4x512, .f32⟩
  | .hbm, ⟨5, _⟩ => ⟨S4x1024, .f32⟩
  | .hbm, ⟨6, _⟩ => ⟨S8x4096x2048, .f32⟩
  | .hbm, ⟨7, _⟩ => ⟨S4x2048x2048, .f32⟩
  | .hbm, ⟨8, _⟩ => ⟨S1x512, .f32⟩
  | .hbm, ⟨9, _⟩ => ⟨S512, .f32⟩
  | .hbm, ⟨10, _⟩ => ⟨S8x4096x512, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x512, .f32⟩
  | .hbm, ⟨22, _⟩ => ⟨S8x4096x512, .f32⟩
  | .hbm, ⟨23, _⟩ => ⟨S1x1x512, .f32⟩
  | .hbm, ⟨24, _⟩ => ⟨S8x4096x512, .f32⟩
  | .hbm, ⟨25, _⟩ => ⟨S8x4096x512, .f32⟩
  | .hbm, ⟨26, _⟩ => ⟨S1x512, .f32⟩
  | .hbm, ⟨27, _⟩ => ⟨S512, .f32⟩
  | .hbm, ⟨28, _⟩ => ⟨S8x4096x512, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S8x4096x1, .f32⟩
  | .hbm, ⟨39, _⟩ => ⟨S8x4096x512, .f32⟩
  | .hbm, ⟨40, _⟩ => ⟨S8x4096x512, .f32⟩
  | .hbm, ⟨41, _⟩ => ⟨S1x1x512, .f32⟩
  | .hbm, ⟨42, _⟩ => ⟨S8x4096x512, .f32⟩
  | .hbm, ⟨43, _⟩ => ⟨S8x4096x512, .f32⟩
  | .hbm, ⟨44, _⟩ => ⟨S1x1024, .f32⟩
  | .hbm, ⟨45, _⟩ => ⟨S1024, .f32⟩
  | .hbm, ⟨46, _⟩ => ⟨S8x4096x1024, .f32⟩
  | .hbm, ⟨47, _⟩ => ⟨S_, .f32⟩
  | .hbm, ⟨48, _⟩ => ⟨S8x4096, .f32⟩
  | .hbm, ⟨49, _⟩ => ⟨S8x4096x1, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x4096x1, .f32⟩
  | .hbm, ⟨57, _⟩ => ⟨S8x4096x1024, .f32⟩
  | .hbm, ⟨58, _⟩ => ⟨S8x4096x1024, .f32⟩
  | .hbm, ⟨59, _⟩ => ⟨S1x1x1024, .f32⟩
  | .hbm, ⟨60, _⟩ => ⟨S8x4096x1024, .f32⟩
  | .hbm, ⟨61, _⟩ => ⟨S8x4096x1024, .f32⟩
  | .hbm, ⟨62, _⟩ => ⟨S8x4096x2048, .f32⟩
  | .hbm, ⟨63, _⟩ => ⟨S1x2048x2048, .f32⟩
  | .hbm, ⟨64, _⟩ => ⟨S2048x2048, .f32⟩
  | .hbm, ⟨65, _⟩ => ⟨S8x4096x2048, .f32⟩
  | .hbm, ⟨66, _⟩ => ⟨S8x4096x2048, .f32⟩
  | .hbm, ⟨67, _⟩ => ⟨S32768x2048, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Xattn.lean ====
abbrev S8x4096x2048 : Shape := ⟨3, ![8, 4096, 2048]⟩
abbrev S4x2048 : Shape := ⟨2, ![4, 2048]⟩
abbrev S4x2048x512 : Shape := ⟨3, ![4, 2048, 512]⟩
abbrev S8x256x512 : Shape := ⟨3, ![8, 256, 512]⟩
abbrev S4x512x2048 : Shape := ⟨3, ![4, 512, 2048]⟩
abbrev S8x256x1024 : Shape := ⟨3, ![8, 256, 1024]⟩
abbrev S1x2048 : Shape := ⟨2, ![1, 2048]⟩
abbrev S2048 : Shape := ⟨1, ![2048]⟩
abbrev S1x1024x2048 : Shape := ⟨3, ![1, 1024, 2048]⟩
abbrev S1x2048x512 : Shape := ⟨3, ![1, 2048, 512]⟩
abbrev S1x256x1024 : Shape := ⟨3, ![1, 256, 1024]⟩
abbrev S1x512x2048 : Shape := ⟨3, ![1, 512, 2048]⟩
abbrev S1024x2048 : Shape := ⟨2, ![1024, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S1024x128 : Shape := ⟨2, ![1024, 128]⟩
abbrev S1x256x128 : Shape := ⟨3, ![1, 256, 128]⟩
abbrev S256x128 : Shape := ⟨2, ![256, 128]⟩
abbrev S1024x256 : Shape := ⟨2, ![1024, 256]⟩
abbrev S512x2048 : Shape := ⟨2, ![512, 2048]⟩

abbrev nBuf : Space → Nat
  | .hbm => 14
  | .vmem => 9
  | .smem => 0
  | _ => 0

abbrev bufTy : (tb : Table) → Fin (tcTables nBuf tb) → BufTy
  | .hbm, ⟨0, _⟩ => ⟨S8x4096x2048, .f32⟩
  | .hbm, ⟨1, _⟩ => ⟨S4x2048, .f32⟩
  | .hbm, ⟨2, _⟩ => ⟨S4x2048x512, .f32⟩
  | .hbm, ⟨3, _⟩ => ⟨S8x256x512, .f32⟩
  | .hbm, ⟨4, _⟩ => ⟨S8x256x512, .f32⟩
  | .hbm, ⟨5, _⟩ => ⟨S4x512x2048, .f32⟩
  | .hbm, ⟨6, _⟩ => ⟨S8x256x1024, .f32⟩
  | .hbm, ⟨7, _⟩ => ⟨S8x256x1024, .bf16⟩
  | .hbm, ⟨8, _⟩ => ⟨S4x2048x512, .bf16⟩
  | .hbm, ⟨9, _⟩ => ⟨S4x512x2048, .bf16⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S8x4096x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x512x2048, .bf16⟩
  | .local _ .vmem, ⟨7, _⟩ => ⟨S1x1024x2048, .f32⟩
  | .local _ .vmem, ⟨8, _⟩ => ⟨S1x1024x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== XattnReferenceIdeal.lean ====
abbrev S8x4096x2048 : Shape := ⟨3, ![8, 4096, 2048]⟩
abbrev S4x2048 : Shape := ⟨2, ![4, 2048]⟩
abbrev S4x2048x512 : Shape := ⟨3, ![4, 2048, 512]⟩
abbrev S8x256x512 : Shape := ⟨3, ![8, 256, 512]⟩
abbrev S4x512x2048 : Shape := ⟨3, ![4, 512, 2048]⟩
abbrev S1x2048 : Shape := ⟨2, ![1, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S1x2048x512 : Shape := ⟨3, ![1, 2048, 512]⟩
abbrev S2048x512 : Shape := ⟨2, ![2048, 512]⟩
abbrev S8x4096x512 : Shape := ⟨3, ![8, 4096, 512]⟩
abbrev S8x4096x4x128 : Shape := ⟨4, ![8, 4096, 4, 128]⟩
abbrev S8x256x4x128 : Shape := ⟨4, ![8, 256, 4, 128]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩
abbrev S1x512x2048 : Shape := ⟨3, ![1, 512, 2048]⟩
abbrev S512x2048 : Shape := ⟨2, ![512, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S4x2048, .f32⟩
  | .hbm, ⟨2, _⟩ => ⟨S4x2048x512, .f32⟩
  | .hbm, ⟨3, _⟩ => ⟨S8x256x512, .f32⟩
  | .hbm, ⟨4, _⟩ => ⟨S8x256x512, .f32⟩
  | .hbm, ⟨5, _⟩ => ⟨S4x512x2048, .f32⟩
  | .hbm, ⟨6, _⟩ => ⟨S1x2048, .f32⟩
  | .hbm, ⟨7, _⟩ => ⟨S2048, .f32⟩
  | .hbm, ⟨8, _⟩ => ⟨S8x4096x2048, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x2048, .f32⟩
  | .hbm, ⟨20, _⟩ => ⟨S8x4096x2048, .f32⟩
  | .hbm, ⟨21, _⟩ => ⟨S1x1x2048, .f32⟩
  | .hbm, ⟨22, _⟩ => ⟨S8x4096x2048, .f32⟩
  | .hbm, ⟨23, _⟩ => ⟨S8x4096x2048, .f32⟩
  | .hbm, ⟨24, _⟩ => ⟨S1x2048x512, .f32⟩
  | .hbm, ⟨25, _⟩ => ⟨S2048x512, .f32⟩
  | .hbm, ⟨26, _⟩ => ⟨S8x4096x512, .f32⟩
  | .hbm, ⟨27, _⟩ => ⟨S8x4096x4x128, .f32⟩
  | .hbm, ⟨28, _⟩ => ⟨S8x256x4x128, .f32⟩
  | .hbm, ⟨29, _⟩ => ⟨S8x256x4x128, .f32⟩
  | .hbm, ⟨30, _⟩ => ⟨S8x4x4096x256, .f32⟩
  | .hbm, ⟨31, _⟩ => ⟨S_, .f32⟩
  | .hbm, ⟨32, _⟩ => ⟨S8x4x4096x256, .f32⟩
  | .hbm, ⟨33, _⟩ => ⟨S8x4x4096x256, .f32⟩
  | .hbm, ⟨34, _⟩ => ⟨S_, .f32⟩
  | .hbm, ⟨35, _⟩ => ⟨S8x4x4096, .f32⟩
  | .hbm, ⟨36, _⟩ => ⟨S_, .f32⟩
  | .hbm, ⟨37, _⟩ => ⟨S8x4x4096, .f32⟩
  | .hbm, ⟨38, _⟩ => ⟨S8x4x4096, .f32⟩
  | .hbm, ⟨39, _⟩ => ⟨S8x4x4096x1, .f32⟩
  | .hbm, ⟨40, _⟩ => ⟨S8x4x4096x256, .f32⟩
  | .hbm, ⟨41, _⟩ => ⟨S8x4x4096x256, .f32⟩
  | .hbm, ⟨42, _⟩ => ⟨S8x4x4096x256, .f32⟩
  | .hbm, ⟨43, _⟩ => ⟨S_, .f32⟩
  | .hbm, ⟨44, _⟩ => ⟨S8x4x4096, .f32⟩
  | .hbm, ⟨45, _⟩ => ⟨S8x4x4096x1, .f32⟩
  | .hbm, ⟨46, _⟩ => ⟨S8x4x4096x256, .f32⟩
  | .hbm, ⟨47, _⟩ => ⟨S8x4x4096x256, .f32⟩
  | .hbm, ⟨48, _⟩ => ⟨S8x4x128x4096, .f32⟩
  | .hbm, ⟨49, _⟩ => ⟨S8x4096x4x128, .f32⟩
  | .hbm, ⟨50, _⟩ => ⟨S8x4096x512, .f32⟩
  | .hbm, ⟨51, _⟩ => ⟨S1x512x2048, .f32⟩
  | .hbm, ⟨52, _⟩ => ⟨S512x2048, .f32⟩
  | .hbm, ⟨53, _⟩ => ⟨S8x4096x2048, .f32⟩
  | .hbm, ⟨54, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Mem.lean ====
abbrev S8x256x2048 : Shape := ⟨3, ![8, 256, 2048]⟩
abbrev S4x2048 : Shape := ⟨2, ![4, 2048]⟩
abbrev S4x2048x512 : Shape := ⟨3, ![4, 2048, 512]⟩
abbrev S4x2048x1024 : Shape := ⟨3, ![4, 2048, 1024]⟩
abbrev S2048x2048 : Shape := ⟨2, ![2048, 2048]⟩
abbrev S1x2048 : Shape := ⟨2, ![1, 2048]⟩
abbrev S2048 : Shape := ⟨1, ![2048]⟩
abbrev S2048x1024 : Shape := ⟨2, ![2048, 1024]⟩
abbrev S512x2048 : Shape := ⟨2, ![512, 2048]⟩
abbrev S1x2048x1024 : Shape := ⟨3, ![1, 2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 7
  | .smem => 0
  | _ => 0

abbrev bufTy : (tb : Table) → Fin (tcTables nBuf tb) → BufTy
  | .hbm, ⟨0, _⟩ => ⟨S8x256x2048, .f32⟩
  | .hbm, ⟨1, _⟩ => ⟨S4x2048, .f32⟩
  | .hbm, ⟨2, _⟩ => ⟨S4x2048x512, .f32⟩
  | .hbm, ⟨3, _⟩ => ⟨S4x2048x512, .f32⟩
  | .hbm, ⟨4, _⟩ => ⟨S4x2048x1024, .f32⟩
  | .hbm, ⟨5, _⟩ => ⟨S4x2048x1024, .bf16⟩
  | .hbm, ⟨6, _⟩ => ⟨S2048x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemReferenceIdeal.lean ====
abbrev S8x256x2048 : Shape := ⟨3, ![8, 256, 2048]⟩
abbrev S4x2048 : Shape := ⟨2, ![4, 2048]⟩
abbrev S4x2048x512 : Shape := ⟨3, ![4, 2048, 512]⟩
abbrev S1x2048 : Shape := ⟨2, ![1, 2048]⟩
abbrev S2048 : Shape := ⟨1, ![2048]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S1x2048x512 : Shape := ⟨3, ![1, 2048, 512]⟩
abbrev S2048x512 : Shape := ⟨2, ![2048, 512]⟩
abbrev S8x256x512 : Shape := ⟨3, ![8, 256, 512]⟩
abbrev S8x256x1024 : Shape := ⟨3, ![8, 256, 1024]⟩
abbrev S2048x1024 : Shape := ⟨2, ![2048, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S4x2048, .f32⟩
  | .hbm, ⟨2, _⟩ => ⟨S4x2048x512, .f32⟩
  | .hbm, ⟨3, _⟩ => ⟨S4x2048x512, .f32⟩
  | .hbm, ⟨4, _⟩ => ⟨S1x2048, .f32⟩
  | .hbm, ⟨5, _⟩ => ⟨S2048, .f32⟩
  | .hbm, ⟨6, _⟩ => ⟨S8x256x2048, .f32⟩
  | .hbm, ⟨7, _⟩ => ⟨S_, .f32⟩
  | .hbm, ⟨8, _⟩ => ⟨S8x256, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S_, .f32⟩
  | .hbm, ⟨14, _⟩ => ⟨S8x256x1, .f32⟩
  | .hbm, ⟨15, _⟩ => ⟨S8x256x1, .f32⟩
  | .hbm, ⟨16, _⟩ => ⟨S8x256x1, .f32⟩
  | .hbm, ⟨17, _⟩ => ⟨S8x256x2048, .f32⟩
  | .hbm, ⟨18, _⟩ => ⟨S8x256x2048, .f32⟩
  | .hbm, ⟨19, _⟩ => ⟨S1x1x2048, .f32⟩
  | .hbm, ⟨20, _⟩ => ⟨S8x256x2048, .f32⟩
  | .hbm, ⟨21, _⟩ => ⟨S8x256x2048, .f32⟩
  | .hbm, ⟨22, _⟩ => ⟨S1x2048x512, .f32⟩
  | .hbm, ⟨23, _⟩ => ⟨S2048x512, .f32⟩
  | .hbm, ⟨24, _⟩ => ⟨S8x256x512, .f32⟩
  | .hbm, ⟨25, _⟩ => ⟨S1x2048x512, .f32⟩
  | .hbm, ⟨26, _⟩ => ⟨S2048x512, .f32⟩
  | .hbm, ⟨27, _⟩ => ⟨S8x256x512, .f32⟩
  | .hbm, ⟨28, _⟩ => ⟨S8x256x1024, .f32⟩
  | .hbm, ⟨29, _⟩ => ⟨S2048x1024, .f32⟩
  | .hbm, ⟨30, _⟩ => ⟨S2048x1024, .bf16⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Proof.Finite.lean ====
/- The precondition, read: every projection and every sink is a real number. -/
module

public import proofs.«01_k».proof.Pre_finite
public import Idealize.ShloMosaic.Lib.ReduceAll
public import Idealize.ShloMosaic.Lib.Tactic.ValueTie

@[expose] public section

noncomputable section

namespace Cert.Pre_finite

open Idealize.ShloMosaic

instance facts : Facts where
  bcast_S_S8x4096x5376 := by decide
  reducesTo_S8x4096x5376_S_d0_1_2 := by decide
  h_S_ := by decide
  bcast_S_S8 := by decide
  reducesTo_S8_S_d0 := by decide

/-- A number of magnitude below the top is a real number. -/
theorem real_of_lt (x : EReal) (h : Ideal.cmp .olt (max x (-x)) ⊤ = 1#1) : ((x.toReal : ℝ) : EReal) = x := by
  have h' : max x (-x) < ⊤ := by
    by_contra hn
    have : Ideal.cmp .olt (max x (-x)) ⊤ = 0#1 := by simp [Ideal.cmp, hn]
    rw [this] at h; exact absurd h (by decide)
  refine EReal.coe_toReal ?_ ?_
  · rintro rfl; simp at h'
  · rintro rfl; simp at h'

theorem real (x0 : FVec Ideal S8x4096x5376 .f32) (x1 : FVec Ideal S8 .f32) (h : fn (F := Ideal) x0 x1 = fun _ => 1#1) :
    (∀ i, (((x0 i).toReal : ℝ) : EReal) = x0 i) ∧ ∀ i, (((x1 i).toReal : ℝ) : EReal) = x1 i := by
  have h := congrFun h ix0
  unfold fn at h
  dsimp only at h
  have h2 := IntOp.andi_eq_one.1 h
  have ht : Ideal.ofBits .f32 0x7F800000#32 = ⊤ := by simp [Ideal.ofBits, Ideal.ieee]
  haveI : Subsingleton S_.Idx := ⟨fun a b => funext fun i => i.elim0⟩
  refine ⟨fun i => ?_, fun i => ?_⟩
  · have := Host.reduce_andi_all _ _ _ _ _ h2.1 i
    refine real_of_lt _ ?_
    rw [← ht]; exact this
  · have := Host.reduce_andi_all _ _ _ _ _ h2.2 i
    refine real_of_lt _ ?_
    rw [← ht]; exact this

end Cert.Pre_finite

end
-- ==== Proof.KernelIdeal.RunA.lean ====
/- The body at a point that begins a batch entry: it fills the three scratch arrays, then writes its output block. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A whole buffer after writes that cover it holds the same writes over any other contents. -/
theorem writes_over_junk {κ : Kind} {sp : Space} {s : Shape} {e : EltTy} {mr : Memref sig κ sp s e} (hw : mr.IsWhole)
    (f : mr.view.ty.Contents (Elt F)) (L : List (View.Piece (Elt F) s e)) (hc : ∀ y, ∃ p ∈ L, y ∈ p.1.set) :
    mr.view.writes (Elt F) f L = mr.view.writes (Elt F) mr.view.junk L := by
  obtain ⟨b, rfl, rfl, rfl, h⟩ := hw; cases h
  funext y
  exact View.read_writes_apply_eq (View.whole b) f (View.whole b) (View.whole b).junk y L (hc y)

-- (the run's proof term is large: the definition's epilogue — `abstractNestedProofs` — walks it past the default budget)
set_option maxHeartbeats 1000000 in
/-- What the body's stores leave in each output's staging memref, as pieces (last first) IN CASE A (`scf.if` 0 taken: points 0, 4, … 28: 8 of 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole) (hc0 : cond0_0 i)
    (x0 : Vec F S8 .f32) (x1 : Vec F S8 .f32) (x2 : Vec F S4x1x1024x128 .f32) (x3 : Vec F S1x1x4096x128 .f32) (x4 : Vec F S1x1x4096x128 .f32) :
    Σ' (L5 : List (View.Piece (Elt F) S1x1024x512 .f32)), Σ' (LS0 : List (View.Piece (Elt F) S32x128x128 .bf16)), Σ' (LS1 : List (View.Piece (Elt F) S32x128x128 .bf16)), { LS2 : List (View.Piece (Elt F) S8x2x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0_attn_swa i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_attn_swa_eq_skeleton]; unfold cc0_attn_swa_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    set_option sl_exec.maxSteps 65 in sl_exec (disch := first | sl_exact hc0)
    rw [wp_bind]
    -- the first loop by its invariant; then the two arrays it fills are restated over fixed contents, since it fills them
    iapply (wp_wand_r Idealize.ShloMosaic.frame (wpE (defs₀ (F := F)) Variants.none (c : Thread nD τ) none) E (Q := inv_k0_t1 (F := F) Variants.none c none i arg2 harg2 arg3 harg3 arg4 harg4 arg5 harg5 arg6 harg6 arg7 harg7 arg8 harg8 arg9 harg9 arg10 harg10 hc0 (harg5.unread x3) (harg6.unread x4) fs0 fs1 k0_t1_loop.trips))
    isplitl [H3 H4 HS0 HS1]
    · sl_exec
      isplitl [H3]; · iexact H3
      isplitl [H4]; · iexact H4
      isplitl [HS0]
      · iexists _; isplitl [HS0]; · iexact HS0
        ipureintro; rfl
      iexists _; isplitl [HS1]; · iexact HS1
      ipureintro; rfl
    iintro %_ ⟨H3, H4, ⟨%f8, HS0, %h8⟩, ⟨%f9, HS1, %h9⟩⟩
    have e8 := h8.trans (writes_over_junk harg8 fs0 (pb_k0_t1 (F := F) Variants.none c none i arg2 harg2 arg3 harg3 arg4 harg4 arg5 harg5 arg6 harg6 arg7 harg7 arg8 harg8 arg9 harg9 arg10 harg10 hc0 (harg5.unread x3) (harg6.unread x4) k0_t1_loop.trips).1 (View.cover_of_tiledL _ S1x128x128.size (by sl_kernel_rfl)))
    have e9 := h9.trans (writes_over_junk harg9 fs1 (pb_k0_t1 (F := F) Variants.none c none i arg2 harg2 arg3 harg3 arg4 harg4 arg5 harg5 arg6 harg6 arg7 harg7 arg8 harg8 arg9 harg9 arg10 harg10 hc0 (harg5.unread x3) (harg6.unread x4) k0_t1_loop.trips).2 (View.cover_of_tiledL _ S1x128x128.size (by sl_kernel_rfl)))
    clear h8 h9
    subst e8 e9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Gen

end
-- ==== Proof.KernelIdeal.RunB.lean ====
/- The body at every other point: it reads the scratch arrays and writes its output block. -/
module

public import proofs.«01_k».proof.Proof.KernelIdeal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken: points 1, 2, … 31: 24 of 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole) (hc0 : ¬cond0_0 i)
    (x0 : Vec F S8 .f32) (x1 : Vec F S8 .f32) (x2 : Vec F S4x1x1024x128 .f32) (x3 : Vec F S1x1x4096x128 .f32) (x4 : Vec F S1x1x4096x128 .f32) (xs0 : Vec F S32x128x128 .bf16) (xs1 : Vec F S32x128x128 .bf16) (xs2 : Vec F S8x2x256x128 .f32) :
    Σ' (L5 : List (View.Piece (Elt F) S1x1024x512 .f32)), Σ' (LS0 : List (View.Piece (Elt F) S32x128x128 .bf16)), Σ' (LS1 : List (View.Piece (Elt F) S32x128x128 .bf16)), { LS2 : List (View.Piece (Elt F) S8x2x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0 ∗ owns (c : Thread nD τ) arg9 fullShare xs1 ∗ owns (c : Thread nD τ) arg10 fullShare xs2) -∗ K ⟨⟩))
          ⊢ wp frame (wpE (defs₀ (F := F)) Variants.none c none) E (cc0_attn_swa i arg2 harg2 arg3 harg3 arg4 harg4 arg5 harg5 arg6 harg6 arg7 harg7 arg8 harg8 arg9 harg9 arg10 harg10) K } := by
  refine ⟨?_, [], [], [], fun E K => ?run⟩
  case run =>
    simp only [cc0_attn_swa_eq_skeleton]; unfold cc0_attn_swa_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1; obtain rfl := harg10.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    isplitl [HS1]
    · iexists _; isplitr; · ipureintro; exact harg9.read_unread _
      iexact HS1
    iexists _; isplitr; · ipureintro; exact harg10.read_unread _
    iexact HS2

end Cert.KernelIdeal.Gen

end
-- ==== Proof.KernelIdeal.Frame.lean ====
/- The frame: every execution ends, and the arguments are unchanged. -/
module

public import proofs.«01_k».proof.Proof.KernelIdeal.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 5 tile its block (32 stores of `S1x128x128`, checked by the kernel's evaluation: Lib/Ring.lean `Piece.tiledL`, linear in the pieces, through a loop's `@[irreducible]` trip theorem too), so they cover it. -/
theorem cover0_A_5 (c : Dev nD) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole) (hc0 : cond0_0 i)
    (x0 : Vec F S8 .f32) (x1 : Vec F S8 .f32) (x2 : Vec F S4x1x1024x128 .f32) (x3 : Vec F S1x1x4096x128 .f32) (x4 : Vec F S1x1x4096x128 .f32) (y : S1x1024x512.Idx) :
    ∃ pc ∈ (kernelRun0_A c i arg2 harg2 arg3 harg3 arg4 harg4 arg5 harg5 arg6 harg6 arg7 harg7 arg8 harg8 arg9 harg9 arg10 harg10 hc0 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4).1 S1x128x128.size (by sl_kernel_rfl) y

/-- What case A leaves in output 5's staging buffer: its pieces read back over junk. -/
def out0_A_5 (c : Dev nD) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole) (hc0 : cond0_0 i)
    (x0 : Vec F S8 .f32) (x1 : Vec F S8 .f32) (x2 : Vec F S4x1x1024x128 .f32) (x3 : Vec F S1x1x4096x128 .f32) (x4 : Vec F S1x1x4096x128 .f32) : Vec F S1x1024x512 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 x0 x1 x2 x3 x4).1)

/-- Case A's pieces for scratch `arg8`, which the kernel carries between points, cover it: 32 pieces of `S1x128x128` tiling it (Lib/Ring.lean `Piece.tiledL`). -/
theorem scover0_A_0 (c : Dev nD) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole) (hc0 : cond0_0 i)
    (x0 : Vec F S8 .f32) (x1 : Vec F S8 .f32) (x2 : Vec F S4x1x1024x128 .f32) (x3 : Vec F S1x1x4096x128 .f32) (x4 : Vec F S1x1x4096x128 .f32) (y : S32x128x128.Idx) :
    ∃ pc ∈ (kernelRun0_A c i arg2 harg2 arg3 harg3 arg4 harg4 arg5 harg5 arg6 harg6 arg7 harg7 arg8 harg8 arg9 harg9 arg10 harg10 hc0 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4).2.1 S1x128x128.size (by sl_kernel_rfl) y

/-- What case A leaves in scratch `arg8`: its pieces read back over junk. -/
def sout0_A_0 (c : Dev nD) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole) (hc0 : cond0_0 i)
    (x0 : Vec F S8 .f32) (x1 : Vec F S8 .f32) (x2 : Vec F S4x1x1024x128 .f32) (x3 : Vec F S1x1x4096x128 .f32) (x4 : Vec F S1x1x4096x128 .f32) : Vec F S32x128x128 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 x0 x1 x2 x3 x4).2.1)

/-- Case A's pieces for scratch `arg9`, which the kernel carries between points, cover it: 32 pieces of `S1x128x128` tiling it (Lib/Ring.lean `Piece.tiledL`). -/
theorem scover0_A_1 (c : Dev nD) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole) (hc0 : cond0_0 i)
    (x0 : Vec F S8 .f32) (x1 : Vec F S8 .f32) (x2 : Vec F S4x1x1024x128 .f32) (x3 : Vec F S1x1x4096x128 .f32) (x4 : Vec F S1x1x4096x128 .f32) (y : S32x128x128.Idx) :
    ∃ pc ∈ (kernelRun0_A c i arg2 harg2 arg3 harg3 arg4 harg4 arg5 harg5 arg6 harg6 arg7 harg7 arg8 harg8 arg9 harg9 arg10 harg10 hc0 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4).2.2.1 S1x128x128.size (by sl_kernel_rfl) y

/-- What case A leaves in scratch `arg9`: its pieces read back over junk. -/
def sout0_A_1 (c : Dev nD) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole) (hc0 : cond0_0 i)
    (x0 : Vec F S8 .f32) (x1 : Vec F S8 .f32) (x2 : Vec F S4x1x1024x128 .f32) (x3 : Vec F S1x1x4096x128 .f32) (x4 : Vec F S1x1x4096x128 .f32) : Vec F S32x128x128 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 x0 x1 x2 x3 x4).2.2.1)

/-- Case A's pieces for scratch `arg10`, which the kernel carries between points, cover it: 16 pieces of `S1x1x256x128` tiling it (Lib/Ring.lean `Piece.tiledL`). -/
theorem scover0_A_2 (c : Dev nD) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole) (hc0 : cond0_0 i)
    (x0 : Vec F S8 .f32) (x1 : Vec F S8 .f32) (x2 : Vec F S4x1x1024x128 .f32) (x3 : Vec F S1x1x4096x128 .f32) (x4 : Vec F S1x1x4096x128 .f32) (y : S8x2x256x128.Idx) :
    ∃ pc ∈ (kernelRun0_A c i arg2 harg2 arg3 harg3 arg4 harg4 arg5 harg5 arg6 harg6 arg7 harg7 arg8 harg8 arg9 harg9 arg10 harg10 hc0 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4).2.2.2.1 S1x1x256x128.size (by sl_kernel_rfl) y

/-- What case A leaves in scratch `arg10`: its pieces read back over junk. -/
def sout0_A_2 (c : Dev nD) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole) (hc0 : cond0_0 i)
    (x0 : Vec F S8 .f32) (x1 : Vec F S8 .f32) (x2 : Vec F S4x1x1024x128 .f32) (x3 : Vec F S1x1x4096x128 .f32) (x4 : Vec F S1x1x4096x128 .f32) : Vec F S8x2x256x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 hc0 x0 x1 x2 x3 x4).2.2.2.1)

/-- Case B's pieces for output 5 tile its block (32 stores of `S1x128x128`, checked by the kernel's evaluation: Lib/Ring.lean `Piece.tiledL`, linear in the pieces, through a loop's `@[irreducible]` trip theorem too), so they cover it. -/
theorem cover0_B_5 (c : Dev nD) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole) (hc0 : ¬cond0_0 i)
    (x0 : Vec F S8 .f32) (x1 : Vec F S8 .f32) (x2 : Vec F S4x1x1024x128 .f32) (x3 : Vec F S1x1x4096x128 .f32) (x4 : Vec F S1x1x4096x128 .f32) (xs0 : Vec F S32x128x128 .bf16) (xs1 : Vec F S32x128x128 .bf16) (xs2 : Vec F S8x2x256x128 .f32) (y : S1x1024x512.Idx) :
    ∃ pc ∈ (kernelRun0_B c i arg2 harg2 arg3 harg3 arg4 harg4 arg5 harg5 arg6 harg6 arg7 harg7 arg8 harg8 arg9 harg9 arg10 harg10 hc0 x0 x1 x2 x3 x4 xs0 xs1 xs2).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 xs0 xs1 xs2).1 S1x128x128.size (by sl_kernel_rfl) y

/-- What case B leaves in output 5's staging buffer: its pieces read back over junk. -/
def out0_B_5 (c : Dev nD) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole) (hc0 : ¬cond0_0 i)
    (x0 : Vec F S8 .f32) (x1 : Vec F S8 .f32) (x2 : Vec F S4x1x1024x128 .f32) (x3 : Vec F S1x1x4096x128 .f32) (x4 : Vec F S1x1x4096x128 .f32) (xs0 : Vec F S32x128x128 .bf16) (xs1 : Vec F S32x128x128 .bf16) (xs2 : Vec F S8x2x256x128 .f32) : Vec F S1x1024x512 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 x0 x1 x2 x3 x4 xs0 xs1 xs2).1)

/-- Case B stores nothing into scratch `arg8`: it holds what the point before left. -/
def sout0_B_0 (c : Dev nD) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole) (hc0 : ¬cond0_0 i)
    (x0 : Vec F S8 .f32) (x1 : Vec F S8 .f32) (x2 : Vec F S4x1x1024x128 .f32) (x3 : Vec F S1x1x4096x128 .f32) (x4 : Vec F S1x1x4096x128 .f32) (xs0 : Vec F S32x128x128 .bf16) (xs1 : Vec F S32x128x128 .bf16) (xs2 : Vec F S8x2x256x128 .f32) : Vec F S32x128x128 .bf16 := xs0

/-- Case B stores nothing into scratch `arg9`: it holds what the point before left. -/
def sout0_B_1 (c : Dev nD) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole) (hc0 : ¬cond0_0 i)
    (x0 : Vec F S8 .f32) (x1 : Vec F S8 .f32) (x2 : Vec F S4x1x1024x128 .f32) (x3 : Vec F S1x1x4096x128 .f32) (x4 : Vec F S1x1x4096x128 .f32) (xs0 : Vec F S32x128x128 .bf16) (xs1 : Vec F S32x128x128 .bf16) (xs2 : Vec F S8x2x256x128 .f32) : Vec F S32x128x128 .bf16 := xs1

/-- Case B stores nothing into scratch `arg10`: it holds what the point before left. -/
def sout0_B_2 (c : Dev nD) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole) (hc0 : ¬cond0_0 i)
    (x0 : Vec F S8 .f32) (x1 : Vec F S8 .f32) (x2 : Vec F S4x1x1024x128 .f32) (x3 : Vec F S1x1x4096x128 .f32) (x4 : Vec F S1x1x4096x128 .f32) (xs0 : Vec F S32x128x128 .bf16) (xs1 : Vec F S32x128x128 .bf16) (xs2 : Vec F S8x2x256x128 .f32) : Vec F S8x2x256x128 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1024x512 .f32 × Vec F S32x128x128 .bf16 × Vec F S32x128x128 .bf16 × Vec F S8x2x256x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (X0_2 m c ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (X0_2 m c ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (X0_2 m c ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (X0_2 m c ⟨0, hn⟩) (iblk m c 3 ⟨0, hn⟩) (iblk m c 4 ⟨0, hn⟩))
  | n + 1, hn =>
    if h0 : (n + 1) % 4 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (X0_2 m c ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (X0_2 m c ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (X0_2 m c ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (X0_2 m c ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (X0_2 m c ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (X0_2 m c ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (X0_2 m c ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (X0_2 m c ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 4 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t) (X0_2 m c t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t) (X0_2 m c t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t) (X0_2 m c t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t) (X0_2 m c t) (iblk m c 3 t) (iblk m c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (iblk m c 0 t) (iblk m c 1 t) (X0_2 m c t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (iblk m c 0 t) (iblk m c 1 t) (X0_2 m c t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (iblk m c 0 t) (iblk m c 1 t) (X0_2 m c t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (iblk m c 0 t) (iblk m c 1 t) (X0_2 m c t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases hz : t.val = 0
    · rw [PhiS_castSucc m c t, PhiS_zero m c _ _ hz, PhiA0_eq]
      rw [outsAt0_A m c t h0]
      unfold out0_A_5 sout0_A_0 sout0_A_1 sout0_A_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ ((hcond0_0 t).mpr h0) (iblk m c 0 t) (iblk m c 1 t) (X0_2 m c t) (iblk m c 3 t) (iblk m c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _ _ _ _ _)
    · rw [PhiS_castSucc m c t, PhiS_pos m c _ _ hz]
      rw [outsAt0_A m c t h0]
      unfold out0_A_5 sout0_A_0 sout0_A_1 sout0_A_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ ((hcond0_0 t).mpr h0) (iblk m c 0 t) (iblk m c 1 t) (X0_2 m c t) (iblk m c 3 t) (iblk m c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      isplitl [HS2]; · iexists _; iexact HS2
      iintro ⟨H0, H1, H2, H3, H4, ⟨%e5, H5⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _ _ _ _ _)
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      unfold out0_B_5 sout0_B_0 sout0_B_1 sout0_B_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ (fun h => h0 ((hcond0_0 t).mp h)) (iblk m c 0 t) (iblk m c 1 t) (X0_2 m c t) (iblk m c 3 t) (iblk m c 4 t) _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Gen

end
-- ==== Proof.KernelIdeal.Block.lean ====
/- One block of 128 queries: what the second loop's body writes for it, as one function of what it loads. -/
module

public import proofs.«01_k».proof.Proof.Gen.KernelIdeal.Loops

@[expose] public section

set_option maxRecDepth 16384

noncomputable section

namespace Cert.KernelIdeal.Blk

open Idealize.ShloMosaic Idealize.ShloMosaic.TcCoe Idealize.SL Idealize.SL.Sem
open Cert.KernelIdeal Cert.KernelIdeal.Gen

variable {F : FTy → Type} [FloatOps F] [Named F]

/-- What one block loads: the queries of its four lane slabs, the keys and values of the block before it and of itself,
    the position terms of the eight heads, and the eight sinks. -/
structure In (F : FTy → Type) where
  q0 : Vec F S1x1x128x128 .f32
  q1 : Vec F S1x1x128x128 .f32
  q2 : Vec F S1x1x128x128 .f32
  q3 : Vec F S1x1x128x128 .f32
  kp : Vec F S1x128x128 .bf16
  kc : Vec F S1x128x128 .bf16
  vp : Vec F S1x128x128 .bf16
  vc : Vec F S1x128x128 .bf16
  b0 : Vec F S1x1x256x128 .f32
  b1 : Vec F S1x1x256x128 .f32
  b2 : Vec F S1x1x256x128 .f32
  b3 : Vec F S1x1x256x128 .f32
  b4 : Vec F S1x1x256x128 .f32
  b5 : Vec F S1x1x256x128 .f32
  b6 : Vec F S1x1x256x128 .f32
  b7 : Vec F S1x1x256x128 .f32
  s0 : Elt F .f32
  s1 : Elt F .f32
  s2 : Elt F .f32
  s3 : Elt F .f32
  s4 : Elt F .f32
  s5 : Elt F .f32
  s6 : Elt F .f32
  s7 : Elt F .f32

/-- The lanes of the first key head. -/
def lo : IVec S128x128 1 := cmpi .slt (iota .tc S128x128 32 [1] iota_S128x128_d1_w32) (broadcast S128x128 64#32)
/-- The lanes of the second key head. -/
def hi : IVec S128x128 1 := xori lo (constantI S128x128 1 1#1)
/-- A slab of queries, scaled. -/
def scaled (x : Vec F S1x1x128x128 .f32) : FVec F S128x128 .f32 :=
  mulf (shapeCast S128x128 x shapeCasts_S1x1x128x128_S128x128) (broadcast S128x128 (Named.named κ "scale" 0x3E38AA3B#32))
/-- A slab of queries, scaled, its two halves of lanes exchanged. -/
def turned (x : Vec F S1x1x128x128 .f32) : FVec F S128x128 .f32 := dynamicRotate 1 64#32 none (scaled x) rotates_S128x128_d1
/-- The lanes of one half, zero in the other. -/
def keep (c : IVec S128x128 1) (x : FVec F S128x128 .f32) : FVec F S128x128 .f32 :=
  select c x (broadcast S128x128 (Scalar.ofBits .f32 0x00000000#32))
/-- The eight heads' queries, one under the other, each in the lanes of its key head. -/
def queries (L : In F) : FVec F S1024x128 .f32 :=
  concatenate S1024x128 0 [⟨S128x128, keep lo (scaled L.q0)⟩, ⟨S128x128, keep lo (turned L.q0)⟩, ⟨S128x128, keep lo (scaled L.q1)⟩, ⟨S128x128, keep lo (turned L.q1)⟩, ⟨S128x128, keep hi (turned L.q2)⟩, ⟨S128x128, keep hi (scaled L.q2)⟩, ⟨S128x128, keep hi (turned L.q3)⟩, ⟨S128x128, keep hi (scaled L.q3)⟩] concatenates_S128x128_S128x128_S128x128_S128x128_S128x128_S128x128_S128x128_S128x128_S1024x128_d0
/-- The keys of both blocks. -/
def keys (L : In F) : FVec F S256x128 .bf16 :=
  concatenate S256x128 0 [⟨S128x128, shapeCast S128x128 L.kp shapeCasts_S1x128x128_S128x128⟩, ⟨S128x128, shapeCast S128x128 L.kc shapeCasts_S1x128x128_S128x128⟩] concatenates_S128x128_S128x128_S256x128_d0
/-- Every key against every head's queries. -/
def scores (L : In F) : FVec F S256x1024 .f32 :=
  matmul dot_S256x128_S1024x128_S256x1024_1_1_0_0_n_n none (keys L) (truncf .bf16 (queries L) bitsLt_bf16_f32) (constant S256x1024 .f32 0x00000000#32)
/-- The values of both blocks, key by key along the lanes. -/
def vals (L : In F) : FVec F S128x256 .bf16 :=
  concatenate S128x256 1 [⟨S128x128, shapeCast S128x128 L.vp shapeCasts_S1x128x128_S128x128⟩, ⟨S128x128, shapeCast S128x128 L.vc shapeCasts_S1x128x128_S128x128⟩] concatenates_S128x128_S128x128_S128x256_d1
/-- One head's scores with its position term. -/
def biased (S : FVec F S256x128 .f32) (b : Vec F S1x1x256x128 .f32) : FVec F S256x128 .f32 :=
  addf S (shapeCast S256x128 b shapeCasts_S1x1x256x128_S256x128)
/-- A sink in base two. -/
def sink2 (s : Elt F .f32) : Elt F .f32 := Scalar.mulf s (Named.named κ "log2e" 0x3FB8AA3B#32)
/-- The largest of a query's scores and its sink. -/
def top (s : FVec F S256x128 .f32) (sk : Elt F .f32) : FVec F S1x128 .f32 :=
  maximumf (shapeCast S1x128 (multiReduction .maximumf [0] S128 s 0xFF800000#32 reduces_S256x128_S128 (.inl rfl) rfl) shapeCasts_S128_S1x128) (broadcast S1x128 (sink2 sk))
/-- The weights before they are normalised. -/
def wts (s : FVec F S256x128 .f32) (m : FVec F S1x128 .f32) : FVec F S256x128 .bf16 :=
  truncf .bf16 (exp2 (subf s (broadcastTo S256x128 m broadcasts_S1x128_S256x128))) bitsLt_bf16_f32
/-- Rows of ones under the values: they sum the weights. -/
def aug (h : FVec F S64x256 .bf16) : FVec F S80x256 .bf16 :=
  concatenate S80x256 0 [⟨S64x256, h⟩, ⟨S16x256, broadcast S16x256 (Scalar.ofBits .bf16 0x3F80#16)⟩] concatenates_S64x256_S16x256_S80x256_d0
/-- Four heads' weights side by side. -/
def side (w0 w1 w2 w3 : FVec F S256x128 .bf16) : FVec F S256x512 .bf16 :=
  concatenate S256x512 1 [⟨S256x128, w0⟩, ⟨S256x128, w1⟩, ⟨S256x128, w2⟩, ⟨S256x128, w3⟩] concatenates_S256x128_S256x128_S256x128_S256x128_S256x512_d1
/-- Four heads' weights against the values of their key head and rows of ones. -/
def gather (h : FVec F S64x256 .bf16) (w0 w1 w2 w3 : FVec F S256x128 .bf16) : FVec F S80x512 .f32 :=
  matmul dot_S80x256_S256x512_S80x512_1_0_0_1_n_n none (aug h) (side w0 w1 w2 w3) (constant S80x512 .f32 0x00000000#32)
/-- One head's result: the weighted values over the weights' sum and the sink's weight. -/
def outc (num : FVec F S64x128 .f32) (den : FVec F S1x128 .f32) (sk : Elt F .f32) (m : FVec F S1x128 .f32) : FVec F S64x128 .f32 :=
  mulf num (broadcastTo S64x128 (divf (broadcast S1x128 (Scalar.ofBits .f32 0x3F800000#32)) (addf den (exp2 (subf (broadcast S1x128 (sink2 sk)) m)))) broadcasts_S1x128_S64x128)
/-- Two heads' results beside each other, query by query. -/
def pair (a b : FVec F S64x128 .f32) : FVec F S1x128x128 .f32 :=
  shapeCast S1x128x128 (transpose S128x128 [1, 0] (concatenate S128x128 0 [⟨S64x128, a⟩, ⟨S64x128, b⟩] concatenates_S64x128_S64x128_S128x128_d0) transposes_S128x128_p1_0_S128x128) shapeCasts_S128x128_S1x128x128

variable (f : FVec F S1x128 .f32 → FVec F S1x128 .f32) (L : In F)

/-- Head 0's scores. -/
def sc0 : FVec F S256x128 .f32 := biased (extractStridedSlice S256x128 ![0, 0] (scores L) slices_S256x1024_o0_0_S256x128) L.b0
/-- Head 0's largest score (adjusted by `f`). -/
def mx0 : FVec F S1x128 .f32 := f (top (sc0 L) L.s0)
/-- Head 1's scores. -/
def sc1 : FVec F S256x128 .f32 := biased (extractStridedSlice S256x128 ![0, 128] (scores L) slices_S256x1024_o0_128_S256x128) L.b1
/-- Head 1's largest score. -/
def mx1 : FVec F S1x128 .f32 := (top (sc1 L) L.s1)
/-- Head 2's scores. -/
def sc2 : FVec F S256x128 .f32 := biased (extractStridedSlice S256x128 ![0, 256] (scores L) slices_S256x1024_o0_256_S256x128) L.b2
/-- Head 2's largest score. -/
def mx2 : FVec F S1x128 .f32 := (top (sc2 L) L.s2)
/-- Head 3's scores. -/
def sc3 : FVec F S256x128 .f32 := biased (extractStridedSlice S256x128 ![0, 384] (scores L) slices_S256x1024_o0_384_S256x128) L.b3
/-- Head 3's largest score. -/
def mx3 : FVec F S1x128 .f32 := (top (sc3 L) L.s3)
/-- Head 4's scores. -/
def sc4 : FVec F S256x128 .f32 := biased (extractStridedSlice S256x128 ![0, 512] (scores L) slices_S256x1024_o0_512_S256x128) L.b4
/-- Head 4's largest score. -/
def mx4 : FVec F S1x128 .f32 := (top (sc4 L) L.s4)
/-- Head 5's scores. -/
def sc5 : FVec F S256x128 .f32 := biased (extractStridedSlice S256x128 ![0, 640] (scores L) slices_S256x1024_o0_640_S256x128) L.b5
/-- Head 5's largest score. -/
def mx5 : FVec F S1x128 .f32 := (top (sc5 L) L.s5)
/-- Head 6's scores. -/
def sc6 : FVec F S256x128 .f32 := biased (extractStridedSlice S256x128 ![0, 768] (scores L) slices_S256x1024_o0_768_S256x128) L.b6
/-- Head 6's largest score. -/
def mx6 : FVec F S1x128 .f32 := (top (sc6 L) L.s6)
/-- Head 7's scores. -/
def sc7 : FVec F S256x128 .f32 := biased (extractStridedSlice S256x128 ![0, 896] (scores L) slices_S256x1024_o0_896_S256x128) L.b7
/-- Head 7's largest score. -/
def mx7 : FVec F S1x128 .f32 := (top (sc7 L) L.s7)
/-- The weighted values of key head 0. -/
def acc0 : FVec F S80x512 .f32 := gather (extractStridedSlice S64x256 ![0, 0] (vals L) slices_S128x256_o0_0_S64x256) (wts (sc0 L) (mx0 f L)) (wts (sc1 L) (mx1 L)) (wts (sc2 L) (mx2 L)) (wts (sc3 L) (mx3 L))
/-- Head 0's result. -/
def out0 : FVec F S64x128 .f32 := outc (extractStridedSlice S64x128 ![0, 0] (acc0 f L) slices_S80x512_o0_0_S64x128) (extractStridedSlice S1x128 ![64, 0] (acc0 f L) slices_S80x512_o64_0_S1x128) L.s0 (mx0 f L)
/-- Head 1's result. -/
def out1 : FVec F S64x128 .f32 := outc (extractStridedSlice S64x128 ![0, 128] (acc0 f L) slices_S80x512_o0_128_S64x128) (extractStridedSlice S1x128 ![64, 128] (acc0 f L) slices_S80x512_o64_128_S1x128) L.s1 (mx1 L)
/-- Head 2's result. -/
def out2 : FVec F S64x128 .f32 := outc (extractStridedSlice S64x128 ![0, 256] (acc0 f L) slices_S80x512_o0_256_S64x128) (extractStridedSlice S1x128 ![64, 256] (acc0 f L) slices_S80x512_o64_256_S1x128) L.s2 (mx2 L)
/-- Head 3's result. -/
def out3 : FVec F S64x128 .f32 := outc (extractStridedSlice S64x128 ![0, 384] (acc0 f L) slices_S80x512_o0_384_S64x128) (extractStridedSlice S1x128 ![64, 384] (acc0 f L) slices_S80x512_o64_384_S1x128) L.s3 (mx3 L)
/-- The weighted values of key head 1. -/
def acc1 : FVec F S80x512 .f32 := gather (extractStridedSlice S64x256 ![64, 0] (vals L) slices_S128x256_o64_0_S64x256) (wts (sc4 L) (mx4 L)) (wts (sc5 L) (mx5 L)) (wts (sc6 L) (mx6 L)) (wts (sc7 L) (mx7 L))
/-- Head 4's result. -/
def out4 : FVec F S64x128 .f32 := outc (extractStridedSlice S64x128 ![0, 0] (acc1 L) slices_S80x512_o0_0_S64x128) (extractStridedSlice S1x128 ![64, 0] (acc1 L) slices_S80x512_o64_0_S1x128) L.s4 (mx4 L)
/-- Head 5's result. -/
def out5 : FVec F S64x128 .f32 := outc (extractStridedSlice S64x128 ![0, 128] (acc1 L) slices_S80x512_o0_128_S64x128) (extractStridedSlice S1x128 ![64, 128] (acc1 L) slices_S80x512_o64_128_S1x128) L.s5 (mx5 L)
/-- Head 6's result. -/
def out6 : FVec F S64x128 .f32 := outc (extractStridedSlice S64x128 ![0, 256] (acc1 L) slices_S80x512_o0_256_S64x128) (extractStridedSlice S1x128 ![64, 256] (acc1 L) slices_S80x512_o64_256_S1x128) L.s6 (mx6 L)
/-- Head 7's result. -/
def out7 : FVec F S64x128 .f32 := outc (extractStridedSlice S64x128 ![0, 384] (acc1 L) slices_S80x512_o0_384_S64x128) (extractStridedSlice S1x128 ![64, 384] (acc1 L) slices_S80x512_o64_384_S1x128) L.s7 (mx7 L)
/-- Heads 0 and 1. -/
def pair0 : FVec F S1x128x128 .f32 := pair (out0 f L) (out1 f L)
/-- Heads 2 and 3. -/
def pair1 : FVec F S1x128x128 .f32 := pair (out2 f L) (out3 f L)
/-- Heads 4 and 5. -/
def pair2 : FVec F S1x128x128 .f32 := pair (out4 L) (out5 L)
/-- Heads 6 and 7. -/
def pair3 : FVec F S1x128x128 .f32 := pair (out6 L) (out7 L)

/-- What a block loads through the body's memrefs, its sub-block `g` of trip `k`. -/
def loads (i : grid0.Coords) (arg3 : Memref sig .tc .smem S8 .f32) (arg4 : Memref sig .tc .vmem S4x1x1024x128 .f32) (arg8 : Memref sig .tc .vmem S32x128x128 .bf16) (arg9 : Memref sig .tc .vmem S32x128x128 .bf16) (arg10 : Memref sig .tc .vmem S8x2x256x128 .f32) (X_arg3 : BufTy.Contents (Elt F) arg3.view.ty) (X_arg4 : BufTy.Contents (Elt F) arg4.view.ty) (X_arg8 : BufTy.Contents (Elt F) arg8.view.ty) (X_arg9 : BufTy.Contents (Elt F) arg9.view.ty) (X_arg10 : BufTy.Contents (Elt F) arg10.view.ty) (k : Fin k0_t2_loop.trips) (g : Fin 4) : In F where
  q0 := View.readAt (Elt F) arg4.view (Rect.unit (s := S4x1x1024x128) (k0_off3 k (BitVec.ofNat 32 g.val)) S1x1x128x128.size (k0_off3_inb k g)).toLoadRect X_arg4
  q1 := View.readAt (Elt F) arg4.view (Rect.unit (s := S4x1x1024x128) (k0_off4 k (BitVec.ofNat 32 g.val)) S1x1x128x128.size (k0_off4_inb k g)).toLoadRect X_arg4
  q2 := View.readAt (Elt F) arg4.view (Rect.unit (s := S4x1x1024x128) (k0_off5 k (BitVec.ofNat 32 g.val)) S1x1x128x128.size (k0_off5_inb k g)).toLoadRect X_arg4
  q3 := View.readAt (Elt F) arg4.view (Rect.unit (s := S4x1x1024x128) (k0_off6 k (BitVec.ofNat 32 g.val)) S1x1x128x128.size (k0_off6_inb k g)).toLoadRect X_arg4
  kp := View.readAt (Elt F) arg8.view (Rect.unit (s := S32x128x128) (k0_off7 i k (BitVec.ofNat 32 g.val)) S1x128x128.size (k0_off7_inb i k g)).toLoadRect X_arg8
  kc := View.readAt (Elt F) arg8.view (Rect.unit (s := S32x128x128) (k0_off8 i k (BitVec.ofNat 32 g.val)) S1x128x128.size (k0_off8_inb i k g)).toLoadRect X_arg8
  vp := View.readAt (Elt F) arg9.view (Rect.unit (s := S32x128x128) (k0_off7 i k (BitVec.ofNat 32 g.val)) S1x128x128.size (k0_off7_inb i k g)).toLoadRect X_arg9
  vc := View.readAt (Elt F) arg9.view (Rect.unit (s := S32x128x128) (k0_off8 i k (BitVec.ofNat 32 g.val)) S1x128x128.size (k0_off8_inb i k g)).toLoadRect X_arg9
  b0 := View.readAt (Elt F) arg10.view (Rect.unit (s := S8x2x256x128) (k0_off9 i k (BitVec.ofNat 32 g.val)) S1x1x256x128.size (k0_off9_inb i k g)).toLoadRect X_arg10
  b1 := View.readAt (Elt F) arg10.view (Rect.unit (s := S8x2x256x128) (k0_off10 i k (BitVec.ofNat 32 g.val)) S1x1x256x128.size (k0_off10_inb i k g)).toLoadRect X_arg10
  b2 := View.readAt (Elt F) arg10.view (Rect.unit (s := S8x2x256x128) (k0_off11 i k (BitVec.ofNat 32 g.val)) S1x1x256x128.size (k0_off11_inb i k g)).toLoadRect X_arg10
  b3 := View.readAt (Elt F) arg10.view (Rect.unit (s := S8x2x256x128) (k0_off12 i k (BitVec.ofNat 32 g.val)) S1x1x256x128.size (k0_off12_inb i k g)).toLoadRect X_arg10
  b4 := View.readAt (Elt F) arg10.view (Rect.unit (s := S8x2x256x128) (k0_off13 i k (BitVec.ofNat 32 g.val)) S1x1x256x128.size (k0_off13_inb i k g)).toLoadRect X_arg10
  b5 := View.readAt (Elt F) arg10.view (Rect.unit (s := S8x2x256x128) (k0_off14 i k (BitVec.ofNat 32 g.val)) S1x1x256x128.size (k0_off14_inb i k g)).toLoadRect X_arg10
  b6 := View.readAt (Elt F) arg10.view (Rect.unit (s := S8x2x256x128) (k0_off15 i k (BitVec.ofNat 32 g.val)) S1x1x256x128.size (k0_off15_inb i k g)).toLoadRect X_arg10
  b7 := View.readAt (Elt F) arg10.view (Rect.unit (s := S8x2x256x128) (k0_off16 i k (BitVec.ofNat 32 g.val)) S1x1x256x128.size (k0_off16_inb i k g)).toLoadRect X_arg10
  s0 := View.readAt (Elt F) arg3.view (Rect.unit (s := S8) ![0] S1.size inb_S8_S1_0).toLoadRect X_arg3 (Shape.Idx.first (by decide))
  s1 := View.readAt (Elt F) arg3.view (Rect.unit (s := S8) ![1] S1.size inb_S8_S1_1).toLoadRect X_arg3 (Shape.Idx.first (by decide))
  s2 := View.readAt (Elt F) arg3.view (Rect.unit (s := S8) ![2] S1.size inb_S8_S1_2).toLoadRect X_arg3 (Shape.Idx.first (by decide))
  s3 := View.readAt (Elt F) arg3.view (Rect.unit (s := S8) ![3] S1.size inb_S8_S1_3).toLoadRect X_arg3 (Shape.Idx.first (by decide))
  s4 := View.readAt (Elt F) arg3.view (Rect.unit (s := S8) ![4] S1.size inb_S8_S1_4).toLoadRect X_arg3 (Shape.Idx.first (by decide))
  s5 := View.readAt (Elt F) arg3.view (Rect.unit (s := S8) ![5] S1.size inb_S8_S1_5).toLoadRect X_arg3 (Shape.Idx.first (by decide))
  s6 := View.readAt (Elt F) arg3.view (Rect.unit (s := S8) ![6] S1.size inb_S8_S1_6).toLoadRect X_arg3 (Shape.Idx.first (by decide))
  s7 := View.readAt (Elt F) arg3.view (Rect.unit (s := S8) ![7] S1.size inb_S8_S1_7).toLoadRect X_arg3 (Shape.Idx.first (by decide))

set_option maxHeartbeats 4000000 in
/-- ONE TRIP'S PIECES: four blocks, four pairs of heads each. -/
theorem trip_eq (𝒱 : Variants) (c : Dev nD) (bd : Option 𝒱.V) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole) (arg1 : BitVec 32) (X_arg3 : BufTy.Contents (Elt F) arg3.view.ty) (X_arg4 : BufTy.Contents (Elt F) arg4.view.ty) (X_arg8 : BufTy.Contents (Elt F) arg8.view.ty) (X_arg9 : BufTy.Contents (Elt F) arg9.view.ty) (X_arg10 : BufTy.Contents (Elt F) arg10.view.ty) (k : Fin k0_t2_loop.trips) :
    (trip_k0_t2 (F := F) 𝒱 c bd i arg2 harg2 arg3 harg3 arg4 harg4 arg5 harg5 arg6 harg6 arg7 harg7 arg8 harg8 arg9 harg9 arg10 harg10 arg1 X_arg3 X_arg4 X_arg8 X_arg9 X_arg10 k).1
      = [⟨Rect.unit (k0_off20 k (BitVec.ofNat 32 (3 : Fin 4).val)) ![1, 128, 128] (k0_off20_inb k 3), pair3 (loads i arg3 arg4 arg8 arg9 arg10 X_arg3 X_arg4 X_arg8 X_arg9 X_arg10 k 3)⟩,
        ⟨Rect.unit (k0_off19 k (BitVec.ofNat 32 (3 : Fin 4).val)) ![1, 128, 128] (k0_off19_inb k 3), pair2 (loads i arg3 arg4 arg8 arg9 arg10 X_arg3 X_arg4 X_arg8 X_arg9 X_arg10 k 3)⟩,
        ⟨Rect.unit (k0_off18 k (BitVec.ofNat 32 (3 : Fin 4).val)) ![1, 128, 128] (k0_off18_inb k 3), pair1 id (loads i arg3 arg4 arg8 arg9 arg10 X_arg3 X_arg4 X_arg8 X_arg9 X_arg10 k 3)⟩,
        ⟨Rect.unit (k0_off17 k (BitVec.ofNat 32 (3 : Fin 4).val)) ![1, 128, 128] (k0_off17_inb k 3), pair0 id (loads i arg3 arg4 arg8 arg9 arg10 X_arg3 X_arg4 X_arg8 X_arg9 X_arg10 k 3)⟩,
        ⟨Rect.unit (k0_off20 k (BitVec.ofNat 32 (2 : Fin 4).val)) ![1, 128, 128] (k0_off20_inb k 2), pair3 (loads i arg3 arg4 arg8 arg9 arg10 X_arg3 X_arg4 X_arg8 X_arg9 X_arg10 k 2)⟩,
        ⟨Rect.unit (k0_off19 k (BitVec.ofNat 32 (2 : Fin 4).val)) ![1, 128, 128] (k0_off19_inb k 2), pair2 (loads i arg3 arg4 arg8 arg9 arg10 X_arg3 X_arg4 X_arg8 X_arg9 X_arg10 k 2)⟩,
        ⟨Rect.unit (k0_off18 k (BitVec.ofNat 32 (2 : Fin 4).val)) ![1, 128, 128] (k0_off18_inb k 2), pair1 id (loads i arg3 arg4 arg8 arg9 arg10 X_arg3 X_arg4 X_arg8 X_arg9 X_arg10 k 2)⟩,
        ⟨Rect.unit (k0_off17 k (BitVec.ofNat 32 (2 : Fin 4).val)) ![1, 128, 128] (k0_off17_inb k 2), pair0 id (loads i arg3 arg4 arg8 arg9 arg10 X_arg3 X_arg4 X_arg8 X_arg9 X_arg10 k 2)⟩,
        ⟨Rect.unit (k0_off20 k (BitVec.ofNat 32 (1 : Fin 4).val)) ![1, 128, 128] (k0_off20_inb k 1), pair3 (loads i arg3 arg4 arg8 arg9 arg10 X_arg3 X_arg4 X_arg8 X_arg9 X_arg10 k 1)⟩,
        ⟨Rect.unit (k0_off19 k (BitVec.ofNat 32 (1 : Fin 4).val)) ![1, 128, 128] (k0_off19_inb k 1), pair2 (loads i arg3 arg4 arg8 arg9 arg10 X_arg3 X_arg4 X_arg8 X_arg9 X_arg10 k 1)⟩,
        ⟨Rect.unit (k0_off18 k (BitVec.ofNat 32 (1 : Fin 4).val)) ![1, 128, 128] (k0_off18_inb k 1), pair1 id (loads i arg3 arg4 arg8 arg9 arg10 X_arg3 X_arg4 X_arg8 X_arg9 X_arg10 k 1)⟩,
        ⟨Rect.unit (k0_off17 k (BitVec.ofNat 32 (1 : Fin 4).val)) ![1, 128, 128] (k0_off17_inb k 1), pair0 id (loads i arg3 arg4 arg8 arg9 arg10 X_arg3 X_arg4 X_arg8 X_arg9 X_arg10 k 1)⟩,
        ⟨Rect.unit (k0_off20 k (BitVec.ofNat 32 (0 : Fin 4).val)) ![1, 128, 128] (k0_off20_inb k 0), pair3 (loads i arg3 arg4 arg8 arg9 arg10 X_arg3 X_arg4 X_arg8 X_arg9 X_arg10 k 0)⟩,
        ⟨Rect.unit (k0_off19 k (BitVec.ofNat 32 (0 : Fin 4).val)) ![1, 128, 128] (k0_off19_inb k 0), pair2 (loads i arg3 arg4 arg8 arg9 arg10 X_arg3 X_arg4 X_arg8 X_arg9 X_arg10 k 0)⟩,
        ⟨Rect.unit (k0_off18 k (BitVec.ofNat 32 (0 : Fin 4).val)) ![1, 128, 128] (k0_off18_inb k 0), pair1 (fun m => addf m k0_pay79) (loads i arg3 arg4 arg8 arg9 arg10 X_arg3 X_arg4 X_arg8 X_arg9 X_arg10 k 0)⟩,
        ⟨Rect.unit (k0_off17 k (BitVec.ofNat 32 (0 : Fin 4).val)) ![1, 128, 128] (k0_off17_inb k 0), pair0 (fun m => addf m k0_pay79) (loads i arg3 arg4 arg8 arg9 arg10 X_arg3 X_arg4 X_arg8 X_arg9 X_arg10 k 0)⟩] := by
  unfold trip_k0_t2
  rfl

end Cert.KernelIdeal.Blk

end
-- ==== Proof.Math.lean ====
/- The mathematics both programs share: one query's attention over its keys and a sink, and two ways of computing it. -/
module

public import Idealize.ShloMosaic.Lib.Pointwise
public import Idealize.ShloMosaic.Lib.IdealHost

@[expose] public section

noncomputable section

namespace Cert.Math

open Idealize.ShloMosaic

/-- A weight: the exponential of a score, or none where the key is out of reach. -/
def wt {n : ℕ} (ok : Fin n → Prop) [DecidablePred ok] (e : Fin n → ℝ) (k : Fin n) : ℝ := if ok k then Real.exp (e k) else 0

/-- One query's result in one lane: the weighted values over the weights' sum and the sink's weight. -/
def attn {n : ℕ} (ok : Fin n → Prop) [DecidablePred ok] (e : Fin n → ℝ) (s : ℝ) (v : Fin n → ℝ) : ℝ :=
  (∑ k, wt ok e k * v k) / (∑ k, wt ok e k + Real.exp s)

variable {n : ℕ} (ok : Fin n → Prop) [DecidablePred ok] (e : Fin n → ℝ) (s m : ℝ) (v : Fin n → ℝ)

theorem coe_sum {ι : Type*} (t : Finset ι) (g : ι → ℝ) : ((∑ k ∈ t, g k : ℝ) : EReal) = ∑ k ∈ t, (g k : EReal) := by
  classical
  induction t using Finset.induction_on with
  | empty => simp
  | insert a t ha ih => rw [Finset.sum_insert ha, Finset.sum_insert ha, EReal.coe_add, ih]

theorem wt_nonneg (k : Fin n) : 0 ≤ wt ok e k := by
  unfold wt; split_ifs
  · exact (Real.exp_pos _).le
  · exact le_rfl

theorem den_pos : 0 < ∑ k, wt ok e k + Real.exp s :=
  add_pos_of_nonneg_of_pos (Finset.sum_nonneg fun k _ => wt_nonneg ok e k) (Real.exp_pos s)

/-- Subtracting one number from every score and the sink scales every weight alike. -/
theorem wt_shift (k : Fin n) : wt ok (fun k => e k - m) k = wt ok e k * Real.exp (-m) := by
  unfold wt; split_ifs
  · show Real.exp (e k - m) = _
    rw [sub_eq_add_neg, Real.exp_add]
  · rw [zero_mul]

theorem attn_shift : attn ok (fun k => e k - m) (s - m) v = attn ok e s v := by
  unfold attn
  have h : Real.exp (-m) ≠ 0 := (Real.exp_pos _).ne'
  have hn : ∑ k, wt ok (fun k => e k - m) k * v k = (∑ k, wt ok e k * v k) * Real.exp (-m) := by
    rw [Finset.sum_mul]; exact Finset.sum_congr rfl fun k _ => by rw [wt_shift]; ring
  have hd : ∑ k, wt ok (fun k => e k - m) k + Real.exp (s - m) = (∑ k, wt ok e k + Real.exp s) * Real.exp (-m) := by
    rw [add_mul, Finset.sum_mul, sub_eq_add_neg, Real.exp_add]
    exact congrArg (· + _) (Finset.sum_congr rfl fun k _ => wt_shift ok e m k)
  rw [hn, hd, mul_div_mul_right _ _ h]

/-- The base-two exponential of a score divided by log 2. -/
theorem exp2_eq (x : ℝ) : Ideal.exp2 ((x * (Real.log 2)⁻¹ : ℝ) : EReal) = ((Real.exp x : ℝ) : EReal) := by
  rw [Ideal.exp2_coe]
  congr 1
  show (2 : ℝ) ^ (x * (Real.log 2)⁻¹) = _
  rw [Real.rpow_def_of_pos (by norm_num)]
  congr 1
  have : Real.log 2 ≠ 0 := (Real.log_pos (by norm_num)).ne'
  field_simp

/-- A masked score in base two, less the top. -/
theorem exp2_masked (k : Fin n) :
    Ideal.exp2 ((if ok k then ((e k * (Real.log 2)⁻¹ : ℝ) : EReal) else ⊥) - ((m * (Real.log 2)⁻¹ : ℝ) : EReal))
      = ((wt ok (fun k => e k - m) k : ℝ) : EReal) := by
  unfold wt
  split_ifs
  · rw [← EReal.coe_sub, ← sub_mul, exp2_eq]
  · rw [EReal.bot_sub, Ideal.exp2_bot, EReal.coe_zero]

theorem exp_masked (k : Fin n) :
    Ideal.exp ((if ok k then ((e k : ℝ) : EReal) else ⊥) - (m : EReal)) = ((wt ok (fun k => e k - m) k : ℝ) : EReal) := by
  unfold wt
  split_ifs
  · rw [← EReal.coe_sub, Ideal.exp_coe]
  · rw [EReal.bot_sub, Ideal.exp_bot, EReal.coe_zero]

/-- A top is a number: some score may be −∞, none is +∞, and the sink is finite. -/
theorem top_coe {ι : Type*} (t : Finset ι) (b : EReal) (g : ι → EReal) (hb : b ≠ ⊤) (hg : ∀ i, g i ≠ ⊤) (s : ℝ) :
    ∃ m : ℝ, max (t.fold max b g) (s : EReal) = (m : EReal) := by
  classical
  have h : t.fold max b g ≠ ⊤ := by
    induction t using Finset.induction_on with
    | empty => simpa using hb
    | insert a t ha ih => rw [Finset.fold_insert ha]; exact (max_lt (lt_top_iff_ne_top.2 (hg a)) (lt_top_iff_ne_top.2 ih)).ne
  have h1 : max (t.fold max b g) (s : EReal) ≠ ⊤ := (max_lt (lt_top_iff_ne_top.2 h) (EReal.coe_lt_top s)).ne
  have h2 : max (t.fold max b g) (s : EReal) ≠ ⊥ := (lt_of_lt_of_le (EReal.bot_lt_coe s) (le_max_right _ _)).ne'
  exact ⟨_, (EReal.coe_toReal h1 h2).symm⟩

/-- The way of one program: the sums in base two, then one division of one and a product. -/
theorem kernel_way :
    (∑ k, (v k : EReal) * Ideal.exp2 ((if ok k then ((e k * (Real.log 2)⁻¹ : ℝ) : EReal) else ⊥) - (m : EReal)))
        * Ideal.div 1 (∑ k, 1 * Ideal.exp2 ((if ok k then ((e k * (Real.log 2)⁻¹ : ℝ) : EReal) else ⊥) - (m : EReal))
          + Ideal.exp2 (((s * (Real.log 2)⁻¹ : ℝ) : EReal) - (m : EReal)))
      = ((attn ok e s v : ℝ) : EReal) := by
  have hl : Real.log 2 ≠ 0 := (Real.log_pos (by norm_num)).ne'
  obtain ⟨m', rfl⟩ : ∃ m', m = m' * (Real.log 2)⁻¹ := ⟨m * Real.log 2, by field_simp⟩
  simp only [exp2_masked, one_mul]
  rw [← EReal.coe_sub, ← sub_mul, exp2_eq, ← attn_shift ok e s m' v]
  simp only [← EReal.coe_mul, ← coe_sum, ← EReal.coe_add]
  rw [Ideal.div_coe (den_pos _ _ _).ne', one_mul, ← EReal.coe_mul]
  congr 1
  unfold attn
  rw [mul_one_div]
  congr 1
  exact Finset.sum_congr rfl fun k _ => mul_comm _ _

/-- The way of the other: each weight divided by the sum, then the sum over the keys. -/
theorem reference_way :
    (∑ k, (v k : EReal) * Ideal.div (Ideal.exp ((if ok k then ((e k : ℝ) : EReal) else ⊥) - (m : EReal)))
        (∑ k, Ideal.exp ((if ok k then ((e k : ℝ) : EReal) else ⊥) - (m : EReal)) + Ideal.exp ((s : EReal) - (m : EReal))))
      = ((attn ok e s v : ℝ) : EReal) := by
  simp only [exp_masked]
  rw [← EReal.coe_sub, Ideal.exp_coe, ← attn_shift ok e s m v]
  simp only [← coe_sum, ← EReal.coe_add]
  simp only [Ideal.div_coe (den_pos _ _ _).ne', ← EReal.coe_mul, ← coe_sum]
  congr 1
  unfold attn
  rw [Finset.sum_div]
  exact Finset.sum_congr rfl fun k _ => by ring

end Cert.Math

end
-- ==== Proof.KernelIdeal.BlockVal.lean ====
/- One block's results at the extended reals, when what it loads is finite: attention over its 256 keys and a sink. -/
module

public import proofs.«01_k».proof.Proof.KernelIdeal.Block
public import proofs.«01_k».proof.Proof.Math

@[expose] public section

set_option maxRecDepth 16384

noncomputable section

namespace Cert.KernelIdeal.Blk

open Idealize.ShloMosaic Idealize.ShloMosaic.TcCoe Idealize.SL Idealize.SL.Sem
open Cert.KernelIdeal Cert.KernelIdeal.Gen Cert.Math

/-- The numbers behind a block's loads: queries by slab, query and lane; keys; values by lane and key; position terms by
    head, key and query, with the keys within reach; sinks. -/
structure Nums where
  Q : Fin 4 → Fin 128 → Fin 128 → ℝ
  K : Fin 256 → Fin 128 → ℝ
  V : Fin 128 → Fin 256 → ℝ
  B : Fin 8 → Fin 256 → Fin 128 → ℝ
  ok : Fin 256 → Fin 128 → Bool
  S : Fin 8 → ℝ

/-- The loads hold those numbers; the position terms are divided by log 2, and −∞ where a key is out of reach. -/
structure Holds (L : In Ideal) (R : Nums) : Prop where
  q0 : ∀ a b : Fin 128, L.q0 (ix4 0 0 a b) = ((R.Q 0 a b : ℝ) : EReal)
  q1 : ∀ a b : Fin 128, L.q1 (ix4 0 0 a b) = ((R.Q 1 a b : ℝ) : EReal)
  q2 : ∀ a b : Fin 128, L.q2 (ix4 0 0 a b) = ((R.Q 2 a b : ℝ) : EReal)
  q3 : ∀ a b : Fin 128, L.q3 (ix4 0 0 a b) = ((R.Q 3 a b : ℝ) : EReal)
  kp : ∀ k b : Fin 128, L.kp (ix3 0 k b) = ((R.K ⟨k.val, by omega⟩ b : ℝ) : EReal)
  kc : ∀ k b : Fin 128, L.kc (ix3 0 k b) = ((R.K ⟨128 + k.val, by omega⟩ b : ℝ) : EReal)
  vp : ∀ b k : Fin 128, L.vp (ix3 0 b k) = ((R.V b ⟨k.val, by omega⟩ : ℝ) : EReal)
  vc : ∀ b k : Fin 128, L.vc (ix3 0 b k) = ((R.V b ⟨128 + k.val, by omega⟩ : ℝ) : EReal)
  b0 : ∀ (k : Fin 256) (a : Fin 128), L.b0 (ix4 0 0 k a) = if R.ok k a then ((R.B 0 k a * (Real.log 2)⁻¹ : ℝ) : EReal) else ⊥
  b1 : ∀ (k : Fin 256) (a : Fin 128), L.b1 (ix4 0 0 k a) = if R.ok k a then ((R.B 1 k a * (Real.log 2)⁻¹ : ℝ) : EReal) else ⊥
  b2 : ∀ (k : Fin 256) (a : Fin 128), L.b2 (ix4 0 0 k a) = if R.ok k a then ((R.B 2 k a * (Real.log 2)⁻¹ : ℝ) : EReal) else ⊥
  b3 : ∀ (k : Fin 256) (a : Fin 128), L.b3 (ix4 0 0 k a) = if R.ok k a then ((R.B 3 k a * (Real.log 2)⁻¹ : ℝ) : EReal) else ⊥
  b4 : ∀ (k : Fin 256) (a : Fin 128), L.b4 (ix4 0 0 k a) = if R.ok k a then ((R.B 4 k a * (Real.log 2)⁻¹ : ℝ) : EReal) else ⊥
  b5 : ∀ (k : Fin 256) (a : Fin 128), L.b5 (ix4 0 0 k a) = if R.ok k a then ((R.B 5 k a * (Real.log 2)⁻¹ : ℝ) : EReal) else ⊥
  b6 : ∀ (k : Fin 256) (a : Fin 128), L.b6 (ix4 0 0 k a) = if R.ok k a then ((R.B 6 k a * (Real.log 2)⁻¹ : ℝ) : EReal) else ⊥
  b7 : ∀ (k : Fin 256) (a : Fin 128), L.b7 (ix4 0 0 k a) = if R.ok k a then ((R.B 7 k a * (Real.log 2)⁻¹ : ℝ) : EReal) else ⊥
  s0 : L.s0 = ((R.S 0 : ℝ) : EReal)
  s1 : L.s1 = ((R.S 1 : ℝ) : EReal)
  s2 : L.s2 = ((R.S 2 : ℝ) : EReal)
  s3 : L.s3 = ((R.S 3 : ℝ) : EReal)
  s4 : L.s4 = ((R.S 4 : ℝ) : EReal)
  s5 : L.s5 = ((R.S 5 : ℝ) : EReal)
  s6 : L.s6 = ((R.S 6 : ℝ) : EReal)
  s7 : L.s7 = ((R.S 7 : ℝ) : EReal)

/-- A head's score of a key for a query: over the head's 64 lanes, by an eighth, plus the position term. -/
def Nums.score (R : Nums) (j : Fin 8) (a : Fin 128) (k : Fin 256) : ℝ :=
  (∑ b : Fin 64, R.K k ⟨64 * (j.val / 4) + b.val, by omega⟩ * R.Q ⟨j.val / 2, by omega⟩ a ⟨64 * (j.val % 2) + b.val, by omega⟩) * (1 / 8)
    + R.B j k a

/-- A head's result for a query in a lane. -/
def Nums.val (R : Nums) (j : Fin 8) (a : Fin 128) (d : Fin 64) : ℝ :=
  attn (fun k => R.ok k a = true) (R.score j a) (R.S j) (fun k => R.V ⟨64 * (j.val / 4) + d.val, by omega⟩ k)

theorem scale_eq : Named.named (F := Ideal) κ "scale" (φ := .f32) 0x3E38AA3B#32 = (((1 / 8) * (Real.log 2)⁻¹ : ℝ) : EReal) :=
  IdealRules.named_const.ideal_named_scalar _ _ _ _ rfl
theorem log2e_eq : Named.named (F := Ideal) κ "log2e" (φ := .f32) 0x3FB8AA3B#32 = (((Real.log 2)⁻¹ : ℝ) : EReal) :=
  IdealRules.named_const.ideal_named_scalar _ _ _ _ rfl

theorem scaled_apply (x : Vec Ideal S1x1x128x128 .f32) (a b : Fin 128) :
    scaled x (ix2 a b) = x (ix4 0 0 a b) * (((1 / 8) * (Real.log 2)⁻¹ : ℝ) : EReal) := by
  pointwise [scaled]
  exact congrArg (x (ix4 0 0 a b) * ·) scale_eq

theorem turned_apply (x : Vec Ideal S1x1x128x128 .f32) (a b : Fin 128) :
    turned x (ix2 a b) = scaled x (ix2 a ⟨(b.val + 64) % 128, Nat.mod_lt _ (by norm_num)⟩) := by
  pointwise [turned]
  exact congrArg (fun c => scaled x (ix2 a c)) (Fin.ext (by show (b.val + 128 - 64) % 128 = (b.val + 64) % 128; rw [show b.val + 128 - 64 = b.val + 64 by omega]))

theorem keep_lo (x : FVec Ideal S128x128 .f32) (a b : Fin 128) : keep lo x (ix2 a b) = if b.val < 64 then x (ix2 a b) else 0 := by
  pointwise [keep, lo]
  revert b; intro b
  have h : ∀ b : Fin 128, IntOp.cmpi .slt (BitVec.ofNat 32 b.val) 64#32 = if b.val < 64 then 1#1 else 0#1 := by decide
  rw [h]; split_ifs <;> rfl

theorem keep_hi (x : FVec Ideal S128x128 .f32) (a b : Fin 128) : keep hi x (ix2 a b) = if b.val < 64 then 0 else x (ix2 a b) := by
  pointwise [keep, lo, hi]
  have h : ∀ b : Fin 128, IntOp.xori (IntOp.cmpi .slt (BitVec.ofNat 32 b.val) 64#32) 1#1 = if b.val < 64 then 0#1 else 1#1 := by decide
  rw [h]; split_ifs <;> rfl

theorem sum128 {M : Type*} [AddCommMonoid M] (g : Fin 128 → M) :
    ∑ x, g x = ∑ b : Fin 64, g ⟨b.val, by omega⟩ + ∑ b : Fin 64, g ⟨64 + b.val, by omega⟩ := by
  exact Fin.sum_univ_add (a := 64) (b := 64) g

theorem dot_lo (g : Fin 128 → EReal) (y : FVec Ideal S128x128 .f32) (a : Fin 128) :
    ∑ x, g x * keep lo y (ix2 a x) = ∑ b : Fin 64, g ⟨b.val, by omega⟩ * y (ix2 a ⟨b.val, by omega⟩) := by
  rw [sum128]
  simp only [keep_lo]
  rw [Finset.sum_congr rfl (fun b _ => by rw [if_pos b.isLt] : ∀ b ∈ Finset.univ, _ = g ⟨b.val, by omega⟩ * y (ix2 a ⟨b.val, by omega⟩)),
    Finset.sum_eq_zero (s := Finset.univ) (f := fun b : Fin 64 => g ⟨64 + b.val, _⟩ * _) (fun b _ => by rw [if_neg (by simp), mul_zero]), add_zero]

theorem dot_hi (g : Fin 128 → EReal) (y : FVec Ideal S128x128 .f32) (a : Fin 128) :
    ∑ x, g x * keep hi y (ix2 a x) = ∑ b : Fin 64, g ⟨64 + b.val, by omega⟩ * y (ix2 a ⟨64 + b.val, by omega⟩) := by
  rw [sum128]
  simp only [keep_hi]
  rw [Finset.sum_eq_zero (s := Finset.univ) (f := fun b : Fin 64 => g ⟨b.val, _⟩ * _) (fun b _ => by rw [if_pos b.isLt, mul_zero]), zero_add]
  exact Finset.sum_congr rfl (fun b _ => by rw [if_neg (by simp)])

theorem side0_apply (w0 w1 w2 w3 : FVec Ideal S256x128 .bf16) (x : Fin 256) (a : Fin 128) (n : Fin 512) (hn : n.val = 0 + a.val) :
    side w0 w1 w2 w3 (ix2 x n) = w0 (ix2 x a) := by
  pointwise [side]
  rw [dif_pos (by omega)]
  exact congrArg (fun c => w0 (ix2 x c)) (Fin.ext (by simp only [hn]; omega))

theorem side1_apply (w0 w1 w2 w3 : FVec Ideal S256x128 .bf16) (x : Fin 256) (a : Fin 128) (n : Fin 512) (hn : n.val = 128 + a.val) :
    side w0 w1 w2 w3 (ix2 x n) = w1 (ix2 x a) := by
  pointwise [side]
  rw [dif_neg (by omega), dif_pos (by omega)]
  exact congrArg (fun c => w1 (ix2 x c)) (Fin.ext (by simp only [hn]; omega))

theorem side2_apply (w0 w1 w2 w3 : FVec Ideal S256x128 .bf16) (x : Fin 256) (a : Fin 128) (n : Fin 512) (hn : n.val = 256 + a.val) :
    side w0 w1 w2 w3 (ix2 x n) = w2 (ix2 x a) := by
  pointwise [side]
  rw [dif_neg (by omega), dif_neg (by omega), dif_pos (by omega)]
  exact congrArg (fun c => w2 (ix2 x c)) (Fin.ext (by simp only [hn]; omega))

theorem side3_apply (w0 w1 w2 w3 : FVec Ideal S256x128 .bf16) (x : Fin 256) (a : Fin 128) (n : Fin 512) (hn : n.val = 384 + a.val) :
    side w0 w1 w2 w3 (ix2 x n) = w3 (ix2 x a) := by
  pointwise [side]
  rw [dif_neg (by omega), dif_neg (by omega), dif_neg (by omega)]
  exact congrArg (fun c => w3 (ix2 x c)) (Fin.ext (by simp only [hn]; omega))

theorem aug_top (g : FVec Ideal S64x256 .bf16) (d : Fin 64) (r : Fin 80) (hr : r.val = d.val) (x : Fin 256) : aug g (ix2 r x) = g (ix2 d x) := by
  pointwise [aug]
  rw [dif_pos (by omega)]
  exact congrArg (fun c => g (ix2 c x)) (Fin.ext hr)

theorem aug_ones (g : FVec Ideal S64x256 .bf16) (r : Fin 80) (hr : r.val = 64) (x : Fin 256) : aug g (ix2 r x) = 1 := by
  pointwise [aug]
  rw [dif_neg (by omega)]

theorem outc_apply (n : FVec Ideal S64x128 .f32) (d : FVec Ideal S1x128 .f32) (sk : Elt Ideal .f32) (m : FVec Ideal S1x128 .f32) (i : Fin 64) (j : Fin 128) :
    outc n d sk m (ix2 i j) = n (ix2 i j) * Ideal.div 1 (d (ix2 0 j) + Ideal.exp2 (sink2 sk - m (ix2 0 j))) := by
  pointwise [outc]
  rfl

theorem wts_apply (s : FVec Ideal S256x128 .f32) (m : FVec Ideal S1x128 .f32) (x : Fin 256) (a : Fin 128) :
    wts s m (ix2 x a) = Ideal.exp2 (s (ix2 x a) - m (ix2 0 a)) := by
  pointwise [wts]
  rfl

theorem half0_apply (v : FVec Ideal S128x256 .bf16) (d : Fin 64) (x : Fin 256) :
    extractStridedSlice S64x256 ![0, 0] v slices_S128x256_o0_0_S64x256 (ix2 d x) = v (ix2 ⟨0 + d.val, by omega⟩ x) := by
  pointwise []

theorem half1_apply (v : FVec Ideal S128x256 .bf16) (d : Fin 64) (x : Fin 256) :
    extractStridedSlice S64x256 ![64, 0] v slices_S128x256_o64_0_S64x256 (ix2 d x) = v (ix2 ⟨64 + d.val, by omega⟩ x) := by
  pointwise []

theorem num0_apply (A : FVec Ideal S80x512 .f32) (d : Fin 64) (a : Fin 128) :
    extractStridedSlice S64x128 ![0, 0] A slices_S80x512_o0_0_S64x128 (ix2 d a) = A (ix2 ⟨d.val, by omega⟩ ⟨0 + a.val, by omega⟩) := by
  pointwise []

theorem den0_apply (A : FVec Ideal S80x512 .f32) (a : Fin 128) :
    extractStridedSlice S1x128 ![64, 0] A slices_S80x512_o64_0_S1x128 (ix2 0 a) = A (ix2 64 ⟨0 + a.val, by omega⟩) := by
  pointwise []

theorem gather0_top (g : FVec Ideal S64x256 .bf16) (w0 w1 w2 w3 : FVec Ideal S256x128 .bf16) (d : Fin 64) (r : Fin 80) (hr : r.val = d.val) (a : Fin 128) (n : Fin 512)
    (hn : n.val = 0 + a.val) : gather g w0 w1 w2 w3 (ix2 r n) = ∑ x, g (ix2 d x) * w0 (ix2 x a) := by
  pointwise [gather]
  simp only [aug_top g d r hr, side0_apply _ _ _ _ _ a n hn]

theorem gather0_ones (g : FVec Ideal S64x256 .bf16) (w0 w1 w2 w3 : FVec Ideal S256x128 .bf16) (r : Fin 80) (hr : r.val = 64) (a : Fin 128) (n : Fin 512)
    (hn : n.val = 0 + a.val) : gather g w0 w1 w2 w3 (ix2 r n) = ∑ x, 1 * w0 (ix2 x a) := by
  pointwise [gather]
  simp only [aug_ones g r hr, one_mul, side0_apply _ _ _ _ _ a n hn]

theorem num1_apply (A : FVec Ideal S80x512 .f32) (d : Fin 64) (a : Fin 128) :
    extractStridedSlice S64x128 ![0, 128] A slices_S80x512_o0_128_S64x128 (ix2 d a) = A (ix2 ⟨d.val, by omega⟩ ⟨128 + a.val, by omega⟩) := by
  pointwise []

theorem den1_apply (A : FVec Ideal S80x512 .f32) (a : Fin 128) :
    extractStridedSlice S1x128 ![64, 128] A slices_S80x512_o64_128_S1x128 (ix2 0 a) = A (ix2 64 ⟨128 + a.val, by omega⟩) := by
  pointwise []

theorem gather1_top (g : FVec Ideal S64x256 .bf16) (w0 w1 w2 w3 : FVec Ideal S256x128 .bf16) (d : Fin 64) (r : Fin 80) (hr : r.val = d.val) (a : Fin 128) (n : Fin 512)
    (hn : n.val = 128 + a.val) : gather g w0 w1 w2 w3 (ix2 r n) = ∑ x, g (ix2 d x) * w1 (ix2 x a) := by
  pointwise [gather]
  simp only [aug_top g d r hr, side1_apply _ _ _ _ _ a n hn]

theorem gather1_ones (g : FVec Ideal S64x256 .bf16) (w0 w1 w2 w3 : FVec Ideal S256x128 .bf16) (r : Fin 80) (hr : r.val = 64) (a : Fin 128) (n : Fin 512)
    (hn : n.val = 128 + a.val) : gather g w0 w1 w2 w3 (ix2 r n) = ∑ x, 1 * w1 (ix2 x a) := by
  pointwise [gather]
  simp only [aug_ones g r hr, one_mul, side1_apply _ _ _ _ _ a n hn]

theorem num2_apply (A : FVec Ideal S80x512 .f32) (d : Fin 64) (a : Fin 128) :
    extractStridedSlice S64x128 ![0, 256] A slices_S80x512_o0_256_S64x128 (ix2 d a) = A (ix2 ⟨d.val, by omega⟩ ⟨256 + a.val, by omega⟩) := by
  pointwise []

theorem den2_apply (A : FVec Ideal S80x512 .f32) (a : Fin 128) :
    extractStridedSlice S1x128 ![64, 256] A slices_S80x512_o64_256_S1x128 (ix2 0 a) = A (ix2 64 ⟨256 + a.val, by omega⟩) := by
  pointwise []

theorem gather2_top (g : FVec Ideal S64x256 .bf16) (w0 w1 w2 w3 : FVec Ideal S256x128 .bf16) (d : Fin 64) (r : Fin 80) (hr : r.val = d.val) (a : Fin 128) (n : Fin 512)
    (hn : n.val = 256 + a.val) : gather g w0 w1 w2 w3 (ix2 r n) = ∑ x, g (ix2 d x) * w2 (ix2 x a) := by
  pointwise [gather]
  simp only [aug_top g d r hr, side2_apply _ _ _ _ _ a n hn]

theorem gather2_ones (g : FVec Ideal S64x256 .bf16) (w0 w1 w2 w3 : FVec Ideal S256x128 .bf16) (r : Fin 80) (hr : r.val = 64) (a : Fin 128) (n : Fin 512)
    (hn : n.val = 256 + a.val) : gather g w0 w1 w2 w3 (ix2 r n) = ∑ x, 1 * w2 (ix2 x a) := by
  pointwise [gather]
  simp only [aug_ones g r hr, one_mul, side2_apply _ _ _ _ _ a n hn]

theorem num3_apply (A : FVec Ideal S80x512 .f32) (d : Fin 64) (a : Fin 128) :
    extractStridedSlice S64x128 ![0, 384] A slices_S80x512_o0_384_S64x128 (ix2 d a) = A (ix2 ⟨d.val, by omega⟩ ⟨384 + a.val, by omega⟩) := by
  pointwise []

theorem den3_apply (A : FVec Ideal S80x512 .f32) (a : Fin 128) :
    extractStridedSlice S1x128 ![64, 384] A slices_S80x512_o64_384_S1x128 (ix2 0 a) = A (ix2 64 ⟨384 + a.val, by omega⟩) := by
  pointwise []

theorem gather3_top (g : FVec Ideal S64x256 .bf16) (w0 w1 w2 w3 : FVec Ideal S256x128 .bf16) (d : Fin 64) (r : Fin 80) (hr : r.val = d.val) (a : Fin 128) (n : Fin 512)
    (hn : n.val = 384 + a.val) : gather g w0 w1 w2 w3 (ix2 r n) = ∑ x, g (ix2 d x) * w3 (ix2 x a) := by
  pointwise [gather]
  simp only [aug_top g d r hr, side3_apply _ _ _ _ _ a n hn]

theorem gather3_ones (g : FVec Ideal S64x256 .bf16) (w0 w1 w2 w3 : FVec Ideal S256x128 .bf16) (r : Fin 80) (hr : r.val = 64) (a : Fin 128) (n : Fin 512)
    (hn : n.val = 384 + a.val) : gather g w0 w1 w2 w3 (ix2 r n) = ∑ x, 1 * w3 (ix2 x a) := by
  pointwise [gather]
  simp only [aug_ones g r hr, one_mul, side3_apply _ _ _ _ _ a n hn]

variable {L : In Ideal} {R : Nums} (h : Holds L R)
include h

theorem keys_apply (k : Fin 256) (b : Fin 128) : keys L (ix2 k b) = ((R.K k b : ℝ) : EReal) := by
  pointwise [keys]
  split_ifs with hk
  · exact h.kp ⟨k.val, hk⟩ b
  · rw [h.kc]
    exact congrArg (fun c => ((R.K c b : ℝ) : EReal)) (Fin.ext (by show 128 + (k.val - 128) = k.val; omega))
  all_goals exact absurd rfl ‹_›

theorem vals_apply (b : Fin 128) (k : Fin 256) : vals L (ix2 b k) = ((R.V b k : ℝ) : EReal) := by
  pointwise [vals]
  split_ifs with hk
  · exact h.vp b ⟨k.val, hk⟩
  · rw [h.vc]
    exact congrArg (fun c => ((R.V b c : ℝ) : EReal)) (Fin.ext (by show 128 + (k.val - 128) = k.val; omega))
  all_goals exact absurd rfl ‹_›

/-- A product over one head's lanes, scaled. -/
theorem dot_coe (k : Fin 256) (j : Fin 8) (a : Fin 128) :
    ∑ b : Fin 64, ((R.K k ⟨64 * (j.val / 4) + b.val, by omega⟩ : ℝ) : EReal) * (((R.Q ⟨j.val / 2, by omega⟩ a ⟨64 * (j.val % 2) + b.val, by omega⟩ : ℝ) : EReal) * (((1 / 8) * (Real.log 2)⁻¹ : ℝ) : EReal))
      = (((∑ b : Fin 64, R.K k ⟨64 * (j.val / 4) + b.val, by omega⟩ * R.Q ⟨j.val / 2, by omega⟩ a ⟨64 * (j.val % 2) + b.val, by omega⟩) * (1 / 8) * (Real.log 2)⁻¹ : ℝ) : EReal) := by
  simp only [← EReal.coe_mul, ← coe_sum]
  congr 1
  rw [Finset.sum_mul, Finset.sum_mul]
  exact Finset.sum_congr rfl fun b _ => by ring

theorem scores0_apply (k : Fin 256) (a : Fin 128) (n : Fin 1024) (hn : n.val = 0 + a.val) : scores L (ix2 k n)
    = (((∑ b : Fin 64, R.K k ⟨64 * (((0 : Fin 8) : ℕ) / 4) + b.val, by simp; omega⟩ * R.Q ⟨((0 : Fin 8) : ℕ) / 2, by simp⟩ a ⟨64 * (((0 : Fin 8) : ℕ) % 2) + b.val, by simp; omega⟩) * (1 / 8) * (Real.log 2)⁻¹ : ℝ) : EReal) := by
  have hq : ∀ x, queries L (ix2 n x) = keep lo (scaled L.q0) (ix2 a x) := fun x => by
    pointwise [queries]
    rw [dif_pos (by omega)]
    exact congrArg (fun c => keep lo (scaled L.q0) (ix2 c x)) (Fin.ext (by simp only [hn]; omega))
  rw [← dot_coe h k 0 a]
  pointwise [scores]
  simp only [hq, keys_apply h]
  rw [dot_lo]
  refine Finset.sum_congr rfl fun b _ => ?_
  rw [scaled_apply, h.q0]
  try (congr 4; all_goals exact Fin.ext (by simp; try omega))

theorem sc0_apply (k : Fin 256) (a : Fin 128) :
    sc0 L (ix2 k a) = if R.ok k a = true then ((R.score 0 a k * (Real.log 2)⁻¹ : ℝ) : EReal) else ⊥ := by
  have e : sc0 L (ix2 k a) = scores L (ix2 k ⟨0 + a.val, by omega⟩) + L.b0 (ix4 0 0 k a) := by
    pointwise [sc0, biased]
  rw [e, scores0_apply h k a _ rfl, h.b0]
  split_ifs
  · rw [← EReal.coe_add, ← add_mul]; rfl
  · exact EReal.add_bot _

theorem mx0_apply (f) (hf : f = id) (a : Fin 128) : ∃ m : ℝ, mx0 f L (ix2 0 a) = (m : EReal) := by
  have e : mx0 f L (ix2 0 a) = max (Finset.univ.fold max (Ideal.ofBits FTy.f32 4286578688#32) (fun x => sc0 L (ix2 x a))) (sink2 L.s0) := by
    subst hf
    pointwise [mx0, top, id_eq]
  have hs : sink2 L.s0 = ((R.S 0 * (Real.log 2)⁻¹ : ℝ) : EReal) := by
    rw [h.s0, EReal.coe_mul]; exact congrArg (((R.S 0 : ℝ) : EReal) * ·) log2e_eq
  rw [e, hs]
  refine top_coe _ _ _ ?_ ?_ _
  · rw [show Ideal.ofBits FTy.f32 4286578688#32 = ⊥ from by simp [Ideal.ofBits, Ideal.ieee]]; exact bot_ne_top
  · intro i; rw [sc0_apply h]; split_ifs
    · exact EReal.coe_ne_top _
    · exact bot_ne_top

theorem out0_apply (f) (hf : f = id) (a : Fin 128) (d : Fin 64) : out0 f L (ix2 d a) = ((R.val 0 a d : ℝ) : EReal) := by
  obtain ⟨m, hm⟩ := mx0_apply h f hf a
  have hs : sink2 L.s0 = ((R.S 0 * (Real.log 2)⁻¹ : ℝ) : EReal) := by
    rw [h.s0, EReal.coe_mul]; exact congrArg (((R.S 0 : ℝ) : EReal) * ·) log2e_eq
  rw [out0, outc_apply, num0_apply, den0_apply, acc0, gather0_top _ _ _ _ _ d _ rfl a _ rfl, gather0_ones _ _ _ _ _ _ rfl a _ rfl, hs, hm]
  simp only [wts_apply, half0_apply, vals_apply h, sc0_apply h, hm]
  exact kernel_way _ _ _ _ _

theorem scores1_apply (k : Fin 256) (a : Fin 128) (n : Fin 1024) (hn : n.val = 128 + a.val) : scores L (ix2 k n)
    = (((∑ b : Fin 64, R.K k ⟨64 * (((1 : Fin 8) : ℕ) / 4) + b.val, by simp; omega⟩ * R.Q ⟨((1 : Fin 8) : ℕ) / 2, by simp⟩ a ⟨64 * (((1 : Fin 8) : ℕ) % 2) + b.val, by simp; omega⟩) * (1 / 8) * (Real.log 2)⁻¹ : ℝ) : EReal) := by
  have hq : ∀ x, queries L (ix2 n x) = keep lo (turned L.q0) (ix2 a x) := fun x => by
    pointwise [queries]
    rw [dif_neg (by omega), dif_pos (by omega)]
    exact congrArg (fun c => keep lo (turned L.q0) (ix2 c x)) (Fin.ext (by simp only [hn]; omega))
  rw [← dot_coe h k 1 a]
  pointwise [scores]
  simp only [hq, keys_apply h]
  rw [dot_lo]
  refine Finset.sum_congr rfl fun b _ => ?_
  rw [turned_apply, scaled_apply, h.q0]
  try (congr 4; all_goals exact Fin.ext (by simp; try omega))

theorem sc1_apply (k : Fin 256) (a : Fin 128) :
    sc1 L (ix2 k a) = if R.ok k a = true then ((R.score 1 a k * (Real.log 2)⁻¹ : ℝ) : EReal) else ⊥ := by
  have e : sc1 L (ix2 k a) = scores L (ix2 k ⟨128 + a.val, by omega⟩) + L.b1 (ix4 0 0 k a) := by
    pointwise [sc1, biased]
  rw [e, scores1_apply h k a _ rfl, h.b1]
  split_ifs
  · rw [← EReal.coe_add, ← add_mul]; rfl
  · exact EReal.add_bot _

theorem mx1_apply (a : Fin 128) : ∃ m : ℝ, mx1 L (ix2 0 a) = (m : EReal) := by
  have e : mx1 L (ix2 0 a) = max (Finset.univ.fold max (Ideal.ofBits FTy.f32 4286578688#32) (fun x => sc1 L (ix2 x a))) (sink2 L.s1) := by
    skip
    pointwise [mx1, top]
  have hs : sink2 L.s1 = ((R.S 1 * (Real.log 2)⁻¹ : ℝ) : EReal) := by
    rw [h.s1, EReal.coe_mul]; exact congrArg (((R.S 1 : ℝ) : EReal) * ·) log2e_eq
  rw [e, hs]
  refine top_coe _ _ _ ?_ ?_ _
  · rw [show Ideal.ofBits FTy.f32 4286578688#32 = ⊥ from by simp [Ideal.ofBits, Ideal.ieee]]; exact bot_ne_top
  · intro i; rw [sc1_apply h]; split_ifs
    · exact EReal.coe_ne_top _
    · exact bot_ne_top

theorem out1_apply (f) (hf : f = id) (a : Fin 128) (d : Fin 64) : out1 f L (ix2 d a) = ((R.val 1 a d : ℝ) : EReal) := by
  obtain ⟨m, hm⟩ := mx1_apply h a
  have hs : sink2 L.s1 = ((R.S 1 * (Real.log 2)⁻¹ : ℝ) : EReal) := by
    rw [h.s1, EReal.coe_mul]; exact congrArg (((R.S 1 : ℝ) : EReal) * ·) log2e_eq
  rw [out1, outc_apply, num1_apply, den1_apply, acc0, gather1_top _ _ _ _ _ d _ rfl a _ rfl, gather1_ones _ _ _ _ _ _ rfl a _ rfl, hs, hm]
  simp only [wts_apply, half0_apply, vals_apply h, sc1_apply h, hm]
  exact kernel_way _ _ _ _ _

theorem scores2_apply (k : Fin 256) (a : Fin 128) (n : Fin 1024) (hn : n.val = 256 + a.val) : scores L (ix2 k n)
    = (((∑ b : Fin 64, R.K k ⟨64 * (((2 : Fin 8) : ℕ) / 4) + b.val, by simp; omega⟩ * R.Q ⟨((2 : Fin 8) : ℕ) / 2, by simp⟩ a ⟨64 * (((2 : Fin 8) : ℕ) % 2) + b.val, by simp; omega⟩) * (1 / 8) * (Real.log 2)⁻¹ : ℝ) : EReal) := by
  have hq : ∀ x, queries L (ix2 n x) = keep lo (scaled L.q1) (ix2 a x) := fun x => by
    pointwise [queries]
    rw [dif_neg (by omega), dif_neg (by omega), dif_pos (by omega)]
    exact congrArg (fun c => keep lo (scaled L.q1) (ix2 c x)) (Fin.ext (by simp only [hn]; omega))
  rw [← dot_coe h k 2 a]
  pointwise [scores]
  simp only [hq, keys_apply h]
  rw [dot_lo]
  refine Finset.sum_congr rfl fun b _ => ?_
  rw [scaled_apply, h.q1]
  try (congr 4; all_goals exact Fin.ext (by simp; try omega))

theorem sc2_apply (k : Fin 256) (a : Fin 128) :
    sc2 L (ix2 k a) = if R.ok k a = true then ((R.score 2 a k * (Real.log 2)⁻¹ : ℝ) : EReal) else ⊥ := by
  have e : sc2 L (ix2 k a) = scores L (ix2 k ⟨256 + a.val, by omega⟩) + L.b2 (ix4 0 0 k a) := by
    pointwise [sc2, biased]
  rw [e, scores2_apply h k a _ rfl, h.b2]
  split_ifs
  · rw [← EReal.coe_add, ← add_mul]; rfl
  · exact EReal.add_bot _

theorem mx2_apply (a : Fin 128) : ∃ m : ℝ, mx2 L (ix2 0 a) = (m : EReal) := by
  have e : mx2 L (ix2 0 a) = max (Finset.univ.fold max (Ideal.ofBits FTy.f32 4286578688#32) (fun x => sc2 L (ix2 x a))) (sink2 L.s2) := by
    skip
    pointwise [mx2, top]
  have hs : sink2 L.s2 = ((R.S 2 * (Real.log 2)⁻¹ : ℝ) : EReal) := by
    rw [h.s2, EReal.coe_mul]; exact congrArg (((R.S 2 : ℝ) : EReal) * ·) log2e_eq
  rw [e, hs]
  refine top_coe _ _ _ ?_ ?_ _
  · rw [show Ideal.ofBits FTy.f32 4286578688#32 = ⊥ from by simp [Ideal.ofBits, Ideal.ieee]]; exact bot_ne_top
  · intro i; rw [sc2_apply h]; split_ifs
    · exact EReal.coe_ne_top _
    · exact bot_ne_top

theorem out2_apply (f) (hf : f = id) (a : Fin 128) (d : Fin 64) : out2 f L (ix2 d a) = ((R.val 2 a d : ℝ) : EReal) := by
  obtain ⟨m, hm⟩ := mx2_apply h a
  have hs : sink2 L.s2 = ((R.S 2 * (Real.log 2)⁻¹ : ℝ) : EReal) := by
    rw [h.s2, EReal.coe_mul]; exact congrArg (((R.S 2 : ℝ) : EReal) * ·) log2e_eq
  rw [out2, outc_apply, num2_apply, den2_apply, acc0, gather2_top _ _ _ _ _ d _ rfl a _ rfl, gather2_ones _ _ _ _ _ _ rfl a _ rfl, hs, hm]
  simp only [wts_apply, half0_apply, vals_apply h, sc2_apply h, hm]
  exact kernel_way _ _ _ _ _

theorem scores3_apply (k : Fin 256) (a : Fin 128) (n : Fin 1024) (hn : n.val = 384 + a.val) : scores L (ix2 k n)
    = (((∑ b : Fin 64, R.K k ⟨64 * (((3 : Fin 8) : ℕ) / 4) + b.val, by simp; omega⟩ * R.Q ⟨((3 : Fin 8) : ℕ) / 2, by simp⟩ a ⟨64 * (((3 : Fin 8) : ℕ) % 2) + b.val, by simp; omega⟩) * (1 / 8) * (Real.log 2)⁻¹ : ℝ) : EReal) := by
  have hq : ∀ x, queries L (ix2 n x) = keep lo (turned L.q1) (ix2 a x) := fun x => by
    pointwise [queries]
    rw [dif_neg (by omega), dif_neg (by omega), dif_neg (by omega), dif_pos (by omega)]
    exact congrArg (fun c => keep lo (turned L.q1) (ix2 c x)) (Fin.ext (by simp only [hn]; omega))
  rw [← dot_coe h k 3 a]
  pointwise [scores]
  simp only [hq, keys_apply h]
  rw [dot_lo]
  refine Finset.sum_congr rfl fun b _ => ?_
  rw [turned_apply, scaled_apply, h.q1]
  try (congr 4; all_goals exact Fin.ext (by simp; try omega))

theorem sc3_apply (k : Fin 256) (a : Fin 128) :
    sc3 L (ix2 k a) = if R.ok k a = true then ((R.score 3 a k * (Real.log 2)⁻¹ : ℝ) : EReal) else ⊥ := by
  have e : sc3 L (ix2 k a) = scores L (ix2 k ⟨384 + a.val, by omega⟩) + L.b3 (ix4 0 0 k a) := by
    pointwise [sc3, biased]
  rw [e, scores3_apply h k a _ rfl, h.b3]
  split_ifs
  · rw [← EReal.coe_add, ← add_mul]; rfl
  · exact EReal.add_bot _

theorem mx3_apply (a : Fin 128) : ∃ m : ℝ, mx3 L (ix2 0 a) = (m : EReal) := by
  have e : mx3 L (ix2 0 a) = max (Finset.univ.fold max (Ideal.ofBits FTy.f32 4286578688#32) (fun x => sc3 L (ix2 x a))) (sink2 L.s3) := by
    skip
    pointwise [mx3, top]
  have hs : sink2 L.s3 = ((R.S 3 * (Real.log 2)⁻¹ : ℝ) : EReal) := by
    rw [h.s3, EReal.coe_mul]; exact congrArg (((R.S 3 : ℝ) : EReal) * ·) log2e_eq
  rw [e, hs]
  refine top_coe _ _ _ ?_ ?_ _
  · rw [show Ideal.ofBits FTy.f32 4286578688#32 = ⊥ from by simp [Ideal.ofBits, Ideal.ieee]]; exact bot_ne_top
  · intro i; rw [sc3_apply h]; split_ifs
    · exact EReal.coe_ne_top _
    · exact bot_ne_top

theorem out3_apply (f) (hf : f = id) (a : Fin 128) (d : Fin 64) : out3 f L (ix2 d a) = ((R.val 3 a d : ℝ) : EReal) := by
  obtain ⟨m, hm⟩ := mx3_apply h a
  have hs : sink2 L.s3 = ((R.S 3 * (Real.log 2)⁻¹ : ℝ) : EReal) := by
    rw [h.s3, EReal.coe_mul]; exact congrArg (((R.S 3 : ℝ) : EReal) * ·) log2e_eq
  rw [out3, outc_apply, num3_apply, den3_apply, acc0, gather3_top _ _ _ _ _ d _ rfl a _ rfl, gather3_ones _ _ _ _ _ _ rfl a _ rfl, hs, hm]
  simp only [wts_apply, half0_apply, vals_apply h, sc3_apply h, hm]
  exact kernel_way _ _ _ _ _

theorem scores4_apply (k : Fin 256) (a : Fin 128) (n : Fin 1024) (hn : n.val = 512 + a.val) : scores L (ix2 k n)
    = (((∑ b : Fin 64, R.K k ⟨64 * (((4 : Fin 8) : ℕ) / 4) + b.val, by simp; omega⟩ * R.Q ⟨((4 : Fin 8) : ℕ) / 2, by simp⟩ a ⟨64 * (((4 : Fin 8) : ℕ) % 2) + b.val, by simp; omega⟩) * (1 / 8) * (Real.log 2)⁻¹ : ℝ) : EReal) := by
  have hq : ∀ x, queries L (ix2 n x) = keep hi (turned L.q2) (ix2 a x) := fun x => by
    pointwise [queries]
    rw [dif_neg (by omega), dif_neg (by omega), dif_neg (by omega), dif_neg (by omega), dif_pos (by omega)]
    exact congrArg (fun c => keep hi (turned L.q2) (ix2 c x)) (Fin.ext (by simp only [hn]; omega))
  rw [← dot_coe h k 4 a]
  pointwise [scores]
  simp only [hq, keys_apply h]
  rw [dot_hi]
  refine Finset.sum_congr rfl fun b _ => ?_
  rw [turned_apply, scaled_apply, h.q2]
  try (congr 4; all_goals exact Fin.ext (by simp; try omega))

theorem sc4_apply (k : Fin 256) (a : Fin 128) :
    sc4 L (ix2 k a) = if R.ok k a = true then ((R.score 4 a k * (Real.log 2)⁻¹ : ℝ) : EReal) else ⊥ := by
  have e : sc4 L (ix2 k a) = scores L (ix2 k ⟨512 + a.val, by omega⟩) + L.b4 (ix4 0 0 k a) := by
    pointwise [sc4, biased]
  rw [e, scores4_apply h k a _ rfl, h.b4]
  split_ifs
  · rw [← EReal.coe_add, ← add_mul]; rfl
  · exact EReal.add_bot _

theorem mx4_apply (a : Fin 128) : ∃ m : ℝ, mx4 L (ix2 0 a) = (m : EReal) := by
  have e : mx4 L (ix2 0 a) = max (Finset.univ.fold max (Ideal.ofBits FTy.f32 4286578688#32) (fun x => sc4 L (ix2 x a))) (sink2 L.s4) := by
    skip
    pointwise [mx4, top]
  have hs : sink2 L.s4 = ((R.S 4 * (Real.log 2)⁻¹ : ℝ) : EReal) := by
    rw [h.s4, EReal.coe_mul]; exact congrArg (((R.S 4 : ℝ) : EReal) * ·) log2e_eq
  rw [e, hs]
  refine top_coe _ _ _ ?_ ?_ _
  · rw [show Ideal.ofBits FTy.f32 4286578688#32 = ⊥ from by simp [Ideal.ofBits, Ideal.ieee]]; exact bot_ne_top
  · intro i; rw [sc4_apply h]; split_ifs
    · exact EReal.coe_ne_top _
    · exact bot_ne_top

theorem out4_apply (a : Fin 128) (d : Fin 64) : out4 L (ix2 d a) = ((R.val 4 a d : ℝ) : EReal) := by
  obtain ⟨m, hm⟩ := mx4_apply h a
  have hs : sink2 L.s4 = ((R.S 4 * (Real.log 2)⁻¹ : ℝ) : EReal) := by
    rw [h.s4, EReal.coe_mul]; exact congrArg (((R.S 4 : ℝ) : EReal) * ·) log2e_eq
  rw [out4, outc_apply, num0_apply, den0_apply, acc1, gather0_top _ _ _ _ _ d _ rfl a _ rfl, gather0_ones _ _ _ _ _ _ rfl a _ rfl, hs, hm]
  simp only [wts_apply, half1_apply, vals_apply h, sc4_apply h, hm]
  exact kernel_way _ _ _ _ _

theorem scores5_apply (k : Fin 256) (a : Fin 128) (n : Fin 1024) (hn : n.val = 640 + a.val) : scores L (ix2 k n)
    = (((∑ b : Fin 64, R.K k ⟨64 * (((5 : Fin 8) : ℕ) / 4) + b.val, by simp; omega⟩ * R.Q ⟨((5 : Fin 8) : ℕ) / 2, by simp⟩ a ⟨64 * (((5 : Fin 8) : ℕ) % 2) + b.val, by simp; omega⟩) * (1 / 8) * (Real.log 2)⁻¹ : ℝ) : EReal) := by
  have hq : ∀ x, queries L (ix2 n x) = keep hi (scaled L.q2) (ix2 a x) := fun x => by
    pointwise [queries]
    rw [dif_neg (by omega), dif_neg (by omega), dif_neg (by omega), dif_neg (by omega), dif_neg (by omega), dif_pos (by omega)]
    exact congrArg (fun c => keep hi (scaled L.q2) (ix2 c x)) (Fin.ext (by simp only [hn]; omega))
  rw [← dot_coe h k 5 a]
  pointwise [scores]
  simp only [hq, keys_apply h]
  rw [dot_hi]
  refine Finset.sum_congr rfl fun b _ => ?_
  rw [scaled_apply, h.q2]
  try (congr 4; all_goals exact Fin.ext (by simp; try omega))

theorem sc5_apply (k : Fin 256) (a : Fin 128) :
    sc5 L (ix2 k a) = if R.ok k a = true then ((R.score 5 a k * (Real.log 2)⁻¹ : ℝ) : EReal) else ⊥ := by
  have e : sc5 L (ix2 k a) = scores L (ix2 k ⟨640 + a.val, by omega⟩) + L.b5 (ix4 0 0 k a) := by
    pointwise [sc5, biased]
  rw [e, scores5_apply h k a _ rfl, h.b5]
  split_ifs
  · rw [← EReal.coe_add, ← add_mul]; rfl
  · exact EReal.add_bot _

theorem mx5_apply (a : Fin 128) : ∃ m : ℝ, mx5 L (ix2 0 a) = (m : EReal) := by
  have e : mx5 L (ix2 0 a) = max (Finset.univ.fold max (Ideal.ofBits FTy.f32 4286578688#32) (fun x => sc5 L (ix2 x a))) (sink2 L.s5) := by
    skip
    pointwise [mx5, top]
  have hs : sink2 L.s5 = ((R.S 5 * (Real.log 2)⁻¹ : ℝ) : EReal) := by
    rw [h.s5, EReal.coe_mul]; exact congrArg (((R.S 5 : ℝ) : EReal) * ·) log2e_eq
  rw [e, hs]
  refine top_coe _ _ _ ?_ ?_ _
  · rw [show Ideal.ofBits FTy.f32 4286578688#32 = ⊥ from by simp [Ideal.ofBits, Ideal.ieee]]; exact bot_ne_top
  · intro i; rw [sc5_apply h]; split_ifs
    · exact EReal.coe_ne_top _
    · exact bot_ne_top

theorem out5_apply (a : Fin 128) (d : Fin 64) : out5 L (ix2 d a) = ((R.val 5 a d : ℝ) : EReal) := by
  obtain ⟨m, hm⟩ := mx5_apply h a
  have hs : sink2 L.s5 = ((R.S 5 * (Real.log 2)⁻¹ : ℝ) : EReal) := by
    rw [h.s5, EReal.coe_mul]; exact congrArg (((R.S 5 : ℝ) : EReal) * ·) log2e_eq
  rw [out5, outc_apply, num1_apply, den1_apply, acc1, gather1_top _ _ _ _ _ d _ rfl a _ rfl, gather1_ones _ _ _ _ _ _ rfl a _ rfl, hs, hm]
  simp only [wts_apply, half1_apply, vals_apply h, sc5_apply h, hm]
  exact kernel_way _ _ _ _ _

theorem scores6_apply (k : Fin 256) (a : Fin 128) (n : Fin 1024) (hn : n.val = 768 + a.val) : scores L (ix2 k n)
    = (((∑ b : Fin 64, R.K k ⟨64 * (((6 : Fin 8) : ℕ) / 4) + b.val, by simp; omega⟩ * R.Q ⟨((6 : Fin 8) : ℕ) / 2, by simp⟩ a ⟨64 * (((6 : Fin 8) : ℕ) % 2) + b.val, by simp; omega⟩) * (1 / 8) * (Real.log 2)⁻¹ : ℝ) : EReal) := by
  have hq : ∀ x, queries L (ix2 n x) = keep hi (turned L.q3) (ix2 a x) := fun x => by
    pointwise [queries]
    rw [dif_neg (by omega), dif_neg (by omega), dif_neg (by omega), dif_neg (by omega), dif_neg (by omega), dif_neg (by omega), dif_pos (by omega)]
    exact congrArg (fun c => keep hi (turned L.q3) (ix2 c x)) (Fin.ext (by simp only [hn]; omega))
  rw [← dot_coe h k 6 a]
  pointwise [scores]
  simp only [hq, keys_apply h]
  rw [dot_hi]
  refine Finset.sum_congr rfl fun b _ => ?_
  rw [turned_apply, scaled_apply, h.q3]
  try (congr 4; all_goals exact Fin.ext (by simp; try omega))

theorem sc6_apply (k : Fin 256) (a : Fin 128) :
    sc6 L (ix2 k a) = if R.ok k a = true then ((R.score 6 a k * (Real.log 2)⁻¹ : ℝ) : EReal) else ⊥ := by
  have e : sc6 L (ix2 k a) = scores L (ix2 k ⟨768 + a.val, by omega⟩) + L.b6 (ix4 0 0 k a) := by
    pointwise [sc6, biased]
  rw [e, scores6_apply h k a _ rfl, h.b6]
  split_ifs
  · rw [← EReal.coe_add, ← add_mul]; rfl
  · exact EReal.add_bot _

theorem mx6_apply (a : Fin 128) : ∃ m : ℝ, mx6 L (ix2 0 a) = (m : EReal) := by
  have e : mx6 L (ix2 0 a) = max (Finset.univ.fold max (Ideal.ofBits FTy.f32 4286578688#32) (fun x => sc6 L (ix2 x a))) (sink2 L.s6) := by
    skip
    pointwise [mx6, top]
  have hs : sink2 L.s6 = ((R.S 6 * (Real.log 2)⁻¹ : ℝ) : EReal) := by
    rw [h.s6, EReal.coe_mul]; exact congrArg (((R.S 6 : ℝ) : EReal) * ·) log2e_eq
  rw [e, hs]
  refine top_coe _ _ _ ?_ ?_ _
  · rw [show Ideal.ofBits FTy.f32 4286578688#32 = ⊥ from by simp [Ideal.ofBits, Ideal.ieee]]; exact bot_ne_top
  · intro i; rw [sc6_apply h]; split_ifs
    · exact EReal.coe_ne_top _
    · exact bot_ne_top

theorem out6_apply (a : Fin 128) (d : Fin 64) : out6 L (ix2 d a) = ((R.val 6 a d : ℝ) : EReal) := by
  obtain ⟨m, hm⟩ := mx6_apply h a
  have hs : sink2 L.s6 = ((R.S 6 * (Real.log 2)⁻¹ : ℝ) : EReal) := by
    rw [h.s6, EReal.coe_mul]; exact congrArg (((R.S 6 : ℝ) : EReal) * ·) log2e_eq
  rw [out6, outc_apply, num2_apply, den2_apply, acc1, gather2_top _ _ _ _ _ d _ rfl a _ rfl, gather2_ones _ _ _ _ _ _ rfl a _ rfl, hs, hm]
  simp only [wts_apply, half1_apply, vals_apply h, sc6_apply h, hm]
  exact kernel_way _ _ _ _ _

theorem scores7_apply (k : Fin 256) (a : Fin 128) (n : Fin 1024) (hn : n.val = 896 + a.val) : scores L (ix2 k n)
    = (((∑ b : Fin 64, R.K k ⟨64 * (((7 : Fin 8) : ℕ) / 4) + b.val, by simp; omega⟩ * R.Q ⟨((7 : Fin 8) : ℕ) / 2, by simp⟩ a ⟨64 * (((7 : Fin 8) : ℕ) % 2) + b.val, by simp; omega⟩) * (1 / 8) * (Real.log 2)⁻¹ : ℝ) : EReal) := by
  have hq : ∀ x, queries L (ix2 n x) = keep hi (scaled L.q3) (ix2 a x) := fun x => by
    pointwise [queries]
    rw [dif_neg (by omega), dif_neg (by omega), dif_neg (by omega), dif_neg (by omega), dif_neg (by omega), dif_neg (by omega), dif_neg (by omega)]
    exact congrArg (fun c => keep hi (scaled L.q3) (ix2 c x)) (Fin.ext (by simp only [hn]; omega))
  rw [← dot_coe h k 7 a]
  pointwise [scores]
  simp only [hq, keys_apply h]
  rw [dot_hi]
  refine Finset.sum_congr rfl fun b _ => ?_
  rw [scaled_apply, h.q3]
  try (congr 4; all_goals exact Fin.ext (by simp; try omega))

theorem sc7_apply (k : Fin 256) (a : Fin 128) :
    sc7 L (ix2 k a) = if R.ok k a = true then ((R.score 7 a k * (Real.log 2)⁻¹ : ℝ) : EReal) else ⊥ := by
  have e : sc7 L (ix2 k a) = scores L (ix2 k ⟨896 + a.val, by omega⟩) + L.b7 (ix4 0 0 k a) := by
    pointwise [sc7, biased]
  rw [e, scores7_apply h k a _ rfl, h.b7]
  split_ifs
  · rw [← EReal.coe_add, ← add_mul]; rfl
  · exact EReal.add_bot _

theorem mx7_apply (a : Fin 128) : ∃ m : ℝ, mx7 L (ix2 0 a) = (m : EReal) := by
  have e : mx7 L (ix2 0 a) = max (Finset.univ.fold max (Ideal.ofBits FTy.f32 4286578688#32) (fun x => sc7 L (ix2 x a))) (sink2 L.s7) := by
    skip
    pointwise [mx7, top]
  have hs : sink2 L.s7 = ((R.S 7 * (Real.log 2)⁻¹ : ℝ) : EReal) := by
    rw [h.s7, EReal.coe_mul]; exact congrArg (((R.S 7 : ℝ) : EReal) * ·) log2e_eq
  rw [e, hs]
  refine top_coe _ _ _ ?_ ?_ _
  · rw [show Ideal.ofBits FTy.f32 4286578688#32 = ⊥ from by simp [Ideal.ofBits, Ideal.ieee]]; exact bot_ne_top
  · intro i; rw [sc7_apply h]; split_ifs
    · exact EReal.coe_ne_top _
    · exact bot_ne_top

theorem out7_apply (a : Fin 128) (d : Fin 64) : out7 L (ix2 d a) = ((R.val 7 a d : ℝ) : EReal) := by
  obtain ⟨m, hm⟩ := mx7_apply h a
  have hs : sink2 L.s7 = ((R.S 7 * (Real.log 2)⁻¹ : ℝ) : EReal) := by
    rw [h.s7, EReal.coe_mul]; exact congrArg (((R.S 7 : ℝ) : EReal) * ·) log2e_eq
  rw [out7, outc_apply, num3_apply, den3_apply, acc1, gather3_top _ _ _ _ _ d _ rfl a _ rfl, gather3_ones _ _ _ _ _ _ rfl a _ rfl, hs, hm]
  simp only [wts_apply, half1_apply, vals_apply h, sc7_apply h, hm]
  exact kernel_way _ _ _ _ _

theorem pair0_apply (f) (hf : f = id) (a l : Fin 128) :
    pair0 f L (ix3 0 a l) = ((R.val ⟨0 + l.val / 64, by omega⟩ a ⟨l.val % 64, by omega⟩ : ℝ) : EReal) := by
  have e : pair0 f L (ix3 0 a l) = if hl : l.val < 64 then out0 f L (ix2 ⟨l.val, hl⟩ a) else out1 f L (ix2 ⟨l.val - 64, by omega⟩ a) := by
    pointwise [pair0, pair]
  rw [e]
  split_ifs with hl
  · rw [out0_apply h f hf ]
    exact congrArg₂ (fun j d => ((R.val j a d : ℝ) : EReal)) (Fin.ext (by simp; omega)) (Fin.ext (by simp; omega))
  · rw [out1_apply h f hf ]
    exact congrArg₂ (fun j d => ((R.val j a d : ℝ) : EReal)) (Fin.ext (by simp; omega)) (Fin.ext (by simp; omega))

theorem pair1_apply (f) (hf : f = id) (a l : Fin 128) :
    pair1 f L (ix3 0 a l) = ((R.val ⟨2 + l.val / 64, by omega⟩ a ⟨l.val % 64, by omega⟩ : ℝ) : EReal) := by
  have e : pair1 f L (ix3 0 a l) = if hl : l.val < 64 then out2 f L (ix2 ⟨l.val, hl⟩ a) else out3 f L (ix2 ⟨l.val - 64, by omega⟩ a) := by
    pointwise [pair1, pair]
  rw [e]
  split_ifs with hl
  · rw [out2_apply h f hf ]
    exact congrArg₂ (fun j d => ((R.val j a d : ℝ) : EReal)) (Fin.ext (by simp; omega)) (Fin.ext (by simp; omega))
  · rw [out3_apply h f hf ]
    exact congrArg₂ (fun j d => ((R.val j a d : ℝ) : EReal)) (Fin.ext (by simp; omega)) (Fin.ext (by simp; omega))

theorem pair2_apply (a l : Fin 128) :
    pair2 L (ix3 0 a l) = ((R.val ⟨4 + l.val / 64, by omega⟩ a ⟨l.val % 64, by omega⟩ : ℝ) : EReal) := by
  have e : pair2 L (ix3 0 a l) = if hl : l.val < 64 then out4 L (ix2 ⟨l.val, hl⟩ a) else out5 L (ix2 ⟨l.val - 64, by omega⟩ a) := by
    pointwise [pair2, pair]
  rw [e]
  split_ifs with hl
  · rw [out4_apply h ]
    exact congrArg₂ (fun j d => ((R.val j a d : ℝ) : EReal)) (Fin.ext (by simp; omega)) (Fin.ext (by simp; omega))
  · rw [out5_apply h ]
    exact congrArg₂ (fun j d => ((R.val j a d : ℝ) : EReal)) (Fin.ext (by simp; omega)) (Fin.ext (by simp; omega))

theorem pair3_apply (a l : Fin 128) :
    pair3 L (ix3 0 a l) = ((R.val ⟨6 + l.val / 64, by omega⟩ a ⟨l.val % 64, by omega⟩ : ℝ) : EReal) := by
  have e : pair3 L (ix3 0 a l) = if hl : l.val < 64 then out6 L (ix2 ⟨l.val, hl⟩ a) else out7 L (ix2 ⟨l.val - 64, by omega⟩ a) := by
    pointwise [pair3, pair]
  rw [e]
  split_ifs with hl
  · rw [out6_apply h ]
    exact congrArg₂ (fun j d => ((R.val j a d : ℝ) : EReal)) (Fin.ext (by simp; omega)) (Fin.ext (by simp; omega))
  · rw [out7_apply h ]
    exact congrArg₂ (fun j d => ((R.val j a d : ℝ) : EReal)) (Fin.ext (by simp; omega)) (Fin.ext (by simp; omega))

end Cert.KernelIdeal.Blk

end
-- ==== Proof.KernelIdeal.Prep.lean ====
/- The first loop: keys and values of all 32 blocks, copied block by block, the values key by key along the lanes. -/
module

public import proofs.«01_k».proof.Proof.KernelIdeal.Block
public import proofs.«01_k».proof.Proof.Math

@[expose] public section

set_option maxRecDepth 16384

noncomputable section

namespace Cert.KernelIdeal.Blk

open Idealize.ShloMosaic Idealize.ShloMosaic.TcCoe Idealize.SL Idealize.SL.Sem
open Cert.KernelIdeal Cert.KernelIdeal.Gen Cert.Math

section
variable {F : FTy → Type} [FloatOps F] [Named F]

/-- The 128 rows a trip's sub-block `g` loads. -/
def rows (i : grid0.Coords) (k0_h1 : k0_cond1 i = 1#1) (a : Memref sig .tc .vmem S1x1x4096x128 .f32) (X : BufTy.Contents (Elt F) a.view.ty) (k : Fin k0_t1_loop.trips) (g : Fin 4) : Vec F S1x1x128x128 .f32 :=
  View.readAt (Elt F) a.view (Rect.unit (s := S1x1x4096x128) (k0_off1 k (BitVec.ofNat 32 g.val)) S1x1x128x128.size (k0_off1_inb i k k0_h1 g)).toLoadRect X
/-- Rows as they are. -/
def plain (x : Vec F S1x1x128x128 .f32) : FVec F S1x128x128 .bf16 :=
  shapeCast S1x128x128 (truncf .bf16 (shapeCast S128x128 x shapeCasts_S1x1x128x128_S128x128) bitsLt_bf16_f32) shapeCasts_S128x128_S1x128x128
/-- Rows transposed. -/
def flipped (x : Vec F S1x1x128x128 .f32) : FVec F S1x128x128 .bf16 :=
  shapeCast S1x128x128 (truncf .bf16 (transpose S128x128 [1, 0] (shapeCast S128x128 x shapeCasts_S1x1x128x128_S128x128) transposes_S128x128_p1_0_S128x128) bitsLt_bf16_f32) shapeCasts_S128x128_S1x128x128

variable (𝒱 : Variants) (c : Dev nD) (bd : Option 𝒱.V) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole) (k0_h1 : k0_cond1 i = 1#1) (X_arg5 : BufTy.Contents (Elt F) arg5.view.ty) (X_arg6 : BufTy.Contents (Elt F) arg6.view.ty) (k : Fin k0_t1_loop.trips)

theorem tripL1_fst : (tripL_k0_t1 (F := F) 𝒱 c bd i arg2 harg2 arg3 harg3 arg4 harg4 arg5 harg5 arg6 harg6 arg7 harg7 arg8 harg8 arg9 harg9 arg10 harg10 k0_h1 X_arg5 X_arg6 k).1 = [⟨Rect.unit (k0_off2 k (BitVec.ofNat 32 (3 : Fin 4).val)) ![1, 128, 128] (k0_off2_inb i k k0_h1 3), plain (rows i k0_h1 arg5 X_arg5 k 3)⟩,
        ⟨Rect.unit (k0_off2 k (BitVec.ofNat 32 (2 : Fin 4).val)) ![1, 128, 128] (k0_off2_inb i k k0_h1 2), plain (rows i k0_h1 arg5 X_arg5 k 2)⟩,
        ⟨Rect.unit (k0_off2 k (BitVec.ofNat 32 (1 : Fin 4).val)) ![1, 128, 128] (k0_off2_inb i k k0_h1 1), plain (rows i k0_h1 arg5 X_arg5 k 1)⟩,
        ⟨Rect.unit (k0_off2 k (BitVec.ofNat 32 (0 : Fin 4).val)) ![1, 128, 128] (k0_off2_inb i k k0_h1 0), plain (rows i k0_h1 arg5 X_arg5 k 0)⟩] := by
  unfold tripL_k0_t1 trip_k0_t1
  rfl
theorem tripL1_snd : (tripL_k0_t1 (F := F) 𝒱 c bd i arg2 harg2 arg3 harg3 arg4 harg4 arg5 harg5 arg6 harg6 arg7 harg7 arg8 harg8 arg9 harg9 arg10 harg10 k0_h1 X_arg5 X_arg6 k).2 = [⟨Rect.unit (k0_off2 k (BitVec.ofNat 32 (3 : Fin 4).val)) ![1, 128, 128] (k0_off2_inb i k k0_h1 3), flipped (rows i k0_h1 arg6 X_arg6 k 3)⟩,
        ⟨Rect.unit (k0_off2 k (BitVec.ofNat 32 (2 : Fin 4).val)) ![1, 128, 128] (k0_off2_inb i k k0_h1 2), flipped (rows i k0_h1 arg6 X_arg6 k 2)⟩,
        ⟨Rect.unit (k0_off2 k (BitVec.ofNat 32 (1 : Fin 4).val)) ![1, 128, 128] (k0_off2_inb i k k0_h1 1), flipped (rows i k0_h1 arg6 X_arg6 k 1)⟩,
        ⟨Rect.unit (k0_off2 k (BitVec.ofNat 32 (0 : Fin 4).val)) ![1, 128, 128] (k0_off2_inb i k k0_h1 0), flipped (rows i k0_h1 arg6 X_arg6 k 0)⟩] := by
  unfold tripL_k0_t1 trip_k0_t1
  rfl

/-- A property of every trip's pieces is one of all pieces. -/
theorem pb1_forall (P Q : View.Piece (Elt F) S32x128x128 .bf16 → Prop)
    (hP : ∀ k, ∀ p ∈ (tripL_k0_t1 (F := F) 𝒱 c bd i arg2 harg2 arg3 harg3 arg4 harg4 arg5 harg5 arg6 harg6 arg7 harg7 arg8 harg8 arg9 harg9 arg10 harg10 k0_h1 X_arg5 X_arg6 k).1, P p)
    (hQ : ∀ k, ∀ p ∈ (tripL_k0_t1 (F := F) 𝒱 c bd i arg2 harg2 arg3 harg3 arg4 harg4 arg5 harg5 arg6 harg6 arg7 harg7 arg8 harg8 arg9 harg9 arg10 harg10 k0_h1 X_arg5 X_arg6 k).2, Q p) :
    ∀ n, n ≤ k0_t1_loop.trips → (∀ p ∈ (pb_k0_t1 (F := F) 𝒱 c bd i arg2 harg2 arg3 harg3 arg4 harg4 arg5 harg5 arg6 harg6 arg7 harg7 arg8 harg8 arg9 harg9 arg10 harg10 k0_h1 X_arg5 X_arg6 n).1, P p) ∧ ∀ p ∈ (pb_k0_t1 (F := F) 𝒱 c bd i arg2 harg2 arg3 harg3 arg4 harg4 arg5 harg5 arg6 harg6 arg7 harg7 arg8 harg8 arg9 harg9 arg10 harg10 k0_h1 X_arg5 X_arg6 n).2, Q p
  | 0, _ => ⟨fun p hp => absurd hp List.not_mem_nil, fun p hp => absurd hp List.not_mem_nil⟩
  | n + 1, hn => by
    have ih := pb1_forall P Q hP hQ n (by omega)
    rw [show n + 1 = (⟨n, by omega⟩ : Fin k0_t1_loop.trips).val + 1 from rfl, pb_k0_t1_succ]
    refine ⟨fun p hp => ?_, fun p hp => ?_⟩
    · rcases List.mem_append.1 hp with h | h
      · exact hP _ p h
      · exact ih.1 p h
    · rcases List.mem_append.1 hp with h | h
      · exact hQ _ p h
      · exact ih.2 p h
end

/-- Where a rectangle of unit strides places an index. -/
theorem emb_unit {s : Shape} (off off' size : Fin s.rank → ℕ) (inb) (he : off = off') (y : (Rect.unit (s := s) off size inb).shape.Idx) (z : s.Idx)
    (hz : ∀ a, (z a).val = off' a + (y a).val) : (Rect.unit (s := s) off size inb).emb y = z :=
  funext fun a => Fin.ext (by
    subst he
    show off a + 1 * (y a).val = (z a).val
    rw [hz a, one_mul])
/-- A load of part of an array at an index is the array at the index moved by the offsets. -/
theorem ld_unit {s : Shape} {e : EltTy} {Val : EltTy → Type} (X : s.Idx → Val e) (off off' size : Fin s.rank → ℕ) (inb) (he : off = off') (y : (Rect.unit (s := s) off size inb).shape.Idx) (z : s.Idx)
    (hz : ∀ a, (z a).val = off' a + (y a).val) : View.ld X (Rect.unit (s := s) off size inb) y = X z :=
  congrArg X (emb_unit off off' size inb he y z hz)

theorem off1_eq : ∀ (k : Fin k0_t1_loop.trips) (r : Fin 4), k0_off1 k (BitVec.ofNat 32 r.val) = ![0, 0, 128 * (4 * k.val + r.val), 0] := by decide +kernel
theorem off2_eq : ∀ (k : Fin k0_t1_loop.trips) (r : Fin 4), k0_off2 k (BitVec.ofNat 32 r.val) = ![4 * k.val + r.val, 0, 0] := by decide +kernel

theorem plain_apply (x : Vec Ideal S1x1x128x128 .f32) (a b : Fin 128) : plain x (ix3 0 a b) = x (ix4 0 0 a b) := by
  pointwise [plain]
theorem flipped_apply (x : Vec Ideal S1x1x128x128 .f32) (a b : Fin 128) : flipped x (ix3 0 a b) = x (ix4 0 0 b a) := by
  pointwise [flipped]

theorem rows_apply (i : grid0.Coords) (k0_h1 : k0_cond1 i = 1#1) (a : Memref sig .tc .vmem S1x1x4096x128 .f32) (X : BufTy.Contents (Elt Ideal) a.view.ty) (k : Fin k0_t1_loop.trips) (g : Fin 4) (u v : Fin 128) (n : Fin 4096)
    (hn : n.val = 128 * (4 * k.val + g.val) + u.val) : rows i k0_h1 a X k g (ix4 0 0 u v) = a.view.read (Elt Ideal) X (ix4 0 0 n v) := by
  unfold rows
  rw [View.readAt_eq_ld]
  refine ld_unit _ _ _ _ _ (off1_eq k g) _ _ ?_
  intro d
  fin_cases d <;> simp [hn]

/-- The piece at block `4 k + g` agrees with the whole. -/
theorem piece_agrees (i : grid0.Coords) (k0_h1 : k0_cond1 i = 1#1) (w : FVec Ideal S1x128x128 .bf16) (k : Fin k0_t1_loop.trips) (g : Fin 4) (G : S32x128x128.Idx → EReal)
    (hw : ∀ (n : Fin 32) (a b : Fin 128), n.val = 4 * k.val + g.val → w (ix3 0 a b) = G (ix3 n a b)) :
    ∀ x : S1x128x128.Idx, w x = G ((Rect.unit (s := S32x128x128) (k0_off2 k (BitVec.ofNat 32 g.val)) ![1, 128, 128] (k0_off2_inb i k k0_h1 g)).emb x) := by
  intro x
  have hk : k.val < 8 := Nat.lt_of_lt_of_le k.isLt k0_t1_abs.2.1
  obtain ⟨a, b, rfl⟩ : ∃ a b : Fin 128, x = ix3 (0 : Fin 1) a b := ⟨x 1, x 2, by
    funext d; fin_cases d
    · exact Fin.ext (by have : (x 0).val < 1 := (x 0).isLt; show (x 0).val = 0; omega)
    · rfl
    · rfl⟩
  have he := emb_unit (s := S32x128x128) _ _ ![1, 128, 128] (k0_off2_inb i k k0_h1 g) (off2_eq k g) (ix3 (0 : Fin 1) a b) (ix3 (⟨4 * k.val + g.val, by omega⟩ : Fin 32) a b) (by
    intro d; fin_cases d <;> simp)
  exact (hw _ a b rfl).trans (congrArg G he).symm

variable (𝒱 : Variants) (c : Dev nD) (bd : Option 𝒱.V) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole) (k0_h1 : k0_cond1 i = 1#1) (X_arg5 : BufTy.Contents (Elt Ideal) arg5.view.ty) (X_arg6 : BufTy.Contents (Elt Ideal) arg6.view.ty)

/-- The keys in blocks of 128 positions. -/
def inRows (X : S1x1x4096x128.Idx → EReal) (y : S32x128x128.Idx) : EReal :=
  X (ix4 0 0 ⟨128 * (y 0).val + (y 1).val, by have h0 : (y 0).val < 32 := (y 0).isLt; have h1 : (y 1).val < 128 := (y 1).isLt; omega⟩ (y 2))
/-- The values in blocks of 128 positions, each block transposed. -/
def inCols (X : S1x1x4096x128.Idx → EReal) (y : S32x128x128.Idx) : EReal :=
  X (ix4 0 0 ⟨128 * (y 0).val + (y 2).val, by have h0 : (y 0).val < 32 := (y 0).isLt; have h1 : (y 2).val < 128 := (y 2).isLt; omega⟩ (y 1))

/-- Every piece of the keys' copy agrees with the keys, of the values' with the transposed values. -/
theorem prep_agrees (n) (hn : n ≤ k0_t1_loop.trips) :
    (∀ p ∈ (pb_k0_t1 (F := Ideal) 𝒱 c bd i arg2 harg2 arg3 harg3 arg4 harg4 arg5 harg5 arg6 harg6 arg7 harg7 arg8 harg8 arg9 harg9 arg10 harg10 k0_h1 X_arg5 X_arg6 n).1, ∀ x : p.1.shape.Idx,
      p.2 x = inRows (arg5.view.read (Elt Ideal) X_arg5) (p.1.emb x))
    ∧ ∀ p ∈ (pb_k0_t1 (F := Ideal) 𝒱 c bd i arg2 harg2 arg3 harg3 arg4 harg4 arg5 harg5 arg6 harg6 arg7 harg7 arg8 harg8 arg9 harg9 arg10 harg10 k0_h1 X_arg5 X_arg6 n).2, ∀ x : p.1.shape.Idx,
      p.2 x = inCols (arg6.view.read (Elt Ideal) X_arg6) (p.1.emb x) := by
  refine pb1_forall _ _ _ _ _ _ _ _ _ _ _ _ _ _ _ _ _ _ _ _ _ _ _ _ _ _ _ ?_ ?_ n hn
  · intro k p hp
    rw [tripL1_fst] at hp
    simp only [List.mem_cons, List.not_mem_nil, or_false] at hp
    rcases hp with rfl | rfl | rfl | rfl
    · exact piece_agrees i k0_h1 (plain (rows i k0_h1 arg5 X_arg5 k 3)) k 3 (inRows (arg5.view.read (Elt Ideal) X_arg5)) fun n a b hn => by
        rw [plain_apply]
        exact rows_apply i k0_h1 arg5 X_arg5 k 3 a b ⟨128 * n.val + a.val, by omega⟩ (by show 128 * n.val + a.val = _; rw [hn])
    · exact piece_agrees i k0_h1 (plain (rows i k0_h1 arg5 X_arg5 k 2)) k 2 (inRows (arg5.view.read (Elt Ideal) X_arg5)) fun n a b hn => by
        rw [plain_apply]
        exact rows_apply i k0_h1 arg5 X_arg5 k 2 a b ⟨128 * n.val + a.val, by omega⟩ (by show 128 * n.val + a.val = _; rw [hn])
    · exact piece_agrees i k0_h1 (plain (rows i k0_h1 arg5 X_arg5 k 1)) k 1 (inRows (arg5.view.read (Elt Ideal) X_arg5)) fun n a b hn => by
        rw [plain_apply]
        exact rows_apply i k0_h1 arg5 X_arg5 k 1 a b ⟨128 * n.val + a.val, by omega⟩ (by show 128 * n.val + a.val = _; rw [hn])
    · exact piece_agrees i k0_h1 (plain (rows i k0_h1 arg5 X_arg5 k 0)) k 0 (inRows (arg5.view.read (Elt Ideal) X_arg5)) fun n a b hn => by
        rw [plain_apply]
        exact rows_apply i k0_h1 arg5 X_arg5 k 0 a b ⟨128 * n.val + a.val, by omega⟩ (by show 128 * n.val + a.val = _; rw [hn])
  · intro k p hp
    rw [tripL1_snd] at hp
    simp only [List.mem_cons, List.not_mem_nil, or_false] at hp
    rcases hp with rfl | rfl | rfl | rfl
    · exact piece_agrees i k0_h1 (flipped (rows i k0_h1 arg6 X_arg6 k 3)) k 3 (inCols (arg6.view.read (Elt Ideal) X_arg6)) fun n a b hn => by
        rw [flipped_apply]
        exact rows_apply i k0_h1 arg6 X_arg6 k 3 b a ⟨128 * n.val + b.val, by omega⟩ (by show 128 * n.val + b.val = _; rw [hn])
    · exact piece_agrees i k0_h1 (flipped (rows i k0_h1 arg6 X_arg6 k 2)) k 2 (inCols (arg6.view.read (Elt Ideal) X_arg6)) fun n a b hn => by
        rw [flipped_apply]
        exact rows_apply i k0_h1 arg6 X_arg6 k 2 b a ⟨128 * n.val + b.val, by omega⟩ (by show 128 * n.val + b.val = _; rw [hn])
    · exact piece_agrees i k0_h1 (flipped (rows i k0_h1 arg6 X_arg6 k 1)) k 1 (inCols (arg6.view.read (Elt Ideal) X_arg6)) fun n a b hn => by
        rw [flipped_apply]
        exact rows_apply i k0_h1 arg6 X_arg6 k 1 b a ⟨128 * n.val + b.val, by omega⟩ (by show 128 * n.val + b.val = _; rw [hn])
    · exact piece_agrees i k0_h1 (flipped (rows i k0_h1 arg6 X_arg6 k 0)) k 0 (inCols (arg6.view.read (Elt Ideal) X_arg6)) fun n a b hn => by
        rw [flipped_apply]
        exact rows_apply i k0_h1 arg6 X_arg6 k 0 b a ⟨128 * n.val + b.val, by omega⟩ (by show 128 * n.val + b.val = _; rw [hn])

end Cert.KernelIdeal.Blk

end
-- ==== Proof.KernelIdeal.Tile.lean ====
/- One point of the grid: from what the five arrays hold to what its eight blocks of results are. -/
module

public import proofs.«01_k».proof.Proof.KernelIdeal.BlockVal
public import proofs.«01_k».proof.Proof.KernelIdeal.Prep

@[expose] public section

set_option maxRecDepth 16384

noncomputable section

namespace Cert.KernelIdeal.Blk

open Idealize.ShloMosaic Idealize.ShloMosaic.TcCoe Idealize.SL Idealize.SL.Sem
open Cert.KernelIdeal Cert.KernelIdeal.Gen Cert.Math

/-- Whether a query of a block may see a key: at most 127 positions back, and not before the sequence. The 256 keys are
    those of the block before and those of the block itself. -/
def seen (first : Prop) [Decidable first] (k : Fin 256) (a : Fin 128) : Bool :=
  decide (k.val ≤ a.val + 128 ∧ a.val < k.val ∧ (128 ≤ k.val ∨ ¬first))

theorem seen_pick (n : ℕ) (k : Fin 256) (a : Fin 128) : seen ((if n = 0 then (0 : Fin 2) else 1) = 0) k a = seen (n = 0) k a := by
  unfold seen
  by_cases h : n = 0 <;> simp only [h, if_true, if_false] <;> simp

/-- The real numbers of block `n` of sequence `b`, off the projections `P b position lane` and the sinks. -/
def blockNums (P : ℕ → ℕ → ℕ → ℝ) (SK : Fin 8 → ℝ) (b n : ℕ) : Nums where
  Q p a l := P b (128 * n + a.val) (128 * p.val + l.val)
  K k l := P b (if k.val < 128 then 128 * (n - 1) + k.val else 128 * n + (k.val - 128)) (512 + l.val)
  V l k := P b (if k.val < 128 then 128 * (n - 1) + k.val else 128 * n + (k.val - 128)) (640 + l.val)
  B j k a := -(((2 : ℝ)⁻¹) ^ (j.val + 1) * ((a.val : ℝ) + 128 - k.val))
  ok k a := seen (n = 0) k a
  S := SK

/-- The attention's result at a position and a column. -/
def result (P : ℕ → ℕ → ℕ → ℝ) (SK : Fin 8 → ℝ) (b s : ℕ) (col : Fin 512) : ℝ :=
  (blockNums P SK b (s / 128)).val ⟨col.val / 64, by omega⟩ ⟨s % 128, by omega⟩ ⟨col.val % 64, by omega⟩

theorem result_eq (P : ℕ → ℕ → ℕ → ℝ) (SK : Fin 8 → ℝ) (b s n : ℕ) (col : Fin 512) (a : Fin 128) (h : Fin 8) (d : Fin 64)
    (hs : s = 128 * n + a.val) (hc : col.val = 64 * h.val + d.val) :
    result P SK b s col = (blockNums P SK b n).val h a d := by
  unfold result
  have e1 : s / 128 = n := by omega
  have e2 : (⟨s % 128, by omega⟩ : Fin 128) = a := Fin.ext (by show s % 128 = a.val; omega)
  have e3 : (⟨col.val / 64, by omega⟩ : Fin 8) = h := Fin.ext (by show col.val / 64 = h.val; omega)
  have e4 : (⟨col.val % 64, by omega⟩ : Fin 64) = d := Fin.ext (by show col.val % 64 = d.val; omega)
  rw [e1, e2, e3, e4]

/-- What the arrays hold at point `tb` of sequence `b`: queries, all keys, all values transposed block by block, the
    position terms (divided by log 2; first copy for the first block) and the sinks. -/
structure Holding (P : ℕ → ℕ → ℕ → ℝ) (SK : Fin 8 → ℝ) (b tb : ℕ) (x4 : S4x1x1024x128.Idx → EReal) (x8 x9 : S32x128x128.Idx → EReal)
    (x10 : S8x2x256x128.Idx → EReal) (x3 : S8.Idx → EReal) : Prop where
  q : ∀ (p : Fin 4) (r : Fin 1024) (l : Fin 128), x4 (ix4 p 0 r l) = ((P b (1024 * tb + r.val) (128 * p.val + l.val) : ℝ) : EReal)
  k : ∀ (n : Fin 32) (a l : Fin 128), x8 (ix3 n a l) = ((P b (128 * n.val + a.val) (512 + l.val) : ℝ) : EReal)
  v : ∀ (n : Fin 32) (l a : Fin 128), x9 (ix3 n l a) = ((P b (128 * n.val + a.val) (640 + l.val) : ℝ) : EReal)
  w : ∀ (j : Fin 8) (v : Fin 2) (k : Fin 256) (a : Fin 128), x10 (ix4 j v k a) =
    if seen (v = 0) k a then (((-(((2 : ℝ)⁻¹) ^ (j.val + 1) * ((a.val : ℝ) + 128 - k.val))) * (Real.log 2)⁻¹ : ℝ) : EReal) else ⊥
  s : ∀ j : Fin 8, x3 (ix1 j) = ((SK j : ℝ) : EReal)

theorem off3_eq : ∀ (k : Fin k0_t2_loop.trips) (r : Fin 4), k0_off3 k (BitVec.ofNat 32 r.val) = ![0, 0, 128 * (4 * k.val + r.val), 0] := by decide +kernel
theorem off4_eq : ∀ (k : Fin k0_t2_loop.trips) (r : Fin 4), k0_off4 k (BitVec.ofNat 32 r.val) = ![1, 0, 128 * (4 * k.val + r.val), 0] := by decide +kernel
theorem off5_eq : ∀ (k : Fin k0_t2_loop.trips) (r : Fin 4), k0_off5 k (BitVec.ofNat 32 r.val) = ![2, 0, 128 * (4 * k.val + r.val), 0] := by decide +kernel
theorem off6_eq : ∀ (k : Fin k0_t2_loop.trips) (r : Fin 4), k0_off6 k (BitVec.ofNat 32 r.val) = ![3, 0, 128 * (4 * k.val + r.val), 0] := by decide +kernel
theorem off7_eq : ∀ (t : Fin cfg0.N) (k : Fin k0_t2_loop.trips) (r : Fin 4), k0_off7 (grid0.coords t) k (BitVec.ofNat 32 r.val) = ![8 * (t.val % 4) + 4 * k.val + r.val - 1, 0, 0] := by decide +kernel
theorem off8_eq : ∀ (t : Fin cfg0.N) (k : Fin k0_t2_loop.trips) (r : Fin 4), k0_off8 (grid0.coords t) k (BitVec.ofNat 32 r.val) = ![8 * (t.val % 4) + 4 * k.val + r.val, 0, 0] := by decide +kernel
theorem off9_eq : ∀ (t : Fin cfg0.N) (k : Fin k0_t2_loop.trips) (r : Fin 4), k0_off9 (grid0.coords t) k (BitVec.ofNat 32 r.val) = ![0, if 8 * (t.val % 4) + 4 * k.val + r.val = 0 then 0 else 1, 0, 0] := by decide +kernel
theorem off10_eq : ∀ (t : Fin cfg0.N) (k : Fin k0_t2_loop.trips) (r : Fin 4), k0_off10 (grid0.coords t) k (BitVec.ofNat 32 r.val) = ![1, if 8 * (t.val % 4) + 4 * k.val + r.val = 0 then 0 else 1, 0, 0] := by decide +kernel
theorem off11_eq : ∀ (t : Fin cfg0.N) (k : Fin k0_t2_loop.trips) (r : Fin 4), k0_off11 (grid0.coords t) k (BitVec.ofNat 32 r.val) = ![2, if 8 * (t.val % 4) + 4 * k.val + r.val = 0 then 0 else 1, 0, 0] := by decide +kernel
theorem off12_eq : ∀ (t : Fin cfg0.N) (k : Fin k0_t2_loop.trips) (r : Fin 4), k0_off12 (grid0.coords t) k (BitVec.ofNat 32 r.val) = ![3, if 8 * (t.val % 4) + 4 * k.val + r.val = 0 then 0 else 1, 0, 0] := by decide +kernel
theorem off13_eq : ∀ (t : Fin cfg0.N) (k : Fin k0_t2_loop.trips) (r : Fin 4), k0_off13 (grid0.coords t) k (BitVec.ofNat 32 r.val) = ![4, if 8 * (t.val % 4) + 4 * k.val + r.val = 0 then 0 else 1, 0, 0] := by decide +kernel
theorem off14_eq : ∀ (t : Fin cfg0.N) (k : Fin k0_t2_loop.trips) (r : Fin 4), k0_off14 (grid0.coords t) k (BitVec.ofNat 32 r.val) = ![5, if 8 * (t.val % 4) + 4 * k.val + r.val = 0 then 0 else 1, 0, 0] := by decide +kernel
theorem off15_eq : ∀ (t : Fin cfg0.N) (k : Fin k0_t2_loop.trips) (r : Fin 4), k0_off15 (grid0.coords t) k (BitVec.ofNat 32 r.val) = ![6, if 8 * (t.val % 4) + 4 * k.val + r.val = 0 then 0 else 1, 0, 0] := by decide +kernel
theorem off16_eq : ∀ (t : Fin cfg0.N) (k : Fin k0_t2_loop.trips) (r : Fin 4), k0_off16 (grid0.coords t) k (BitVec.ofNat 32 r.val) = ![7, if 8 * (t.val % 4) + 4 * k.val + r.val = 0 then 0 else 1, 0, 0] := by decide +kernel
theorem off17_eq : ∀ (k : Fin k0_t2_loop.trips) (r : Fin 4), k0_off17 k (BitVec.ofNat 32 r.val) = ![0, 128 * (4 * k.val + r.val), 0] := by decide +kernel
theorem off18_eq : ∀ (k : Fin k0_t2_loop.trips) (r : Fin 4), k0_off18 k (BitVec.ofNat 32 r.val) = ![0, 128 * (4 * k.val + r.val), 128] := by decide +kernel
theorem off19_eq : ∀ (k : Fin k0_t2_loop.trips) (r : Fin 4), k0_off19 k (BitVec.ofNat 32 r.val) = ![0, 128 * (4 * k.val + r.val), 256] := by decide +kernel
theorem off20_eq : ∀ (k : Fin k0_t2_loop.trips) (r : Fin 4), k0_off20 k (BitVec.ofNat 32 r.val) = ![0, 128 * (4 * k.val + r.val), 384] := by decide +kernel
theorem trips2 : ∀ k : Fin k0_t2_loop.trips, k.val < 2 := by decide +kernel

/-- The loads of one block hold the block's numbers. -/
theorem loads_hold (P : ℕ → ℕ → ℕ → ℝ) (SK : Fin 8 → ℝ) (b : ℕ) (t : Fin cfg0.N) (arg3 : Memref sig .tc .smem S8 .f32) (arg4 : Memref sig .tc .vmem S4x1x1024x128 .f32) (arg8 : Memref sig .tc .vmem S32x128x128 .bf16) (arg9 : Memref sig .tc .vmem S32x128x128 .bf16) (arg10 : Memref sig .tc .vmem S8x2x256x128 .f32) (X_arg3 : BufTy.Contents (Elt Ideal) arg3.view.ty) (X_arg4 : BufTy.Contents (Elt Ideal) arg4.view.ty) (X_arg8 : BufTy.Contents (Elt Ideal) arg8.view.ty) (X_arg9 : BufTy.Contents (Elt Ideal) arg9.view.ty) (X_arg10 : BufTy.Contents (Elt Ideal) arg10.view.ty)
    (hold : Holding P SK b (t.val % 4) (arg4.view.read (Elt Ideal) X_arg4) (arg8.view.read (Elt Ideal) X_arg8) (arg9.view.read (Elt Ideal) X_arg9) (arg10.view.read (Elt Ideal) X_arg10) (arg3.view.read (Elt Ideal) X_arg3))
    (k : Fin k0_t2_loop.trips) (g : Fin 4) :
    Holds (loads (grid0.coords t) arg3 arg4 arg8 arg9 arg10 X_arg3 X_arg4 X_arg8 X_arg9 X_arg10 k g) (blockNums P SK b (8 * (t.val % 4) + 4 * k.val + g.val)) where
  q0 u l := by
    have hk := trips2 k
    have e := ld_unit (arg4.view.read (Elt Ideal) X_arg4) _ _ ![1, 1, 128, 128] (k0_off3_inb k g) (off3_eq k g) (ix4 (0 : Fin 1) (0 : Fin 1) u l)
      (ix4 (0 : Fin 4) (0 : Fin 1) (⟨128 * (4 * k.val + g.val) + u.val, by omega⟩ : Fin 1024) l) (by intro d; fin_cases d <;> simp)
    refine (e.trans (hold.q _ _ _)).trans ?_
    show ((P b _ _ : ℝ) : EReal) = ((P b _ _ : ℝ) : EReal)
    congr 2
    show 1024 * (t.val % 4) + (128 * (4 * k.val + g.val) + u.val) = 128 * (8 * (t.val % 4) + 4 * k.val + g.val) + u.val
    omega
  q1 u l := by
    have hk := trips2 k
    have e := ld_unit (arg4.view.read (Elt Ideal) X_arg4) _ _ ![1, 1, 128, 128] (k0_off4_inb k g) (off4_eq k g) (ix4 (0 : Fin 1) (0 : Fin 1) u l)
      (ix4 (1 : Fin 4) (0 : Fin 1) (⟨128 * (4 * k.val + g.val) + u.val, by omega⟩ : Fin 1024) l) (by intro d; fin_cases d <;> simp)
    refine (e.trans (hold.q _ _ _)).trans ?_
    show ((P b _ _ : ℝ) : EReal) = ((P b _ _ : ℝ) : EReal)
    congr 2
    show 1024 * (t.val % 4) + (128 * (4 * k.val + g.val) + u.val) = 128 * (8 * (t.val % 4) + 4 * k.val + g.val) + u.val
    omega
  q2 u l := by
    have hk := trips2 k
    have e := ld_unit (arg4.view.read (Elt Ideal) X_arg4) _ _ ![1, 1, 128, 128] (k0_off5_inb k g) (off5_eq k g) (ix4 (0 : Fin 1) (0 : Fin 1) u l)
      (ix4 (2 : Fin 4) (0 : Fin 1) (⟨128 * (4 * k.val + g.val) + u.val, by omega⟩ : Fin 1024) l) (by intro d; fin_cases d <;> simp)
    refine (e.trans (hold.q _ _ _)).trans ?_
    show ((P b _ _ : ℝ) : EReal) = ((P b _ _ : ℝ) : EReal)
    congr 2
    show 1024 * (t.val % 4) + (128 * (4 * k.val + g.val) + u.val) = 128 * (8 * (t.val % 4) + 4 * k.val + g.val) + u.val
    omega
  q3 u l := by
    have hk := trips2 k
    have e := ld_unit (arg4.view.read (Elt Ideal) X_arg4) _ _ ![1, 1, 128, 128] (k0_off6_inb k g) (off6_eq k g) (ix4 (0 : Fin 1) (0 : Fin 1) u l)
      (ix4 (3 : Fin 4) (0 : Fin 1) (⟨128 * (4 * k.val + g.val) + u.val, by omega⟩ : Fin 1024) l) (by intro d; fin_cases d <;> simp)
    refine (e.trans (hold.q _ _ _)).trans ?_
    show ((P b _ _ : ℝ) : EReal) = ((P b _ _ : ℝ) : EReal)
    congr 2
    show 1024 * (t.val % 4) + (128 * (4 * k.val + g.val) + u.val) = 128 * (8 * (t.val % 4) + 4 * k.val + g.val) + u.val
    omega
  kp u l := by
    have hk := trips2 k
    have e := ld_unit (arg8.view.read (Elt Ideal) X_arg8) _ _ ![1, 128, 128] (k0_off7_inb (grid0.coords t) k g) (off7_eq t k g) (ix3 (0 : Fin 1) u l)
      (ix3 (⟨8 * (t.val % 4) + 4 * k.val + g.val - 1, by omega⟩ : Fin 32) u l) (by intro d; fin_cases d <;> simp)
    refine (e.trans (hold.k _ _ _)).trans ?_
    show ((P b _ _ : ℝ) : EReal) = ((P b _ _ : ℝ) : EReal)
    congr 2
    show _ = (if u.val < 128 then 128 * (8 * (t.val % 4) + 4 * k.val + g.val - 1) + u.val else 128 * (8 * (t.val % 4) + 4 * k.val + g.val) + (u.val - 128))
    split_ifs <;> first | rfl | omega | (show 128 * (8 * (t.val % 4) + 4 * k.val + g.val) + u.val = _; omega)
  kc u l := by
    have hk := trips2 k
    have e := ld_unit (arg8.view.read (Elt Ideal) X_arg8) _ _ ![1, 128, 128] (k0_off8_inb (grid0.coords t) k g) (off8_eq t k g) (ix3 (0 : Fin 1) u l)
      (ix3 (⟨8 * (t.val % 4) + 4 * k.val + g.val, by omega⟩ : Fin 32) u l) (by intro d; fin_cases d <;> simp)
    refine (e.trans (hold.k _ _ _)).trans ?_
    show ((P b _ _ : ℝ) : EReal) = ((P b _ _ : ℝ) : EReal)
    congr 2
    show _ = (if 128 + u.val < 128 then 128 * (8 * (t.val % 4) + 4 * k.val + g.val - 1) + (128 + u.val) else 128 * (8 * (t.val % 4) + 4 * k.val + g.val) + (128 + u.val - 128))
    split_ifs <;> first | rfl | omega | (show 128 * (8 * (t.val % 4) + 4 * k.val + g.val) + u.val = _; omega)
  vp u l := by
    have hk := trips2 k
    have e := ld_unit (arg9.view.read (Elt Ideal) X_arg9) _ _ ![1, 128, 128] (k0_off7_inb (grid0.coords t) k g) (off7_eq t k g) (ix3 (0 : Fin 1) u l)
      (ix3 (⟨8 * (t.val % 4) + 4 * k.val + g.val - 1, by omega⟩ : Fin 32) u l) (by intro d; fin_cases d <;> simp)
    refine (e.trans (hold.v _ _ _)).trans ?_
    show ((P b _ _ : ℝ) : EReal) = ((P b _ _ : ℝ) : EReal)
    congr 2
    show _ = (if l.val < 128 then 128 * (8 * (t.val % 4) + 4 * k.val + g.val - 1) + l.val else 128 * (8 * (t.val % 4) + 4 * k.val + g.val) + (l.val - 128))
    split_ifs <;> first | rfl | omega | (show 128 * (8 * (t.val % 4) + 4 * k.val + g.val) + l.val = _; omega)
  vc u l := by
    have hk := trips2 k
    have e := ld_unit (arg9.view.read (Elt Ideal) X_arg9) _ _ ![1, 128, 128] (k0_off8_inb (grid0.coords t) k g) (off8_eq t k g) (ix3 (0 : Fin 1) u l)
      (ix3 (⟨8 * (t.val % 4) + 4 * k.val + g.val, by omega⟩ : Fin 32) u l) (by intro d; fin_cases d <;> simp)
    refine (e.trans (hold.v _ _ _)).trans ?_
    show ((P b _ _ : ℝ) : EReal) = ((P b _ _ : ℝ) : EReal)
    congr 2
    show _ = (if 128 + l.val < 128 then 128 * (8 * (t.val % 4) + 4 * k.val + g.val - 1) + (128 + l.val) else 128 * (8 * (t.val % 4) + 4 * k.val + g.val) + (128 + l.val - 128))
    split_ifs <;> first | rfl | omega | (show 128 * (8 * (t.val % 4) + 4 * k.val + g.val) + l.val = _; omega)
  b0 u a := by
    have e := ld_unit (arg10.view.read (Elt Ideal) X_arg10) _ _ ![1, 1, 256, 128] (k0_off9_inb (grid0.coords t) k g) (off9_eq t k g) (ix4 (0 : Fin 1) (0 : Fin 1) u a)
      (ix4 (0 : Fin 8) (if 8 * (t.val % 4) + 4 * k.val + g.val = 0 then (0 : Fin 2) else 1) u a) (by intro d; fin_cases d <;> simp; split_ifs <;> rfl)
    refine (e.trans (hold.w _ _ _ _)).trans ?_
    rw [seen_pick]
    rfl
  b1 u a := by
    have e := ld_unit (arg10.view.read (Elt Ideal) X_arg10) _ _ ![1, 1, 256, 128] (k0_off10_inb (grid0.coords t) k g) (off10_eq t k g) (ix4 (0 : Fin 1) (0 : Fin 1) u a)
      (ix4 (1 : Fin 8) (if 8 * (t.val % 4) + 4 * k.val + g.val = 0 then (0 : Fin 2) else 1) u a) (by intro d; fin_cases d <;> simp; split_ifs <;> rfl)
    refine (e.trans (hold.w _ _ _ _)).trans ?_
    rw [seen_pick]
    rfl
  b2 u a := by
    have e := ld_unit (arg10.view.read (Elt Ideal) X_arg10) _ _ ![1, 1, 256, 128] (k0_off11_inb (grid0.coords t) k g) (off11_eq t k g) (ix4 (0 : Fin 1) (0 : Fin 1) u a)
      (ix4 (2 : Fin 8) (if 8 * (t.val % 4) + 4 * k.val + g.val = 0 then (0 : Fin 2) else 1) u a) (by intro d; fin_cases d <;> simp; split_ifs <;> rfl)
    refine (e.trans (hold.w _ _ _ _)).trans ?_
    rw [seen_pick]
    rfl
  b3 u a := by
    have e := ld_unit (arg10.view.read (Elt Ideal) X_arg10) _ _ ![1, 1, 256, 128] (k0_off12_inb (grid0.coords t) k g) (off12_eq t k g) (ix4 (0 : Fin 1) (0 : Fin 1) u a)
      (ix4 (3 : Fin 8) (if 8 * (t.val % 4) + 4 * k.val + g.val = 0 then (0 : Fin 2) else 1) u a) (by intro d; fin_cases d <;> simp; split_ifs <;> rfl)
    refine (e.trans (hold.w _ _ _ _)).trans ?_
    rw [seen_pick]
    rfl
  b4 u a := by
    have e := ld_unit (arg10.view.read (Elt Ideal) X_arg10) _ _ ![1, 1, 256, 128] (k0_off13_inb (grid0.coords t) k g) (off13_eq t k g) (ix4 (0 : Fin 1) (0 : Fin 1) u a)
      (ix4 (4 : Fin 8) (if 8 * (t.val % 4) + 4 * k.val + g.val = 0 then (0 : Fin 2) else 1) u a) (by intro d; fin_cases d <;> simp; split_ifs <;> rfl)
    refine (e.trans (hold.w _ _ _ _)).trans ?_
    rw [seen_pick]
    rfl
  b5 u a := by
    have e := ld_unit (arg10.view.read (Elt Ideal) X_arg10) _ _ ![1, 1, 256, 128] (k0_off14_inb (grid0.coords t) k g) (off14_eq t k g) (ix4 (0 : Fin 1) (0 : Fin 1) u a)
      (ix4 (5 : Fin 8) (if 8 * (t.val % 4) + 4 * k.val + g.val = 0 then (0 : Fin 2) else 1) u a) (by intro d; fin_cases d <;> simp; split_ifs <;> rfl)
    refine (e.trans (hold.w _ _ _ _)).trans ?_
    rw [seen_pick]
    rfl
  b6 u a := by
    have e := ld_unit (arg10.view.read (Elt Ideal) X_arg10) _ _ ![1, 1, 256, 128] (k0_off15_inb (grid0.coords t) k g) (off15_eq t k g) (ix4 (0 : Fin 1) (0 : Fin 1) u a)
      (ix4 (6 : Fin 8) (if 8 * (t.val % 4) + 4 * k.val + g.val = 0 then (0 : Fin 2) else 1) u a) (by intro d; fin_cases d <;> simp; split_ifs <;> rfl)
    refine (e.trans (hold.w _ _ _ _)).trans ?_
    rw [seen_pick]
    rfl
  b7 u a := by
    have e := ld_unit (arg10.view.read (Elt Ideal) X_arg10) _ _ ![1, 1, 256, 128] (k0_off16_inb (grid0.coords t) k g) (off16_eq t k g) (ix4 (0 : Fin 1) (0 : Fin 1) u a)
      (ix4 (7 : Fin 8) (if 8 * (t.val % 4) + 4 * k.val + g.val = 0 then (0 : Fin 2) else 1) u a) (by intro d; fin_cases d <;> simp; split_ifs <;> rfl)
    refine (e.trans (hold.w _ _ _ _)).trans ?_
    rw [seen_pick]
    rfl
  s0 := by
    have e := ld_unit (arg3.view.read (Elt Ideal) X_arg3) _ _ ![1] inb_S8_S1_0 rfl (Shape.Idx.first (by decide)) (ix1 (0 : Fin 8)) (by intro d; fin_cases d; rfl)
    exact e.trans (hold.s _)
  s1 := by
    have e := ld_unit (arg3.view.read (Elt Ideal) X_arg3) _ _ ![1] inb_S8_S1_1 rfl (Shape.Idx.first (by decide)) (ix1 (1 : Fin 8)) (by intro d; fin_cases d; rfl)
    exact e.trans (hold.s _)
  s2 := by
    have e := ld_unit (arg3.view.read (Elt Ideal) X_arg3) _ _ ![1] inb_S8_S1_2 rfl (Shape.Idx.first (by decide)) (ix1 (2 : Fin 8)) (by intro d; fin_cases d; rfl)
    exact e.trans (hold.s _)
  s3 := by
    have e := ld_unit (arg3.view.read (Elt Ideal) X_arg3) _ _ ![1] inb_S8_S1_3 rfl (Shape.Idx.first (by decide)) (ix1 (3 : Fin 8)) (by intro d; fin_cases d; rfl)
    exact e.trans (hold.s _)
  s4 := by
    have e := ld_unit (arg3.view.read (Elt Ideal) X_arg3) _ _ ![1] inb_S8_S1_4 rfl (Shape.Idx.first (by decide)) (ix1 (4 : Fin 8)) (by intro d; fin_cases d; rfl)
    exact e.trans (hold.s _)
  s5 := by
    have e := ld_unit (arg3.view.read (Elt Ideal) X_arg3) _ _ ![1] inb_S8_S1_5 rfl (Shape.Idx.first (by decide)) (ix1 (5 : Fin 8)) (by intro d; fin_cases d; rfl)
    exact e.trans (hold.s _)
  s6 := by
    have e := ld_unit (arg3.view.read (Elt Ideal) X_arg3) _ _ ![1] inb_S8_S1_6 rfl (Shape.Idx.first (by decide)) (ix1 (6 : Fin 8)) (by intro d; fin_cases d; rfl)
    exact e.trans (hold.s _)
  s7 := by
    have e := ld_unit (arg3.view.read (Elt Ideal) X_arg3) _ _ ![1] inb_S8_S1_7 rfl (Shape.Idx.first (by decide)) (ix1 (7 : Fin 8)) (by intro d; fin_cases d; rfl)
    exact e.trans (hold.s _)

/-- Adding nothing to a row changes nothing. -/
theorem add_nothing : (fun m : FVec Ideal S1x128 .f32 => addf m (k0_pay79 (F := Ideal))) = id := by
  funext m i
  obtain ⟨x, y, rfl⟩ : ∃ (x : Fin 1) (y : Fin 128), i = ix2 x y := ⟨i 0, i 1, eq_ix2 i⟩
  unfold_payloads
  pointwise []
  simp [Ideal.ofBits, Ideal.ieee]

/-- The whole block of results a point writes. -/
def tile (P : ℕ → ℕ → ℕ → ℝ) (SK : Fin 8 → ℝ) (b tb : ℕ) (y : S1x1024x512.Idx) : EReal :=
  ((result P SK b (1024 * tb + (y 1).val) (y 2) : ℝ) : EReal)

theorem piece0_agrees (P : ℕ → ℕ → ℕ → ℝ) (SK : Fin 8 → ℝ) (b tb : ℕ) (k : Fin k0_t2_loop.trips) (g : Fin 4) (L : In Ideal)
    (h : Holds L (blockNums P SK b (8 * tb + 4 * k.val + g.val))) (f) (hf : f = id) :
    ∀ x : S1x128x128.Idx, pair0 f L x = tile P SK b tb ((Rect.unit (s := S1x1024x512) (k0_off17 k (BitVec.ofNat 32 g.val)) ![1, 128, 128] (k0_off17_inb k g)).emb x) := by
  intro x
  have hk := trips2 k
  obtain ⟨a, l, rfl⟩ : ∃ a l : Fin 128, x = ix3 (0 : Fin 1) a l := ⟨x 1, x 2, by
    funext d; fin_cases d
    · exact Fin.ext (by have : (x 0).val < 1 := (x 0).isLt; show (x 0).val = 0; omega)
    · rfl
    · rfl⟩
  have he := emb_unit (s := S1x1024x512) _ _ ![1, 128, 128] (k0_off17_inb k g) (off17_eq k g) (ix3 (0 : Fin 1) a l) (ix3 (0 : Fin 1) (⟨128 * (4 * k.val + g.val) + a.val, by omega⟩ : Fin 1024) (⟨0 + l.val, by omega⟩ : Fin 512)) (by
    intro d; fin_cases d <;> simp)
  refine Eq.trans ?_ (congrArg (tile P SK b tb) he).symm
  refine (pair0_apply h f hf a l).trans (congrArg (fun r : ℝ => (r : EReal)) ?_)
  refine (result_eq P SK b _ _ _ _ _ _ ?_ ?_).symm
  · show 1024 * tb + (128 * (4 * k.val + g.val) + a.val) = _; omega
  · show 0 + l.val = 64 * (2 * 0 + l.val / 64) + l.val % 64; omega

theorem piece1_agrees (P : ℕ → ℕ → ℕ → ℝ) (SK : Fin 8 → ℝ) (b tb : ℕ) (k : Fin k0_t2_loop.trips) (g : Fin 4) (L : In Ideal)
    (h : Holds L (blockNums P SK b (8 * tb + 4 * k.val + g.val))) (f) (hf : f = id) :
    ∀ x : S1x128x128.Idx, pair1 f L x = tile P SK b tb ((Rect.unit (s := S1x1024x512) (k0_off18 k (BitVec.ofNat 32 g.val)) ![1, 128, 128] (k0_off18_inb k g)).emb x) := by
  intro x
  have hk := trips2 k
  obtain ⟨a, l, rfl⟩ : ∃ a l : Fin 128, x = ix3 (0 : Fin 1) a l := ⟨x 1, x 2, by
    funext d; fin_cases d
    · exact Fin.ext (by have : (x 0).val < 1 := (x 0).isLt; show (x 0).val = 0; omega)
    · rfl
    · rfl⟩
  have he := emb_unit (s := S1x1024x512) _ _ ![1, 128, 128] (k0_off18_inb k g) (off18_eq k g) (ix3 (0 : Fin 1) a l) (ix3 (0 : Fin 1) (⟨128 * (4 * k.val + g.val) + a.val, by omega⟩ : Fin 1024) (⟨128 + l.val, by omega⟩ : Fin 512)) (by
    intro d; fin_cases d <;> simp)
  refine Eq.trans ?_ (congrArg (tile P SK b tb) he).symm
  refine (pair1_apply h f hf a l).trans (congrArg (fun r : ℝ => (r : EReal)) ?_)
  refine (result_eq P SK b _ _ _ _ _ _ ?_ ?_).symm
  · show 1024 * tb + (128 * (4 * k.val + g.val) + a.val) = _; omega
  · show 128 + l.val = 64 * (2 * 1 + l.val / 64) + l.val % 64; omega

theorem piece2_agrees (P : ℕ → ℕ → ℕ → ℝ) (SK : Fin 8 → ℝ) (b tb : ℕ) (k : Fin k0_t2_loop.trips) (g : Fin 4) (L : In Ideal)
    (h : Holds L (blockNums P SK b (8 * tb + 4 * k.val + g.val))) :
    ∀ x : S1x128x128.Idx, pair2 L x = tile P SK b tb ((Rect.unit (s := S1x1024x512) (k0_off19 k (BitVec.ofNat 32 g.val)) ![1, 128, 128] (k0_off19_inb k g)).emb x) := by
  intro x
  have hk := trips2 k
  obtain ⟨a, l, rfl⟩ : ∃ a l : Fin 128, x = ix3 (0 : Fin 1) a l := ⟨x 1, x 2, by
    funext d; fin_cases d
    · exact Fin.ext (by have : (x 0).val < 1 := (x 0).isLt; show (x 0).val = 0; omega)
    · rfl
    · rfl⟩
  have he := emb_unit (s := S1x1024x512) _ _ ![1, 128, 128] (k0_off19_inb k g) (off19_eq k g) (ix3 (0 : Fin 1) a l) (ix3 (0 : Fin 1) (⟨128 * (4 * k.val + g.val) + a.val, by omega⟩ : Fin 1024) (⟨256 + l.val, by omega⟩ : Fin 512)) (by
    intro d; fin_cases d <;> simp)
  refine Eq.trans ?_ (congrArg (tile P SK b tb) he).symm
  refine (pair2_apply h  a l).trans (congrArg (fun r : ℝ => (r : EReal)) ?_)
  refine (result_eq P SK b _ _ _ _ _ _ ?_ ?_).symm
  · show 1024 * tb + (128 * (4 * k.val + g.val) + a.val) = _; omega
  · show 256 + l.val = 64 * (2 * 2 + l.val / 64) + l.val % 64; omega

theorem piece3_agrees (P : ℕ → ℕ → ℕ → ℝ) (SK : Fin 8 → ℝ) (b tb : ℕ) (k : Fin k0_t2_loop.trips) (g : Fin 4) (L : In Ideal)
    (h : Holds L (blockNums P SK b (8 * tb + 4 * k.val + g.val))) :
    ∀ x : S1x128x128.Idx, pair3 L x = tile P SK b tb ((Rect.unit (s := S1x1024x512) (k0_off20 k (BitVec.ofNat 32 g.val)) ![1, 128, 128] (k0_off20_inb k g)).emb x) := by
  intro x
  have hk := trips2 k
  obtain ⟨a, l, rfl⟩ : ∃ a l : Fin 128, x = ix3 (0 : Fin 1) a l := ⟨x 1, x 2, by
    funext d; fin_cases d
    · exact Fin.ext (by have : (x 0).val < 1 := (x 0).isLt; show (x 0).val = 0; omega)
    · rfl
    · rfl⟩
  have he := emb_unit (s := S1x1024x512) _ _ ![1, 128, 128] (k0_off20_inb k g) (off20_eq k g) (ix3 (0 : Fin 1) a l) (ix3 (0 : Fin 1) (⟨128 * (4 * k.val + g.val) + a.val, by omega⟩ : Fin 1024) (⟨384 + l.val, by omega⟩ : Fin 512)) (by
    intro d; fin_cases d <;> simp)
  refine Eq.trans ?_ (congrArg (tile P SK b tb) he).symm
  refine (pair3_apply h  a l).trans (congrArg (fun r : ℝ => (r : EReal)) ?_)
  refine (result_eq P SK b _ _ _ _ _ _ ?_ ?_).symm
  · show 1024 * tb + (128 * (4 * k.val + g.val) + a.val) = _; omega
  · show 384 + l.val = 64 * (2 * 3 + l.val / 64) + l.val % 64; omega

variable (𝒱 : Variants) (c : Dev nD) (bd : Option 𝒱.V) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole)
section
variable {F : FTy → Type} [FloatOps F] [Named F]
variable (arg1 : BitVec 32) (X_arg3 : BufTy.Contents (Elt F) arg3.view.ty) (X_arg4 : BufTy.Contents (Elt F) arg4.view.ty) (X_arg8 : BufTy.Contents (Elt F) arg8.view.ty) (X_arg9 : BufTy.Contents (Elt F) arg9.view.ty) (X_arg10 : BufTy.Contents (Elt F) arg10.view.ty)
/-- What holds of every trip's pieces holds of all. -/
theorem pb2_forall (P : View.Piece (Elt F) S1x1024x512 .f32 → Prop)
    (hP : ∀ k, ∀ p ∈ (tripL_k0_t2 (F := F) 𝒱 c bd i arg2 harg2 arg3 harg3 arg4 harg4 arg5 harg5 arg6 harg6 arg7 harg7 arg8 harg8 arg9 harg9 arg10 harg10 arg1 X_arg3 X_arg4 X_arg8 X_arg9 X_arg10 k), P p) :
    ∀ n, n ≤ k0_t2_loop.trips → ∀ p ∈ (pb_k0_t2 (F := F) 𝒱 c bd i arg2 harg2 arg3 harg3 arg4 harg4 arg5 harg5 arg6 harg6 arg7 harg7 arg8 harg8 arg9 harg9 arg10 harg10 arg1 X_arg3 X_arg4 X_arg8 X_arg9 X_arg10 n), P p
  | 0, _ => fun p hp => absurd hp List.not_mem_nil
  | n + 1, hn => by
    have ih := pb2_forall P hP n (by omega)
    rw [show n + 1 = (⟨n, by omega⟩ : Fin k0_t2_loop.trips).val + 1 from rfl, pb_k0_t2_succ]
    intro p hp
    rcases List.mem_append.1 hp with h | h
    · exact hP _ p h
    · exact ih p h
end
variable (arg1 : BitVec 32) (X_arg3 : BufTy.Contents (Elt Ideal) arg3.view.ty) (X_arg4 : BufTy.Contents (Elt Ideal) arg4.view.ty) (X_arg8 : BufTy.Contents (Elt Ideal) arg8.view.ty) (X_arg9 : BufTy.Contents (Elt Ideal) arg9.view.ty) (X_arg10 : BufTy.Contents (Elt Ideal) arg10.view.ty)
/-- Every piece of a point's block agrees with the results. -/
theorem tile_agrees (P : ℕ → ℕ → ℕ → ℝ) (SK : Fin 8 → ℝ) (b : ℕ) (t : Fin cfg0.N) (ht : i = grid0.coords t) (hold : Holding P SK b (t.val % 4) (arg4.view.read (Elt Ideal) X_arg4) (arg8.view.read (Elt Ideal) X_arg8) (arg9.view.read (Elt Ideal) X_arg9) (arg10.view.read (Elt Ideal) X_arg10) (arg3.view.read (Elt Ideal) X_arg3)) (n) (hn : n ≤ k0_t2_loop.trips) :
    ∀ p ∈ (pb_k0_t2 (F := Ideal) 𝒱 c bd i arg2 harg2 arg3 harg3 arg4 harg4 arg5 harg5 arg6 harg6 arg7 harg7 arg8 harg8 arg9 harg9 arg10 harg10 arg1 X_arg3 X_arg4 X_arg8 X_arg9 X_arg10 n), ∀ x : p.1.shape.Idx, p.2 x = tile P SK b (t.val % 4) (p.1.emb x) := by
  subst ht
  refine pb2_forall _ _ _ _ _ _ _ _ _ _ _ _ _ _ _ _ _ _ _ _ _ _ _ _ _ _ _ _ _ ?_ n hn
  intro k p hp
  have hl := fun g => loads_hold P SK b t arg3 arg4 arg8 arg9 arg10 X_arg3 X_arg4 X_arg8 X_arg9 X_arg10 hold k g
  rw [show tripL_k0_t2 (F := Ideal) 𝒱 c bd (grid0.coords t) arg2 harg2 arg3 harg3 arg4 harg4 arg5 harg5 arg6 harg6 arg7 harg7 arg8 harg8 arg9 harg9 arg10 harg10 arg1 X_arg3 X_arg4 X_arg8 X_arg9 X_arg10 k = _ from trip_eq 𝒱 c bd (grid0.coords t) arg2 harg2 arg3 harg3 arg4 harg4 arg5 harg5 arg6 harg6 arg7 harg7 arg8 harg8 arg9 harg9 arg10 harg10 arg1 X_arg3 X_arg4 X_arg8 X_arg9 X_arg10 k] at hp
  simp only [List.mem_cons, List.not_mem_nil, or_false] at hp
  rcases hp with rfl | rfl | rfl | rfl | rfl | rfl | rfl | rfl | rfl | rfl | rfl | rfl | rfl | rfl | rfl | rfl
  · exact piece3_agrees P SK b (t.val % 4) k 3 _ (hl 3)
  · exact piece2_agrees P SK b (t.val % 4) k 3 _ (hl 3)
  · exact piece1_agrees P SK b (t.val % 4) k 3 _ (hl 3) _ rfl
  · exact piece0_agrees P SK b (t.val % 4) k 3 _ (hl 3) _ rfl
  · exact piece3_agrees P SK b (t.val % 4) k 2 _ (hl 2)
  · exact piece2_agrees P SK b (t.val % 4) k 2 _ (hl 2)
  · exact piece1_agrees P SK b (t.val % 4) k 2 _ (hl 2) _ rfl
  · exact piece0_agrees P SK b (t.val % 4) k 2 _ (hl 2) _ rfl
  · exact piece3_agrees P SK b (t.val % 4) k 1 _ (hl 1)
  · exact piece2_agrees P SK b (t.val % 4) k 1 _ (hl 1)
  · exact piece1_agrees P SK b (t.val % 4) k 1 _ (hl 1) _ rfl
  · exact piece0_agrees P SK b (t.val % 4) k 1 _ (hl 1) _ rfl
  · exact piece3_agrees P SK b (t.val % 4) k 0 _ (hl 0)
  · exact piece2_agrees P SK b (t.val % 4) k 0 _ (hl 0)
  · exact piece1_agrees P SK b (t.val % 4) k 0 _ (hl 0) _ add_nothing
  · exact piece0_agrees P SK b (t.val % 4) k 0 _ (hl 0) _ add_nothing

end Cert.KernelIdeal.Blk

end
-- ==== Proof.KernelIdeal.Bias.lean ====
/- The position terms a sequence's first point computes: for each head, with and without the block before. -/
module

public import proofs.«01_k».proof.Proof.KernelIdeal.RunA
public import proofs.«01_k».proof.Proof.KernelIdeal.Tile

@[expose] public section

set_option maxRecDepth 16384

noncomputable section

namespace Cert.KernelIdeal.Blk

open Idealize.ShloMosaic Idealize.ShloMosaic.TcCoe Idealize.SL Idealize.SL.Sem
open Cert.KernelIdeal Cert.KernelIdeal.Gen Cert.Math

set_option maxHeartbeats 4000000 in
/-- The sixteen pieces: for each head, the terms of the sequence's first block and of any other. -/
theorem bias_list {F : FTy → Type} [FloatOps F] [Named F] (c : Dev nD) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole) (hc0 : cond0_0 i) (x0 : Vec F S8 .f32) (x1 : Vec F S8 .f32) (x2 : Vec F S4x1x1024x128 .f32) (x3 : Vec F S1x1x4096x128 .f32) (x4 : Vec F S1x1x4096x128 .f32) :
    (kernelRun0_A c i arg2 harg2 arg3 harg3 arg4 harg4 arg5 harg5 arg6 harg6 arg7 harg7 arg8 harg8 arg9 harg9 arg10 harg10 hc0 x0 x1 x2 x3 x4).2.2.2.1 =
      [⟨Rect.unit (s := S8x2x256x128) ![7, 0, 0, 0] ![1, 1, 256, 128] inb_S8x2x256x128_S1x1x256x128_7_0_0_0, k0_pay23 (View.readAt (Elt F) arg2.view (Rect.unit (s := S8) ![7] S1.size inb_S8_S1_7).toLoadRect (harg2.unread x0) (Shape.Idx.first (by decide)))⟩,
        ⟨Rect.unit (s := S8x2x256x128) ![7, 1, 0, 0] ![1, 1, 256, 128] inb_S8x2x256x128_S1x1x256x128_7_1_0_0, k0_pay22 (View.readAt (Elt F) arg2.view (Rect.unit (s := S8) ![7] S1.size inb_S8_S1_7).toLoadRect (harg2.unread x0) (Shape.Idx.first (by decide)))⟩,
        ⟨Rect.unit (s := S8x2x256x128) ![6, 0, 0, 0] ![1, 1, 256, 128] inb_S8x2x256x128_S1x1x256x128_6_0_0_0, k0_pay23 (View.readAt (Elt F) arg2.view (Rect.unit (s := S8) ![6] S1.size inb_S8_S1_6).toLoadRect (harg2.unread x0) (Shape.Idx.first (by decide)))⟩,
        ⟨Rect.unit (s := S8x2x256x128) ![6, 1, 0, 0] ![1, 1, 256, 128] inb_S8x2x256x128_S1x1x256x128_6_1_0_0, k0_pay22 (View.readAt (Elt F) arg2.view (Rect.unit (s := S8) ![6] S1.size inb_S8_S1_6).toLoadRect (harg2.unread x0) (Shape.Idx.first (by decide)))⟩,
        ⟨Rect.unit (s := S8x2x256x128) ![5, 0, 0, 0] ![1, 1, 256, 128] inb_S8x2x256x128_S1x1x256x128_5_0_0_0, k0_pay23 (View.readAt (Elt F) arg2.view (Rect.unit (s := S8) ![5] S1.size inb_S8_S1_5).toLoadRect (harg2.unread x0) (Shape.Idx.first (by decide)))⟩,
        ⟨Rect.unit (s := S8x2x256x128) ![5, 1, 0, 0] ![1, 1, 256, 128] inb_S8x2x256x128_S1x1x256x128_5_1_0_0, k0_pay22 (View.readAt (Elt F) arg2.view (Rect.unit (s := S8) ![5] S1.size inb_S8_S1_5).toLoadRect (harg2.unread x0) (Shape.Idx.first (by decide)))⟩,
        ⟨Rect.unit (s := S8x2x256x128) ![4, 0, 0, 0] ![1, 1, 256, 128] inb_S8x2x256x128_S1x1x256x128_4_0_0_0, k0_pay23 (View.readAt (Elt F) arg2.view (Rect.unit (s := S8) ![4] S1.size inb_S8_S1_4).toLoadRect (harg2.unread x0) (Shape.Idx.first (by decide)))⟩,
        ⟨Rect.unit (s := S8x2x256x128) ![4, 1, 0, 0] ![1, 1, 256, 128] inb_S8x2x256x128_S1x1x256x128_4_1_0_0, k0_pay22 (View.readAt (Elt F) arg2.view (Rect.unit (s := S8) ![4] S1.size inb_S8_S1_4).toLoadRect (harg2.unread x0) (Shape.Idx.first (by decide)))⟩,
        ⟨Rect.unit (s := S8x2x256x128) ![3, 0, 0, 0] ![1, 1, 256, 128] inb_S8x2x256x128_S1x1x256x128_3_0_0_0, k0_pay23 (View.readAt (Elt F) arg2.view (Rect.unit (s := S8) ![3] S1.size inb_S8_S1_3).toLoadRect (harg2.unread x0) (Shape.Idx.first (by decide)))⟩,
        ⟨Rect.unit (s := S8x2x256x128) ![3, 1, 0, 0] ![1, 1, 256, 128] inb_S8x2x256x128_S1x1x256x128_3_1_0_0, k0_pay22 (View.readAt (Elt F) arg2.view (Rect.unit (s := S8) ![3] S1.size inb_S8_S1_3).toLoadRect (harg2.unread x0) (Shape.Idx.first (by decide)))⟩,
        ⟨Rect.unit (s := S8x2x256x128) ![2, 0, 0, 0] ![1, 1, 256, 128] inb_S8x2x256x128_S1x1x256x128_2_0_0_0, k0_pay23 (View.readAt (Elt F) arg2.view (Rect.unit (s := S8) ![2] S1.size inb_S8_S1_2).toLoadRect (harg2.unread x0) (Shape.Idx.first (by decide)))⟩,
        ⟨Rect.unit (s := S8x2x256x128) ![2, 1, 0, 0] ![1, 1, 256, 128] inb_S8x2x256x128_S1x1x256x128_2_1_0_0, k0_pay22 (View.readAt (Elt F) arg2.view (Rect.unit (s := S8) ![2] S1.size inb_S8_S1_2).toLoadRect (harg2.unread x0) (Shape.Idx.first (by decide)))⟩,
        ⟨Rect.unit (s := S8x2x256x128) ![1, 0, 0, 0] ![1, 1, 256, 128] inb_S8x2x256x128_S1x1x256x128_1_0_0_0, k0_pay23 (View.readAt (Elt F) arg2.view (Rect.unit (s := S8) ![1] S1.size inb_S8_S1_1).toLoadRect (harg2.unread x0) (Shape.Idx.first (by decide)))⟩,
        ⟨Rect.unit (s := S8x2x256x128) ![1, 1, 0, 0] ![1, 1, 256, 128] inb_S8x2x256x128_S1x1x256x128_1_1_0_0, k0_pay22 (View.readAt (Elt F) arg2.view (Rect.unit (s := S8) ![1] S1.size inb_S8_S1_1).toLoadRect (harg2.unread x0) (Shape.Idx.first (by decide)))⟩,
        ⟨Rect.unit (s := S8x2x256x128) ![0, 0, 0, 0] ![1, 1, 256, 128] inb_S8x2x256x128_S1x1x256x128_0_0_0_0, k0_pay23 (View.readAt (Elt F) arg2.view (Rect.unit (s := S8) ![0] S1.size inb_S8_S1_0).toLoadRect (harg2.unread x0) (Shape.Idx.first (by decide)))⟩,
        ⟨Rect.unit (s := S8x2x256x128) ![0, 1, 0, 0] ![1, 1, 256, 128] inb_S8x2x256x128_S1x1x256x128_0_1_0_0, k0_pay22 (View.readAt (Elt F) arg2.view (Rect.unit (s := S8) ![0] S1.size inb_S8_S1_0).toLoadRect (harg2.unread x0) (Shape.Idx.first (by decide)))⟩] := by
  unfold kernelRun0_A
  rfl

set_option maxHeartbeats 2000000 in
/-- How far a key lies behind a query. -/
theorem behind : ∀ (k : Fin 256) (a : Fin 128), (IntOp.subi (IntOp.addi (BitVec.ofNat 32 a.val) 128#32) (BitVec.ofNat 32 k.val)).toInt = (a.val : ℤ) + 128 - k.val := by decide +kernel

set_option maxHeartbeats 4000000 in
theorem near : ∀ (k : Fin 256) (a : Fin 128), IntOp.andi
    (IntOp.cmpi CmpIPredicate.sge (IntOp.subi (IntOp.addi (BitVec.ofNat 32 a.val) 128#32) (BitVec.ofNat 32 k.val)) 0#32)
    (IntOp.cmpi CmpIPredicate.slt (IntOp.subi (IntOp.addi (BitVec.ofNat 32 a.val) 128#32) (BitVec.ofNat 32 k.val)) 128#32)
      = if k.val ≤ a.val + 128 ∧ a.val < k.val then 1#1 else 0#1 := by decide +kernel
theorem late : ∀ k : Fin 256, IntOp.cmpi CmpIPredicate.sge (BitVec.ofNat 32 k.val) 128#32 = if 128 ≤ k.val then 1#1 else 0#1 := by decide +kernel
theorem least : Ideal.ofBits FTy.f32 4286578688#32 = ⊥ := by simp [Ideal.ofBits, Ideal.ieee]
/-- One term, from the head's slope. -/
theorem one_term (r : ℝ) (k : Fin 256) (a : Fin 128) : ((0 : EReal) - (r : EReal)) * Named.named (F := Ideal) κ "log2e" (φ := .f32) 1069066811#32 *
    FloatOps.sitofp (F := Ideal) FTy.f32 (IntOp.subi (IntOp.addi (BitVec.ofNat 32 a.val) 128#32) (BitVec.ofNat 32 k.val))
      = (((-(r * ((a.val : ℝ) + 128 - k.val))) * (Real.log 2)⁻¹ : ℝ) : EReal) := by
  have e : FloatOps.sitofp (F := Ideal) FTy.f32 (IntOp.subi (IntOp.addi (BitVec.ofNat 32 a.val) 128#32) (BitVec.ofNat 32 k.val)) = (((a.val : ℝ) + 128 - k.val : ℝ) : EReal) := by
    show (((IntOp.subi (IntOp.addi (BitVec.ofNat 32 a.val) 128#32) (BitVec.ofNat 32 k.val)).toInt : ℝ) : EReal) = _
    rw [behind]; push_cast; rfl
  rw [e, log2e_eq, zero_sub, ← EReal.coe_neg, ← EReal.coe_mul, ← EReal.coe_mul]
  congr 1
  ring

/-- The position terms of a head, for the first block or any other, of a key and a query. -/
def term (j : Fin 8) (v : Fin 2) (k : Fin 256) (a : Fin 128) : EReal :=
  if seen (v = 0) k a then (((-(((2 : ℝ)⁻¹) ^ (j.val + 1) * ((a.val : ℝ) + 128 - k.val))) * (Real.log 2)⁻¹ : ℝ) : EReal) else ⊥
def terms (y : S8x2x256x128.Idx) : EReal := term (y 0) (y 1) (y 2) (y 3)

theorem full_apply (r : ℝ) (k : Fin 256) (a : Fin 128) : k0_pay22 (F := Ideal) (r : EReal) (ix4 0 0 k a) =
    if k.val ≤ a.val + 128 ∧ a.val < k.val then (((-(r * ((a.val : ℝ) + 128 - k.val))) * (Real.log 2)⁻¹ : ℝ) : EReal) else ⊥ := by
  unfold_payloads
  pointwise []
  rw [one_term, near, least]
  split_ifs <;> rfl
theorem first_apply (r : ℝ) (k : Fin 256) (a : Fin 128) : k0_pay23 (F := Ideal) (r : EReal) (ix4 0 0 k a) =
    if k.val ≤ a.val + 128 ∧ a.val < k.val ∧ 128 ≤ k.val then (((-(r * ((a.val : ℝ) + 128 - k.val))) * (Real.log 2)⁻¹ : ℝ) : EReal) else ⊥ := by
  unfold_payloads
  pointwise []
  rw [one_term, near, least, late]
  by_cases h1 : 128 ≤ k.val <;> by_cases h2 : k.val ≤ a.val + 128 ∧ a.val < k.val
  · rw [if_pos h1, if_pos h2, if_pos ⟨h2.1, h2.2, h1⟩]; rfl
  · rw [if_pos h1, if_neg h2, if_neg (fun h => h2 ⟨h.1, h.2.1⟩)]; rfl
  · rw [if_neg h1, if_pos h2, if_neg (fun h => h1 h.2.2)]; rfl
  · rw [if_neg h1, if_neg h2, if_neg (fun h => h1 h.2.2)]; rfl

/-- One piece agrees with the terms. -/
theorem term_piece (w : FVec Ideal S1x1x256x128 .f32) (off) (inb) (j : Fin 8) (v : Fin 2) (ho : off = ![j.val, v.val, 0, 0])
    (h : ∀ (k : Fin 256) (a : Fin 128), w (ix4 0 0 k a) = term j v k a) :
    ∀ x : S1x1x256x128.Idx, w x = terms ((Rect.unit (s := S8x2x256x128) off ![1, 1, 256, 128] inb).emb x) := by
  intro x
  obtain ⟨k, a, rfl⟩ : ∃ (k : Fin 256) (a : Fin 128), x = ix4 (0 : Fin 1) (0 : Fin 1) k a := ⟨x 2, x 3, by
    funext d; fin_cases d
    · exact Fin.ext (by have : (x 0).val < 1 := (x 0).isLt; show (x 0).val = 0; omega)
    · exact Fin.ext (by have : (x 1).val < 1 := (x 1).isLt; show (x 1).val = 0; omega)
    · rfl
    · rfl⟩
  have he := emb_unit (s := S8x2x256x128) off _ ![1, 1, 256, 128] inb ho (ix4 (0 : Fin 1) (0 : Fin 1) k a) (ix4 j v k a) (by
    intro d; fin_cases d <;> simp)
  exact (h k a).trans (congrArg terms he).symm

theorem first_term (r : EReal) (j : Fin 8) (hr : r = ((((2 : ℝ)⁻¹) ^ (j.val + 1) : ℝ) : EReal)) (k : Fin 256) (a : Fin 128) :
    k0_pay23 (F := Ideal) r (ix4 0 0 k a) = term j 0 k a := by
  subst hr
  refine (first_apply _ k a).trans ?_
  unfold term seen
  simp only [not_true_eq_false, or_false, decide_eq_true_eq]
theorem full_term (r : EReal) (j : Fin 8) (hr : r = ((((2 : ℝ)⁻¹) ^ (j.val + 1) : ℝ) : EReal)) (k : Fin 256) (a : Fin 128) :
    k0_pay22 (F := Ideal) r (ix4 0 0 k a) = term j 1 k a := by
  subst hr
  refine (full_apply _ k a).trans ?_
  unfold term seen
  simp

/-- The pieces of the position terms agree with them, the slopes being the negative powers of two. -/
theorem bias_agrees (c : Dev nD) (i : grid0.Coords) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole) (hc0 : cond0_0 i) (x0 : Vec Ideal S8 .f32) (x1 : Vec Ideal S8 .f32) (x2 : Vec Ideal S4x1x1024x128 .f32) (x3 : Vec Ideal S1x1x4096x128 .f32) (x4 : Vec Ideal S1x1x4096x128 .f32) (hx : ∀ j : Fin 8, x0 (ix1 j) = ((((2 : ℝ)⁻¹) ^ (j.val + 1) : ℝ) : EReal)) :
    ∀ p ∈ (kernelRun0_A (F := Ideal) c i arg2 harg2 arg3 harg3 arg4 harg4 arg5 harg5 arg6 harg6 arg7 harg7 arg8 harg8 arg9 harg9 arg10 harg10 hc0 x0 x1 x2 x3 x4).2.2.2.1, ∀ x : p.1.shape.Idx, p.2 x = terms (p.1.emb x) := by
  have hs : ∀ (j : Fin 8) (inb), View.readAt (Elt Ideal) arg2.view (Rect.unit (s := S8) ![j.val] S1.size inb).toLoadRect (harg2.unread x0) (Shape.Idx.first (show 0 < S1.numel by decide)) = ((((2 : ℝ)⁻¹) ^ (j.val + 1) : ℝ) : EReal) := by
    intro j inb
    have e := ld_unit (arg2.view.read (Elt Ideal) (harg2.unread x0)) _ _ ![1] inb rfl (Shape.Idx.first (show 0 < S1.numel by decide)) (ix1 j) (by intro d; fin_cases d; rfl)
    refine e.trans ?_
    rw [harg2.read_unread]
    exact hx j
  intro p hp
  rw [bias_list] at hp
  simp only [List.mem_cons, List.not_mem_nil, or_false] at hp
  rcases hp with rfl | rfl | rfl | rfl | rfl | rfl | rfl | rfl | rfl | rfl | rfl | rfl | rfl | rfl | rfl | rfl
  · exact term_piece _ _ inb_S8x2x256x128_S1x1x256x128_7_0_0_0 7 0 rfl (first_term _ 7 (hs 7 _))
  · exact term_piece _ _ inb_S8x2x256x128_S1x1x256x128_7_1_0_0 7 1 rfl (full_term _ 7 (hs 7 _))
  · exact term_piece _ _ inb_S8x2x256x128_S1x1x256x128_6_0_0_0 6 0 rfl (first_term _ 6 (hs 6 _))
  · exact term_piece _ _ inb_S8x2x256x128_S1x1x256x128_6_1_0_0 6 1 rfl (full_term _ 6 (hs 6 _))
  · exact term_piece _ _ inb_S8x2x256x128_S1x1x256x128_5_0_0_0 5 0 rfl (first_term _ 5 (hs 5 _))
  · exact term_piece _ _ inb_S8x2x256x128_S1x1x256x128_5_1_0_0 5 1 rfl (full_term _ 5 (hs 5 _))
  · exact term_piece _ _ inb_S8x2x256x128_S1x1x256x128_4_0_0_0 4 0 rfl (first_term _ 4 (hs 4 _))
  · exact term_piece _ _ inb_S8x2x256x128_S1x1x256x128_4_1_0_0 4 1 rfl (full_term _ 4 (hs 4 _))
  · exact term_piece _ _ inb_S8x2x256x128_S1x1x256x128_3_0_0_0 3 0 rfl (first_term _ 3 (hs 3 _))
  · exact term_piece _ _ inb_S8x2x256x128_S1x1x256x128_3_1_0_0 3 1 rfl (full_term _ 3 (hs 3 _))
  · exact term_piece _ _ inb_S8x2x256x128_S1x1x256x128_2_0_0_0 2 0 rfl (first_term _ 2 (hs 2 _))
  · exact term_piece _ _ inb_S8x2x256x128_S1x1x256x128_2_1_0_0 2 1 rfl (full_term _ 2 (hs 2 _))
  · exact term_piece _ _ inb_S8x2x256x128_S1x1x256x128_1_0_0_0 1 0 rfl (first_term _ 1 (hs 1 _))
  · exact term_piece _ _ inb_S8x2x256x128_S1x1x256x128_1_1_0_0 1 1 rfl (full_term _ 1 (hs 1 _))
  · exact term_piece _ _ inb_S8x2x256x128_S1x1x256x128_0_0_0_0 0 0 rfl (first_term _ 0 (hs 0 _))
  · exact term_piece _ _ inb_S8x2x256x128_S1x1x256x128_0_1_0_0 0 1 rfl (full_term _ 0 (hs 0 _))

end Cert.KernelIdeal.Blk

end
-- ==== Proof.KernelIdeal.Cases.lean ====
/- The two kinds of point: a sequence's first prepares keys, values and position terms; the others use them. -/
module

public import proofs.«01_k».proof.Proof.KernelIdeal.Frame
public import proofs.«01_k».proof.Proof.KernelIdeal.Bias

@[expose] public section

set_option maxRecDepth 16384

noncomputable section

namespace Cert.KernelIdeal.Blk

open Idealize.ShloMosaic Idealize.ShloMosaic.TcCoe Idealize.SL Idealize.SL.Sem
open Cert.KernelIdeal Cert.KernelIdeal.Gen Cert.Math

/-- What the input blocks hold at point `tb` of sequence `b`. -/
structure Inputs (P : ℕ → ℕ → ℕ → ℝ) (SK : Fin 8 → ℝ) (b tb : ℕ) (x0 x1 : S8.Idx → EReal) (x2 : S4x1x1024x128.Idx → EReal) (x3 x4 : S1x1x4096x128.Idx → EReal) : Prop where
  slope : ∀ j : Fin 8, x0 (ix1 j) = ((((2 : ℝ)⁻¹) ^ (j.val + 1) : ℝ) : EReal)
  sink : ∀ j : Fin 8, x1 (ix1 j) = ((SK j : ℝ) : EReal)
  q : ∀ (p : Fin 4) (r : Fin 1024) (l : Fin 128), x2 (ix4 p 0 r l) = ((P b (1024 * tb + r.val) (128 * p.val + l.val) : ℝ) : EReal)
  k : ∀ (s : Fin 4096) (l : Fin 128), x3 (ix4 0 0 s l) = ((P b s.val (512 + l.val) : ℝ) : EReal)
  v : ∀ (s : Fin 4096) (l : Fin 128), x4 (ix4 0 0 s l) = ((P b s.val (640 + l.val) : ℝ) : EReal)

/-- What the scratch arrays hold from a sequence's first point on. -/
structure Kept (P : ℕ → ℕ → ℕ → ℝ) (b : ℕ) (x8 x9 : S32x128x128.Idx → EReal) (x10 : S8x2x256x128.Idx → EReal) : Prop where
  k : ∀ (n : Fin 32) (a l : Fin 128), x8 (ix3 n a l) = ((P b (128 * n.val + a.val) (512 + l.val) : ℝ) : EReal)
  v : ∀ (n : Fin 32) (l a : Fin 128), x9 (ix3 n l a) = ((P b (128 * n.val + a.val) (640 + l.val) : ℝ) : EReal)
  w : ∀ (j : Fin 8) (v : Fin 2) (k : Fin 256) (a : Fin 128), x10 (ix4 j v k a) = term j v k a

theorem holding (P : ℕ → ℕ → ℕ → ℝ) (SK : Fin 8 → ℝ) (b tb : ℕ) (x0 x1 x2 x3 x4 x8 x9 x10) (hi : Inputs P SK b tb x0 x1 x2 x3 x4) (hk : Kept P b x8 x9 x10) :
    Holding P SK b tb x2 x8 x9 x10 x1 := ⟨hi.q, hk.k, hk.v, hk.w, hi.sink⟩

variable (P : ℕ → ℕ → ℕ → ℝ) (SK : Fin 8 → ℝ) (b : ℕ) (t : Fin cfg0.N) (c : Dev nD) (arg2 : Memref sig .tc .smem S8 .f32) (harg2 : arg2.IsWhole) (arg3 : Memref sig .tc .smem S8 .f32) (harg3 : arg3.IsWhole) (arg4 : Memref sig .tc .vmem S4x1x1024x128 .f32) (harg4 : arg4.IsWhole) (arg5 : Memref sig .tc .vmem S1x1x4096x128 .f32) (harg5 : arg5.IsWhole) (arg6 : Memref sig .tc .vmem S1x1x4096x128 .f32) (harg6 : arg6.IsWhole) (arg7 : Memref sig .tc .vmem S1x1024x512 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S8x2x256x128 .f32) (harg10 : arg10.IsWhole)
section
variable (hc0 : cond0_0 (grid0.coords t)) (x0 : Vec Ideal S8 .f32) (x1 : Vec Ideal S8 .f32) (x2 : Vec Ideal S4x1x1024x128 .f32) (x3 : Vec Ideal S1x1x4096x128 .f32) (x4 : Vec Ideal S1x1x4096x128 .f32)

theorem prep_fst : (kernelRun0_A (F := Ideal) c (grid0.coords t) arg2 harg2 arg3 harg3 arg4 harg4 arg5 harg5 arg6 harg6 arg7 harg7 arg8 harg8 arg9 harg9 arg10 harg10 hc0 x0 x1 x2 x3 x4).2.1 = (pb_k0_t1 (F := Ideal) Variants.none c none (grid0.coords t) arg2 harg2 arg3 harg3 arg4 harg4 arg5 harg5 arg6 harg6 arg7 harg7 arg8 harg8 arg9 harg9 arg10 harg10 hc0 (harg5.unread x3) (harg6.unread x4) k0_t1_loop.trips).1 := by
  unfold kernelRun0_A; rfl
theorem prep_snd : (kernelRun0_A (F := Ideal) c (grid0.coords t) arg2 harg2 arg3 harg3 arg4 harg4 arg5 harg5 arg6 harg6 arg7 harg7 arg8 harg8 arg9 harg9 arg10 harg10 hc0 x0 x1 x2 x3 x4).2.2.1 = (pb_k0_t1 (F := Ideal) Variants.none c none (grid0.coords t) arg2 harg2 arg3 harg3 arg4 harg4 arg5 harg5 arg6 harg6 arg7 harg7 arg8 harg8 arg9 harg9 arg10 harg10 hc0 (harg5.unread x3) (harg6.unread x4) k0_t1_loop.trips).2 := by
  unfold kernelRun0_A; rfl
theorem out_fst : (kernelRun0_A (F := Ideal) c (grid0.coords t) arg2 harg2 arg3 harg3 arg4 harg4 arg5 harg5 arg6 harg6 arg7 harg7 arg8 harg8 arg9 harg9 arg10 harg10 hc0 x0 x1 x2 x3 x4).1 = pb_k0_t2 (F := Ideal) Variants.none c none (grid0.coords t) arg2 harg2 arg3 harg3 arg4 harg4 arg5 harg5 arg6 harg6 arg7 harg7 arg8 harg8 arg9 harg9 arg10 harg10 (BitVec.ofNat 32 (grid0.coords t 1).val) (harg3.unread x1) (harg4.unread x2)
    (arg8.view.writes (Elt Ideal) arg8.view.junk (kernelRun0_A (F := Ideal) c (grid0.coords t) arg2 harg2 arg3 harg3 arg4 harg4 arg5 harg5 arg6 harg6 arg7 harg7 arg8 harg8 arg9 harg9 arg10 harg10 hc0 x0 x1 x2 x3 x4).2.1) (arg9.view.writes (Elt Ideal) arg9.view.junk (kernelRun0_A (F := Ideal) c (grid0.coords t) arg2 harg2 arg3 harg3 arg4 harg4 arg5 harg5 arg6 harg6 arg7 harg7 arg8 harg8 arg9 harg9 arg10 harg10 hc0 x0 x1 x2 x3 x4).2.2.1) (arg10.view.writes (Elt Ideal) arg10.view.junk (kernelRun0_A (F := Ideal) c (grid0.coords t) arg2 harg2 arg3 harg3 arg4 harg4 arg5 harg5 arg6 harg6 arg7 harg7 arg8 harg8 arg9 harg9 arg10 harg10 hc0 x0 x1 x2 x3 x4).2.2.2.1)
    (Scf.trips (0#32) (Scalar.addi 0#32 2#32) 1#32) := by
  unfold kernelRun0_A; rfl

/-- The scratch arrays after a first point, through any view that reads what was written. -/
theorem kept_A (hi : Inputs P SK b (t.val % 4) x0 x1 x2 x3 x4) (v8 : View sig .tc .vmem S32x128x128 .bf16) (v9 : View sig .tc .vmem S32x128x128 .bf16) (v10 : View sig .tc .vmem S8x2x256x128 .f32) :
    Kept P b (v8.read (Elt Ideal) (v8.writes (Elt Ideal) v8.junk (kernelRun0_A (F := Ideal) c (grid0.coords t) arg2 harg2 arg3 harg3 arg4 harg4 arg5 harg5 arg6 harg6 arg7 harg7 arg8 harg8 arg9 harg9 arg10 harg10 hc0 x0 x1 x2 x3 x4).2.1)) (v9.read (Elt Ideal) (v9.writes (Elt Ideal) v9.junk (kernelRun0_A (F := Ideal) c (grid0.coords t) arg2 harg2 arg3 harg3 arg4 harg4 arg5 harg5 arg6 harg6 arg7 harg7 arg8 harg8 arg9 harg9 arg10 harg10 hc0 x0 x1 x2 x3 x4).2.2.1))
      (v10.read (Elt Ideal) (v10.writes (Elt Ideal) v10.junk (kernelRun0_A (F := Ideal) c (grid0.coords t) arg2 harg2 arg3 harg3 arg4 harg4 arg5 harg5 arg6 harg6 arg7 harg7 arg8 harg8 arg9 harg9 arg10 harg10 hc0 x0 x1 x2 x3 x4).2.2.2.1)) where
  k n a l := by
    have h := (prep_agrees Variants.none c none (grid0.coords t) arg2 harg2 arg3 harg3 arg4 harg4 arg5 harg5 arg6 harg6 arg7 harg7 arg8 harg8 arg9 harg9 arg10 harg10 hc0 (harg5.unread x3) (harg6.unread x4) _ (le_refl k0_t1_loop.trips)).1
    rw [harg5.read_unread] at h
    refine (View.read_writes_apply_of_pieces v8 _ (inRows x3) _ (by rw [prep_fst]; exact h) (ix3 n a l) (scover0_A_0 (F := Ideal) c (grid0.coords t) arg2 harg2 arg3 harg3 arg4 harg4 arg5 harg5 arg6 harg6 arg7 harg7 arg8 harg8 arg9 harg9 arg10 harg10 hc0 x0 x1 x2 x3 x4 _)).trans ?_
    exact hi.k _ _
  v n l a := by
    have h := (prep_agrees Variants.none c none (grid0.coords t) arg2 harg2 arg3 harg3 arg4 harg4 arg5 harg5 arg6 harg6 arg7 harg7 arg8 harg8 arg9 harg9 arg10 harg10 hc0 (harg5.unread x3) (harg6.unread x4) _ (le_refl k0_t1_loop.trips)).2
    rw [harg6.read_unread] at h
    refine (View.read_writes_apply_of_pieces v9 _ (inCols x4) _ (by rw [prep_snd]; exact h) (ix3 n l a) (scover0_A_1 (F := Ideal) c (grid0.coords t) arg2 harg2 arg3 harg3 arg4 harg4 arg5 harg5 arg6 harg6 arg7 harg7 arg8 harg8 arg9 harg9 arg10 harg10 hc0 x0 x1 x2 x3 x4 _)).trans ?_
    exact hi.v _ _
  w j v k a :=
    View.read_writes_apply_of_pieces v10 _ terms _ (bias_agrees c (grid0.coords t) arg2 harg2 arg3 harg3 arg4 harg4 arg5 harg5 arg6 harg6 arg7 harg7 arg8 harg8 arg9 harg9 arg10 harg10 hc0 x0 x1 x2 x3 x4 hi.slope) (ix4 j v k a) (scover0_A_2 (F := Ideal) c (grid0.coords t) arg2 harg2 arg3 harg3 arg4 harg4 arg5 harg5 arg6 harg6 arg7 harg7 arg8 harg8 arg9 harg9 arg10 harg10 hc0 x0 x1 x2 x3 x4 _)

theorem kept_sout_A (hi : Inputs P SK b (t.val % 4) x0 x1 x2 x3 x4) : Kept P b (sout0_A_0 (F := Ideal) c (grid0.coords t) arg2 harg2 arg3 harg3 arg4 harg4 arg5 harg5 arg6 harg6 arg7 harg7 arg8 harg8 arg9 harg9 arg10 harg10 hc0 x0 x1 x2 x3 x4) (sout0_A_1 (F := Ideal) c (grid0.coords t) arg2 harg2 arg3 harg3 arg4 harg4 arg5 harg5 arg6 harg6 arg7 harg7 arg8 harg8 arg9 harg9 arg10 harg10 hc0 x0 x1 x2 x3 x4) (sout0_A_2 (F := Ideal) c (grid0.coords t) arg2 harg2 arg3 harg3 arg4 harg4 arg5 harg5 arg6 harg6 arg7 harg7 arg8 harg8 arg9 harg9 arg10 harg10 hc0 x0 x1 x2 x3 x4) :=
  kept_A P SK b t c arg2 harg2 arg3 harg3 arg4 harg4 arg5 harg5 arg6 harg6 arg7 harg7 arg8 harg8 arg9 harg9 arg10 harg10 hc0 x0 x1 x2 x3 x4 hi VS0_0 VS0_1 VS0_2

theorem out_A (hi : Inputs P SK b (t.val % 4) x0 x1 x2 x3 x4) (y : S1x1024x512.Idx) : out0_A_5 (F := Ideal) c (grid0.coords t) arg2 harg2 arg3 harg3 arg4 harg4 arg5 harg5 arg6 harg6 arg7 harg7 arg8 harg8 arg9 harg9 arg10 harg10 hc0 x0 x1 x2 x3 x4 y = tile P SK b (t.val % 4) y := by
  have hk := kept_A P SK b t c arg2 harg2 arg3 harg3 arg4 harg4 arg5 harg5 arg6 harg6 arg7 harg7 arg8 harg8 arg9 harg9 arg10 harg10 hc0 x0 x1 x2 x3 x4 hi arg8.view arg9.view arg10.view
  have hh := holding P SK b (t.val % 4) x0 x1 x2 x3 x4 _ _ _ hi hk
  refine View.read_writes_apply_of_pieces VO0_5 _ (tile P SK b (t.val % 4)) _ ?_ y (cover0_A_5 (F := Ideal) c (grid0.coords t) arg2 harg2 arg3 harg3 arg4 harg4 arg5 harg5 arg6 harg6 arg7 harg7 arg8 harg8 arg9 harg9 arg10 harg10 hc0 x0 x1 x2 x3 x4 y)
  rw [out_fst]
  exact tile_agrees Variants.none c none (grid0.coords t) arg2 harg2 arg3 harg3 arg4 harg4 arg5 harg5 arg6 harg6 arg7 harg7 arg8 harg8 arg9 harg9 arg10 harg10 _ _ _ _ _ _ P SK b t rfl (by rw [harg3.read_unread, harg4.read_unread]; exact hh) _ (le_of_eq rfl)
end
section
variable (hc0 : ¬cond0_0 (grid0.coords t)) (x0 : Vec Ideal S8 .f32) (x1 : Vec Ideal S8 .f32) (x2 : Vec Ideal S4x1x1024x128 .f32) (x3 : Vec Ideal S1x1x4096x128 .f32) (x4 : Vec Ideal S1x1x4096x128 .f32) (xs0 : Vec Ideal S32x128x128 .bf16) (xs1 : Vec Ideal S32x128x128 .bf16) (xs2 : Vec Ideal S8x2x256x128 .f32)

theorem out_fst_B : (kernelRun0_B (F := Ideal) c (grid0.coords t) arg2 harg2 arg3 harg3 arg4 harg4 arg5 harg5 arg6 harg6 arg7 harg7 arg8 harg8 arg9 harg9 arg10 harg10 hc0 x0 x1 x2 x3 x4 xs0 xs1 xs2).1 = pb_k0_t2 (F := Ideal) Variants.none c none (grid0.coords t) arg2 harg2 arg3 harg3 arg4 harg4 arg5 harg5 arg6 harg6 arg7 harg7 arg8 harg8 arg9 harg9 arg10 harg10 (BitVec.ofNat 32 (grid0.coords t 1).val) (harg3.unread x1) (harg4.unread x2)
    (harg8.unread xs0) (harg9.unread xs1) (harg10.unread xs2) (Scf.trips (0#32) (Scalar.addi 0#32 2#32) 1#32) := by
  unfold kernelRun0_B; rfl

theorem out_B (hi : Inputs P SK b (t.val % 4) x0 x1 x2 x3 x4) (hk : Kept P b xs0 xs1 xs2) (y : S1x1024x512.Idx) :
    out0_B_5 (F := Ideal) c (grid0.coords t) arg2 harg2 arg3 harg3 arg4 harg4 arg5 harg5 arg6 harg6 arg7 harg7 arg8 harg8 arg9 harg9 arg10 harg10 hc0 x0 x1 x2 x3 x4 xs0 xs1 xs2 y = tile P SK b (t.val % 4) y := by
  have hh := holding P SK b (t.val % 4) x0 x1 x2 x3 x4 _ _ _ hi hk
  refine View.read_writes_apply_of_pieces VO0_5 _ (tile P SK b (t.val % 4)) _ ?_ y (cover0_B_5 (F := Ideal) c (grid0.coords t) arg2 harg2 arg3 harg3 arg4 harg4 arg5 harg5 arg6 harg6 arg7 harg7 arg8 harg8 arg9 harg9 arg10 harg10 hc0 x0 x1 x2 x3 x4 xs0 xs1 xs2 y)
  rw [out_fst_B]
  exact tile_agrees Variants.none c none (grid0.coords t) arg2 harg2 arg3 harg3 arg4 harg4 arg5 harg5 arg6 harg6 arg7 harg7 arg8 harg8 arg9 harg9 arg10 harg10 _ _ _ _ _ _ P SK b t rfl (by rw [harg3.read_unread, harg4.read_unread, harg8.read_unread, harg9.read_unread, harg10.read_unread]; exact hh) _ (le_of_eq rfl)
end

end Cert.KernelIdeal.Blk

end
-- ==== Proof.KernelIdeal.Inputs.lean ====
/- What the call's input blocks hold, off the projections and the sinks. -/
module

public import proofs.«01_k».proof.Proof.KernelIdeal.Cases

@[expose] public section

set_option maxRecDepth 16384

noncomputable section

namespace Cert.KernelIdeal.Blk

open Idealize.ShloMosaic Idealize.ShloMosaic.TcCoe Idealize.SL Idealize.SL.Sem
open Cert.KernelIdeal Cert.KernelIdeal.Gen Cert.Math

variable (m : (ℓ : Loc nD τ sig) → Buf (Elt Ideal) ℓ) (c : Dev nD)

/-- The projections in slabs of 128 lanes. -/
theorem slabs_eq : V m c main_v1 = transpose S42x8x4096x128 [2,0,1,3] (shapeCast S8x4096x42x128 (m ((c : Thread nD τ).loc main_arg0)) shapeCasts_S8x4096x5376_S8x4096x42x128) transposes_S8x4096x42x128_S42x8x4096x128_2_0_1_3 := rfl

theorem slabs_apply (u : Fin 42) (b : Fin 8) (s : Fin 4096) (l : Fin 128) (col : Fin 5376) (hc : col.val = 128 * u.val + l.val) :
    V m c main_v1 (ix4 u b s l) = m ((c : Thread nD τ).loc main_arg0) (ix3 b s col) := by
  rw [slabs_eq]
  pointwise []
  exact congrArg (fun q => m ((c : Thread nD τ).loc main_arg0) (ix3 b s q)) (Fin.ext (by show u.val * 128 + l.val = col.val; omega))

theorem index_0 : ∀ (t : Fin cfg0.N), win0_0.index t = ![0] := by decide +kernel
theorem index_1 : ∀ (t : Fin cfg0.N), win0_1.index t = ![0] := by decide +kernel
theorem index_2 : ∀ (t : Fin cfg0.N), win0_2.index t = ![0, t.val / 4, t.val % 4, 0] := by decide +kernel
theorem index_3 : ∀ (t : Fin cfg0.N), win0_3.index t = ![4, t.val / 4, 0, 0] := by decide +kernel
theorem index_4 : ∀ (t : Fin cfg0.N), win0_4.index t = ![5, t.val / 4, 0, 0] := by decide +kernel

theorem slope_blk (t : Fin cfg0.N) (j : Fin 8) : iblk m c 0 t (ix1 j) = V m c main_cst (ix1 j) := by
  show V m c main_cst (((cfg0.win 0).blk t).view.emb (ix1 j)) = _
  congr 1
  funext d
  fin_cases d
  apply Fin.ext
  show win0_0.index t 0 * 8 + 1 * j.val = j.val
  rw [index_0]; simp

theorem place : ∀ j : Fin 8, (S8.rowMajor (ix1 j)).val = j.val := by decide +kernel
theorem slope_word (j : Fin 8) : Ideal.ofBits .f32 (lit0 j) = ((((2 : ℝ)⁻¹) ^ (j.val + 1) : ℝ) : EReal) := by
  fin_cases j <;> simp [lit0, Ideal.ofBits, Ideal.ieee]
  all_goals
    rw [← EReal.coe_mul]
    congr 1
    norm_num
theorem slope_val (j : Fin 8) : V m c main_cst (ix1 j) = ((((2 : ℝ)⁻¹) ^ (j.val + 1) : ℝ) : EReal) := by
  show Ideal.ofBits .f32 (lit0 (S8.rowMajor (ix1 j))) = _
  rw [show S8.rowMajor (ix1 j) = j from Fin.ext (place j)]
  exact slope_word j

theorem sink_blk (t : Fin cfg0.N) (j : Fin 8) : iblk m c 1 t (ix1 j) = m ((c : Thread nD τ).loc main_arg1) (ix1 j) := by
  show V m c main_arg1 (((cfg0.win 1).blk t).view.emb (ix1 j)) = V m c main_arg1 (ix1 j)
  congr 1
  funext d
  fin_cases d
  apply Fin.ext
  show win0_1.index t 0 * 8 + 1 * j.val = j.val
  rw [index_1]; simp

theorem slab_blk_3 (t : Fin cfg0.N) (s : Fin 4096) (l : Fin 128) :
    iblk m c 3 t (ix4 (0 : Fin 1) (0 : Fin 1) s l) = V m c main_v1 (ix4 (4 : Fin 42) (⟨t.val / 4, by have := t.isLt; have hN : cfg0.N = 32 := N_0; omega⟩ : Fin 8) s l) := by
  show V m c main_v1 (((cfg0.win 3).blk t).view.emb (ix4 (0 : Fin 1) (0 : Fin 1) s l)) = _
  congr 1
  funext d
  fin_cases d <;> apply Fin.ext
  · show win0_3.index t 0 * 1 + 1 * 0 = 4
    rw [index_3]; rfl
  · show win0_3.index t 1 * 1 + 1 * 0 = t.val / 4
    rw [index_3]; simp
  · show win0_3.index t 2 * 4096 + 1 * s.val = s.val
    rw [index_3]; simp
  · show win0_3.index t 3 * 128 + 1 * l.val = l.val
    rw [index_3]; simp

theorem slab_blk_4 (t : Fin cfg0.N) (s : Fin 4096) (l : Fin 128) :
    iblk m c 4 t (ix4 (0 : Fin 1) (0 : Fin 1) s l) = V m c main_v1 (ix4 (5 : Fin 42) (⟨t.val / 4, by have := t.isLt; have hN : cfg0.N = 32 := N_0; omega⟩ : Fin 8) s l) := by
  show V m c main_v1 (((cfg0.win 4).blk t).view.emb (ix4 (0 : Fin 1) (0 : Fin 1) s l)) = _
  congr 1
  funext d
  fin_cases d <;> apply Fin.ext
  · show win0_4.index t 0 * 1 + 1 * 0 = 5
    rw [index_4]; rfl
  · show win0_4.index t 1 * 1 + 1 * 0 = t.val / 4
    rw [index_4]; simp
  · show win0_4.index t 2 * 4096 + 1 * s.val = s.val
    rw [index_4]; simp
  · show win0_4.index t 3 * 128 + 1 * l.val = l.val
    rw [index_4]; simp

theorem slab_blk_2 (t : Fin cfg0.N) (p : Fin 4) (r : Fin 1024) (l : Fin 128) :
    X0_2 m c t (ix4 p (0 : Fin 1) r l) = V m c main_v1 (ix4 (⟨p.val, by omega⟩ : Fin 42) (⟨t.val / 4, by have := t.isLt; have hN : cfg0.N = 32 := N_0; omega⟩ : Fin 8) (⟨1024 * (t.val % 4) + r.val, by omega⟩ : Fin 4096) l) := by
  unfold X0_2 Pipeline.Window.fill
  rw [dif_pos (moved0_2 t _)]
  show V m c main_v1 (((cfg0.win 2).blk t).view.emb _) = _
  congr 1
  funext d
  fin_cases d <;> apply Fin.ext
  · show win0_2.index t 0 * 4 + 1 * p.val = p.val
    rw [index_2]; simp
  · show win0_2.index t 1 * 1 + 1 * 0 = t.val / 4
    rw [index_2]; simp
  · show win0_2.index t 2 * 1024 + 1 * r.val = 1024 * (t.val % 4) + r.val
    rw [index_2]; simp; omega
  · show win0_2.index t 3 * 128 + 1 * l.val = l.val
    rw [index_2]; simp

/-- The numbers the arguments hold. -/
structure Args (P : ℕ → ℕ → ℕ → ℝ) (SK : Fin 8 → ℝ) : Prop where
  p : ∀ (b : Fin 8) (s : Fin 4096) (l : Fin 5376), m ((c : Thread nD τ).loc main_arg0) (ix3 b s l) = ((P b.val s.val l.val : ℝ) : EReal)
  s : ∀ j : Fin 8, m ((c : Thread nD τ).loc main_arg1) (ix1 j) = ((SK j : ℝ) : EReal)

theorem inputs (P : ℕ → ℕ → ℕ → ℝ) (SK : Fin 8 → ℝ) (h : Args m c P SK) (t : Fin cfg0.N) :
    Inputs P SK (t.val / 4) (t.val % 4) (iblk m c 0 t) (iblk m c 1 t) (X0_2 m c t) (iblk m c 3 t) (iblk m c 4 t) where
  slope j := (slope_blk m c t j).trans (slope_val m c j)
  sink j := (sink_blk m c t j).trans (h.s j)
  q p r l := ((slab_blk_2 m c t p r l).trans (slabs_apply m c _ _ _ _ ⟨128 * p.val + l.val, by omega⟩ rfl)).trans (h.p _ _ _)
  k s l := ((slab_blk_3 m c t s l).trans (slabs_apply m c _ _ _ _ ⟨512 + l.val, by omega⟩ rfl)).trans (h.p _ _ _)
  v s l := ((slab_blk_4 m c t s l).trans (slabs_apply m c _ _ _ _ ⟨640 + l.val, by omega⟩ rfl)).trans (h.p _ _ _)

end Cert.KernelIdeal.Blk

end
-- ==== Proof.KernelIdeal.Value.lean ====
/- What the result array holds: the blocks the points write. -/
module

public import proofs.«01_k».proof.Proof.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 4 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t) (X0_2 m c t) (iblk m c 3 t) (iblk m c 4 t)) := by
  simp only [flushed5, outsAt0_A m c t h0]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 4 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (iblk m c 0 t) (iblk m c 1 t) (X0_2 m c t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed5, outsAt0_B m c t h0]

/-- The index map sends distinct grid points to distinct block indices (decided over the 32 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S8x4096x512.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2) = (dats m 0 c).arrAt 5 cfg0.N :=
  (h c).1 5

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post5 m r h c,
      kept_main_arg0 m r h c,
      kept_main_arg1 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 4)
    stores the scratch whole without reading what it held, and `acc` does not enter there (nor where no point meets the
    conditions: `acc`, never read). -/
def scAt0_0 (c : Dev nD) (n : ℕ) (hb : n < cfg0.N) (acc : Vec F S32x128x128 .bf16) : Vec F S32x128x128 .bf16 :=
  if h0 : n % 4 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2

/-- WHAT CARRIED SCRATCH 0 HOLDS after point `t`: the fold of its run up to `t`, from the reset at the run's first point
    `4·(t / 4)` (Lib/Pipeline/Value.lean `Pipeline.eq_accAt_of_mod`, by the frame's `outsAt0_κ`; without enumerating the points). -/
theorem soutsAt0_0_eq (c : Dev nD) (t : Fin cfg0.N) :
    (outsAt0 m c t.val t.isLt).2.1 = Pipeline.accAt (fun n h => scAt0_0 m c n h (VS0_0.read (Elt F) VS0_0.junk)) (scAt0_0 m c) (4 * (t.val / 4)) (t.val % 4)
      (by have h1 := t.isLt; have h2 := Nat.div_add_mod t.val 4; omega) :=
  Pipeline.eq_accAt_of_mod (fun n h => (outsAt0 m c n h).2.1) 4 (fun n h => scAt0_0 m c n h (VS0_0.read (Elt F) VS0_0.junk)) (scAt0_0 m c)
    (fun n h hn => by
      have hN := lt_of_lt_of_eq h (show cfg0.N = 32 from N_0)
      by_cases h0 : n % 4 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 32 from N_0)
      by_cases h0 : (n + 1) % 4 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the points ≡ 0 (mod 4)
    stores the scratch whole without reading what it held, and `acc` does not enter there (nor where no point meets the
    conditions: `acc`, never read). -/
def scAt0_1 (c : Dev nD) (n : ℕ) (hb : n < cfg0.N) (acc : Vec F S32x128x128 .bf16) : Vec F S32x128x128 .bf16 :=
  if h0 : n % 4 = 0 then
    sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N))
  else
    sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2

/-- WHAT CARRIED SCRATCH 1 HOLDS after point `t`: the fold of its run up to `t`, from the reset at the run's first point
    `4·(t / 4)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.1 = Pipeline.accAt (fun n h => scAt0_1 m c n h (VS0_1.read (Elt F) VS0_1.junk)) (scAt0_1 m c) (4 * (t.val / 4)) (t.val % 4)
      (by have h1 := t.isLt; have h2 := Nat.div_add_mod t.val 4; omega) :=
  Pipeline.eq_accAt_of_mod (fun n h => (outsAt0 m c n h).2.2.1) 4 (fun n h => scAt0_1 m c n h (VS0_1.read (Elt F) VS0_1.junk)) (scAt0_1 m c)
    (fun n h hn => by
      have hN := lt_of_lt_of_eq h (show cfg0.N = 32 from N_0)
      by_cases h0 : n % 4 = 0
      all_goals first | (exfalso; omega) | (rw [outsAt0_A m c ⟨n, h⟩ h0]; dsimp only; unfold scAt0_1; rw [dif_pos h0] <;> try rfl) | (rw [outsAt0_B m c ⟨n, h⟩ h0]; dsimp only; unfold scAt0_1; rw [dif_neg h0] <;> try rfl))
    (fun n h hn => by
      have hN := lt_of_lt_of_eq h (show cfg0.N = 32 from N_0)
      by_cases h0 : (n + 1) % 4 = 0
      all_goals first | (exfalso; omega) | (rw [outsAt0_A m c ⟨n + 1, h⟩ h0]; dsimp only; unfold scAt0_1; rw [dif_pos h0] <;> try rfl) | (rw [outsAt0_B m c ⟨n + 1, h⟩ h0]; dsimp only; unfold scAt0_1; rw [dif_neg h0] <;> try rfl))
    (by decide) t.val t.isLt _

/-! ## Carried scratch 2: what each point leaves in it, and its fold -/

/-- What point `n` leaves in carried scratch 2, over what the point before left in it (`acc`): the case the conditions'
    closed forms select at `n`, the frame's own term for it (`Gen.sout0_κ_2`; anything else the case takes of the point
    before, another carried scratch or an output it reads back, stays `Gen.outsAt0`'s at `n - 1`); a case at the points ≡ 0 (mod 4)
    stores the scratch whole without reading what it held, and `acc` does not enter there (nor where no point meets the
    conditions: `acc`, never read). -/
def scAt0_2 (c : Dev nD) (n : ℕ) (hb : n < cfg0.N) (acc : Vec F S8x2x256x128 .f32) : Vec F S8x2x256x128 .f32 :=
  if h0 : n % 4 = 0 then
    sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N))
  else
    sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc

/-- WHAT CARRIED SCRATCH 2 HOLDS after point `t`: the fold of its run up to `t`, from the reset at the run's first point
    `4·(t / 4)` (Lib/Pipeline/Value.lean `Pipeline.eq_accAt_of_mod`, by the frame's `outsAt0_κ`; without enumerating the points). -/
theorem soutsAt0_2_eq (c : Dev nD) (t : Fin cfg0.N) :
    (outsAt0 m c t.val t.isLt).2.2.2 = Pipeline.accAt (fun n h => scAt0_2 m c n h (VS0_2.read (Elt F) VS0_2.junk)) (scAt0_2 m c) (4 * (t.val / 4)) (t.val % 4)
      (by have h1 := t.isLt; have h2 := Nat.div_add_mod t.val 4; omega) :=
  Pipeline.eq_accAt_of_mod (fun n h => (outsAt0 m c n h).2.2.2) 4 (fun n h => scAt0_2 m c n h (VS0_2.read (Elt F) VS0_2.junk)) (scAt0_2 m c)
    (fun n h hn => by
      have hN := lt_of_lt_of_eq h (show cfg0.N = 32 from N_0)
      by_cases h0 : n % 4 = 0
      all_goals first | (exfalso; omega) | (rw [outsAt0_A m c ⟨n, h⟩ h0]; dsimp only; unfold scAt0_2; rw [dif_pos h0] <;> try rfl) | (rw [outsAt0_B m c ⟨n, h⟩ h0]; dsimp only; unfold scAt0_2; rw [dif_neg h0] <;> try rfl))
    (fun n h hn => by
      have hN := lt_of_lt_of_eq h (show cfg0.N = 32 from N_0)
      by_cases h0 : (n + 1) % 4 = 0
      all_goals first | (exfalso; omega) | (rw [outsAt0_A m c ⟨n + 1, h⟩ h0]; dsimp only; unfold scAt0_2; rw [dif_pos h0] <;> try rfl) | (rw [outsAt0_B m c ⟨n + 1, h⟩ h0]; dsimp only; unfold scAt0_2; rw [dif_neg h0] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x1024x512 .f32 × Vec F S32x128x128 .bf16 × Vec F S32x128x128 .bf16 × Vec F S8x2x256x128 .f32 :=
  ((VO0_5.read (Elt F) VO0_5.junk, VS0_0.read (Elt F) VS0_0.junk, VS0_1.read (Elt F) VS0_1.junk, VS0_2.read (Elt F) VS0_2.junk) : Vec F S1x1024x512 .f32 × Vec F S32x128x128 .bf16 × Vec F S32x128x128 .bf16 × Vec F S8x2x256x128 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x1024x512 .f32 × Vec F S32x128x128 .bf16 × Vec F S32x128x128 .bf16 × Vec F S8x2x256x128 .f32) : Vec F S1x1024x512 .f32 × Vec F S32x128x128 .bf16 × Vec F S32x128x128 .bf16 × Vec F S8x2x256x128 .f32 :=
  if h0 : n % 4 = 0 then
    (out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)), sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)))
  else
    (out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)) acc.2.1 acc.2.2.1 acc.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)) acc.2.1 acc.2.2.1 acc.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)) acc.2.1 acc.2.2.1 acc.2.2.2, sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)) acc.2.1 acc.2.2.1 acc.2.2.2)

/-- `stAt0` at a point of case A: that case's contents. -/
theorem stAt0_A (c : Dev nD) (t : Fin cfg0.N) (acc : Vec F S1x1024x512 .f32 × Vec F S32x128x128 .bf16 × Vec F S32x128x128 .bf16 × Vec F S8x2x256x128 .f32) (h0 : t.val % 4 = 0) :
    stAt0 m c t.val t.isLt acc = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t) (X0_2 m c t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t) (X0_2 m c t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t) (X0_2 m c t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t) (X0_2 m c t) (iblk m c 3 t) (iblk m c 4 t)) :=
  (dif_pos h0).trans rfl

/-- `stAt0` at a point of case B: that case's contents, over `acc`. -/
theorem stAt0_B (c : Dev nD) (t : Fin cfg0.N) (acc : Vec F S1x1024x512 .f32 × Vec F S32x128x128 .bf16 × Vec F S32x128x128 .bf16 × Vec F S8x2x256x128 .f32) (h0 : ¬t.val % 4 = 0) :
    stAt0 m c t.val t.isLt acc = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (iblk m c 0 t) (iblk m c 1 t) (X0_2 m c t) (iblk m c 3 t) (iblk m c 4 t) acc.2.1 acc.2.2.1 acc.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (iblk m c 0 t) (iblk m c 1 t) (X0_2 m c t) (iblk m c 3 t) (iblk m c 4 t) acc.2.1 acc.2.2.1 acc.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (iblk m c 0 t) (iblk m c 1 t) (X0_2 m c t) (iblk m c 3 t) (iblk m c 4 t) acc.2.1 acc.2.2.1 acc.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (iblk m c 0 t) (iblk m c 1 t) (X0_2 m c t) (iblk m c 3 t) (iblk m c 4 t) acc.2.1 acc.2.2.1 acc.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 32 from N_0)
  have e := Pipeline.eq_accAt_of_mod (fun n h => outsAt0 m c n h) 32 (fun n h => stAt0 m c n h junk0) (stAt0 m c)
    (fun n h _ => by
      have hN := lt_of_lt_of_eq h (show cfg0.N = 32 from N_0)
      obtain rfl : n = 0 := by omega
      exact outsAt0_zero m c h)
    (fun n h _ => outsAt0_succ m c n h)
    (by decide) n hn (by have := Nat.div_add_mod n 32; omega)
  have hd : n / 32 = 0 := Nat.div_eq_of_lt hN
  have hm : n % 32 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 5 -/

/-- The block of the array that holds index `i`, numbered in the order the points write the blocks back (one per point),
    `i`'s place in it, and the point that writes it back. -/
abbrev run5Of (i : S8x4096x512.Idx) : ℕ := 4 * ((i 0).val / 1 - 0) + 1 * ((i 1).val / 1024 - 0) + 1 * ((i 2).val / 512 - 0)
set_option backward.proofsInPublic true in
abbrev loc5Of (i : S8x4096x512.Idx) : S1x1024x512.Idx := fun a => match a with
  | ⟨0, _⟩ => ⟨(i 0).val % 1, Nat.mod_lt _ (by decide)⟩
  | ⟨1, _⟩ => ⟨(i 1).val % 1024, Nat.mod_lt _ (by decide)⟩
  | ⟨2, _⟩ => ⟨(i 2).val % 512, Nat.mod_lt _ (by decide)⟩
abbrev pt5Of (i : S8x4096x512.Idx) : ℕ := run5Of i

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v2) := fun i =>
  if h : pt5Of i < cfg0.N then
    (Pipeline.accAt (fun n h => stAt0 m c n h junk0) (stAt0 m c) 0 (pt5Of i) (by omega)).1 (loc5Of i)
  else V m c (Pipeline.arrRef spec0 5) i

/-- The printed index map, decided over the grid: output window 5's block indices stay in the box, and the block number
    read off them is the point's (`t`). -/
theorem idx_facts5 : ∀ t : Fin cfg0.N, 0 ≤ win0_5.index t (0 : Fin 3) ∧ win0_5.index t (0 : Fin 3) ≤ 7
    ∧ 0 ≤ win0_5.index t (1 : Fin 3) ∧ win0_5.index t (1 : Fin 3) ≤ 3
    ∧ 0 ≤ win0_5.index t (2 : Fin 3) ∧ win0_5.index t (2 : Fin 3) ≤ 0
    ∧ 4 * (win0_5.index t (0 : Fin 3) - 0) + 1 * (win0_5.index t (1 : Fin 3) - 0) + 1 * (win0_5.index t (2 : Fin 3) - 0) = t.val :=
  (by decide +kernel : ∀ t : Fin grid0.N, _)

/-- Every block of the box is SOME flushing point's: `onto5Pt`, the point that writes back the block at place `q` of the box. -/
abbrev onto5Pt (q0 : Fin 8) (q1 : Fin 4) (q2 : Fin 1) : Fin grid0.N :=
  ⟨4 * q0.val + 1 * q1.val + 1 * q2.val, lt_of_lt_of_eq (by omega) N_0.symm⟩
theorem idx_onto5 : ∀ (q0 : Fin 8) (q1 : Fin 4) (q2 : Fin 1), ∃ t : Fin cfg0.N, (cfg0.win 5).flush t = true ∧ win0_5.index t = ![q0.val + 0, q1.val + 0, q2.val + 0] :=
  fun q0 q1 q2 => ⟨onto5Pt q0 q1 q2, (by decide +kernel : ∀ (q0 : Fin 8) (q1 : Fin 4) (q2 : Fin 1), win0_5.flush (onto5Pt q0 q1 q2) = true ∧ win0_5.index (onto5Pt q0 q1 q2) = ![q0.val + 0, q1.val + 0, q2.val + 0]) q0 q1 q2⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  obtain ⟨e0, e1, e2, e3⟩ := idx_facts5 t
  funext y
  have hy0 : (y 0).val < 1 := (y 0).isLt
  have hy1 : (y 1).val < 1024 := (y 1).isLt
  have hy2 : (y 2).val < 512 := (y 2).isLt
  have hb0 : (((cfg0.win 5).blk t).view.emb y 0).val = win0_5.index t (0 : Fin 3) * 1 + 1 * (y 0).val := rfl
  have hb1 : (((cfg0.win 5).blk t).view.emb y 1).val = win0_5.index t (1 : Fin 3) * 1024 + 1 * (y 1).val := rfl
  have hb2 : (((cfg0.win 5).blk t).view.emb y 2).val = win0_5.index t (2 : Fin 3) * 512 + 1 * (y 2).val := rfl
  have hr : run5Of (((cfg0.win 5).blk t).view.emb y) = t.val := by
    show 4 * ((((cfg0.win 5).blk t).view.emb y 0).val / 1 - 0) + 1 * ((((cfg0.win 5).blk t).view.emb y 1).val / 1024 - 0) + 1 * ((((cfg0.win 5).blk t).view.emb y 2).val / 512 - 0) = _
    rw [hb0, hb1, hb2]
    rw [show (win0_5.index t (0 : Fin 3) * 1 + 1 * (y 0).val) / 1 = win0_5.index t (0 : Fin 3) from by omega]; rw [show (win0_5.index t (1 : Fin 3) * 1024 + 1 * (y 1).val) / 1024 = win0_5.index t (1 : Fin 3) from by omega]; rw [show (win0_5.index t (2 : Fin 3) * 512 + 1 * (y 2).val) / 512 = win0_5.index t (2 : Fin 3) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 1 = (y 0).val; rw [hb0]; omega
    | ⟨1, _⟩ => show (((cfg0.win 5).blk t).view.emb y 1).val % 1024 = (y 1).val; rw [hb1]; omega
    | ⟨2, _⟩ => show (((cfg0.win 5).blk t).view.emb y 2).val % 512 = (y 2).val; rw [hb2]; omega
  have hp : pt5Of (((cfg0.win 5).blk t).view.emb y) = t.val := by
    exact hr
  show (Pipeline.accAt (fun n h => stAt0 m c n h junk0) (stAt0 m c) 0 t.val _).1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S8x4096x512.Idx) :
    i ∈ ((cfg0.win 5).blk t).view.set ↔ ∀ a : Fin 3, win0_5.index t a * S1x1024x512.size a ≤ (i a).val ∧ (i a).val < win0_5.index t a * S1x1024x512.size a + S1x1024x512.size a := by
  show i ∈ ((View.whole main_v2).slice (win0_5.rect t)).set ↔ _
  rw [View.set_slice_whole, Rect.mem_set_unit]
  exact Iff.rfl

/-- THE COVERED INDICES: in some flushing point's block iff inside the box those blocks fill. -/
theorem covered_iff5 (i : S8x4096x512.Idx) :
    (∃ t : Fin cfg0.N, (cfg0.win 5).flush t = true ∧ i ∈ ((cfg0.win 5).blk t).view.set) ↔ 0 ≤ (i 0).val ∧ (i 0).val < 8 ∧ 0 ≤ (i 1).val ∧ (i 1).val < 4096 ∧ 0 ≤ (i 2).val ∧ (i 2).val < 512 := by
  constructor
  · rintro ⟨t, -, hi⟩
    rw [mem_blk5] at hi
    have b0 : win0_5.index t (0 : Fin 3) * 1 ≤ (i 0).val ∧ (i 0).val < win0_5.index t (0 : Fin 3) * 1 + 1 := hi 0
    have b1 : win0_5.index t (1 : Fin 3) * 1024 ≤ (i 1).val ∧ (i 1).val < win0_5.index t (1 : Fin 3) * 1024 + 1024 := hi 1
    have b2 : win0_5.index t (2 : Fin 3) * 512 ≤ (i 2).val ∧ (i 2).val < win0_5.index t (2 : Fin 3) * 512 + 512 := hi 2
    obtain ⟨e0, e1, e2, e3⟩ := idx_facts5 t
    omega
  · intro h
    have hi0 : (i 0).val < 8 := (i 0).isLt
    have hi1 : (i 1).val < 4096 := (i 1).isLt
    have hi2 : (i 2).val < 512 := (i 2).isLt
    obtain ⟨t, hft, ht⟩ := idx_onto5 ⟨(i 0).val / 1 - 0, by omega⟩ ⟨(i 1).val / 1024 - 0, by omega⟩ ⟨(i 2).val / 512 - 0, by omega⟩
    have q0 : win0_5.index t (0 : Fin 3) = (i 0).val / 1 - 0 + 0 := congrFun ht 0
    have q1 : win0_5.index t (1 : Fin 3) = (i 1).val / 1024 - 0 + 0 := congrFun ht 1
    have q2 : win0_5.index t (2 : Fin 3) = (i 2).val / 512 - 0 + 0 := congrFun ht 2
    refine ⟨t, hft, ?_⟩
    rw [mem_blk5]
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 1024 ≤ (i 1).val ∧ (i 1).val < win0_5.index t (1 : Fin 3) * 1024 + 1024; omega
    | ⟨2, _⟩ => show win0_5.index t (2 : Fin 3) * 512 ≤ (i 2).val ∧ (i 2).val < win0_5.index t (2 : Fin 3) * 512 + 512; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 8 := (i 0).isLt; have h1 : (i 1).val < 4096 := (i 1).isLt; have h2 : (i 2).val < 512 := (i 2).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v2) = G5 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post5 m r h c).trans (final5 m c),
      kept_main_arg0 m r h c,
      kept_main_arg1 m r h c⟩)
    (run_main m ρ)

end Cert.KernelIdeal.Value

end
-- ==== Proof.KernelIdeal.Whole.lean ====
/- What the call's result array holds: the attention's results. -/
module

public import proofs.«01_k».proof.Proof.KernelIdeal.Inputs
public import proofs.«01_k».proof.Proof.KernelIdeal.Value

@[expose] public section

set_option maxRecDepth 16384

noncomputable section

namespace Cert.KernelIdeal.Blk

open Idealize.ShloMosaic Idealize.ShloMosaic.TcCoe Idealize.SL Idealize.SL.Sem
open Cert.KernelIdeal Cert.KernelIdeal.Gen Cert.KernelIdeal.Value Cert.Math

variable (m : (ℓ : Loc nD τ sig) → Buf (Elt Ideal) ℓ) (c : Dev nD)

/-- What a point leaves: the scratch arrays hold the sequence's keys, values and position terms, the output block the
    point's results. -/
def Left (P : ℕ → ℕ → ℕ → ℝ) (SK : Fin 8 → ℝ) (n : ℕ) (o : Vec Ideal S1x1024x512 .f32 × Vec Ideal S32x128x128 .bf16 × Vec Ideal S32x128x128 .bf16 × Vec Ideal S8x2x256x128 .f32) : Prop :=
  Kept P (n / 4) o.2.1 o.2.2.1 o.2.2.2 ∧ ∀ y, o.1 y = tile P SK (n / 4) (n % 4) y

theorem left_A (P : ℕ → ℕ → ℕ → ℝ) (SK : Fin 8 → ℝ) (h : Args m c P SK) (t : Fin cfg0.N) (h0 : t.val % 4 = 0) :
    Left P SK t.val (outsAt0 m c t.val t.isLt) := by
  have hi := inputs m c P SK h t
  rw [outsAt0_A m c t h0]
  refine ⟨?_, ?_⟩
  · dsimp only
    apply kept_sout_A
    exact hi
  · dsimp only
    intro y
    apply out_A
    exact hi

theorem left_B (P : ℕ → ℕ → ℕ → ℝ) (SK : Fin 8 → ℝ) (h : Args m c P SK) (t : Fin cfg0.N) (h0 : ¬t.val % 4 = 0)
    (hb : Left P SK (t.val - 1) (outsAt0 m c (t.val - 1) (Nat.lt_of_le_of_lt (Nat.sub_le _ _) t.isLt))) :
    Left P SK t.val (outsAt0 m c t.val t.isLt) := by
  have hi := inputs m c P SK h t
  have hk := hb.1
  rw [show (t.val - 1) / 4 = t.val / 4 by omega] at hk
  rw [outsAt0_B m c t h0]
  refine ⟨hk, ?_⟩
  dsimp only
  intro y
  apply out_B
  · exact hi
  · exact hk

theorem after_point (P : ℕ → ℕ → ℕ → ℝ) (SK : Fin 8 → ℝ) (h : Args m c P SK) : ∀ (n : ℕ) (hn : n < cfg0.N),
    Left P SK n (outsAt0 m c n hn) := by
  intro n
  induction n with
  | zero => exact fun hn => left_A m c P SK h ⟨0, hn⟩ rfl
  | succ n ih =>
    intro hn
    by_cases h0 : (n + 1) % 4 = 0
    · exact left_A m c P SK h ⟨n + 1, hn⟩ h0
    · exact left_B m c P SK h ⟨n + 1, hn⟩ h0 (ih (by omega))

/-- The result array at a sequence, a position and a column. -/
theorem whole (P : ℕ → ℕ → ℕ → ℝ) (SK : Fin 8 → ℝ) (h : Args m c P SK) (b : Fin 8) (s : Fin 4096) (col : Fin 512) :
    G5 m c (ix3 b s col) = ((result P SK b.val s.val col : ℝ) : EReal) := by
  have hN : cfg0.N = 32 := N_0
  have hp : pt5Of (ix3 b s col) = 4 * b.val + s.val / 1024 := by
    show 4 * (b.val / 1 - 0) + 1 * (s.val / 1024 - 0) + 1 * (col.val / 512 - 0) = _
    omega
  unfold G5
  rw [dif_pos (by rw [hp]; omega), ← outsAt0_sweep m c _ (by rw [hp]; omega), (after_point m c P SK h _ _).2]
  unfold tile
  have e1 : pt5Of (ix3 b s col) / 4 = b.val := by rw [hp]; omega
  have e2 : 1024 * (pt5Of (ix3 b s col) % 4) + (loc5Of (ix3 b s col) 1).val = s.val := by
    rw [hp]; show 1024 * ((4 * b.val + s.val / 1024) % 4) + s.val % 1024 = s.val; omega
  have e3 : (loc5Of (ix3 b s col) 2 : Fin 512) = col := Fin.ext (by show col.val % 512 = col.val; omega)
  rw [e1, e2]
  exact congrArg (fun q : Fin 512 => ((result P SK b.val s.val q : ℝ) : EReal)) e3

end Cert.KernelIdeal.Blk

end
-- ==== Proof.ReferenceIdeal.Scores.lean ====
/- The reference's masked scores, off the projections and the sinks. -/
module

public import proofs.«01_k».proof.Proof.Gen.ReferenceIdeal.Read
public import proofs.«01_k».proof.Proof.KernelIdeal.Bias

@[expose] public section

set_option maxRecDepth 16384

noncomputable section

namespace Cert.ReferenceIdeal.Att

open Idealize.ShloMosaic Idealize.ShloMosaic.TcCoe Idealize.SL Idealize.SL.Sem
open Cert.ReferenceIdeal Cert.ReferenceIdeal.Read Cert.Math
open Cert.KernelIdeal.Blk (Nums blockNums seen behind near result)

variable (P : ℕ → ℕ → ℕ → ℝ) (SK : Fin 8 → ℝ) (x0 : (⟨S8x4096x5376, .f32⟩ : BufTy).Contents (Elt Ideal)) (x1 : (⟨S8, .f32⟩ : BufTy).Contents (Elt Ideal))
  (h0 : ∀ (b : Fin 8) (s : Fin 4096) (l : Fin 5376), x0 (ix3 b s l) = ((P b.val s.val l.val : ℝ) : EReal))
  (h1 : ∀ j : Fin 8, x1 (ix1 j) = ((SK j : ℝ) : EReal))

/-- The keys the reference lays before a block: zeros before the first. -/
def padded (first : Prop) [Decidable first] (k : Fin 256) (x : ℝ) : ℝ := if k.val < 128 ∧ first then 0 else x

theorem padded_zero (first : Prop) [Decidable first] (k : Fin 256) (x : ℝ) (h : k.val < 128 ∧ first) : ((padded first k x : ℝ) : EReal) = 0 :=
  (congrArg _ (if_pos h)).trans EReal.coe_zero

theorem padded_same (first : Prop) [Decidable first] (k : Fin 256) (x : ℝ) (h : ¬(k.val < 128 ∧ first)) : ((padded first k x : ℝ) : EReal) = x :=
  congrArg _ (if_neg h)

include h0 in
theorem keys (b : Fin 8) (g : Fin 2) (n : Fin 32) (k : Fin 256) (d : Fin 64) : val_main_v15 (F := Ideal) x0 (ix5 b g n k d) =
    ((padded (n.val = 0) k ((blockNums P SK b n).K k ⟨64 * g.val + d.val, by omega⟩) : ℝ) : EReal) := by
  pointwise [val_main_v15, val_main_v14, val_main_v13, val_main_v12, val_main_v11, val_main_v10, val_main_v5, val_main_v4, val_main_v3, val_main_cst]
  by_cases hk : k.val < 128
  · refine (dif_pos hk).trans ?_
    by_cases hn : n.val = 0
    · refine (dif_pos (by omega)).trans ?_
      refine Eq.trans ?_ (padded_zero _ _ _ ⟨hk, hn⟩).symm
      simp [Ideal.ofBits, Ideal.ieee]
    · refine (dif_neg (by omega)).trans ?_
      refine (h0 _ _ _).trans (Eq.trans ?_ (padded_same _ _ _ (fun h => hn h.2)).symm)
      show ((P b.val ((n.val - 1) * 128 + k.val) (512 + (g.val * 64 + d.val)) : ℝ) : EReal) = ((P b.val (if k.val < 128 then 128 * (n.val - 1) + k.val else 128 * n.val + (k.val - 128)) (512 + (64 * g.val + d.val)) : ℝ) : EReal)
      rw [if_pos hk, Nat.mul_comm (n.val - 1), Nat.mul_comm g.val]
  · refine (dif_neg hk).trans ?_
    refine (h0 _ _ _).trans (Eq.trans ?_ (padded_same _ _ _ (fun h => hk h.1)).symm)
    show ((P b.val (n.val * 128 + (k.val - 128)) (512 + (g.val * 64 + d.val)) : ℝ) : EReal) = ((P b.val (if k.val < 128 then 128 * (n.val - 1) + k.val else 128 * n.val + (k.val - 128)) (512 + (64 * g.val + d.val)) : ℝ) : EReal)
    rw [if_neg hk, Nat.mul_comm n.val, Nat.mul_comm g.val]

include h0 in
theorem values (b : Fin 8) (g : Fin 2) (n : Fin 32) (k : Fin 256) (d : Fin 64) : val_main_v21 (F := Ideal) x0 (ix5 b g n k d) =
    ((padded (n.val = 0) k ((blockNums P SK b n).V ⟨64 * g.val + d.val, by omega⟩ k) : ℝ) : EReal) := by
  pointwise [val_main_v21, val_main_v20, val_main_v19, val_main_v18, val_main_v17, val_main_v16, val_main_v8, val_main_v7, val_main_v6, val_main_cst_0]
  by_cases hk : k.val < 128
  · refine (dif_pos hk).trans ?_
    by_cases hn : n.val = 0
    · refine (dif_pos (by omega)).trans ?_
      refine Eq.trans ?_ (padded_zero _ _ _ ⟨hk, hn⟩).symm
      simp [Ideal.ofBits, Ideal.ieee]
    · refine (dif_neg (by omega)).trans ?_
      refine (h0 _ _ _).trans (Eq.trans ?_ (padded_same _ _ _ (fun h => hn h.2)).symm)
      show ((P b.val ((n.val - 1) * 128 + k.val) (640 + (g.val * 64 + d.val)) : ℝ) : EReal) = ((P b.val (if k.val < 128 then 128 * (n.val - 1) + k.val else 128 * n.val + (k.val - 128)) (640 + (64 * g.val + d.val)) : ℝ) : EReal)
      rw [if_pos hk, Nat.mul_comm (n.val - 1), Nat.mul_comm g.val]
  · refine (dif_neg hk).trans ?_
    refine (h0 _ _ _).trans (Eq.trans ?_ (padded_same _ _ _ (fun h => hk h.1)).symm)
    show ((P b.val (n.val * 128 + (k.val - 128)) (640 + (g.val * 64 + d.val)) : ℝ) : EReal) = ((P b.val (if k.val < 128 then 128 * (n.val - 1) + k.val else 128 * n.val + (k.val - 128)) (640 + (64 * g.val + d.val)) : ℝ) : EReal)
    rw [if_neg hk, Nat.mul_comm n.val, Nat.mul_comm g.val]

include h0 in
theorem queries (b : Fin 8) (g : Fin 2) (r : Fin 4) (n : Fin 32) (a : Fin 128) (d : Fin 64) : val_main_v9 (F := Ideal) x0 (ix6 b g r n a d) =
    (((blockNums P SK b n).Q ⟨(4 * g.val + r.val) / 2, by omega⟩ a ⟨64 * ((4 * g.val + r.val) % 2) + d.val, by omega⟩ : ℝ) : EReal) := by
  pointwise [val_main_v9, val_main_v2, val_main_v1, val_main_v0]
  rw [h0]
  show ((P _ _ _ : ℝ) : EReal) = ((P _ _ _ : ℝ) : EReal)
  congr 2
  · show n.val * 128 + a.val = 128 * n.val + a.val; omega
  · show g.val * 256 + r.val * 64 + d.val = 128 * ((4 * g.val + r.val) / 2) + (64 * ((4 * g.val + r.val) % 2) + d.val); omega

theorem before : ∀ (n : Fin 32) (k : Fin 256), IntOp.cmpi CmpIPredicate.sge
        (IntOp.addi (IntOp.muli (IntOp.subi (BitVec.ofNat 32 n.val) 1#32) 128#32) (BitVec.ofNat 32 k.val)) 0#32
      = if 128 ≤ k.val ∨ ¬n.val = 0 then 1#1 else 0#1 := by decide +kernel

theorem mask (n : Fin 32) (a : Fin 128) (k : Fin 256) : val_main_v57 (F := Ideal) (ix3 n a k) = if seen (n.val = 0) k a then 1#1 else 0#1 := by
  pointwise [val_main_v57, val_main_v56, val_main_v55, val_main_v54, val_main_v53, val_main_v52, val_main_v51, val_main_v50,val_main_v49,val_main_v48,val_main_v47,val_main_v46,val_main_v45,val_main_v44,val_main_v43,val_main_v42,val_main_v41,val_main_v40,val_main_v39,val_main_v38,val_main_v37,val_main_v36,val_main_v35,val_main_v34,val_main_v33,val_main_v32,val_main_v31,val_main_v30,val_main_v29,val_main_v28,val_main_v27,val_main_v26,
    val_main_c, val_main_c_2, val_main_c_3, val_main_c_4, val_main_c_5, val_main_c_6]
  rw [near, before]
  unfold seen
  by_cases h1 : k.val ≤ a.val + 128 ∧ a.val < k.val <;> by_cases h2 : 128 ≤ k.val ∨ ¬n.val = 0
  · rw [if_pos h1, if_pos h2, if_pos (decide_eq_true ⟨h1.1, h1.2, h2⟩)]; rfl
  · rw [if_pos h1, if_neg h2, if_neg (fun h => h2 (of_decide_eq_true h).2.2)]; rfl
  · rw [if_neg h1, if_pos h2, if_neg (fun h => h1 ⟨(of_decide_eq_true h).1, (of_decide_eq_true h).2.1⟩)]; rfl
  · rw [if_neg h1, if_neg h2, if_neg (fun h => h2 (of_decide_eq_true h).2.2)]; rfl

theorem slopes (j : Fin 8) : val_main_v66 (F := Ideal) (ix1 j) = ((((2 : ℝ)⁻¹) ^ (j.val + 1) : ℝ) : EReal) := by
  pointwise [val_main_v66, val_main_v65, val_main_v64, val_main_v63, val_main_v62, val_main_v61, val_main_v60, val_main_v59, val_main_v58, val_main_cst_7, val_main_cst_8, val_main_cst_9, val_main_cst_10, val_main_cst_11, val_main_cst_12, val_main_cst_13, val_main_cst_14]
  fin_cases j <;> simp [Ideal.ofBits, Ideal.ieee]
  all_goals
    rw [← EReal.coe_mul]
    congr 1
    norm_num

theorem distance (a : Fin 128) (k : Fin 256) : val_main_v69 (F := Ideal) (ix2 a k) = (((a.val : ℝ) + 128 - k.val : ℝ) : EReal) := by
  pointwise [val_main_v69, val_main_v34,val_main_v33,val_main_v32,val_main_v31,val_main_v30,val_main_v29,val_main_v28,val_main_v27,val_main_v26, val_main_c]
  show (((IntOp.subi (IntOp.addi (BitVec.ofNat 32 a.val) 128#32) (BitVec.ofNat 32 k.val)).toInt : ℝ) : EReal) = _
  rw [behind]; push_cast; rfl

theorem position (b : Fin 8) (g : Fin 2) (r : Fin 4) (n : Fin 32) (a : Fin 128) (k : Fin 256) : val_main_v75 (F := Ideal) (ix6 b g r n a k) =
    (((((2 : ℝ)⁻¹) ^ (4 * g.val + r.val + 1)) * ((a.val : ℝ) + 128 - k.val) : ℝ) : EReal) := by
  pointwise [val_main_v75, val_main_v74, val_main_v73, val_main_v72, val_main_v71, val_main_v70, val_main_v68, val_main_v67]
  rw [distance, slopes, ← EReal.coe_mul]
  show ((((2 : ℝ)⁻¹) ^ (g.val * 4 + r.val + 1) * _ : ℝ) : EReal) = _
  rw [Nat.mul_comm g.val 4]

include h0 in
theorem scores (b : Fin 8) (g : Fin 2) (r : Fin 4) (n : Fin 32) (a : Fin 128) (k : Fin 256) : val_main_v25 (F := Ideal) x0 (ix6 b g r n a k) =
    (((∑ d : Fin 64, padded (n.val = 0) k ((blockNums P SK b n).K k ⟨64 * g.val + d.val, by omega⟩) * (blockNums P SK b n).Q ⟨(4 * g.val + r.val) / 2, by omega⟩ a ⟨64 * ((4 * g.val + r.val) % 2) + d.val, by omega⟩) * (1 / 8) : ℝ) : EReal) := by
  pointwise [val_main_v25, val_main_v24, val_main_v23, val_main_v22, val_main_cst_1]
  simp only [keys P SK x0 h0, queries P SK x0 h0]
  rw [show Ideal.ofBits FTy.f32 1040187392#32 = ((1 / 8 : ℝ) : EReal) by
    simp [Ideal.ofBits, Ideal.ieee]
    rw [← EReal.coe_mul]; congr 1; norm_num]
  simp only [← EReal.coe_mul, ← coe_sum]

include h0 in
/-- A masked score: the score of the block where the key is seen, minus infinity elsewhere. -/
theorem masked (b : Fin 8) (g : Fin 2) (r : Fin 4) (n : Fin 32) (a : Fin 128) (k : Fin 256) : val_main_v77 (F := Ideal) x0 (ix6 b g r n a k) =
    if seen (n.val = 0) k a = true then (((blockNums P SK b n).score ⟨4 * g.val + r.val, by omega⟩ a k : ℝ) : EReal) else ⊥ := by
  pointwise [val_main_v77, val_main_v76, val_main_call0_v1, val_main_call0_v2, val_main_call0_v0, val_main_cst_15]
  rw [mask]
  by_cases h : seen (n.val = 0) k a = true
  · rw [if_pos h, if_pos h]
    refine Eq.trans (b := val_main_v25 x0 (ix6 b g r n a k) - val_main_v75 (ix6 b g r n a k)) rfl ?_
    rw [scores P SK x0 h0, position, ← EReal.coe_sub]
    congr 1
    have hs := of_decide_eq_true h
    have hp : ∀ x, padded (n.val = 0) k x = x := fun x => if_neg (fun q => hs.2.2.elim (fun z => absurd q.1 (by omega)) (fun z => z q.2))
    simp only [hp]
    unfold Nums.score
    rw [sub_eq_add_neg]
    have e : (4 * g.val + r.val) / 4 = g.val := by omega
    simp only [e]
    rfl
  · rw [if_neg h, if_neg h]
    exact Cert.KernelIdeal.Blk.least

theorem sinks (g : Fin 2) (r : Fin 4) : val_main_v79 (F := Ideal) x1 (ix5 g r 0 0 0) = x1 (ix1 ⟨g.val * 4 + r.val, by omega⟩) := by
  pointwise [val_main_v79, val_main_v78]

end Cert.ReferenceIdeal.Att

end
-- ==== Proof.ReferenceIdeal.Result.lean ====
/- What the reference's result holds. -/
module

public import proofs.«01_k».proof.Proof.ReferenceIdeal.Scores

@[expose] public section

set_option maxRecDepth 16384

noncomputable section

namespace Cert.Math

/-- Scores and values of the keys that are not seen do not matter. -/
theorem attn_congr {n : ℕ} (ok : Fin n → Prop) [DecidablePred ok] (e : Fin n → ℝ) (s : ℝ) (v v' : Fin n → ℝ)
    (hv : ∀ k, ok k → v k = v' k) : attn ok e s v = attn ok e s v' := by
  unfold attn
  congr 1
  refine Finset.sum_congr rfl fun k _ => ?_
  unfold wt
  split_ifs with h
  · rw [hv k h]
  · rw [zero_mul, zero_mul]

end Cert.Math

namespace Cert.ReferenceIdeal.Att

open Idealize.ShloMosaic Idealize.ShloMosaic.TcCoe Idealize.SL Idealize.SL.Sem
open Cert.ReferenceIdeal Cert.ReferenceIdeal.Read Cert.Math
open Cert.KernelIdeal.Blk (Nums blockNums seen behind near result)

variable (P : ℕ → ℕ → ℕ → ℝ) (SK : Fin 8 → ℝ) (x0 : (⟨S8x4096x5376, .f32⟩ : BufTy).Contents (Elt Ideal)) (x1 : (⟨S8, .f32⟩ : BufTy).Contents (Elt Ideal))
  (h0 : ∀ (b : Fin 8) (s : Fin 4096) (l : Fin 5376), x0 (ix3 b s l) = ((P b.val s.val l.val : ℝ) : EReal))
  (h1 : ∀ j : Fin 8, x1 (ix1 j) = ((SK j : ℝ) : EReal))

include h0 in
theorem masked_ne (b : Fin 8) (g : Fin 2) (r : Fin 4) (n : Fin 32) (a : Fin 128) (k : Fin 256) : val_main_v77 (F := Ideal) x0 (ix6 b g r n a k) ≠ ⊤ := by
  rw [masked P (fun _ => 0) x0 h0]
  split
  · exact EReal.coe_ne_top _
  · exact bot_ne_top

include h1 in
theorem sink (g : Fin 2) (r : Fin 4) : val_main_v79 (F := Ideal) x1 (ix5 g r 0 0 0) = ((SK ⟨4 * g.val + r.val, by omega⟩ : ℝ) : EReal) := by
  rw [sinks, h1]
  have e : (⟨g.val * 4 + r.val, by omega⟩ : Fin 8) = ⟨4 * g.val + r.val, by omega⟩ := Fin.ext (by show g.val * 4 + r.val = 4 * g.val + r.val; omega)
  rw [e]

theorem top_of (b : Fin 8) (g : Fin 2) (r : Fin 4) (n : Fin 32) (a : Fin 128) : val_main_v84 (F := Ideal) x0 x1 (ix6 b g r n a 0) =
    max (val_main_v80 (F := Ideal) x0 (ix5 b g r n a)) (val_main_v79 (F := Ideal) x1 (ix5 g r 0 0 0)) := by
  rw [val_main_v84_apply, val_main_v83_apply, val_main_v82_apply, val_main_v81_apply,
    show idx_main_v81 (ix6 b g r n a 0) = ix5 b g r n a from (eq_ix5 _).trans rfl,
    show idx_main_v82 (idx_main_v83 (ix6 b g r n a 0)) = ix5 g r 0 0 0 from (eq_ix5 _).trans rfl]
  rfl

theorem most (i : S8x2x4x32x128.Idx) : ∃ t : Finset S8x2x4x32x128x256.Idx,
    val_main_v80 (F := Ideal) x0 i = t.fold max ⊥ (val_main_v77 (F := Ideal) x0) := by
  unfold val_main_v80
  generalize val_main_v77 (F := Ideal) x0 = y
  have hz : val_main_cst_16 (F := Ideal) (Shape.Idx.first Gen.h_S_) = ⊥ := Cert.KernelIdeal.Blk.least
  refine ⟨Finset.univ.filter fun j => Gen.reducesTo_S8x2x4x32x128x256_S8x2x4x32x128_d5.drop j = i, ?_⟩
  rw [← hz]
  pointwise []

include h0 h1 in
/-- The number subtracted before the exponential is a real number. -/
theorem tops (b : Fin 8) (g : Fin 2) (r : Fin 4) (n : Fin 32) (a : Fin 128) :
    ∃ m : ℝ, val_main_v84 (F := Ideal) x0 x1 (ix6 b g r n a 0) = (m : EReal) := by
  obtain ⟨t, ht⟩ := most x0 (ix5 b g r n a)
  rw [top_of, ht, sink SK x1 h1]
  refine top_coe t ⊥ (val_main_v77 (F := Ideal) x0) bot_ne_top ?_ _
  intro i
  rw [eq_ix6 i]
  exact masked_ne P x0 h0 _ _ _ _ _ _

theorem weight (b : Fin 8) (g : Fin 2) (r : Fin 4) (n : Fin 32) (a : Fin 128) (k : Fin 256) : val_main_v87 (F := Ideal) x0 x1 (ix6 b g r n a k) =
    Ideal.exp (val_main_v77 (F := Ideal) x0 (ix6 b g r n a k) - val_main_v84 (F := Ideal) x0 x1 (ix6 b g r n a 0)) := by
  pointwise [val_main_v87, val_main_v86, val_main_v85]

theorem weights (b : Fin 8) (g : Fin 2) (r : Fin 4) (n : Fin 32) (a : Fin 128) : val_main_v88 (F := Ideal) x0 x1 (ix5 b g r n a) =
    ∑ k : Fin 256, Ideal.exp (val_main_v77 (F := Ideal) x0 (ix6 b g r n a k) - val_main_v84 (F := Ideal) x0 x1 (ix6 b g r n a 0)) := by
  rw [val_main_v88_apply]
  have hz : val_main_cst_17 (F := Ideal) (Shape.Idx.first Gen.h_S_) = 0 := by
    unfold val_main_cst_17
    pointwise []
  rw [hz, zero_add]
  refine Finset.sum_congr rfl fun k _ => ?_
  rw [show idx_main_v88 (ix5 b g r n a) k = ix6 b g r n a k from (eq_ix6 _).trans rfl]
  exact weight x0 x1 b g r n a k

theorem share (b : Fin 8) (g : Fin 2) (r : Fin 4) (n : Fin 32) (a : Fin 128) (k : Fin 256) : val_main_v96 (F := Ideal) x0 x1 (ix6 b g r n a k) =
    Ideal.div (val_main_v87 (F := Ideal) x0 x1 (ix6 b g r n a k)) (val_main_v88 (F := Ideal) x0 x1 (ix5 b g r n a)
      + Ideal.exp (val_main_v79 (F := Ideal) x1 (ix5 g r 0 0 0) - val_main_v84 (F := Ideal) x0 x1 (ix6 b g r n a 0))) := by
  pointwise [val_main_v96, val_main_v95, val_main_v94, val_main_v93, val_main_v92, val_main_v91, val_main_v90, val_main_v89]

theorem out (b : Fin 8) (s : Fin 4096) (c : Fin 512) : val_main_v101 (F := Ideal) x0 x1 (ix3 b s c) =
    ∑ k : Fin 256, val_main_v21 (F := Ideal) x0 (ix5 b ⟨c.val / 256, by omega⟩ ⟨s.val / 128, by omega⟩ k ⟨c.val % 64, by omega⟩)
      * val_main_v96 (F := Ideal) x0 x1 (ix6 b ⟨c.val / 256, by omega⟩ ⟨c.val / 64 % 4, by omega⟩ ⟨s.val / 128, by omega⟩ ⟨s.val % 128, by omega⟩ k) := by
  pointwise [val_main_v101, val_main_v100, val_main_v99, val_main_v98, val_main_v97]

include h0 h1 in
/-- One query's result in one lane. -/
theorem lane (b : Fin 8) (g : Fin 2) (r : Fin 4) (n : Fin 32) (a : Fin 128) (d : Fin 64) :
    ∑ k : Fin 256, val_main_v21 (F := Ideal) x0 (ix5 b g n k d) * val_main_v96 (F := Ideal) x0 x1 (ix6 b g r n a k)
      = (((blockNums P SK b n).val ⟨4 * g.val + r.val, by omega⟩ a d : ℝ) : EReal) := by
  obtain ⟨m, hm⟩ := tops P SK x0 x1 h0 h1 b g r n a
  simp only [share, weights, weight, hm, sink SK x1 h1, values P SK x0 h0, masked P SK x0 h0]
  refine (reference_way (fun k => seen (n.val = 0) k a = true) _ _ _ _).trans (congrArg _ ?_)
  refine (attn_congr _ _ _ _ (fun k => (blockNums P SK b n).V ⟨64 * g.val + d.val, by omega⟩ k) ?_).trans ?_
  · intro k h
    have hs := of_decide_eq_true h
    exact if_neg (fun q => hs.2.2.elim (fun z => absurd q.1 (by omega)) (fun z => z q.2))
  · unfold Nums.val
    have e : (4 * g.val + r.val) / 4 = g.val := by omega
    simp only [e]
    rfl

include h0 h1 in
theorem whole (b : Fin 8) (s : Fin 4096) (c : Fin 512) : val_main_v101 (F := Ideal) x0 x1 (ix3 b s c) = ((result P SK b s c : ℝ) : EReal) := by
  rw [out, lane P SK x0 x1 h0 h1]
  unfold result
  have e : 4 * (c.val / 256) + c.val / 64 % 4 = c.val / 64 := by omega
  simp only [e]

end Cert.ReferenceIdeal.Att

end
-- ==== Proof.Agree.lean ====
/- The call and the reference, on one projection and one list of sinks of real numbers, hold the same result. -/
module

public import proofs.«01_k».proof.Proof.Finite
public import proofs.«01_k».proof.Proof.KernelIdeal.Whole
public import proofs.«01_k».proof.Proof.ReferenceIdeal.Result

@[expose] public section

noncomputable section

namespace Cert.Agree

open Idealize.ShloMosaic Idealize.ShloMosaic.TcCoe Idealize.SL.Sem

/-- The projection as real numbers, indexed by naturals. -/
def reals (x : Cert.Pre_finite.S8x4096x5376.Idx → EReal) (b s l : ℕ) : ℝ :=
  if h : b < 8 ∧ s < 4096 ∧ l < 5376 then (x (ix3 ⟨b, h.1⟩ ⟨s, h.2.1⟩ ⟨l, h.2.2⟩)).toReal else 0

theorem reals_val (x : Cert.Pre_finite.S8x4096x5376.Idx → EReal) (hx : ∀ i, (((x i).toReal : ℝ) : EReal) = x i)
    (b : Fin 8) (s : Fin 4096) (l : Fin 5376) : x (ix3 b s l) = ((reals x b.val s.val l.val : ℝ) : EReal) := by
  unfold reals
  rw [dif_pos ⟨b.isLt, s.isLt, l.isLt⟩]
  exact (hx _).symm

theorem equal (m : (ℓ : Loc Cert.KernelIdeal.nD Cert.KernelIdeal.τ Cert.KernelIdeal.sig) → Buf (Elt Ideal) ℓ) (c : Dev Cert.KernelIdeal.nD)
    (h : Cert.Pre_finite.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) :
    Cert.ReferenceIdeal.Read.val_main_v101 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = Cert.KernelIdeal.Value.G5 m c := by
  have hr := Cert.Pre_finite.real _ _ h
  have h0 := reals_val _ hr.1
  have h1 := fun j : Fin 8 => (hr.2 (ix1 j)).symm
  funext i
  rw [eq_ix3 i]
  exact (Cert.ReferenceIdeal.Att.whole _ _ _ _ h0 h1 (i 0) (i 1) (i 2)).trans (Cert.KernelIdeal.Blk.whole m c _ _ ⟨h0, h1⟩ (i 0) (i 1) (i 2)).symm

end Cert.Agree

end
-- ==== Proof.FfnIdeal.Cases.lean ====
/- What each kind of point leaves: the first of a block of rows, the last, and those between. -/
module

public import proofs.«01_k».proof.Proof.Gen.FfnIdeal.Value
public import Idealize.ShloMosaic.Lib.VecWindow

@[expose] public section

set_option maxRecDepth 16384

noncomputable section

namespace Cert.FfnIdeal.Blk

open Idealize.ShloMosaic Idealize.ShloMosaic.TcCoe Idealize.SL Idealize.SL.Sem
open Cert.FfnIdeal Cert.FfnIdeal.Gen

variable {F : FTy → Type} [FloatOps F]
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole)
  (x0 : Vec F S1024x2048 .f32) (x1 : Vec F S1x2048 .f32) (x2 x3 : Vec F S1x2048x512 .bf16) (x4 : Vec F S1x512x2048 .bf16) (x5 : Vec F S1x2048 .f32) (xo6 : Vec F S1024x2048 .f32) (xs0 : Vec F S1024x2048 .bf16)

omit [FloatOps F] in
/-- A load of a whole array reads what the array holds. -/
theorem loaded {s : Shape} {e : EltTy} (a : Memref sig .tc .vmem s e) (ha : a.IsWhole) (x : Vec F s e) {off : Fin s.rank → ℕ} (inb : ∀ d, off d + s.size d ≤ s.size d) :
    a.view.readAt (Elt F) (Rect.unit off s.size inb).toLoadRect (ha.unread x) = x :=
  (View.readAt_full _ _ _).trans (ha.read_unread _)

/-- A block's first point stores the rows, then their sum with the first slice's product. -/
theorem out_A (hc0 : cond0_0 i) (hc1 : ¬cond0_1 i) : out0_A_6 c i arg2 harg2 arg3 harg3 arg4 harg4 arg5 harg5 arg6 harg6 arg7 harg7 arg8 harg8 arg9 harg9 hc0 hc1 x0 x1 x2 x3 x4 x5 = k0_pay3 (k0_pay2 x0 x1) x2 x3 (k0_pay1 x0) x4 := by
  unfold out0_A_6 kernelRun0_A
  dsimp only
  refine (View.read_writes_full _ _ _ _ _).trans ?_
  congr 1
  · unfold kernelRun0_A.sl.v3
    refine (View.readCov_full _ _ _ _ _).trans ?_
    congr 1
    · exact loaded _ _ _ _
    · exact loaded _ _ _ _
  · exact loaded _ _ _ _
  · exact loaded _ _ _ _
  · unfold kernelRun0_A.sl.v17
    refine (View.readCov_full _ _ _ _ _).trans ?_
    congr 1
    exact loaded _ _ _ _
  · exact loaded _ _ _ _

/-- It also keeps the normalised rows. -/
theorem kept_A (hc0 : cond0_0 i) (hc1 : ¬cond0_1 i) : sout0_A_0 c i arg2 harg2 arg3 harg3 arg4 harg4 arg5 harg5 arg6 harg6 arg7 harg7 arg8 harg8 arg9 harg9 hc0 hc1 x0 x1 x2 x3 x4 x5 = k0_pay2 x0 x1 := by
  unfold sout0_A_0 kernelRun0_A
  dsimp only
  unfold kernelRun0_A.sl.HS0_1
  refine (View.read_writes_full _ _ _ _ _).trans ?_
  congr 1
  · exact loaded _ _ _ _
  · exact loaded _ _ _ _

/-- A point between adds its slice's product. -/
theorem out_B (hc0 : ¬cond0_0 i) (hc1 : ¬cond0_1 i) : out0_B_6 c i arg2 harg2 arg3 harg3 arg4 harg4 arg5 harg5 arg6 harg6 arg7 harg7 arg8 harg8 arg9 harg9 hc0 hc1 x0 x1 x2 x3 x4 x5 xo6 xs0 = k0_pay3 xs0 x2 x3 xo6 x4 := by
  unfold out0_B_6 kernelRun0_B
  dsimp only
  refine (View.read_writes_full _ _ _ _ _).trans ?_
  congr 1 <;> exact loaded _ _ _ _

/-- A block's last point adds its slice's product, then normalises the sum. -/
theorem out_C (hc0 : ¬cond0_0 i) (hc1 : cond0_1 i) : out0_C_6 c i arg2 harg2 arg3 harg3 arg4 harg4 arg5 harg5 arg6 harg6 arg7 harg7 arg8 harg8 arg9 harg9 hc0 hc1 x0 x1 x2 x3 x4 x5 xo6 xs0 = k0_pay4 (k0_pay3 xs0 x2 x3 xo6 x4) x5 := by
  unfold out0_C_6 kernelRun0_C
  dsimp only
  refine (View.read_writes_full _ _ _ _ _).trans ?_
  congr 1
  · refine (View.readCov_full _ _ _ _ _).trans ?_
    congr 1 <;> exact loaded _ _ _ _
  · exact loaded _ _ _ _

end Cert.FfnIdeal.Blk

end
-- ==== Proof.FfnMath.lean ====
/- The mathematics of the feed-forward network: rows normalised by their root mean square, a gated product, and its sum over
   the hidden columns, slice by slice or at once. -/
module

public import Idealize.ShloMosaic.Lib.Pointwise
public import Idealize.ShloMosaic.Lib.IdealHost

@[expose] public section

noncomputable section

namespace Cert.FfnMath

open Idealize.ShloMosaic

/-- A row over its root mean square, scaled column by column; the two words are 2048 and the small number added. -/
def scaled (x g : Fin 2048 → EReal) (j : Fin 2048) : EReal :=
  x j * Ideal.rsqrt (Ideal.div (∑ k, x k * x k) (Ideal.ofBits .f32 0x45000000#32) + Ideal.ofBits .f32 0x3727C5AC#32) * g j

/-- One hidden column: the gate's product through the logistic gate, times the other product. -/
def gated (x wg wu : Fin 2048 → EReal) : EReal :=
  Ideal.div (∑ k, x k * wg k) (1 + Ideal.exp (0 - ∑ k, x k * wg k)) * ∑ k, x k * wu k

/-- A row plus the first `n` hidden columns' share of the network's result. -/
def mixed (h g : Fin 2048 → EReal) (wg wu wd : ℕ → Fin 2048 → EReal) (n : ℕ) (j : Fin 2048) : EReal :=
  h j + ∑ k ∈ Finset.range n, gated (scaled h g) (wg k) (wu k) * wd k j

/-- No hidden column yet. -/
theorem mixed_zero (h g : Fin 2048 → EReal) (wg wu wd : ℕ → Fin 2048 → EReal) (j : Fin 2048) : mixed h g wg wu wd 0 j = h j := by
  unfold mixed
  rw [Finset.range_zero, Finset.sum_empty, add_zero]

/-- A slice of 512 hidden columns more. -/
theorem mixed_slice (h g : Fin 2048 → EReal) (wg wu wd : ℕ → Fin 2048 → EReal) (n : ℕ) (j : Fin 2048) :
    mixed h g wg wu wd n j + ∑ q : Fin 512, gated (scaled h g) (wg (n + q.val)) (wu (n + q.val)) * wd (n + q.val) j = mixed h g wg wu wd (n + 512) j := by
  unfold mixed
  rw [Finset.sum_range_add, add_assoc, Finset.sum_range (n := 512)]

/-- All the hidden columns at once. -/
theorem mixed_all (h g : Fin 2048 → EReal) (wg wu wd : ℕ → Fin 2048 → EReal) (n : ℕ) (j : Fin 2048) :
    mixed h g wg wu wd n j = h j + ∑ k : Fin n, gated (scaled h g) (wg k.val) (wu k.val) * wd k.val j := by
  unfold mixed
  rw [Finset.sum_range]

/-- An exponential is not negative. -/
theorem exp_nonneg (x : EReal) : 0 ≤ Ideal.exp x := by
  induction x with
  | bot => exact le_refl _
  | top => exact le_top
  | coe r => exact EReal.coe_nonneg.mpr (Real.exp_pos r).le

/-- The logistic gate as a product by one over the same sum. -/
theorem gate_eq (x : EReal) : x * Ideal.div 1 (1 + Ideal.exp (-x)) = Ideal.div x (1 + Ideal.exp (0 - x)) := by
  rw [zero_sub]
  have h : (1 : EReal) + Ideal.exp (-x) ≠ 0 := by
    have h1 : (1 : EReal) ≤ 1 + Ideal.exp (-x) := le_add_of_nonneg_right (exp_nonneg (-x))
    exact (lt_of_lt_of_le zero_lt_one h1).ne'
  unfold Ideal.div
  rw [if_neg h, if_neg h, one_mul]

/-- What a result's row and column hold: the network's sum, normalised again. -/
def result (h g : Fin 2048 → EReal) (wg wu wd : ℕ → Fin 2048 → EReal) (gf : Fin 2048 → EReal) (j : Fin 2048) : EReal :=
  scaled (mixed h g wg wu wd 5632) gf j

end Cert.FfnMath

end
-- ==== Proof.FfnIdeal.Block.lean ====
/- What a point computes, one row and column at a time. -/
module

public import proofs.«01_k».proof.Proof.FfnIdeal.Cases
public import proofs.«01_k».proof.Proof.FfnMath

@[expose] public section

set_option maxRecDepth 16384

noncomputable section

namespace Cert.FfnIdeal.Blk

open Idealize.ShloMosaic Idealize.ShloMosaic.TcCoe Idealize.SL Idealize.SL.Sem
open Cert.FfnIdeal Cert.FfnIdeal.Gen Cert.FfnMath

theorem first_apply (x : Vec Ideal S1024x2048 .f32) (a : Fin 1024) (j : Fin 2048) : k0_pay1 x (ix2 a j) = x (ix2 a j) := by
  unfold k0_pay1
  pointwise []

theorem rows_apply (x : Vec Ideal S1024x2048 .f32) (g : Vec Ideal S1x2048 .f32) (a : Fin 1024) (j : Fin 2048) :
    k0_pay2 x g (ix2 a j) = scaled (fun k => x (ix2 a k)) (fun k => g (ix2 0 k)) j := by
  unfold k0_pay2 k0_pay1 scaled
  pointwise []

theorem last_apply (x : Vec Ideal S1024x2048 .f32) (g : Vec Ideal S1x2048 .f32) (a : Fin 1024) (j : Fin 2048) :
    k0_pay4 x g (ix2 a j) = scaled (fun k => x (ix2 a k)) (fun k => g (ix2 0 k)) j := by
  unfold k0_pay4 scaled
  pointwise []

theorem slice_apply (x : Vec Ideal S1024x2048 .bf16) (wg wu : Vec Ideal S1x2048x512 .bf16) (o : Vec Ideal S1024x2048 .f32) (wd : Vec Ideal S1x512x2048 .bf16)
    (a : Fin 1024) (j : Fin 2048) : k0_pay3 x wg wu o wd (ix2 a j)
      = o (ix2 a j) + ∑ q : Fin 512, gated (fun k => x (ix2 a k)) (fun k => wg (ix3 0 k q)) (fun k => wu (ix3 0 k q)) * wd (ix3 0 q j) := by
  unfold k0_pay3 gated
  pointwise []

end Cert.FfnIdeal.Blk

end
-- ==== Proof.FfnIdeal.Inputs.lean ====
/- What the call's input blocks hold, off the call's arguments. -/
module

public import proofs.«01_k».proof.Proof.FfnIdeal.Block

@[expose] public section

set_option maxRecDepth 16384

noncomputable section

namespace Cert.FfnIdeal.Blk

open Idealize.ShloMosaic Idealize.ShloMosaic.TcCoe Idealize.SL Idealize.SL.Sem
open Cert.FfnIdeal Cert.FfnIdeal.Gen Cert.FfnMath

variable (m : (ℓ : Loc nD τ sig) → Buf (Elt Ideal) ℓ) (c : Dev nD)

/-- The arguments: a row of the hidden state, the two norms' scales, the three weights of the last layer by hidden column. -/
def H (r : ℕ) (j : Fin 2048) : EReal :=
  if h : r < 32768 then m ((c : Thread nD τ).loc main_arg0) (ix3 (⟨r / 4096, by omega⟩ : Fin 8) (⟨r % 4096, by omega⟩ : Fin 4096) j) else 0
def g (j : Fin 2048) : EReal := m ((c : Thread nD τ).loc main_arg1) (ix2 (3 : Fin 4) j)
def gf (j : Fin 2048) : EReal := m ((c : Thread nD τ).loc main_arg5) (ix1 j)
def wg (q : ℕ) (k : Fin 2048) : EReal := if h : q < 5632 then m ((c : Thread nD τ).loc main_arg2) (ix3 (3 : Fin 4) k (⟨q, h⟩ : Fin 5632)) else 0
def wu (q : ℕ) (k : Fin 2048) : EReal := if h : q < 5632 then m ((c : Thread nD τ).loc main_arg3) (ix3 (3 : Fin 4) k (⟨q, h⟩ : Fin 5632)) else 0
def wd (q : ℕ) (j : Fin 2048) : EReal := if h : q < 5632 then m ((c : Thread nD τ).loc main_arg4) (ix3 (3 : Fin 4) (⟨q, h⟩ : Fin 5632) j) else 0

theorem hidden_eq : V m c main_v3 = shapeCast S32768x2048 (m ((c : Thread nD τ).loc main_arg0)) shapeCasts_S8x4096x2048_S32768x2048 := rfl
theorem norm_eq : V m c main_v6 = shapeCast S1x2048 (shapeCast S2048 (extractStridedSlice S1x2048 ![3, 0] (m ((c : Thread nD τ).loc main_arg1)) slices_S4x2048_S1x2048_3_0) shapeCasts_S1x2048_S2048) shapeCasts_S2048_S1x2048 := rfl
theorem last_eq : V m c main_v7 = shapeCast S1x2048 (m ((c : Thread nD τ).loc main_arg5)) shapeCasts_S2048_S1x2048 := rfl

theorem hidden_apply (r : Fin 32768) (j : Fin 2048) : V m c main_v3 (ix2 r j) = H m c r.val j := by
  rw [hidden_eq]
  unfold H
  rw [dif_pos r.isLt]
  exact shapeCast_apply _ _ (ix2 r j) (ix3 (⟨r.val / 4096, by omega⟩ : Fin 8) (⟨r.val % 4096, by omega⟩ : Fin 4096) j)
    (by rw [Shape.rowMajor_val_three, Shape.rowMajor_val_two]; show (r.val / 4096 * 4096 + r.val % 4096) * 2048 + j.val = r.val * 2048 + j.val; omega)

theorem norm_apply (j : Fin 2048) : V m c main_v6 (ix2 0 j) = g m c j := by
  rw [norm_eq]
  unfold g
  pointwise []

theorem last_norm_apply (j : Fin 2048) : V m c main_v7 (ix2 0 j) = gf m c j := by
  rw [last_eq]
  unfold gf
  pointwise []

theorem index_0 : ∀ t : Fin cfg0.N, win0_0.index t = ![t.val / 11, 0] := by decide +kernel
theorem index_1 : ∀ t : Fin cfg0.N, win0_1.index t = ![0, 0] := by decide +kernel
theorem index_2 : ∀ t : Fin cfg0.N, win0_2.index t = ![3, 0, t.val % 11] := by decide +kernel
theorem index_3 : ∀ t : Fin cfg0.N, win0_3.index t = ![3, 0, t.val % 11] := by decide +kernel
theorem index_4 : ∀ t : Fin cfg0.N, win0_4.index t = ![3, t.val % 11, 0] := by decide +kernel
theorem index_5 : ∀ t : Fin cfg0.N, win0_5.index t = ![0, 0] := by decide +kernel

theorem lt_points (t : Fin cfg0.N) : t.val < 352 := Nat.lt_of_lt_of_eq t.isLt N_0

theorem hidden_blk (t : Fin cfg0.N) (a : Fin 1024) (j : Fin 2048) : iblk m c 0 t (ix2 a j) = H m c (1024 * (t.val / 11) + a.val) j := by
  have ht := lt_points t
  rw [← hidden_apply m c ⟨1024 * (t.val / 11) + a.val, by omega⟩ j]
  show V m c main_v3 (((cfg0.win 0).blk t).view.emb (ix2 a j)) = _
  congr 1
  funext d
  fin_cases d <;> apply Fin.ext
  · show win0_0.index t 0 * 1024 + 1 * a.val = 1024 * (t.val / 11) + a.val
    rw [index_0]; show t.val / 11 * 1024 + 1 * a.val = _; omega
  · show win0_0.index t 1 * 2048 + 1 * j.val = j.val
    rw [index_0]; simp

theorem norm_blk (t : Fin cfg0.N) (j : Fin 2048) : iblk m c 1 t (ix2 0 j) = g m c j := by
  rw [← norm_apply m c j]
  show V m c main_v6 (((cfg0.win 1).blk t).view.emb (ix2 0 j)) = _
  congr 1
  funext d
  fin_cases d <;> apply Fin.ext
  · show win0_1.index t 0 * 1 + 1 * 0 = 0
    rw [index_1]; rfl
  · show win0_1.index t 1 * 2048 + 1 * j.val = j.val
    rw [index_1]; simp

theorem last_norm_blk (t : Fin cfg0.N) (j : Fin 2048) : iblk m c 5 t (ix2 0 j) = gf m c j := by
  rw [← last_norm_apply m c j]
  show V m c main_v7 (((cfg0.win 5).blk t).view.emb (ix2 0 j)) = _
  congr 1
  funext d
  fin_cases d <;> apply Fin.ext
  · show win0_5.index t 0 * 1 + 1 * 0 = 0
    rw [index_5]; rfl
  · show win0_5.index t 1 * 2048 + 1 * j.val = j.val
    rw [index_5]; simp

theorem gate_blk (t : Fin cfg0.N) (k : Fin 2048) (q : Fin 512) : iblk m c 2 t (ix3 0 k q) = wg m c (512 * (t.val % 11) + q.val) k := by
  unfold wg
  rw [dif_pos (by omega)]
  show m ((c : Thread nD τ).loc main_arg2) (((cfg0.win 2).blk t).view.emb (ix3 0 k q)) = _
  congr 1
  funext d
  fin_cases d <;> apply Fin.ext
  · show win0_2.index t 0 * 1 + 1 * 0 = 3
    rw [index_2]; rfl
  · show win0_2.index t 1 * 2048 + 1 * k.val = k.val
    rw [index_2]; simp
  · show win0_2.index t 2 * 512 + 1 * q.val = 512 * (t.val % 11) + q.val
    rw [index_2]; show t.val % 11 * 512 + 1 * q.val = _; omega

theorem up_blk (t : Fin cfg0.N) (k : Fin 2048) (q : Fin 512) : iblk m c 3 t (ix3 0 k q) = wu m c (512 * (t.val % 11) + q.val) k := by
  unfold wu
  rw [dif_pos (by omega)]
  show m ((c : Thread nD τ).loc main_arg3) (((cfg0.win 3).blk t).view.emb (ix3 0 k q)) = _
  congr 1
  funext d
  fin_cases d <;> apply Fin.ext
  · show win0_3.index t 0 * 1 + 1 * 0 = 3
    rw [index_3]; rfl
  · show win0_3.index t 1 * 2048 + 1 * k.val = k.val
    rw [index_3]; simp
  · show win0_3.index t 2 * 512 + 1 * q.val = 512 * (t.val % 11) + q.val
    rw [index_3]; show t.val % 11 * 512 + 1 * q.val = _; omega

theorem down_blk (t : Fin cfg0.N) (q : Fin 512) (j : Fin 2048) : iblk m c 4 t (ix3 0 q j) = wd m c (512 * (t.val % 11) + q.val) j := by
  unfold wd
  rw [dif_pos (by omega)]
  show m ((c : Thread nD τ).loc main_arg4) (((cfg0.win 4).blk t).view.emb (ix3 0 q j)) = _
  congr 1
  funext d
  fin_cases d <;> apply Fin.ext
  · show win0_4.index t 0 * 1 + 1 * 0 = 3
    rw [index_4]; rfl
  · show win0_4.index t 1 * 512 + 1 * q.val = 512 * (t.val % 11) + q.val
    rw [index_4]; show t.val % 11 * 512 + 1 * q.val = _; omega
  · show win0_4.index t 2 * 2048 + 1 * j.val = j.val
    rw [index_4]; simp

end Cert.FfnIdeal.Blk

end
-- ==== Proof.FfnIdeal.Whole.lean ====
/- What the call's result array holds: the network's results, normalised. -/
module

public import proofs.«01_k».proof.Proof.FfnIdeal.Inputs

@[expose] public section

set_option maxRecDepth 16384

noncomputable section

namespace Cert.FfnIdeal.Blk

open Idealize.ShloMosaic Idealize.ShloMosaic.TcCoe Idealize.SL Idealize.SL.Sem
open Cert.FfnIdeal Cert.FfnIdeal.Gen Cert.FfnIdeal.Value Cert.FfnMath

variable (m : (ℓ : Loc nD τ sig) → Buf (Elt Ideal) ℓ) (c : Dev nD)

/-- A row of the call after the first `n` hidden columns. -/
def after (r n : ℕ) (j : Fin 2048) : EReal := mixed (H m c r) (g m c) (wg m c) (wu m c) (wd m c) n j

/-- What a point leaves: the normalised rows, and the rows with the hidden columns so far added; after the last slice their
    normalised sum. -/
structure Left (n : ℕ) (o : Vec Ideal S1024x2048 .f32 × Vec Ideal S1024x2048 .bf16) : Prop where
  rows : ∀ (a : Fin 1024) (j : Fin 2048), o.2 (ix2 a j) = scaled (H m c (1024 * (n / 11) + a.val)) (g m c) j
  sums : n % 11 ≠ 10 → ∀ (a : Fin 1024) (j : Fin 2048), o.1 (ix2 a j) = after m c (1024 * (n / 11) + a.val) (512 * (n % 11) + 512) j
  last : n % 11 = 10 → ∀ (a : Fin 1024) (j : Fin 2048), o.1 (ix2 a j) = scaled (after m c (1024 * (n / 11) + a.val) 5632) (gf m c) j

/-- One slice more, on rows that hold the slices before. -/
theorem slice_sum (h g : Fin 2048 → EReal) (WG WU WD : ℕ → Fin 2048 → EReal) (n : ℕ) (x : Vec Ideal S1024x2048 .bf16) (y z : Vec Ideal S1x2048x512 .bf16)
    (o : Vec Ideal S1024x2048 .f32) (w : Vec Ideal S1x512x2048 .bf16) (a : Fin 1024) (j : Fin 2048)
    (hx : ∀ k : Fin 2048, x (ix2 a k) = scaled h g k) (hy : ∀ (k : Fin 2048) (q : Fin 512), y (ix3 0 k q) = WG (n + q.val) k)
    (hz : ∀ (k : Fin 2048) (q : Fin 512), z (ix3 0 k q) = WU (n + q.val) k) (ho : o (ix2 a j) = mixed h g WG WU WD n j)
    (hw : ∀ q : Fin 512, w (ix3 0 q j) = WD (n + q.val) j) : k0_pay3 x y z o w (ix2 a j) = mixed h g WG WU WD (n + 512) j := by
  rw [slice_apply, ho, ← mixed_slice]
  simp only [hx, hy, hz, hw]

theorem add_slice (t : Fin cfg0.N) (x : Vec Ideal S1024x2048 .bf16) (o : Vec Ideal S1024x2048 .f32)
    (hx : ∀ (a : Fin 1024) (j : Fin 2048), x (ix2 a j) = scaled (H m c (1024 * (t.val / 11) + a.val)) (g m c) j)
    (ho : ∀ (a : Fin 1024) (j : Fin 2048), o (ix2 a j) = after m c (1024 * (t.val / 11) + a.val) (512 * (t.val % 11)) j) (a : Fin 1024) (j : Fin 2048) :
    k0_pay3 x (iblk m c 2 t) (iblk m c 3 t) o (iblk m c 4 t) (ix2 a j) = after m c (1024 * (t.val / 11) + a.val) (512 * (t.val % 11) + 512) j :=
  slice_sum _ _ _ _ _ _ x (iblk m c 2 t) (iblk m c 3 t) o (iblk m c 4 t) a j (hx a) (gate_blk m c t) (up_blk m c t) (ho a j) fun q => down_blk m c t q j

theorem left_A (t : Fin cfg0.N) (h0 : t.val % 11 = 0) : Left m c t.val (outsAt0 m c t.val t.isLt) := by
  have h1 : ¬t.val % 11 = 10 := by omega
  have hx : ∀ (a : Fin 1024) (j : Fin 2048), k0_pay2 (iblk m c 0 t) (iblk m c 1 t) (ix2 a j) = scaled (H m c (1024 * (t.val / 11) + a.val)) (g m c) j := fun a j => by
    refine (rows_apply (iblk m c 0 t) (iblk m c 1 t) a j).trans ?_
    congr 1
    · exact funext fun k => hidden_blk m c t a k
    · exact funext fun k => norm_blk m c t k
  rw [outsAt0_A m c t h0 h1]
  refine ⟨?_, fun _ => ?_, fun h => absurd h h1⟩
  · dsimp only
    rw [kept_A]
    exact hx
  · dsimp only
    rw [out_A]
    refine add_slice m c t _ _ hx fun a j => ?_
    rw [h0]
    exact (first_apply (iblk m c 0 t) a j).trans ((hidden_blk m c t a j).trans (mixed_zero _ _ _ _ _ _).symm)

variable (t : Fin cfg0.N) (h0 : ¬t.val % 11 = 0) (hb : Left m c (t.val - 1) (outsAt0 m c (t.val - 1) (Nat.lt_of_le_of_lt (Nat.sub_le _ _) t.isLt)))

include h0 hb in
theorem rows_before : ∀ (a : Fin 1024) (j : Fin 2048), (outsAt0 m c (t.val - 1) (Nat.lt_of_le_of_lt (Nat.sub_le _ _) t.isLt)).2 (ix2 a j) = scaled (H m c (1024 * (t.val / 11) + a.val)) (g m c) j := by
  have h := hb.rows
  rw [show (t.val - 1) / 11 = t.val / 11 by omega] at h
  exact h

include h0 hb in
theorem sums_before : ∀ (a : Fin 1024) (j : Fin 2048), (outsAt0 m c (t.val - 1) (Nat.lt_of_le_of_lt (Nat.sub_le _ _) t.isLt)).1 (ix2 a j) = after m c (1024 * (t.val / 11) + a.val) (512 * (t.val % 11)) j := by
  have h := hb.sums (by omega)
  rw [show (t.val - 1) / 11 = t.val / 11 by omega, show 512 * ((t.val - 1) % 11) + 512 = 512 * (t.val % 11) by omega] at h
  exact h

include h0 hb in
theorem left_B (h1 : ¬t.val % 11 = 10) : Left m c t.val (outsAt0 m c t.val t.isLt) := by
  rw [outsAt0_B m c t h0 h1]
  refine ⟨rows_before m c t h0 hb, fun _ => ?_, fun h => absurd h h1⟩
  dsimp only
  rw [out_B]
  exact add_slice m c t _ _ (rows_before m c t h0 hb) (sums_before m c t h0 hb)

include h0 hb in
theorem left_C (h1 : t.val % 11 = 10) : Left m c t.val (outsAt0 m c t.val t.isLt) := by
  rw [outsAt0_C m c t h0 h1]
  refine ⟨rows_before m c t h0 hb, fun h => absurd h1 h, fun _ a j => ?_⟩
  dsimp only
  rw [out_C]
  refine (last_apply _ (iblk m c 5 t) a j).trans ?_
  congr 1
  · refine funext fun k => (add_slice m c t _ _ (rows_before m c t h0 hb) (sums_before m c t h0 hb) a k).trans ?_
    rw [h1]
  · exact funext fun k => last_norm_blk m c t k

theorem after_point : ∀ (n : ℕ) (hn : n < cfg0.N), Left m c n (outsAt0 m c n hn) := by
  intro n
  induction n with
  | zero => exact fun hn => left_A m c ⟨0, hn⟩ rfl
  | succ n ih =>
    intro hn
    by_cases h0 : (n + 1) % 11 = 0
    · exact left_A m c ⟨n + 1, hn⟩ h0
    · by_cases h1 : (n + 1) % 11 = 10
      · exact left_C m c ⟨n + 1, hn⟩ h0 (ih (by omega)) h1
      · exact left_B m c ⟨n + 1, hn⟩ h0 (ih (by omega)) h1

/-- The result array at a row and a column. -/
theorem whole (r : Fin 32768) (j : Fin 2048) : G6 m c (ix2 r j) = result (H m c r.val) (g m c) (wg m c) (wu m c) (wd m c) (gf m c) j := by
  have hN : cfg0.N = 352 := N_0
  have hp : pt6Of (ix2 r j) = 11 * (r.val / 1024) + 10 := by
    show 11 * (1 * (r.val / 1024 - 0) + 1 * (j.val / 2048 - 0)) + 10 = _
    omega
  have hl : (loc6Of (ix2 r j) : S1024x2048.Idx) = ix2 (⟨r.val % 1024, by omega⟩ : Fin 1024) j := by
    funext d
    fin_cases d
    · rfl
    · exact Fin.ext (by show j.val % 2048 = j.val; omega)
  unfold G6
  rw [dif_pos (by rw [hp]; omega), ← outsAt0_sweep m c _ (by rw [hp]; omega), hl, (after_point m c _ _).last (by rw [hp]; omega)]
  unfold result
  congr 1
  rw [hp]
  show after m c (1024 * ((11 * (r.val / 1024) + 10) / 11) + r.val % 1024) 5632 = _
  rw [show 1024 * ((11 * (r.val / 1024) + 10) / 11) + r.val % 1024 = r.val by omega]
  rfl

end Cert.FfnIdeal.Blk

end
-- ==== Proof.FfnReferenceIdeal.Result.lean ====
/- The reference's result, row by row and column by column. -/
module

public import proofs.«01_k».proof.Proof.Gen.FfnReferenceIdeal.Read
public import proofs.«01_k».proof.Proof.FfnMath

@[expose] public section

set_option maxRecDepth 16384

noncomputable section

namespace Cert.FfnReferenceIdeal.Net

open Idealize.ShloMosaic Idealize.ShloMosaic.TcCoe Idealize.SL Idealize.SL.Sem
open Cert.FfnReferenceIdeal Cert.FfnReferenceIdeal.Read Cert.FfnMath

variable (x0 : (⟨S8x4096x2048, .f32⟩ : BufTy).Contents (Elt Ideal)) (x1 : (⟨S4x2048, .f32⟩ : BufTy).Contents (Elt Ideal))
  (x2 x3 : (⟨S4x2048x5632, .f32⟩ : BufTy).Contents (Elt Ideal)) (x4 : (⟨S4x5632x2048, .f32⟩ : BufTy).Contents (Elt Ideal)) (x5 : (⟨S2048, .f32⟩ : BufTy).Contents (Elt Ideal))

/-- A normalised row. -/
theorem rows_apply (b : Fin 8) (s : Fin 4096) (j : Fin 2048) :
    val_main_v14 (F := Ideal) x0 x1 (ix3 b s j) = scaled (fun k => x0 (ix3 b s k)) (fun k => x1 (ix2 3 k)) j := by
  have hsum : ∀ i : S8x4096.Idx, i = ix2 b s → val_main_v3 (F := Ideal) x0 i = ∑ k : Fin 2048, x0 (ix3 b s k) * x0 (ix3 b s k) := by
    rintro i rfl
    rw [val_main_v3_apply]
    refine (congrArg₂ (· + ·) (show _ = (0 : EReal) by unfold val_main_cst; pointwise []) (Finset.sum_congr rfl fun k _ => ?_)).trans (zero_add _)
    rw [val_main_v2_apply, show idx_main_v3 (ix2 b s) k = ix3 b s k from (eq_ix3 _).trans rfl]
    rfl
  rw [val_main_v14_apply, val_main_v11_apply, val_main_v10_apply, val_main_v9_apply, val_main_v8_apply, val_main_v6_apply, val_main_v4_apply,
    val_main_v5_apply, val_main_v7_apply, val_main_v13_apply, val_main_v12_apply, val_main_v1_apply, val_main_v0_apply, hsum _ ((eq_ix2 _).trans rfl)]
  rw [show idx_main_v0 (idx_main_v1 (idx_main_v12 (idx_main_v13 (ix3 b s j)))) = ix2 3 j from (eq_ix2 _).trans (by
    refine congrArg₂ ix2 (Fin.ext rfl) (Fin.ext ?_)
    show j.val % 2048 = j.val
    omega)]
  rfl

/-- A layer's weight by hidden column. -/
theorem gate_weight (k : Fin 2048) (q : Fin 5632) : val_main_v16 (F := Ideal) x2 (ix2 k q) = x2 (ix3 3 k q) := by
  rw [val_main_v16_apply, val_main_v15_apply]
  refine congrArg x2 ((eq_ix3 _).trans (congr (congrArg₂ ix3 (Fin.ext rfl) (Fin.ext ?_)) (Fin.ext ?_)))
  · show (k.val * 5632 + q.val) / 5632 % 2048 = k.val; omega
  · show (k.val * 5632 + q.val) % 5632 = q.val; omega

theorem up_weight (k : Fin 2048) (q : Fin 5632) : val_main_v20 (F := Ideal) x3 (ix2 k q) = x3 (ix3 3 k q) := by
  rw [val_main_v20_apply, val_main_v19_apply]
  refine congrArg x3 ((eq_ix3 _).trans (congr (congrArg₂ ix3 (Fin.ext rfl) (Fin.ext ?_)) (Fin.ext ?_)))
  · show (k.val * 5632 + q.val) / 5632 % 2048 = k.val; omega
  · show (k.val * 5632 + q.val) % 5632 = q.val; omega

theorem down_weight (q : Fin 5632) (j : Fin 2048) : val_main_v24 (F := Ideal) x4 (ix2 q j) = x4 (ix3 3 q j) := by
  rw [val_main_v24_apply, val_main_v23_apply]
  refine congrArg x4 ((eq_ix3 _).trans (congr (congrArg₂ ix3 (Fin.ext rfl) (Fin.ext ?_)) (Fin.ext ?_)))
  · show (q.val * 2048 + j.val) / 2048 % 5632 = q.val; omega
  · show (q.val * 2048 + j.val) % 2048 = j.val; omega

variable (b : Fin 8) (s : Fin 4096)

theorem gate_apply (q : Fin 5632) : val_main_v17 (F := Ideal) x0 x1 x2 (ix3 b s q)
    = ∑ k : Fin 2048, scaled (fun k => x0 (ix3 b s k)) (fun k => x1 (ix2 3 k)) k * x2 (ix3 3 k q) := by
  rw [val_main_v17_apply]
  refine Finset.sum_congr rfl fun k _ => congrArg₂ (· * ·) ?_ ?_
  · rw [show lidx_main_v17 (ix3 b s q) k = ix3 b s k from (eq_ix3 _).trans rfl]
    exact rows_apply x0 x1 b s k
  · rw [show ridx_main_v17 (ix3 b s q) k = ix2 k q from (eq_ix2 _).trans rfl]
    exact gate_weight x2 k q

theorem up_apply (q : Fin 5632) : val_main_v21 (F := Ideal) x0 x1 x3 (ix3 b s q)
    = ∑ k : Fin 2048, scaled (fun k => x0 (ix3 b s k)) (fun k => x1 (ix2 3 k)) k * x3 (ix3 3 k q) := by
  rw [val_main_v21_apply]
  refine Finset.sum_congr rfl fun k _ => congrArg₂ (· * ·) ?_ ?_
  · rw [show lidx_main_v21 (ix3 b s q) k = ix3 b s k from (eq_ix3 _).trans rfl]
    exact rows_apply x0 x1 b s k
  · rw [show ridx_main_v21 (ix3 b s q) k = ix2 k q from (eq_ix2 _).trans rfl]
    exact up_weight x3 k q

/-- One hidden column. -/
theorem gated_apply (q : Fin 5632) : val_main_v22 (F := Ideal) x0 x1 x2 x3 (ix3 b s q)
    = gated (scaled (fun k => x0 (ix3 b s k)) (fun k => x1 (ix2 3 k))) (fun k => x2 (ix3 3 k q)) (fun k => x3 (ix3 3 k q)) := by
  have one : Ideal.ofBits .f32 0x3F800000#32 = (1 : EReal) := by
    simp [Ideal.ofBits, Ideal.ieee]
    rw [← EReal.coe_mul, ← EReal.coe_one]
    congr 1
    norm_num
  rw [val_main_v22_apply, val_main_v18_apply, val_main_call0_v5_apply, val_main_call0_v4_apply, val_main_call0_cst_0_apply, val_main_call0_v3_apply,
    val_main_call0_v2_apply, val_main_call0_cst_apply, val_main_call0_v1_apply, val_main_call0_v0_apply, gate_apply, up_apply]
  show (_ * Ideal.div (Ideal.ofBits .f32 0x3F800000#32) (Ideal.ofBits .f32 0x3F800000#32 + Ideal.exp (-_))) * _ = _
  rw [one, gate_eq]
  rfl

/-- A row plus the network's result. -/
theorem sum_apply (j : Fin 2048) : val_main_v26 (F := Ideal) x0 x1 x2 x3 x4 (ix3 b s j)
    = x0 (ix3 b s j) + ∑ q : Fin 5632, gated (scaled (fun k => x0 (ix3 b s k)) (fun k => x1 (ix2 3 k))) (fun k => x2 (ix3 3 k q)) (fun k => x3 (ix3 3 k q)) * x4 (ix3 3 q j) := by
  rw [val_main_v26_apply, val_main_v25_apply]
  refine congrArg (x0 (ix3 b s j) + ·) (Finset.sum_congr rfl fun q _ => congrArg₂ (· * ·) ?_ ?_)
  · rw [show lidx_main_v25 (ix3 b s j) q = ix3 b s q from (eq_ix3 _).trans rfl]
    exact gated_apply x0 x1 x2 x3 b s q
  · rw [show ridx_main_v25 (ix3 b s j) q = ix2 q j from (eq_ix2 _).trans rfl]
    exact down_weight x4 q j

/-- The sum, normalised. -/
theorem last_apply (j : Fin 2048) : val_main_v39 (F := Ideal) x0 x1 x2 x3 x4 x5 (ix3 b s j)
    = scaled (fun k => val_main_v26 (F := Ideal) x0 x1 x2 x3 x4 (ix3 b s k)) (fun k => x5 (ix1 k)) j := by
  have hsum : ∀ i : S8x4096.Idx, i = ix2 b s → val_main_v28 (F := Ideal) x0 x1 x2 x3 x4 i
      = ∑ k : Fin 2048, val_main_v26 (F := Ideal) x0 x1 x2 x3 x4 (ix3 b s k) * val_main_v26 (F := Ideal) x0 x1 x2 x3 x4 (ix3 b s k) := by
    rintro i rfl
    rw [val_main_v28_apply]
    refine (congrArg₂ (· + ·) (show _ = (0 : EReal) by unfold val_main_cst_2; pointwise []) (Finset.sum_congr rfl fun k _ => ?_)).trans (zero_add _)
    rw [val_main_v27_apply, show idx_main_v28 (ix2 b s) k = ix3 b s k from (eq_ix3 _).trans rfl]
    rfl
  rw [val_main_v39_apply, val_main_v36_apply, val_main_v35_apply, val_main_v34_apply, val_main_v33_apply, val_main_v31_apply, val_main_v29_apply,
    val_main_v30_apply, val_main_v32_apply, val_main_v38_apply, val_main_v37_apply, hsum _ ((eq_ix2 _).trans rfl)]
  rw [show idx_main_v37 (idx_main_v38 (ix3 b s j)) = ix1 j from (eq_ix1 _).trans rfl]
  rfl

/-- The result at a row and a column. -/
theorem whole (h g gf : Fin 2048 → EReal) (wg wu wd : ℕ → Fin 2048 → EReal) (r : Fin 32768) (j : Fin 2048)
    (hh : ∀ k : Fin 2048, x0 (ix3 (⟨r.val / 4096, by omega⟩ : Fin 8) (⟨r.val % 4096, by omega⟩ : Fin 4096) k) = h k) (hg : ∀ k : Fin 2048, x1 (ix2 3 k) = g k)
    (hwg : ∀ (k : Fin 2048) (q : Fin 5632), x2 (ix3 3 k q) = wg q.val k) (hwu : ∀ (k : Fin 2048) (q : Fin 5632), x3 (ix3 3 k q) = wu q.val k)
    (hwd : ∀ (k : Fin 2048) (q : Fin 5632), x4 (ix3 3 q k) = wd q.val k) (hgf : ∀ k : Fin 2048, x5 (ix1 k) = gf k) :
    val_main_v40 (F := Ideal) x0 x1 x2 x3 x4 x5 (ix2 r j) = result h g wg wu wd gf j := by
  rw [val_main_v40_apply]
  have hi : idx_main_v40 (ix2 r j) = ix3 (⟨r.val / 4096, by omega⟩ : Fin 8) (⟨r.val % 4096, by omega⟩ : Fin 4096) j :=
    (eq_ix3 _).trans (congr (congrArg₂ ix3 (Fin.ext (by show (r.val * 2048 + j.val) / 8388608 = r.val / 4096; omega))
      (Fin.ext (by show (r.val * 2048 + j.val) / 2048 % 4096 = r.val % 4096; omega))) (Fin.ext (by show (r.val * 2048 + j.val) % 2048 = j.val; omega)))
  rw [hi, last_apply]
  unfold result
  congr 1
  · funext k
    rw [sum_apply, mixed_all]
    simp only [hh, hg, hwg, hwu, hwd]
  · exact funext hgf

end Cert.FfnReferenceIdeal.Net

end
-- ==== Proof.FfnAgree.lean ====
/- The feed-forward call and its reference, on the same arguments, hold the same result. -/
module

public import proofs.«01_k».proof.Proof.FfnIdeal.Whole
public import proofs.«01_k».proof.Proof.FfnReferenceIdeal.Result

@[expose] public section

noncomputable section

namespace Cert.FfnAgree

open Idealize.ShloMosaic Idealize.ShloMosaic.TcCoe Idealize.SL.Sem
open Cert.FfnIdeal Cert.FfnIdeal.Blk

theorem equal (m : (ℓ : Loc nD τ sig) → Buf (Elt Ideal) ℓ) (c : Dev nD) :
    Cert.FfnReferenceIdeal.Read.val_main_v40 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) = Cert.FfnIdeal.Value.G6 m c := by
  have at_ix : ∀ (r : Fin 32768) (j : Fin 2048), Cert.FfnReferenceIdeal.Read.val_main_v40 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) (ix2 r j)
      = Cert.FfnIdeal.Value.G6 m c (ix2 r j) := fun r j =>
    (Cert.FfnReferenceIdeal.Net.whole _ _ _ _ _ _ (H m c r.val) (g m c) (gf m c) (wg m c) (wu m c) (wd m c) r j
      (fun k => by unfold H; rw [dif_pos r.isLt]) (fun k => rfl) (fun k q => by unfold wg; rw [dif_pos q.isLt]) (fun k q => by unfold wu; rw [dif_pos q.isLt])
      (fun k q => by unfold wd; rw [dif_pos q.isLt]) (fun k => rfl)).trans (whole m c r j).symm
  funext i
  rw [eq_ix2 i]
  exact at_ix (i 0) (i 1)

end Cert.FfnAgree

end
-- ==== Proof.FfnMidIdeal.Cases.lean ====
/- What each kind of point leaves: the first of a block of rows, and the later ones. -/
module

public import proofs.«01_k».proof.Proof.Gen.FfnMidIdeal.Value
public import Idealize.ShloMosaic.Lib.VecWindow

@[expose] public section

set_option maxRecDepth 16384

noncomputable section

namespace Cert.FfnMidIdeal.Blk

open Idealize.ShloMosaic Idealize.ShloMosaic.TcCoe Idealize.SL Idealize.SL.Sem
open Cert.FfnMidIdeal Cert.FfnMidIdeal.Gen

variable {F : FTy → Type} [FloatOps F]
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole)
  (x0 : Vec F S1024x2048 .f32) (x1 : Vec F S1x2048 .f32) (x2 x3 : Vec F S1x2048x512 .bf16) (x4 : Vec F S1x512x2048 .bf16) (x5 : Vec F S1x2048 .f32) (xo6 : Vec F S1024x2048 .f32) (xs0 : Vec F S1024x2048 .bf16)

omit [FloatOps F] in
/-- A load of a whole array reads what the array holds. -/
theorem loaded {s : Shape} {e : EltTy} (a : Memref sig .tc .vmem s e) (ha : a.IsWhole) (x : Vec F s e) {off : Fin s.rank → ℕ} (inb : ∀ d, off d + s.size d ≤ s.size d) :
    a.view.readAt (Elt F) (Rect.unit off s.size inb).toLoadRect (ha.unread x) = x :=
  (View.readAt_full _ _ _).trans (ha.read_unread _)

/-- A block's first point stores the rows, then their sum with the first slice's product. -/
theorem out_A (hc0 : cond0_0 i) : out0_A_6 c i arg2 harg2 arg3 harg3 arg4 harg4 arg5 harg5 arg6 harg6 arg7 harg7 arg8 harg8 arg9 harg9 hc0 x0 x1 x2 x3 x4 x5 = k0_pay3 (k0_pay2 x0 x1) x2 x3 (k0_pay1 x0) x4 := by
  unfold out0_A_6 kernelRun0_A
  dsimp only
  refine (View.read_writes_full _ _ _ _ _).trans ?_
  congr 1
  · unfold kernelRun0_A.sl.v3
    refine (View.readCov_full _ _ _ _ _).trans ?_
    congr 1
    · exact loaded _ _ _ _
    · exact loaded _ _ _ _
  · exact loaded _ _ _ _
  · exact loaded _ _ _ _
  · unfold kernelRun0_A.sl.v17
    refine (View.readCov_full _ _ _ _ _).trans ?_
    congr 1
    exact loaded _ _ _ _
  · exact loaded _ _ _ _

/-- It also keeps the normalised rows. -/
theorem kept_A (hc0 : cond0_0 i) : sout0_A_0 c i arg2 harg2 arg3 harg3 arg4 harg4 arg5 harg5 arg6 harg6 arg7 harg7 arg8 harg8 arg9 harg9 hc0 x0 x1 x2 x3 x4 x5 = k0_pay2 x0 x1 := by
  unfold sout0_A_0 kernelRun0_A
  dsimp only
  unfold kernelRun0_A.sl.HS0_1
  refine (View.read_writes_full _ _ _ _ _).trans ?_
  congr 1
  · exact loaded _ _ _ _
  · exact loaded _ _ _ _

/-- A later point adds its slice's product. -/
theorem out_B (hc0 : ¬cond0_0 i) : out0_B_6 c i arg2 harg2 arg3 harg3 arg4 harg4 arg5 harg5 arg6 harg6 arg7 harg7 arg8 harg8 arg9 harg9 hc0 x0 x1 x2 x3 x4 x5 xo6 xs0 = k0_pay3 xs0 x2 x3 xo6 x4 := by
  unfold out0_B_6 kernelRun0_B
  dsimp only
  refine (View.read_writes_full _ _ _ _ _).trans ?_
  congr 1 <;> exact loaded _ _ _ _

end Cert.FfnMidIdeal.Blk

end
-- ==== Proof.FfnMidIdeal.Block.lean ====
/- What a point computes, one row and column at a time. -/
module

public import proofs.«01_k».proof.Proof.FfnMidIdeal.Cases
public import proofs.«01_k».proof.Proof.FfnMath

@[expose] public section

set_option maxRecDepth 16384

noncomputable section

namespace Cert.FfnMidIdeal.Blk

open Idealize.ShloMosaic Idealize.ShloMosaic.TcCoe Idealize.SL Idealize.SL.Sem
open Cert.FfnMidIdeal Cert.FfnMidIdeal.Gen Cert.FfnMath

theorem first_apply (x : Vec Ideal S1024x2048 .f32) (a : Fin 1024) (j : Fin 2048) : k0_pay1 x (ix2 a j) = x (ix2 a j) := by
  unfold k0_pay1
  pointwise []

theorem rows_apply (x : Vec Ideal S1024x2048 .f32) (g : Vec Ideal S1x2048 .f32) (a : Fin 1024) (j : Fin 2048) :
    k0_pay2 x g (ix2 a j) = scaled (fun k => x (ix2 a k)) (fun k => g (ix2 0 k)) j := by
  unfold k0_pay2 k0_pay1 scaled
  pointwise []

theorem slice_apply (x : Vec Ideal S1024x2048 .bf16) (wg wu : Vec Ideal S1x2048x512 .bf16) (o : Vec Ideal S1024x2048 .f32) (wd : Vec Ideal S1x512x2048 .bf16)
    (a : Fin 1024) (j : Fin 2048) : k0_pay3 x wg wu o wd (ix2 a j)
      = o (ix2 a j) + ∑ q : Fin 512, gated (fun k => x (ix2 a k)) (fun k => wg (ix3 0 k q)) (fun k => wu (ix3 0 k q)) * wd (ix3 0 q j) := by
  unfold k0_pay3 gated
  pointwise []

end Cert.FfnMidIdeal.Blk

end
-- ==== Proof.FfnMidIdeal.Inputs.lean ====
/- What the call's input blocks hold, off the call's arguments. -/
module

public import proofs.«01_k».proof.Proof.FfnMidIdeal.Block

@[expose] public section

set_option maxRecDepth 16384

noncomputable section

namespace Cert.FfnMidIdeal.Blk

open Idealize.ShloMosaic Idealize.ShloMosaic.TcCoe Idealize.SL Idealize.SL.Sem
open Cert.FfnMidIdeal Cert.FfnMidIdeal.Gen Cert.FfnMath

variable (m : (ℓ : Loc nD τ sig) → Buf (Elt Ideal) ℓ) (c : Dev nD)

/-- The arguments: a row of the hidden state, the two norms' scales, the three weights of the first layer by hidden column. -/
def H (r : ℕ) (j : Fin 2048) : EReal :=
  if h : r < 32768 then m ((c : Thread nD τ).loc main_arg0) (ix3 (⟨r / 4096, by omega⟩ : Fin 8) (⟨r % 4096, by omega⟩ : Fin 4096) j) else 0
def g (j : Fin 2048) : EReal := m ((c : Thread nD τ).loc main_arg1) (ix2 (0 : Fin 4) j)
def wg (q : ℕ) (k : Fin 2048) : EReal := if h : q < 5632 then m ((c : Thread nD τ).loc main_arg2) (ix3 (0 : Fin 4) k (⟨q, h⟩ : Fin 5632)) else 0
def wu (q : ℕ) (k : Fin 2048) : EReal := if h : q < 5632 then m ((c : Thread nD τ).loc main_arg3) (ix3 (0 : Fin 4) k (⟨q, h⟩ : Fin 5632)) else 0
def wd (q : ℕ) (j : Fin 2048) : EReal := if h : q < 5632 then m ((c : Thread nD τ).loc main_arg4) (ix3 (0 : Fin 4) (⟨q, h⟩ : Fin 5632) j) else 0

theorem hidden_eq : V m c main_v3 = shapeCast S32768x2048 (m ((c : Thread nD τ).loc main_arg0)) shapeCasts_S8x4096x2048_S32768x2048 := rfl
theorem norm_eq : V m c main_v6 = shapeCast S1x2048 (shapeCast S2048 (extractStridedSlice S1x2048 ![0, 0] (m ((c : Thread nD τ).loc main_arg1)) slices_S4x2048_S1x2048_0_0) shapeCasts_S1x2048_S2048) shapeCasts_S2048_S1x2048 := rfl
theorem hidden_apply (r : Fin 32768) (j : Fin 2048) : V m c main_v3 (ix2 r j) = H m c r.val j := by
  rw [hidden_eq]
  unfold H
  rw [dif_pos r.isLt]
  exact shapeCast_apply _ _ (ix2 r j) (ix3 (⟨r.val / 4096, by omega⟩ : Fin 8) (⟨r.val % 4096, by omega⟩ : Fin 4096) j)
    (by rw [Shape.rowMajor_val_three, Shape.rowMajor_val_two]; show (r.val / 4096 * 4096 + r.val % 4096) * 2048 + j.val = r.val * 2048 + j.val; omega)

theorem norm_apply (j : Fin 2048) : V m c main_v6 (ix2 0 j) = g m c j := by
  rw [norm_eq]
  unfold g
  pointwise []

theorem index_0 : ∀ t : Fin cfg0.N, win0_0.index t = ![t.val / 11, 0] := by decide +kernel
theorem index_1 : ∀ t : Fin cfg0.N, win0_1.index t = ![0, 0] := by decide +kernel
theorem index_2 : ∀ t : Fin cfg0.N, win0_2.index t = ![0, 0, t.val % 11] := by decide +kernel
theorem index_3 : ∀ t : Fin cfg0.N, win0_3.index t = ![0, 0, t.val % 11] := by decide +kernel
theorem index_4 : ∀ t : Fin cfg0.N, win0_4.index t = ![0, t.val % 11, 0] := by decide +kernel
theorem lt_points (t : Fin cfg0.N) : t.val < 352 := Nat.lt_of_lt_of_eq t.isLt N_0

theorem hidden_blk (t : Fin cfg0.N) (a : Fin 1024) (j : Fin 2048) : iblk m c 0 t (ix2 a j) = H m c (1024 * (t.val / 11) + a.val) j := by
  have ht := lt_points t
  rw [← hidden_apply m c ⟨1024 * (t.val / 11) + a.val, by omega⟩ j]
  show V m c main_v3 (((cfg0.win 0).blk t).view.emb (ix2 a j)) = _
  congr 1
  funext d
  fin_cases d <;> apply Fin.ext
  · show win0_0.index t 0 * 1024 + 1 * a.val = 1024 * (t.val / 11) + a.val
    rw [index_0]; show t.val / 11 * 1024 + 1 * a.val = _; omega
  · show win0_0.index t 1 * 2048 + 1 * j.val = j.val
    rw [index_0]; simp

theorem norm_blk (t : Fin cfg0.N) (j : Fin 2048) : iblk m c 1 t (ix2 0 j) = g m c j := by
  rw [← norm_apply m c j]
  show V m c main_v6 (((cfg0.win 1).blk t).view.emb (ix2 0 j)) = _
  congr 1
  funext d
  fin_cases d <;> apply Fin.ext
  · show win0_1.index t 0 * 1 + 1 * 0 = 0
    rw [index_1]; rfl
  · show win0_1.index t 1 * 2048 + 1 * j.val = j.val
    rw [index_1]; simp

theorem gate_blk (t : Fin cfg0.N) (k : Fin 2048) (q : Fin 512) : iblk m c 2 t (ix3 0 k q) = wg m c (512 * (t.val % 11) + q.val) k := by
  unfold wg
  rw [dif_pos (by omega)]
  show m ((c : Thread nD τ).loc main_arg2) (((cfg0.win 2).blk t).view.emb (ix3 0 k q)) = _
  congr 1
  funext d
  fin_cases d <;> apply Fin.ext
  · show win0_2.index t 0 * 1 + 1 * 0 = 0
    rw [index_2]; rfl
  · show win0_2.index t 1 * 2048 + 1 * k.val = k.val
    rw [index_2]; simp
  · show win0_2.index t 2 * 512 + 1 * q.val = 512 * (t.val % 11) + q.val
    rw [index_2]; show t.val % 11 * 512 + 1 * q.val = _; omega

theorem up_blk (t : Fin cfg0.N) (k : Fin 2048) (q : Fin 512) : iblk m c 3 t (ix3 0 k q) = wu m c (512 * (t.val % 11) + q.val) k := by
  unfold wu
  rw [dif_pos (by omega)]
  show m ((c : Thread nD τ).loc main_arg3) (((cfg0.win 3).blk t).view.emb (ix3 0 k q)) = _
  congr 1
  funext d
  fin_cases d <;> apply Fin.ext
  · show win0_3.index t 0 * 1 + 1 * 0 = 0
    rw [index_3]; rfl
  · show win0_3.index t 1 * 2048 + 1 * k.val = k.val
    rw [index_3]; simp
  · show win0_3.index t 2 * 512 + 1 * q.val = 512 * (t.val % 11) + q.val
    rw [index_3]; show t.val % 11 * 512 + 1 * q.val = _; omega

theorem down_blk (t : Fin cfg0.N) (q : Fin 512) (j : Fin 2048) : iblk m c 4 t (ix3 0 q j) = wd m c (512 * (t.val % 11) + q.val) j := by
  unfold wd
  rw [dif_pos (by omega)]
  show m ((c : Thread nD τ).loc main_arg4) (((cfg0.win 4).blk t).view.emb (ix3 0 q j)) = _
  congr 1
  funext d
  fin_cases d <;> apply Fin.ext
  · show win0_4.index t 0 * 1 + 1 * 0 = 0
    rw [index_4]; rfl
  · show win0_4.index t 1 * 512 + 1 * q.val = 512 * (t.val % 11) + q.val
    rw [index_4]; show t.val % 11 * 512 + 1 * q.val = _; omega
  · show win0_4.index t 2 * 2048 + 1 * j.val = j.val
    rw [index_4]; simp

end Cert.FfnMidIdeal.Blk

end
-- ==== Proof.FfnMidIdeal.Whole.lean ====
/- What the call's result array holds without the last norm: the rows with the network's results added. -/
module

public import proofs.«01_k».proof.Proof.FfnMidIdeal.Inputs

@[expose] public section

set_option maxRecDepth 16384

noncomputable section

namespace Cert.FfnMidIdeal.Blk

open Idealize.ShloMosaic Idealize.ShloMosaic.TcCoe Idealize.SL Idealize.SL.Sem
open Cert.FfnMidIdeal Cert.FfnMidIdeal.Gen Cert.FfnMidIdeal.Value Cert.FfnMath

variable (m : (ℓ : Loc nD τ sig) → Buf (Elt Ideal) ℓ) (c : Dev nD)

/-- A row of the call after the first `n` hidden columns. -/
def after (r n : ℕ) (j : Fin 2048) : EReal := mixed (H m c r) (g m c) (wg m c) (wu m c) (wd m c) n j

/-- What a point leaves: the normalised rows, and the rows with the hidden columns so far added. -/
structure Left (n : ℕ) (o : Vec Ideal S1024x2048 .f32 × Vec Ideal S1024x2048 .bf16) : Prop where
  rows : ∀ (a : Fin 1024) (j : Fin 2048), o.2 (ix2 a j) = scaled (H m c (1024 * (n / 11) + a.val)) (g m c) j
  sums : ∀ (a : Fin 1024) (j : Fin 2048), o.1 (ix2 a j) = after m c (1024 * (n / 11) + a.val) (512 * (n % 11) + 512) j

/-- One slice more, on rows that hold the slices before. -/
theorem slice_sum (h g : Fin 2048 → EReal) (WG WU WD : ℕ → Fin 2048 → EReal) (n : ℕ) (x : Vec Ideal S1024x2048 .bf16) (y z : Vec Ideal S1x2048x512 .bf16)
    (o : Vec Ideal S1024x2048 .f32) (w : Vec Ideal S1x512x2048 .bf16) (a : Fin 1024) (j : Fin 2048)
    (hx : ∀ k : Fin 2048, x (ix2 a k) = scaled h g k) (hy : ∀ (k : Fin 2048) (q : Fin 512), y (ix3 0 k q) = WG (n + q.val) k)
    (hz : ∀ (k : Fin 2048) (q : Fin 512), z (ix3 0 k q) = WU (n + q.val) k) (ho : o (ix2 a j) = mixed h g WG WU WD n j)
    (hw : ∀ q : Fin 512, w (ix3 0 q j) = WD (n + q.val) j) : k0_pay3 x y z o w (ix2 a j) = mixed h g WG WU WD (n + 512) j := by
  rw [slice_apply, ho, ← mixed_slice]
  simp only [hx, hy, hz, hw]

theorem add_slice (t : Fin cfg0.N) (x : Vec Ideal S1024x2048 .bf16) (o : Vec Ideal S1024x2048 .f32)
    (hx : ∀ (a : Fin 1024) (j : Fin 2048), x (ix2 a j) = scaled (H m c (1024 * (t.val / 11) + a.val)) (g m c) j)
    (ho : ∀ (a : Fin 1024) (j : Fin 2048), o (ix2 a j) = after m c (1024 * (t.val / 11) + a.val) (512 * (t.val % 11)) j) (a : Fin 1024) (j : Fin 2048) :
    k0_pay3 x (iblk m c 2 t) (iblk m c 3 t) o (iblk m c 4 t) (ix2 a j) = after m c (1024 * (t.val / 11) + a.val) (512 * (t.val % 11) + 512) j :=
  slice_sum _ _ _ _ _ _ x (iblk m c 2 t) (iblk m c 3 t) o (iblk m c 4 t) a j (hx a) (gate_blk m c t) (up_blk m c t) (ho a j) fun q => down_blk m c t q j

theorem left_A (t : Fin cfg0.N) (h0 : t.val % 11 = 0) : Left m c t.val (outsAt0 m c t.val t.isLt) := by
  have hx : ∀ (a : Fin 1024) (j : Fin 2048), k0_pay2 (iblk m c 0 t) (iblk m c 1 t) (ix2 a j) = scaled (H m c (1024 * (t.val / 11) + a.val)) (g m c) j := fun a j => by
    refine (rows_apply (iblk m c 0 t) (iblk m c 1 t) a j).trans ?_
    congr 1
    · exact funext fun k => hidden_blk m c t a k
    · exact funext fun k => norm_blk m c t k
  rw [outsAt0_A m c t h0]
  refine ⟨?_, ?_⟩
  · dsimp only
    rw [kept_A]
    exact hx
  · dsimp only
    rw [out_A]
    refine add_slice m c t _ _ hx fun a j => ?_
    rw [h0]
    exact (first_apply (iblk m c 0 t) a j).trans ((hidden_blk m c t a j).trans (mixed_zero _ _ _ _ _ _).symm)

variable (t : Fin cfg0.N) (h0 : ¬t.val % 11 = 0) (hb : Left m c (t.val - 1) (outsAt0 m c (t.val - 1) (Nat.lt_of_le_of_lt (Nat.sub_le _ _) t.isLt)))

include h0 hb in
theorem rows_before : ∀ (a : Fin 1024) (j : Fin 2048), (outsAt0 m c (t.val - 1) (Nat.lt_of_le_of_lt (Nat.sub_le _ _) t.isLt)).2 (ix2 a j) = scaled (H m c (1024 * (t.val / 11) + a.val)) (g m c) j := by
  have h := hb.rows
  rw [show (t.val - 1) / 11 = t.val / 11 by omega] at h
  exact h

include h0 hb in
theorem sums_before : ∀ (a : Fin 1024) (j : Fin 2048), (outsAt0 m c (t.val - 1) (Nat.lt_of_le_of_lt (Nat.sub_le _ _) t.isLt)).1 (ix2 a j) = after m c (1024 * (t.val / 11) + a.val) (512 * (t.val % 11)) j := by
  have h := hb.sums
  rw [show (t.val - 1) / 11 = t.val / 11 by omega, show 512 * ((t.val - 1) % 11) + 512 = 512 * (t.val % 11) by omega] at h
  exact h

include h0 hb in
theorem left_B : Left m c t.val (outsAt0 m c t.val t.isLt) := by
  rw [outsAt0_B m c t h0]
  refine ⟨rows_before m c t h0 hb, ?_⟩
  dsimp only
  rw [out_B]
  exact add_slice m c t _ _ (rows_before m c t h0 hb) (sums_before m c t h0 hb)

theorem after_point : ∀ (n : ℕ) (hn : n < cfg0.N), Left m c n (outsAt0 m c n hn) := by
  intro n
  induction n with
  | zero => exact fun hn => left_A m c ⟨0, hn⟩ rfl
  | succ n ih =>
    intro hn
    by_cases h0 : (n + 1) % 11 = 0
    · exact left_A m c ⟨n + 1, hn⟩ h0
    · exact left_B m c ⟨n + 1, hn⟩ h0 (ih (by omega))

/-- The result array at a row and a column. -/
theorem whole (r : Fin 32768) (j : Fin 2048) : G6 m c (ix2 r j) = mixed (H m c r.val) (g m c) (wg m c) (wu m c) (wd m c) 5632 j := by
  have hN : cfg0.N = 352 := N_0
  have hp : pt6Of (ix2 r j) = 11 * (r.val / 1024) + 10 := by
    show 11 * (1 * (r.val / 1024 - 0) + 1 * (j.val / 2048 - 0)) + 10 = _
    omega
  have hl : (loc6Of (ix2 r j) : S1024x2048.Idx) = ix2 (⟨r.val % 1024, by omega⟩ : Fin 1024) j := by
    funext d
    fin_cases d
    · rfl
    · exact Fin.ext (by show j.val % 2048 = j.val; omega)
  unfold G6
  rw [dif_pos (by rw [hp]; omega), ← outsAt0_sweep m c _ (by rw [hp]; omega), hl, (after_point m c _ _).sums, hp]
  show after m c (1024 * ((11 * (r.val / 1024) + 10) / 11) + r.val % 1024) (512 * ((11 * (r.val / 1024) + 10) % 11) + 512) j = _
  rw [show 1024 * ((11 * (r.val / 1024) + 10) / 11) + r.val % 1024 = r.val by omega, show 512 * ((11 * (r.val / 1024) + 10) % 11) + 512 = 5632 by omega]
  rfl

end Cert.FfnMidIdeal.Blk

end
-- ==== Proof.FfnMidReferenceIdeal.Result.lean ====
/- The reference's result, row by row and column by column. -/
module

public import proofs.«01_k».proof.Proof.Gen.FfnMidReferenceIdeal.Read
public import proofs.«01_k».proof.Proof.FfnMath

@[expose] public section

set_option maxRecDepth 16384

noncomputable section

namespace Cert.FfnMidReferenceIdeal.Net

open Idealize.ShloMosaic Idealize.ShloMosaic.TcCoe Idealize.SL Idealize.SL.Sem
open Cert.FfnMidReferenceIdeal Cert.FfnMidReferenceIdeal.Read Cert.FfnMath

variable (x0 : (⟨S8x4096x2048, .f32⟩ : BufTy).Contents (Elt Ideal)) (x1 : (⟨S4x2048, .f32⟩ : BufTy).Contents (Elt Ideal))
  (x2 x3 : (⟨S4x2048x5632, .f32⟩ : BufTy).Contents (Elt Ideal)) (x4 : (⟨S4x5632x2048, .f32⟩ : BufTy).Contents (Elt Ideal))

/-- A normalised row. -/
theorem rows_apply (b : Fin 8) (s : Fin 4096) (j : Fin 2048) :
    val_main_v14 (F := Ideal) x0 x1 (ix3 b s j) = scaled (fun k => x0 (ix3 b s k)) (fun k => x1 (ix2 0 k)) j := by
  have hsum : ∀ i : S8x4096.Idx, i = ix2 b s → val_main_v3 (F := Ideal) x0 i = ∑ k : Fin 2048, x0 (ix3 b s k) * x0 (ix3 b s k) := by
    rintro i rfl
    rw [val_main_v3_apply]
    refine (congrArg₂ (· + ·) (show _ = (0 : EReal) by unfold val_main_cst; pointwise []) (Finset.sum_congr rfl fun k _ => ?_)).trans (zero_add _)
    rw [val_main_v2_apply, show idx_main_v3 (ix2 b s) k = ix3 b s k from (eq_ix3 _).trans rfl]
    rfl
  rw [val_main_v14_apply, val_main_v11_apply, val_main_v10_apply, val_main_v9_apply, val_main_v8_apply, val_main_v6_apply, val_main_v4_apply,
    val_main_v5_apply, val_main_v7_apply, val_main_v13_apply, val_main_v12_apply, val_main_v1_apply, val_main_v0_apply, hsum _ ((eq_ix2 _).trans rfl)]
  rw [show idx_main_v0 (idx_main_v1 (idx_main_v12 (idx_main_v13 (ix3 b s j)))) = ix2 0 j from (eq_ix2 _).trans (by
    refine congrArg₂ ix2 (Fin.ext rfl) (Fin.ext ?_)
    show j.val % 2048 = j.val
    omega)]
  rfl

/-- A layer's weight by hidden column. -/
theorem gate_weight (k : Fin 2048) (q : Fin 5632) : val_main_v16 (F := Ideal) x2 (ix2 k q) = x2 (ix3 0 k q) := by
  rw [val_main_v16_apply, val_main_v15_apply]
  refine congrArg x2 ((eq_ix3 _).trans (congr (congrArg₂ ix3 (Fin.ext rfl) (Fin.ext ?_)) (Fin.ext ?_)))
  · show (k.val * 5632 + q.val) / 5632 % 2048 = k.val; omega
  · show (k.val * 5632 + q.val) % 5632 = q.val; omega

theorem up_weight (k : Fin 2048) (q : Fin 5632) : val_main_v20 (F := Ideal) x3 (ix2 k q) = x3 (ix3 0 k q) := by
  rw [val_main_v20_apply, val_main_v19_apply]
  refine congrArg x3 ((eq_ix3 _).trans (congr (congrArg₂ ix3 (Fin.ext rfl) (Fin.ext ?_)) (Fin.ext ?_)))
  · show (k.val * 5632 + q.val) / 5632 % 2048 = k.val; omega
  · show (k.val * 5632 + q.val) % 5632 = q.val; omega

theorem down_weight (q : Fin 5632) (j : Fin 2048) : val_main_v24 (F := Ideal) x4 (ix2 q j) = x4 (ix3 0 q j) := by
  rw [val_main_v24_apply, val_main_v23_apply]
  refine congrArg x4 ((eq_ix3 _).trans (congr (congrArg₂ ix3 (Fin.ext rfl) (Fin.ext ?_)) (Fin.ext ?_)))
  · show (q.val * 2048 + j.val) / 2048 % 5632 = q.val; omega
  · show (q.val * 2048 + j.val) % 2048 = j.val; omega

variable (b : Fin 8) (s : Fin 4096)

theorem gate_apply (q : Fin 5632) : val_main_v17 (F := Ideal) x0 x1 x2 (ix3 b s q)
    = ∑ k : Fin 2048, scaled (fun k => x0 (ix3 b s k)) (fun k => x1 (ix2 0 k)) k * x2 (ix3 0 k q) := by
  rw [val_main_v17_apply]
  refine Finset.sum_congr rfl fun k _ => congrArg₂ (· * ·) ?_ ?_
  · rw [show lidx_main_v17 (ix3 b s q) k = ix3 b s k from (eq_ix3 _).trans rfl]
    exact rows_apply x0 x1 b s k
  · rw [show ridx_main_v17 (ix3 b s q) k = ix2 k q from (eq_ix2 _).trans rfl]
    exact gate_weight x2 k q

theorem up_apply (q : Fin 5632) : val_main_v21 (F := Ideal) x0 x1 x3 (ix3 b s q)
    = ∑ k : Fin 2048, scaled (fun k => x0 (ix3 b s k)) (fun k => x1 (ix2 0 k)) k * x3 (ix3 0 k q) := by
  rw [val_main_v21_apply]
  refine Finset.sum_congr rfl fun k _ => congrArg₂ (· * ·) ?_ ?_
  · rw [show lidx_main_v21 (ix3 b s q) k = ix3 b s k from (eq_ix3 _).trans rfl]
    exact rows_apply x0 x1 b s k
  · rw [show ridx_main_v21 (ix3 b s q) k = ix2 k q from (eq_ix2 _).trans rfl]
    exact up_weight x3 k q

/-- One hidden column. -/
theorem gated_apply (q : Fin 5632) : val_main_v22 (F := Ideal) x0 x1 x2 x3 (ix3 b s q)
    = gated (scaled (fun k => x0 (ix3 b s k)) (fun k => x1 (ix2 0 k))) (fun k => x2 (ix3 0 k q)) (fun k => x3 (ix3 0 k q)) := by
  have one : Ideal.ofBits .f32 0x3F800000#32 = (1 : EReal) := by
    simp [Ideal.ofBits, Ideal.ieee]
    rw [← EReal.coe_mul, ← EReal.coe_one]
    congr 1
    norm_num
  rw [val_main_v22_apply, val_main_v18_apply, val_main_call0_v5_apply, val_main_call0_v4_apply, val_main_call0_cst_0_apply, val_main_call0_v3_apply,
    val_main_call0_v2_apply, val_main_call0_cst_apply, val_main_call0_v1_apply, val_main_call0_v0_apply, gate_apply, up_apply]
  show (_ * Ideal.div (Ideal.ofBits .f32 0x3F800000#32) (Ideal.ofBits .f32 0x3F800000#32 + Ideal.exp (-_))) * _ = _
  rw [one, gate_eq]
  rfl

/-- A row plus the network's result. -/
theorem sum_apply (j : Fin 2048) : val_main_v26 (F := Ideal) x0 x1 x2 x3 x4 (ix3 b s j)
    = x0 (ix3 b s j) + ∑ q : Fin 5632, gated (scaled (fun k => x0 (ix3 b s k)) (fun k => x1 (ix2 0 k))) (fun k => x2 (ix3 0 k q)) (fun k => x3 (ix3 0 k q)) * x4 (ix3 0 q j) := by
  rw [val_main_v26_apply, val_main_v25_apply]
  refine congrArg (x0 (ix3 b s j) + ·) (Finset.sum_congr rfl fun q _ => congrArg₂ (· * ·) ?_ ?_)
  · rw [show lidx_main_v25 (ix3 b s j) q = ix3 b s q from (eq_ix3 _).trans rfl]
    exact gated_apply x0 x1 x2 x3 b s q
  · rw [show ridx_main_v25 (ix3 b s j) q = ix2 q j from (eq_ix2 _).trans rfl]
    exact down_weight x4 q j

/-- The result at a row and a column. -/
theorem whole (h g : Fin 2048 → EReal) (wg wu wd : ℕ → Fin 2048 → EReal) (r : Fin 32768) (j : Fin 2048)
    (hh : ∀ k : Fin 2048, x0 (ix3 (⟨r.val / 4096, by omega⟩ : Fin 8) (⟨r.val % 4096, by omega⟩ : Fin 4096) k) = h k) (hg : ∀ k : Fin 2048, x1 (ix2 0 k) = g k)
    (hwg : ∀ (k : Fin 2048) (q : Fin 5632), x2 (ix3 0 k q) = wg q.val k) (hwu : ∀ (k : Fin 2048) (q : Fin 5632), x3 (ix3 0 k q) = wu q.val k)
    (hwd : ∀ (k : Fin 2048) (q : Fin 5632), x4 (ix3 0 q k) = wd q.val k) :
    val_main_v27 (F := Ideal) x0 x1 x2 x3 x4 (ix2 r j) = mixed h g wg wu wd 5632 j := by
  rw [val_main_v27_apply]
  have hi : idx_main_v27 (ix2 r j) = ix3 (⟨r.val / 4096, by omega⟩ : Fin 8) (⟨r.val % 4096, by omega⟩ : Fin 4096) j :=
    (eq_ix3 _).trans (congr (congrArg₂ ix3 (Fin.ext (by show (r.val * 2048 + j.val) / 8388608 = r.val / 4096; omega))
      (Fin.ext (by show (r.val * 2048 + j.val) / 2048 % 4096 = r.val % 4096; omega))) (Fin.ext (by show (r.val * 2048 + j.val) % 2048 = j.val; omega)))
  rw [hi, sum_apply, mixed_all]
  simp only [hh, hg, hwg, hwu, hwd]

end Cert.FfnMidReferenceIdeal.Net

end
-- ==== Proof.FfnMidAgree.lean ====
/- The feed-forward call without the last norm and its reference, on the same arguments, hold the same result. -/
module

public import proofs.«01_k».proof.Proof.FfnMidIdeal.Whole
public import proofs.«01_k».proof.Proof.FfnMidReferenceIdeal.Result

@[expose] public section

noncomputable section

namespace Cert.FfnMidAgree

open Idealize.ShloMosaic Idealize.ShloMosaic.TcCoe Idealize.SL.Sem
open Cert.FfnMidIdeal Cert.FfnMidIdeal.Blk

theorem equal (m : (ℓ : Loc nD τ sig) → Buf (Elt Ideal) ℓ) (c : Dev nD) :
    Cert.FfnMidReferenceIdeal.Read.val_main_v27 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = Cert.FfnMidIdeal.Value.G6 m c := by
  have at_ix : ∀ (r : Fin 32768) (j : Fin 2048), Cert.FfnMidReferenceIdeal.Read.val_main_v27 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (ix2 r j)
      = Cert.FfnMidIdeal.Value.G6 m c (ix2 r j) := fun r j =>
    (Cert.FfnMidReferenceIdeal.Net.whole _ _ _ _ _ (H m c r.val) (g m c) (wg m c) (wu m c) (wd m c) r j
      (fun k => by unfold H; rw [dif_pos r.isLt]) (fun k => rfl) (fun k q => by unfold wg; rw [dif_pos q.isLt]) (fun k q => by unfold wu; rw [dif_pos q.isLt])
      (fun k q => by unfold wd; rw [dif_pos q.isLt])).trans (whole m c r j).symm
  funext i
  rw [eq_ix2 i]
  exact at_ix (i 0) (i 1)

end Cert.FfnMidAgree

end
-- ==== Proof.SlabsIdeal.Cases.lean ====
/- What each kind of point leaves: the first of a block of rows, which normalises them, and the others. -/
module

public import proofs.«01_k».proof.Proof.Gen.SlabsIdeal.Value
public import Idealize.ShloMosaic.Lib.VecWindow
public import Idealize.ShloMosaic.Lib.Pointwise

@[expose] public section

set_option maxRecDepth 16384

noncomputable section

namespace Cert.SlabsIdeal.Blk

open Idealize.ShloMosaic Idealize.ShloMosaic.TcCoe Idealize.SL Idealize.SL.Sem
open Cert.SlabsIdeal Cert.SlabsIdeal.Gen

variable {F : FTy → Type} [FloatOps F]

/-- Columns in 14 slabs of 128. -/
def inSlabs (p : Vec F S1024x1792 .f32) : Vec F S14x1024x128 .f32 := fun y =>
  p (ix2 (⟨(y 1).val, (y 1).isLt⟩ : Fin 1024) (⟨128 * (y 0).val + (y 2).val, by have h0 : (y 0).val < 14 := (y 0).isLt; have h2 : (y 2).val < 128 := (y 2).isLt; omega⟩ : Fin 1792))

omit [FloatOps F] in
/-- One slab of 128 columns, cut and given a leading axis of one, is its place in the slabs. -/
theorem slab (p : Vec F S1024x1792 .f32) (n o : ℕ) (ho : o = 128 * n) (inb : ∀ d, (![n, 0, 0] : Fin 3 → ℕ) d + S1x1024x128.size d ≤ S14x1024x128.size d) (hs : S1024x1792.Slices ![0, o] S1024x128)
    (hc : S1024x128.ShapeCasts S1x1024x128) (x : S1x1024x128.Idx) : shapeCast S1x1024x128 (extractStridedSlice S1024x128 ![0, o] p hs) hc x
      = inSlabs p ((Rect.unit (s := S14x1024x128) ![n, 0, 0] S1x1024x128.size inb).emb x) := by
  subst ho
  have h0 : (x 0).val < 1 := (x 0).isLt
  have h1 : (x 1).val < 1024 := (x 1).isLt
  have h2 : (x 2).val < 128 := (x 2).isLt
  refine (shapeCast_apply _ hc x (ix2 (⟨(x 1).val, h1⟩ : Fin 1024) (⟨(x 2).val, h2⟩ : Fin 128)) (by
    rw [Shape.rowMajor_val_three, Shape.rowMajor_val_two]; show (x 1).val * 128 + (x 2).val = ((x 0).val * 1024 + (x 1).val) * 128 + (x 2).val; omega)).trans ?_
  refine congrArg p (funext fun d => ?_)
  fin_cases d <;> apply Fin.ext
  · show 0 + (x 1).val = 0 + 1 * (x 1).val; omega
  · show 128 * n + (x 2).val = 128 * (n + 1 * (x 0).val) + (0 + 1 * (x 2).val); omega

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1792 .bf16) (harg4 : arg4.IsWhole) (arg5 : Memref sig .tc .vmem S14x1024x128 .f32) (harg5 : arg5.IsWhole) (arg6 : Memref sig .tc .vmem S1024x2048 .bf16) (harg6 : arg6.IsWhole)
  (x0 : Vec F S1024x2048 .f32) (x1 : Vec F S1x2048 .f32) (x2 : Vec F S1x2048x1792 .bf16) (xs0 : Vec F S1024x2048 .bf16)

omit [FloatOps F] in
/-- A load of a whole array reads what the array holds. -/
theorem loaded {s : Shape} {e : EltTy} (a : Memref sig .tc .vmem s e) (ha : a.IsWhole) (x : Vec F s e) {off : Fin s.rank → ℕ} (inb : ∀ d, off d + s.size d ≤ s.size d) :
    a.view.readAt (Elt F) (Rect.unit off s.size inb).toLoadRect (ha.unread x) = x :=
  (View.readAt_full _ _ _).trans (ha.read_unread _)

/-- The first point keeps the normalised rows. -/
theorem kept_A (hc0 : cond0_0 i) : sout0_A_0 c i arg2 harg2 arg3 harg3 arg4 harg4 arg5 harg5 arg6 harg6 hc0 x0 x1 x2 = k0_pay3 x0 x1 := by
  unfold sout0_A_0 kernelRun0_A
  dsimp only
  refine (View.read_writes_full _ _ _ _ _).trans ?_
  congr 1
  · exact loaded _ _ _ _
  · exact loaded _ _ _ _

/-- The pieces a point stores, the last first: the 14 slabs of a product. -/
def stored (x : Vec F S1024x2048 .bf16) (w : Vec F S1x2048x1792 .bf16) : List (View.Piece (Elt F) S14x1024x128 .f32) :=
    [⟨Rect.unit ![13, 0, 0] S1x1024x128.size inb_S14x1024x128_S1x1024x128_13_0_0, k0_pay2 (k0_pay4 x w)⟩,
      ⟨Rect.unit ![12, 0, 0] S1x1024x128.size inb_S14x1024x128_S1x1024x128_12_0_0, k0_pay1 (k0_pay18 (k0_pay4 x w))⟩,
      ⟨Rect.unit ![11, 0, 0] S1x1024x128.size inb_S14x1024x128_S1x1024x128_11_0_0, k0_pay17 (k0_pay4 x w)⟩,
      ⟨Rect.unit ![10, 0, 0] S1x1024x128.size inb_S14x1024x128_S1x1024x128_10_0_0, k0_pay16 (k0_pay4 x w)⟩,
      ⟨Rect.unit ![9, 0, 0] S1x1024x128.size inb_S14x1024x128_S1x1024x128_9_0_0, k0_pay15 (k0_pay4 x w)⟩,
      ⟨Rect.unit ![8, 0, 0] S1x1024x128.size inb_S14x1024x128_S1x1024x128_8_0_0, k0_pay14 (k0_pay4 x w)⟩,
      ⟨Rect.unit ![7, 0, 0] S1x1024x128.size inb_S14x1024x128_S1x1024x128_7_0_0, k0_pay13 (k0_pay4 x w)⟩,
      ⟨Rect.unit ![6, 0, 0] S1x1024x128.size inb_S14x1024x128_S1x1024x128_6_0_0, k0_pay12 (k0_pay4 x w)⟩,
      ⟨Rect.unit ![5, 0, 0] S1x1024x128.size inb_S14x1024x128_S1x1024x128_5_0_0, k0_pay11 (k0_pay10 x w)⟩,
      ⟨Rect.unit ![4, 0, 0] S1x1024x128.size inb_S14x1024x128_S1x1024x128_4_0_0, k0_pay9 x w⟩,
      ⟨Rect.unit ![3, 0, 0] S1x1024x128.size inb_S14x1024x128_S1x1024x128_3_0_0, k0_pay8 x w⟩,
      ⟨Rect.unit ![2, 0, 0] S1x1024x128.size inb_S14x1024x128_S1x1024x128_2_0_0, k0_pay7 x w⟩,
      ⟨Rect.unit ![1, 0, 0] S1x1024x128.size inb_S14x1024x128_S1x1024x128_1_0_0, k0_pay6 x w⟩,
      ⟨Rect.unit ![0, 0, 0] S1x1024x128.size inb_S14x1024x128_S1x1024x128_0_0_0, k0_pay5 x w⟩]

theorem stored_agree (x : Vec F S1024x2048 .bf16) (w : Vec F S1x2048x1792 .bf16) : ∀ p ∈ stored x w, ∀ y : p.1.shape.Idx, p.2 y = inSlabs (k0_pay4 x w) (p.1.emb y) := by
  unfold stored
  refine List.forall_mem_cons.2 ⟨slab (k0_pay4 x w) 13 1664 rfl inb_S14x1024x128_S1x1024x128_13_0_0 slices_S1024x1792_o0_1664_S1024x128 shapeCasts_S1024x128_S1x1024x128, ?_⟩
  refine List.forall_mem_cons.2 ⟨slab (k0_pay4 x w) 12 1536 rfl inb_S14x1024x128_S1x1024x128_12_0_0 slices_S1024x1792_o0_1536_S1024x128 shapeCasts_S1024x128_S1x1024x128, ?_⟩
  refine List.forall_mem_cons.2 ⟨slab (k0_pay4 x w) 11 1408 rfl inb_S14x1024x128_S1x1024x128_11_0_0 slices_S1024x1792_o0_1408_S1024x128 shapeCasts_S1024x128_S1x1024x128, ?_⟩
  refine List.forall_mem_cons.2 ⟨slab (k0_pay4 x w) 10 1280 rfl inb_S14x1024x128_S1x1024x128_10_0_0 slices_S1024x1792_o0_1280_S1024x128 shapeCasts_S1024x128_S1x1024x128, ?_⟩
  refine List.forall_mem_cons.2 ⟨slab (k0_pay4 x w) 9 1152 rfl inb_S14x1024x128_S1x1024x128_9_0_0 slices_S1024x1792_o0_1152_S1024x128 shapeCasts_S1024x128_S1x1024x128, ?_⟩
  refine List.forall_mem_cons.2 ⟨slab (k0_pay4 x w) 8 1024 rfl inb_S14x1024x128_S1x1024x128_8_0_0 slices_S1024x1792_o0_1024_S1024x128 shapeCasts_S1024x128_S1x1024x128, ?_⟩
  refine List.forall_mem_cons.2 ⟨slab (k0_pay4 x w) 7 896 rfl inb_S14x1024x128_S1x1024x128_7_0_0 slices_S1024x1792_o0_896_S1024x128 shapeCasts_S1024x128_S1x1024x128, ?_⟩
  refine List.forall_mem_cons.2 ⟨slab (k0_pay4 x w) 6 768 rfl inb_S14x1024x128_S1x1024x128_6_0_0 slices_S1024x1792_o0_768_S1024x128 shapeCasts_S1024x128_S1x1024x128, ?_⟩
  refine List.forall_mem_cons.2 ⟨slab (k0_pay4 x w) 5 640 rfl inb_S14x1024x128_S1x1024x128_5_0_0 slices_S1024x1792_o0_640_S1024x128 shapeCasts_S1024x128_S1x1024x128, ?_⟩
  refine List.forall_mem_cons.2 ⟨slab (k0_pay4 x w) 4 512 rfl inb_S14x1024x128_S1x1024x128_4_0_0 slices_S1024x1792_o0_512_S1024x128 shapeCasts_S1024x128_S1x1024x128, ?_⟩
  refine List.forall_mem_cons.2 ⟨slab (k0_pay4 x w) 3 384 rfl inb_S14x1024x128_S1x1024x128_3_0_0 slices_S1024x1792_o0_384_S1024x128 shapeCasts_S1024x128_S1x1024x128, ?_⟩
  refine List.forall_mem_cons.2 ⟨slab (k0_pay4 x w) 2 256 rfl inb_S14x1024x128_S1x1024x128_2_0_0 slices_S1024x1792_o0_256_S1024x128 shapeCasts_S1024x128_S1x1024x128, ?_⟩
  refine List.forall_mem_cons.2 ⟨slab (k0_pay4 x w) 1 128 rfl inb_S14x1024x128_S1x1024x128_1_0_0 slices_S1024x1792_o0_128_S1024x128 shapeCasts_S1024x128_S1x1024x128, ?_⟩
  refine List.forall_mem_cons.2 ⟨slab (k0_pay4 x w) 0 0 rfl inb_S14x1024x128_S1x1024x128_0_0_0 slices_S1024x1792_o0_0_S1024x128 shapeCasts_S1024x128_S1x1024x128, ?_⟩
  exact fun p hp => absurd hp List.not_mem_nil

/-- Once stored, they are the slabs. -/
theorem stored_read (v : View sig .tc .vmem S14x1024x128 .f32) (f : v.ty.Contents (Elt F)) (x : Vec F S1024x2048 .bf16) (w : Vec F S1x2048x1792 .bf16)
    (hcov : ∀ y : S14x1024x128.Idx, ∃ p ∈ stored x w, y ∈ p.1.set) : v.read (Elt F) (v.writes (Elt F) f (stored x w)) = inSlabs (k0_pay4 x w) :=
  funext fun y => View.read_writes_apply_of_pieces v f (inSlabs (k0_pay4 x w)) _ (stored_agree x w) y (hcov y)

/-- A later point stores the product of the rows kept, slab by slab. -/
theorem out_B (hc0 : ¬cond0_0 i) : out0_B_3 c i arg2 harg2 arg3 harg3 arg4 harg4 arg5 harg5 arg6 harg6 hc0 x0 x1 x2 xs0 = inSlabs (k0_pay4 xs0 x2) := by
  have hcov := cover0_B_3 c i arg2 harg2 arg3 harg3 arg4 harg4 arg5 harg5 arg6 harg6 hc0 x0 x1 x2 xs0
  unfold out0_B_3
  unfold kernelRun0_B at hcov ⊢
  dsimp only at hcov ⊢
  refine (stored_read VO0_3 VO0_3.junk _ _ hcov).trans ?_
  congr 2
  · exact loaded _ _ _ _
  · exact loaded _ _ _ _

/-- The first point stores the product of the rows it normalised. -/
theorem out_A (hc0 : cond0_0 i) : out0_A_3 c i arg2 harg2 arg3 harg3 arg4 harg4 arg5 harg5 arg6 harg6 hc0 x0 x1 x2 = inSlabs (k0_pay4 (k0_pay3 x0 x1) x2) := by
  have hcov := cover0_A_3 c i arg2 harg2 arg3 harg3 arg4 harg4 arg5 harg5 arg6 harg6 hc0 x0 x1 x2
  unfold out0_A_3
  unfold kernelRun0_A at hcov ⊢
  dsimp only at hcov ⊢
  refine (stored_read VO0_3 VO0_3.junk _ _ hcov).trans ?_
  congr 2
  · unfold kernelRun0_A.sl.v3
    refine (View.readCov_full _ _ _ _ _).trans ?_
    congr 1
    · exact loaded _ _ _ _
    · exact loaded _ _ _ _
  · exact loaded _ _ _ _

end Cert.SlabsIdeal.Blk

end
-- ==== Proof.SlabsIdeal.Inputs.lean ====
/- What a point computes, and what the call's input blocks hold, off the call's arguments. -/
module

public import proofs.«01_k».proof.Proof.SlabsIdeal.Cases
public import proofs.«01_k».proof.Proof.FfnMath

@[expose] public section

set_option maxRecDepth 16384

noncomputable section

namespace Cert.SlabsIdeal.Blk

open Idealize.ShloMosaic Idealize.ShloMosaic.TcCoe Idealize.SL Idealize.SL.Sem
open Cert.SlabsIdeal Cert.SlabsIdeal.Gen Cert.FfnMath

theorem rows_apply (x : Vec Ideal S1024x2048 .f32) (g : Vec Ideal S1x2048 .f32) (a : Fin 1024) (j : Fin 2048) :
    k0_pay3 x g (ix2 a j) = scaled (fun k => x (ix2 a k)) (fun k => g (ix2 0 k)) j := by
  unfold k0_pay3 scaled
  pointwise []

theorem product_apply (x : Vec Ideal S1024x2048 .bf16) (w : Vec Ideal S1x2048x1792 .bf16) (a : Fin 1024) (q : Fin 1792) :
    k0_pay4 x w (ix2 a q) = ∑ k : Fin 2048, x (ix2 a k) * w (ix3 0 k q) := by
  unfold k0_pay4
  pointwise []

variable (m : (ℓ : Loc nD τ sig) → Buf (Elt Ideal) ℓ) (c : Dev nD)

/-- The arguments: a row of the hidden state, the norm's scales, the first layer's weight by column. -/
def H (r : ℕ) (j : Fin 2048) : EReal :=
  if h : r < 32768 then m ((c : Thread nD τ).loc main_arg0) (ix3 (⟨r / 4096, by omega⟩ : Fin 8) (⟨r % 4096, by omega⟩ : Fin 4096) j) else 0
def g (j : Fin 2048) : EReal := m ((c : Thread nD τ).loc main_arg1) (ix2 (0 : Fin 4) j)
def w (q : ℕ) (k : Fin 2048) : EReal := if h : q < 5376 then m ((c : Thread nD τ).loc main_arg2) (ix3 (0 : Fin 4) k (⟨q, h⟩ : Fin 5376)) else 0

theorem hidden_eq : V m c main_v1 = shapeCast S32768x2048 (m ((c : Thread nD τ).loc main_arg0)) shapeCasts_S8x4096x2048_S32768x2048 := rfl
theorem norm_eq : V m c main_v4 = shapeCast S1x2048 (shapeCast S2048 (extractStridedSlice S1x2048 ![0, 0] (m ((c : Thread nD τ).loc main_arg1)) slices_S4x2048_S1x2048_0_0) shapeCasts_S1x2048_S2048) shapeCasts_S2048_S1x2048 := rfl

theorem hidden_apply (r : Fin 32768) (j : Fin 2048) : V m c main_v1 (ix2 r j) = H m c r.val j := by
  rw [hidden_eq]
  unfold H
  rw [dif_pos r.isLt]
  exact shapeCast_apply _ _ (ix2 r j) (ix3 (⟨r.val / 4096, by omega⟩ : Fin 8) (⟨r.val % 4096, by omega⟩ : Fin 4096) j)
    (by rw [Shape.rowMajor_val_three, Shape.rowMajor_val_two]; show (r.val / 4096 * 4096 + r.val % 4096) * 2048 + j.val = r.val * 2048 + j.val; omega)

theorem norm_apply (j : Fin 2048) : V m c main_v4 (ix2 0 j) = g m c j := by
  rw [norm_eq]
  unfold g
  pointwise []

theorem index_0 : ∀ t : Fin cfg0.N, win0_0.index t = ![t.val / 3, 0] := by decide +kernel
theorem index_1 : ∀ t : Fin cfg0.N, win0_1.index t = ![0, 0] := by decide +kernel
theorem index_2 : ∀ t : Fin cfg0.N, win0_2.index t = ![0, 0, t.val % 3] := by decide +kernel

theorem lt_points (t : Fin cfg0.N) : t.val < 96 := Nat.lt_of_lt_of_eq t.isLt N_0

theorem hidden_blk (t : Fin cfg0.N) (a : Fin 1024) (j : Fin 2048) : iblk m c 0 t (ix2 a j) = H m c (1024 * (t.val / 3) + a.val) j := by
  have ht := lt_points t
  rw [← hidden_apply m c ⟨1024 * (t.val / 3) + a.val, by omega⟩ j]
  show V m c main_v1 (((cfg0.win 0).blk t).view.emb (ix2 a j)) = _
  congr 1
  funext d
  fin_cases d <;> apply Fin.ext
  · show win0_0.index t 0 * 1024 + 1 * a.val = 1024 * (t.val / 3) + a.val
    rw [index_0]; show t.val / 3 * 1024 + 1 * a.val = _; omega
  · show win0_0.index t 1 * 2048 + 1 * j.val = j.val
    rw [index_0]; simp

theorem norm_blk (t : Fin cfg0.N) (j : Fin 2048) : iblk m c 1 t (ix2 0 j) = g m c j := by
  rw [← norm_apply m c j]
  show V m c main_v4 (((cfg0.win 1).blk t).view.emb (ix2 0 j)) = _
  congr 1
  funext d
  fin_cases d <;> apply Fin.ext
  · show win0_1.index t 0 * 1 + 1 * 0 = 0
    rw [index_1]; rfl
  · show win0_1.index t 1 * 2048 + 1 * j.val = j.val
    rw [index_1]; simp

theorem weight_blk (t : Fin cfg0.N) (k : Fin 2048) (q : Fin 1792) : iblk m c 2 t (ix3 0 k q) = w m c (1792 * (t.val % 3) + q.val) k := by
  unfold w
  rw [dif_pos (by omega)]
  show m ((c : Thread nD τ).loc main_arg2) (((cfg0.win 2).blk t).view.emb (ix3 0 k q)) = _
  congr 1
  funext d
  fin_cases d <;> apply Fin.ext
  · show win0_2.index t 0 * 1 + 1 * 0 = 0
    rw [index_2]; rfl
  · show win0_2.index t 1 * 2048 + 1 * k.val = k.val
    rw [index_2]; simp
  · show win0_2.index t 2 * 1792 + 1 * q.val = 1792 * (t.val % 3) + q.val
    rw [index_2]; show t.val % 3 * 1792 + 1 * q.val = _; omega

end Cert.SlabsIdeal.Blk

end
-- ==== Proof.SlabsIdeal.Whole.lean ====
/- What the call's result array holds: the product of the normalised rows, in slabs of 128 columns. -/
module

public import proofs.«01_k».proof.Proof.SlabsIdeal.Inputs

@[expose] public section

set_option maxRecDepth 16384

noncomputable section

namespace Cert.SlabsIdeal.Blk

open Idealize.ShloMosaic Idealize.ShloMosaic.TcCoe Idealize.SL Idealize.SL.Sem
open Cert.SlabsIdeal Cert.SlabsIdeal.Gen Cert.SlabsIdeal.Value Cert.FfnMath

variable (m : (ℓ : Loc nD τ sig) → Buf (Elt Ideal) ℓ) (c : Dev nD)

/-- The product at a row and a column. -/
def prod (r q : ℕ) : EReal := ∑ k : Fin 2048, scaled (H m c r) (g m c) k * w m c q k

/-- What a point leaves: the normalised rows, and its 14 slabs of their product. -/
structure Left (n : ℕ) (o : Vec Ideal S14x1024x128 .f32 × Vec Ideal S1024x2048 .bf16) : Prop where
  rows : ∀ (a : Fin 1024) (j : Fin 2048), o.2 (ix2 a j) = scaled (H m c (1024 * (n / 3) + a.val)) (g m c) j
  slabs : ∀ (s : Fin 14) (a : Fin 1024) (l : Fin 128), o.1 (ix3 s a l) = prod m c (1024 * (n / 3) + a.val) (1792 * (n % 3) + (128 * s.val + l.val))

/-- The slabs of a product, off rows and a weight's columns. -/
theorem slabs_apply (x : Vec Ideal S1024x2048 .bf16) (y : Vec Ideal S1x2048x1792 .bf16) (R : Fin 1024 → Fin 2048 → EReal) (W : ℕ → Fin 2048 → EReal) (n : ℕ)
    (hx : ∀ (a : Fin 1024) (j : Fin 2048), x (ix2 a j) = R a j) (hy : ∀ (k : Fin 2048) (q : Fin 1792), y (ix3 0 k q) = W (n + q.val) k)
    (s : Fin 14) (a : Fin 1024) (l : Fin 128) : inSlabs (k0_pay4 x y) (ix3 s a l) = ∑ k : Fin 2048, R a k * W (n + (128 * s.val + l.val)) k := by
  refine (product_apply x y a (⟨128 * s.val + l.val, by omega⟩ : Fin 1792)).trans ?_
  simp only [hx, hy]

theorem left_A (t : Fin cfg0.N) (h0 : t.val % 3 = 0) : Left m c t.val (outsAt0 m c t.val t.isLt) := by
  have hx : ∀ (a : Fin 1024) (j : Fin 2048), k0_pay3 (iblk m c 0 t) (iblk m c 1 t) (ix2 a j) = scaled (H m c (1024 * (t.val / 3) + a.val)) (g m c) j := fun a j => by
    refine (rows_apply (iblk m c 0 t) (iblk m c 1 t) a j).trans ?_
    congr 1
    · exact funext fun k => hidden_blk m c t a k
    · exact funext fun k => norm_blk m c t k
  rw [outsAt0_A m c t h0]
  refine ⟨?_, ?_⟩
  · dsimp only
    rw [kept_A]
    exact hx
  · dsimp only
    rw [out_A]
    exact slabs_apply _ (iblk m c 2 t) _ _ _ hx (weight_blk m c t)

theorem left_B (t : Fin cfg0.N) (h0 : ¬t.val % 3 = 0) (hb : Left m c (t.val - 1) (outsAt0 m c (t.val - 1) (Nat.lt_of_le_of_lt (Nat.sub_le _ _) t.isLt))) :
    Left m c t.val (outsAt0 m c t.val t.isLt) := by
  have hx := hb.rows
  rw [show (t.val - 1) / 3 = t.val / 3 by omega] at hx
  rw [outsAt0_B m c t h0]
  refine ⟨hx, ?_⟩
  dsimp only
  rw [out_B]
  exact slabs_apply _ (iblk m c 2 t) _ _ _ hx (weight_blk m c t)

theorem after_point : ∀ (n : ℕ) (hn : n < cfg0.N), Left m c n (outsAt0 m c n hn) := by
  intro n
  induction n with
  | zero => exact fun hn => left_A m c ⟨0, hn⟩ rfl
  | succ n ih =>
    intro hn
    by_cases h0 : (n + 1) % 3 = 0
    · exact left_A m c ⟨n + 1, hn⟩ h0
    · exact left_B m c ⟨n + 1, hn⟩ h0 (ih (by omega))

/-- The result array at a slab, a row and a lane. -/
theorem whole (s : Fin 42) (r : Fin 32768) (l : Fin 128) : G3 m c (ix3 s r l) = prod m c r.val (128 * s.val + l.val) := by
  have hN : cfg0.N = 96 := N_0
  have hp : pt3Of (ix3 s r l) = s.val / 14 + 3 * (r.val / 1024) := by
    show 1 * (s.val / 14 - 0) + 3 * (r.val / 1024 - 0) + 96 * (l.val / 128 - 0) = _
    omega
  have hl : (loc3Of (ix3 s r l) : S14x1024x128.Idx) = ix3 (⟨s.val % 14, by omega⟩ : Fin 14) (⟨r.val % 1024, by omega⟩ : Fin 1024) l := by
    funext d
    fin_cases d
    · rfl
    · rfl
    · exact Fin.ext (by show l.val % 128 = l.val; omega)
  unfold G3
  rw [dif_pos (by rw [hp]; omega), ← outsAt0_sweep m c _ (by rw [hp]; omega), hl, (after_point m c _ _).slabs]
  rw [hp]
  show prod m c (1024 * ((s.val / 14 + 3 * (r.val / 1024)) / 3) + r.val % 1024) (1792 * ((s.val / 14 + 3 * (r.val / 1024)) % 3) + (128 * (s.val % 14) + l.val)) = _
  congr 1 <;> omega

end Cert.SlabsIdeal.Blk

end
-- ==== Proof.SlabsReferenceIdeal.Result.lean ====
/- The reference's result, slab by slab, row by row and lane by lane. -/
module

public import proofs.«01_k».proof.Proof.Gen.SlabsReferenceIdeal.Read
public import proofs.«01_k».proof.Proof.FfnMath

@[expose] public section

set_option maxRecDepth 16384

noncomputable section

namespace Cert.SlabsReferenceIdeal.Net

open Idealize.ShloMosaic Idealize.ShloMosaic.TcCoe Idealize.SL Idealize.SL.Sem
open Cert.SlabsReferenceIdeal Cert.SlabsReferenceIdeal.Read Cert.FfnMath

variable (x0 : (⟨S8x4096x2048, .f32⟩ : BufTy).Contents (Elt Ideal)) (x1 : (⟨S4x2048, .f32⟩ : BufTy).Contents (Elt Ideal))
  (x2 : (⟨S4x2048x5376, .f32⟩ : BufTy).Contents (Elt Ideal))

/-- A normalised row. -/
theorem rows_apply (b : Fin 8) (s : Fin 4096) (j : Fin 2048) :
    val_main_v14 (F := Ideal) x0 x1 (ix3 b s j) = scaled (fun k => x0 (ix3 b s k)) (fun k => x1 (ix2 0 k)) j := by
  have hsum : ∀ i : S8x4096.Idx, i = ix2 b s → val_main_v3 (F := Ideal) x0 i = ∑ k : Fin 2048, x0 (ix3 b s k) * x0 (ix3 b s k) := by
    rintro i rfl
    rw [val_main_v3_apply]
    refine (congrArg₂ (· + ·) (show _ = (0 : EReal) by unfold val_main_cst; pointwise []) (Finset.sum_congr rfl fun k _ => ?_)).trans (zero_add _)
    rw [val_main_v2_apply, show idx_main_v3 (ix2 b s) k = ix3 b s k from (eq_ix3 _).trans rfl]
    rfl
  rw [val_main_v14_apply, val_main_v11_apply, val_main_v10_apply, val_main_v9_apply, val_main_v8_apply, val_main_v6_apply, val_main_v4_apply,
    val_main_v5_apply, val_main_v7_apply, val_main_v13_apply, val_main_v12_apply, val_main_v1_apply, val_main_v0_apply, hsum _ ((eq_ix2 _).trans rfl)]
  rw [show idx_main_v0 (idx_main_v1 (idx_main_v12 (idx_main_v13 (ix3 b s j)))) = ix2 0 j from (eq_ix2 _).trans (by
    refine congrArg₂ ix2 (Fin.ext rfl) (Fin.ext ?_)
    show j.val % 2048 = j.val
    omega)]
  rfl

/-- The first layer's weight by column. -/
theorem weight_apply (k : Fin 2048) (q : Fin 5376) : val_main_v16 (F := Ideal) x2 (ix2 k q) = x2 (ix3 0 k q) := by
  rw [val_main_v16_apply, val_main_v15_apply]
  refine congrArg x2 ((eq_ix3 _).trans (congr (congrArg₂ ix3 (Fin.ext rfl) (Fin.ext ?_)) (Fin.ext ?_)))
  · show (k.val * 5376 + q.val) / 5376 % 2048 = k.val; omega
  · show (k.val * 5376 + q.val) % 5376 = q.val; omega

/-- The product at a row and a column. -/
theorem product_apply (b : Fin 8) (s : Fin 4096) (q : Fin 5376) : val_main_v17 (F := Ideal) x0 x1 x2 (ix3 b s q)
    = ∑ k : Fin 2048, scaled (fun k => x0 (ix3 b s k)) (fun k => x1 (ix2 0 k)) k * x2 (ix3 0 k q) := by
  rw [val_main_v17_apply]
  refine Finset.sum_congr rfl fun k _ => congrArg₂ (· * ·) ?_ ?_
  · rw [show lidx_main_v17 (ix3 b s q) k = ix3 b s k from (eq_ix3 _).trans rfl]
    exact rows_apply x0 x1 b s k
  · rw [show ridx_main_v17 (ix3 b s q) k = ix2 k q from (eq_ix2 _).trans rfl]
    exact weight_apply x2 k q

/-- The result at a slab, a row and a lane. -/
theorem whole (h g : Fin 2048 → EReal) (w : ℕ → Fin 2048 → EReal) (s : Fin 42) (r : Fin 32768) (l : Fin 128)
    (hh : ∀ k : Fin 2048, x0 (ix3 (⟨r.val / 4096, by omega⟩ : Fin 8) (⟨r.val % 4096, by omega⟩ : Fin 4096) k) = h k) (hg : ∀ k : Fin 2048, x1 (ix2 0 k) = g k)
    (hw : ∀ (k : Fin 2048) (q : Fin 5376), x2 (ix3 0 k q) = w q.val k) :
    val_main_v19 (F := Ideal) x0 x1 x2 (ix3 s r l) = ∑ k : Fin 2048, scaled h g k * w (128 * s.val + l.val) k := by
  rw [val_main_v19_apply, show idx_main_v19 (ix3 s r l) = ix3 r s l from (eq_ix3 _).trans rfl, val_main_v18_apply]
  have hi : idx_main_v18 (ix3 r s l) = ix3 (⟨r.val / 4096, by omega⟩ : Fin 8) (⟨r.val % 4096, by omega⟩ : Fin 4096) (⟨128 * s.val + l.val, by omega⟩ : Fin 5376) :=
    (eq_ix3 _).trans (congr (congrArg₂ ix3 (Fin.ext (by show ((r.val * 42 + s.val) * 128 + l.val) / 22020096 = r.val / 4096; omega))
      (Fin.ext (by show ((r.val * 42 + s.val) * 128 + l.val) / 5376 % 4096 = r.val % 4096; omega))) (Fin.ext (by show ((r.val * 42 + s.val) * 128 + l.val) % 5376 = 128 * s.val + l.val; omega)))
  rw [hi, product_apply]
  simp only [hh, hg, hw]

end Cert.SlabsReferenceIdeal.Net

end
-- ==== Proof.SlabsAgree.lean ====
/- The input projection's call and its reference, on the same arguments, hold the same result. -/
module

public import proofs.«01_k».proof.Proof.SlabsIdeal.Whole
public import proofs.«01_k».proof.Proof.SlabsReferenceIdeal.Result

@[expose] public section

noncomputable section

namespace Cert.SlabsAgree

open Idealize.ShloMosaic Idealize.ShloMosaic.TcCoe Idealize.SL.Sem
open Cert.SlabsIdeal Cert.SlabsIdeal.Blk

theorem equal (m : (ℓ : Loc nD τ sig) → Buf (Elt Ideal) ℓ) (c : Dev nD) :
    Cert.SlabsReferenceIdeal.Read.val_main_v19 (F := Ideal) (m ((c : Thread nD τ).loc main_arg0)) (m ((c : Thread nD τ).loc main_arg1)) (m ((c : Thread nD τ).loc main_arg2))
      = Cert.SlabsIdeal.Value.G3 m c := by
  have at_ix : ∀ (s : Fin 42) (r : Fin 32768) (l : Fin 128), Cert.SlabsReferenceIdeal.Read.val_main_v19 (F := Ideal) (m ((c : Thread nD τ).loc main_arg0))
      (m ((c : Thread nD τ).loc main_arg1)) (m ((c : Thread nD τ).loc main_arg2)) (ix3 s r l) = Cert.SlabsIdeal.Value.G3 m c (ix3 s r l) := fun s r l =>
    (Cert.SlabsReferenceIdeal.Net.whole _ _ _ (H m c r.val) (g m c) (w m c) s r l
      (fun k => by unfold H; rw [dif_pos r.isLt]) (fun k => rfl) (fun k q => by unfold w; rw [dif_pos q.isLt])).trans (whole m c s r l).symm
  funext i
  rw [eq_ix3 i]
  exact at_ix (i 0) (i 1) (i 2)

end Cert.SlabsAgree

end
-- ==== Proof.MixMath.lean ====
/- The mathematics of a mixer's last step: three normalised rows side by side, through one weight, added to the hidden state. -/
module

public import Idealize.ShloMosaic.Lib.Pointwise
public import Idealize.ShloMosaic.Lib.IdealHost

@[expose] public section

set_option maxRecDepth 16384

noncomputable section

namespace Cert.MixMath

open Idealize.ShloMosaic

/-- A row over its root mean square, scaled column by column; the words are the row's width and the small number added. -/
def normed {n : ℕ} (width : BitVec 32) (x g : Fin n → EReal) (j : Fin n) : EReal :=
  x j * Ideal.rsqrt (Ideal.div (∑ k, x k * x k) (Ideal.ofBits .f32 width) + Ideal.ofBits .f32 0x3727C5AC#32) * g j

/-- Three rows side by side. -/
def joined (a b : Fin 512 → EReal) (c : Fin 1024 → EReal) (k : Fin 2048) : EReal :=
  if h : k.val < 512 then a ⟨k.val, h⟩ else if h' : k.val - 512 < 512 then b ⟨k.val - 512, h'⟩ else c ⟨k.val - 512 - 512, by omega⟩

/-- The result at a column: the hidden state plus the joined row's product with the weight's column. -/
def result (oa ob : Fin 512 → EReal) (oc : Fin 1024 → EReal) (ga gb : Fin 512 → EReal) (gc : Fin 1024 → EReal) (h : Fin 2048 → EReal)
    (w : Fin 2048 → Fin 2048 → EReal) (j : Fin 2048) : EReal :=
  h j + ∑ k : Fin 2048, joined (normed 0x44000000#32 oa ga) (normed 0x44000000#32 ob gb) (normed 0x44800000#32 oc gc) k * w k j

end Cert.MixMath

end
-- ==== Proof.MixIdeal.Block.lean ====
/- What a grid point of the mixer's last step computes, element by element. -/
module

public import proofs.«01_k».proof.Proof.Gen.MixIdeal.Value
public import proofs.«01_k».proof.Proof.MixMath

@[expose] public section

set_option maxRecDepth 16384

noncomputable section

namespace Cert.MixIdeal.Blk

open Idealize.ShloMosaic Idealize.ShloMosaic.TcCoe Idealize.SL Idealize.SL.Sem
open Cert.MixIdeal Cert.MixIdeal.Gen Cert.MixMath

theorem first_apply (x : Vec Ideal S512x512 .f32) (g : Vec Ideal S1x512 .f32) (a : Fin 512) (j : Fin 512) :
    k0_pay2 x g (ix2 a j) = normed 0x44000000#32 (fun k => x (ix2 a k)) (fun k => g (ix2 0 k)) j := by
  unfold k0_pay2 normed
  pointwise []

theorem second_apply (x : Vec Ideal S512x512 .f32) (g : Vec Ideal S1x512 .f32) (a : Fin 512) (j : Fin 512) :
    k0_pay3 x g (ix2 a j) = normed 0x44000000#32 (fun k => x (ix2 a k)) (fun k => g (ix2 0 k)) j := by
  unfold k0_pay3 normed
  pointwise []

/-- The third row, normalised. -/
def third (x : FVec Ideal S512x1024 .f32) (g : FVec Ideal S1x1024 .f32) (q : FVec Ideal S512 .f32) : FVec Ideal S512x1024 .bf16 :=
  truncf .bf16 (mulf (mulf x (broadcastTo S512x1024 (rsqrt (addf (divf (shapeCast S512x1 q shapeCasts_S512_S512x1) (broadcast S512x1 (Scalar.ofBits .f32 0x44800000#32)))
    (broadcast S512x1 (Scalar.ofBits .f32 0x3727C5AC#32)))) broadcasts_S512x1_S512x1024)) (broadcastTo S512x1024 g broadcasts_S1x1024_S512x1024)) bitsLt_bf16_f32

theorem third_apply (x : Vec Ideal S512x1024 .f32) (g : Vec Ideal S1x1024 .f32) (a : Fin 512) (j : Fin 1024) :
    third (k0_pay4 x) (k0_pay5 g) (k0_pay6 x) (ix2 a j) = normed 0x44800000#32 (fun k => x (ix2 a k)) (fun k => g (ix2 0 k)) j := by
  unfold third k0_pay6 k0_pay5 k0_pay4 normed
  pointwise []

/-- The three rows side by side. -/
def side (x y : FVec Ideal S512x512 .bf16) (z : FVec Ideal S512x1024 .bf16) : FVec Ideal S512x2048 .bf16 :=
  concatenate S512x2048 1 [⟨S512x512, x⟩, ⟨S512x512, y⟩, ⟨S512x1024, z⟩] concatenates_S512x512_S512x512_S512x1024_S512x2048_d1

theorem side_apply (x y : FVec Ideal S512x512 .bf16) (z : FVec Ideal S512x1024 .bf16) (a : Fin 512) (k : Fin 2048) :
    side x y z (ix2 a k) = joined (fun j => x (ix2 a j)) (fun j => y (ix2 a j)) (fun j => z (ix2 a j)) k := by
  unfold side joined
  pointwise []

/-- A block plus a product. -/
def added (p : FVec Ideal S512x2048 .bf16) (h : Vec Ideal S512x2048 .f32) (w : Vec Ideal S1x2048x2048 .bf16) : FVec Ideal S512x2048 .f32 :=
  addf (shapeCast S512x2048 h shapeCasts_S512x2048_S512x2048) (matmul dot_S512x2048_S2048x2048_S512x2048_1_0_0_1_n_n (φ₂ := .bf16) none p (shapeCast S2048x2048 w shapeCasts_S1x2048x2048_S2048x2048) (constant S512x2048 .f32 0x00000000#32))

theorem added_apply (p : FVec Ideal S512x2048 .bf16) (h : Vec Ideal S512x2048 .f32) (w : Vec Ideal S1x2048x2048 .bf16) (a : Fin 512) (j : Fin 2048) :
    added p h w (ix2 a j) = h (ix2 a j) + ∑ k : Fin 2048, p (ix2 a k) * w (ix3 0 k j) := by
  unfold added
  pointwise []

theorem point_eq (x y : FVec Ideal S512x512 .bf16) (z : FVec Ideal S512x1024 .f32) (g : FVec Ideal S1x1024 .f32) (q : FVec Ideal S512 .f32) (h : Vec Ideal S512x2048 .f32) (w : Vec Ideal S1x2048x2048 .bf16) :
    k0_pay1 x y z g q h w = added (side x y (third z g q)) h w := rfl

/-- What a point stores, at a row and a column. -/
theorem point_apply (xa xb : Vec Ideal S512x512 .f32) (xc : Vec Ideal S512x1024 .f32) (ga gb : Vec Ideal S1x512 .f32) (gc : Vec Ideal S1x1024 .f32) (h : Vec Ideal S512x2048 .f32)
    (w : Vec Ideal S1x2048x2048 .bf16) (a : Fin 512) (j : Fin 2048) :
    out0_8 xa xb xc ga gb gc h w (ix2 a j) = result (fun k => xa (ix2 a k)) (fun k => xb (ix2 a k)) (fun k => xc (ix2 a k)) (fun k => ga (ix2 0 k)) (fun k => gb (ix2 0 k))
      (fun k => gc (ix2 0 k)) (fun k => h (ix2 a k)) (fun k i => w (ix3 0 k i)) j := by
  have two : (![0, 0] : Fin 2 → ℕ) = fun _ => 0 := by funext d; fin_cases d <;> rfl
  have three : (![0, 0, 0] : Fin 3 → ℕ) = fun _ => 0 := by funext d; fin_cases d <;> rfl
  unfold out0_8
  rw [show View.ld xa r0_0 = xa from View.ld_unit_zero two _ _, show View.ld xb r0_0 = xb from View.ld_unit_zero two _ _, show View.ld xc r0_2 = xc from View.ld_unit_zero two _ _,
    show View.ld ga r0_1 = ga from View.ld_unit_zero two _ _, show View.ld gb r0_1 = gb from View.ld_unit_zero two _ _, show View.ld gc r0_3 = gc from View.ld_unit_zero two _ _,
    show View.ld h r0_4 = h from View.ld_unit_zero two _ _, show View.ld w r0_5 = w from View.ld_unit_zero three _ _, point_eq]
  refine (congrFun (View.canon_unit_zero two _ _) (ix2 a j)).trans ?_
  refine (added_apply _ h w a j).trans ?_
  unfold result
  refine congrArg (h (ix2 a j) + ·) (Finset.sum_congr rfl fun k _ => congrArg (· * w (ix3 0 k j)) ((side_apply _ _ _ a k).trans ?_))
  congr 1
  · exact funext fun i => first_apply xa ga a i
  · exact funext fun i => second_apply xb gb a i
  · exact funext fun i => third_apply xc gc a i

end Cert.MixIdeal.Blk

end
-- ==== Proof.MixIdeal.Inputs.lean ====
/- What the mixer's last step's input blocks hold, off the call's arguments. -/
module

public import proofs.«01_k».proof.Proof.MixIdeal.Block

@[expose] public section

set_option maxRecDepth 16384

noncomputable section

namespace Cert.MixIdeal.Blk

open Idealize.ShloMosaic Idealize.ShloMosaic.TcCoe Idealize.SL Idealize.SL.Sem
open Cert.MixIdeal Cert.MixIdeal.Gen Cert.MixMath

variable (m : (ℓ : Loc nD τ sig) → Buf (Elt Ideal) ℓ) (c : Dev nD)

/-- The arguments: rows of the three mixers' outputs and of the hidden state, the three norms' scales, the weight. -/
def A (r : ℕ) (j : Fin 512) : EReal :=
  if h : r < 32768 then m ((c : Thread nD τ).loc main_arg0) (ix3 (⟨r / 4096, by omega⟩ : Fin 8) (⟨r % 4096, by omega⟩ : Fin 4096) j) else 0
def B (r : ℕ) (j : Fin 512) : EReal :=
  if h : r < 32768 then m ((c : Thread nD τ).loc main_arg1) (ix3 (⟨r / 4096, by omega⟩ : Fin 8) (⟨r % 4096, by omega⟩ : Fin 4096) j) else 0
def C (r : ℕ) (j : Fin 1024) : EReal :=
  if h : r < 32768 then m ((c : Thread nD τ).loc main_arg2) (ix3 (⟨r / 4096, by omega⟩ : Fin 8) (⟨r % 4096, by omega⟩ : Fin 4096) j) else 0
def H (r : ℕ) (j : Fin 2048) : EReal :=
  if h : r < 32768 then m ((c : Thread nD τ).loc main_arg6) (ix3 (⟨r / 4096, by omega⟩ : Fin 8) (⟨r % 4096, by omega⟩ : Fin 4096) j) else 0
def ga (j : Fin 512) : EReal := m ((c : Thread nD τ).loc main_arg3) (ix2 (0 : Fin 4) j)
def gb (j : Fin 512) : EReal := m ((c : Thread nD τ).loc main_arg4) (ix2 (0 : Fin 4) j)
def gc (j : Fin 1024) : EReal := m ((c : Thread nD τ).loc main_arg5) (ix2 (0 : Fin 4) j)
def w (k j : Fin 2048) : EReal := m ((c : Thread nD τ).loc main_arg7) (ix3 (0 : Fin 4) k j)

theorem A_eq : V m c main_v1 = shapeCast S32768x512 (m ((c : Thread nD τ).loc main_arg0)) shapeCasts_S8x4096x512_S32768x512 := rfl

theorem A_apply (r : Fin 32768) (j : Fin 512) : V m c main_v1 (ix2 r j) = A m c r.val j := by
  rw [A_eq]
  unfold A
  rw [dif_pos r.isLt]
  exact shapeCast_apply _ _ (ix2 r j) (ix3 (⟨r.val / 4096, by omega⟩ : Fin 8) (⟨r.val % 4096, by omega⟩ : Fin 4096) j)
    (by rw [Shape.rowMajor_val_three, Shape.rowMajor_val_two]; show (r.val / 4096 * 4096 + r.val % 4096) * 512 + j.val = r.val * 512 + j.val; omega)

theorem B_eq : V m c main_v2 = shapeCast S32768x512 (m ((c : Thread nD τ).loc main_arg1)) shapeCasts_S8x4096x512_S32768x512 := rfl

theorem B_apply (r : Fin 32768) (j : Fin 512) : V m c main_v2 (ix2 r j) = B m c r.val j := by
  rw [B_eq]
  unfold B
  rw [dif_pos r.isLt]
  exact shapeCast_apply _ _ (ix2 r j) (ix3 (⟨r.val / 4096, by omega⟩ : Fin 8) (⟨r.val % 4096, by omega⟩ : Fin 4096) j)
    (by rw [Shape.rowMajor_val_three, Shape.rowMajor_val_two]; show (r.val / 4096 * 4096 + r.val % 4096) * 512 + j.val = r.val * 512 + j.val; omega)

theorem C_eq : V m c main_v3 = shapeCast S32768x1024 (m ((c : Thread nD τ).loc main_arg2)) shapeCasts_S8x4096x1024_S32768x1024 := rfl

theorem C_apply (r : Fin 32768) (j : Fin 1024) : V m c main_v3 (ix2 r j) = C m c r.val j := by
  rw [C_eq]
  unfold C
  rw [dif_pos r.isLt]
  exact shapeCast_apply _ _ (ix2 r j) (ix3 (⟨r.val / 4096, by omega⟩ : Fin 8) (⟨r.val % 4096, by omega⟩ : Fin 4096) j)
    (by rw [Shape.rowMajor_val_three, Shape.rowMajor_val_two]; show (r.val / 4096 * 4096 + r.val % 4096) * 1024 + j.val = r.val * 1024 + j.val; omega)

theorem H_eq : V m c main_v13 = shapeCast S32768x2048 (m ((c : Thread nD τ).loc main_arg6)) shapeCasts_S8x4096x2048_S32768x2048 := rfl

theorem H_apply (r : Fin 32768) (j : Fin 2048) : V m c main_v13 (ix2 r j) = H m c r.val j := by
  rw [H_eq]
  unfold H
  rw [dif_pos r.isLt]
  exact shapeCast_apply _ _ (ix2 r j) (ix3 (⟨r.val / 4096, by omega⟩ : Fin 8) (⟨r.val % 4096, by omega⟩ : Fin 4096) j)
    (by rw [Shape.rowMajor_val_three, Shape.rowMajor_val_two]; show (r.val / 4096 * 4096 + r.val % 4096) * 2048 + j.val = r.val * 2048 + j.val; omega)

theorem ga_eq : V m c main_v6 = shapeCast S1x512 (shapeCast S512 (extractStridedSlice S1x512 ![0, 0] (m ((c : Thread nD τ).loc main_arg3)) slices_S4x512_S1x512_0_0) shapeCasts_S1x512_S512) shapeCasts_S512_S1x512 := rfl

theorem ga_apply (j : Fin 512) : V m c main_v6 (ix2 0 j) = ga m c j := by
  rw [ga_eq]
  unfold ga
  pointwise []

theorem gb_eq : V m c main_v9 = shapeCast S1x512 (shapeCast S512 (extractStridedSlice S1x512 ![0, 0] (m ((c : Thread nD τ).loc main_arg4)) slices_S4x512_S1x512_0_0) shapeCasts_S1x512_S512) shapeCasts_S512_S1x512 := rfl

theorem gb_apply (j : Fin 512) : V m c main_v9 (ix2 0 j) = gb m c j := by
  rw [gb_eq]
  unfold gb
  pointwise []

theorem gc_eq : V m c main_v12 = shapeCast S1x1024 (shapeCast S1024 (extractStridedSlice S1x1024 ![0, 0] (m ((c : Thread nD τ).loc main_arg5)) slices_S4x1024_S1x1024_0_0) shapeCasts_S1x1024_S1024) shapeCasts_S1024_S1x1024 := rfl

theorem gc_apply (j : Fin 1024) : V m c main_v12 (ix2 0 j) = gc m c j := by
  rw [gc_eq]
  unfold gc
  pointwise []

theorem lt_points (t : Fin cfg0.N) : t.val < 64 := Nat.lt_of_lt_of_eq t.isLt N_0

theorem index_0 : ∀ t : Fin cfg0.N, win0_0.index t = ![t.val, 0] := by decide +kernel

theorem A_blk (t : Fin cfg0.N) (a : Fin 512) (j : Fin 512) : iblk m c 0 t (ix2 a j) = A m c (512 * t.val + a.val) j := by
  have ht := lt_points t
  rw [← A_apply m c ⟨512 * t.val + a.val, by omega⟩ j]
  show V m c main_v1 (((cfg0.win 0).blk t).view.emb (ix2 a j)) = _
  congr 1
  funext d
  fin_cases d <;> apply Fin.ext
  · show win0_0.index t 0 * 512 + 1 * a.val = 512 * t.val + a.val
    rw [index_0]; show t.val * 512 + 1 * a.val = _; omega
  · show win0_0.index t 1 * 512 + 1 * j.val = j.val
    rw [index_0]; simp

theorem index_1 : ∀ t : Fin cfg0.N, win0_1.index t = ![t.val, 0] := by decide +kernel

theorem B_blk (t : Fin cfg0.N) (a : Fin 512) (j : Fin 512) : iblk m c 1 t (ix2 a j) = B m c (512 * t.val + a.val) j := by
  have ht := lt_points t
  rw [← B_apply m c ⟨512 * t.val + a.val, by omega⟩ j]
  show V m c main_v2 (((cfg0.win 1).blk t).view.emb (ix2 a j)) = _
  congr 1
  funext d
  fin_cases d <;> apply Fin.ext
  · show win0_1.index t 0 * 512 + 1 * a.val = 512 * t.val + a.val
    rw [index_1]; show t.val * 512 + 1 * a.val = _; omega
  · show win0_1.index t 1 * 512 + 1 * j.val = j.val
    rw [index_1]; simp

theorem index_2 : ∀ t : Fin cfg0.N, win0_2.index t = ![t.val, 0] := by decide +kernel

theorem C_blk (t : Fin cfg0.N) (a : Fin 512) (j : Fin 1024) : iblk m c 2 t (ix2 a j) = C m c (512 * t.val + a.val) j := by
  have ht := lt_points t
  rw [← C_apply m c ⟨512 * t.val + a.val, by omega⟩ j]
  show V m c main_v3 (((cfg0.win 2).blk t).view.emb (ix2 a j)) = _
  congr 1
  funext d
  fin_cases d <;> apply Fin.ext
  · show win0_2.index t 0 * 512 + 1 * a.val = 512 * t.val + a.val
    rw [index_2]; show t.val * 512 + 1 * a.val = _; omega
  · show win0_2.index t 1 * 1024 + 1 * j.val = j.val
    rw [index_2]; simp

theorem index_6 : ∀ t : Fin cfg0.N, win0_6.index t = ![t.val, 0] := by decide +kernel

theorem H_blk (t : Fin cfg0.N) (a : Fin 512) (j : Fin 2048) : iblk m c 6 t (ix2 a j) = H m c (512 * t.val + a.val) j := by
  have ht := lt_points t
  rw [← H_apply m c ⟨512 * t.val + a.val, by omega⟩ j]
  show V m c main_v13 (((cfg0.win 6).blk t).view.emb (ix2 a j)) = _
  congr 1
  funext d
  fin_cases d <;> apply Fin.ext
  · show win0_6.index t 0 * 512 + 1 * a.val = 512 * t.val + a.val
    rw [index_6]; show t.val * 512 + 1 * a.val = _; omega
  · show win0_6.index t 1 * 2048 + 1 * j.val = j.val
    rw [index_6]; simp

theorem index_3 : ∀ t : Fin cfg0.N, win0_3.index t = ![0, 0] := by decide +kernel

theorem ga_blk (t : Fin cfg0.N) (j : Fin 512) : iblk m c 3 t (ix2 0 j) = ga m c j := by
  rw [← ga_apply m c j]
  show V m c main_v6 (((cfg0.win 3).blk t).view.emb (ix2 0 j)) = _
  congr 1
  funext d
  fin_cases d <;> apply Fin.ext
  · show win0_3.index t 0 * 1 + 1 * 0 = 0
    rw [index_3]; rfl
  · show win0_3.index t 1 * 512 + 1 * j.val = j.val
    rw [index_3]; simp

theorem index_4 : ∀ t : Fin cfg0.N, win0_4.index t = ![0, 0] := by decide +kernel

theorem gb_blk (t : Fin cfg0.N) (j : Fin 512) : iblk m c 4 t (ix2 0 j) = gb m c j := by
  rw [← gb_apply m c j]
  show V m c main_v9 (((cfg0.win 4).blk t).view.emb (ix2 0 j)) = _
  congr 1
  funext d
  fin_cases d <;> apply Fin.ext
  · show win0_4.index t 0 * 1 + 1 * 0 = 0
    rw [index_4]; rfl
  · show win0_4.index t 1 * 512 + 1 * j.val = j.val
    rw [index_4]; simp

theorem index_5 : ∀ t : Fin cfg0.N, win0_5.index t = ![0, 0] := by decide +kernel

theorem gc_blk (t : Fin cfg0.N) (j : Fin 1024) : iblk m c 5 t (ix2 0 j) = gc m c j := by
  rw [← gc_apply m c j]
  show V m c main_v12 (((cfg0.win 5).blk t).view.emb (ix2 0 j)) = _
  congr 1
  funext d
  fin_cases d <;> apply Fin.ext
  · show win0_5.index t 0 * 1 + 1 * 0 = 0
    rw [index_5]; rfl
  · show win0_5.index t 1 * 1024 + 1 * j.val = j.val
    rw [index_5]; simp

theorem index_7 : ∀ t : Fin cfg0.N, win0_7.index t = ![0, 0, 0] := by decide +kernel

theorem w_blk (t : Fin cfg0.N) (k j : Fin 2048) : iblk m c 7 t (ix3 0 k j) = w m c k j := by
  unfold w
  show m ((c : Thread nD τ).loc main_arg7) (((cfg0.win 7).blk t).view.emb (ix3 0 k j)) = _
  congr 1
  funext d
  fin_cases d <;> apply Fin.ext
  · show win0_7.index t 0 * 1 + 1 * 0 = 0
    rw [index_7]; rfl
  · show win0_7.index t 1 * 2048 + 1 * k.val = k.val
    rw [index_7]; simp
  · show win0_7.index t 2 * 2048 + 1 * j.val = j.val
    rw [index_7]; simp

end Cert.MixIdeal.Blk

end
-- ==== Proof.MixIdeal.Whole.lean ====
/- What the mixer's last step's result array holds. -/
module

public import proofs.«01_k».proof.Proof.MixIdeal.Inputs

@[expose] public section

set_option maxRecDepth 16384

noncomputable section

namespace Cert.MixIdeal.Blk

open Idealize.ShloMosaic Idealize.ShloMosaic.TcCoe Idealize.SL Idealize.SL.Sem
open Cert.MixIdeal Cert.MixIdeal.Gen Cert.MixIdeal.Value Cert.MixMath

variable (m : (ℓ : Loc nD τ sig) → Buf (Elt Ideal) ℓ) (c : Dev nD)

/-- What a point leaves in its block, at a row and a column. -/
theorem left_apply (t : Fin cfg0.N) (a : Fin 512) (j : Fin 2048) :
    out0_8 (iblk m c 0 t) (iblk m c 1 t) (iblk m c 2 t) (iblk m c 3 t) (iblk m c 4 t) (iblk m c 5 t) (iblk m c 6 t) (iblk m c 7 t) (ix2 a j)
      = result (A m c (512 * t.val + a.val)) (B m c (512 * t.val + a.val)) (C m c (512 * t.val + a.val)) (ga m c) (gb m c) (gc m c) (H m c (512 * t.val + a.val)) (w m c) j := by
  refine (point_apply (iblk m c 0 t) (iblk m c 1 t) (iblk m c 2 t) (iblk m c 3 t) (iblk m c 4 t) (iblk m c 5 t) (iblk m c 6 t) (iblk m c 7 t) a j).trans ?_
  congr 1
  · exact funext fun k => A_blk m c t a k
  · exact funext fun k => B_blk m c t a k
  · exact funext fun k => C_blk m c t a k
  · exact funext fun k => ga_blk m c t k
  · exact funext fun k => gb_blk m c t k
  · exact funext fun k => gc_blk m c t k
  · exact funext fun k => H_blk m c t a k
  · exact funext fun k => funext fun i => w_blk m c t k i

theorem index_8 : ∀ t : Fin cfg0.N, win0_8.index t = ![t.val, 0] := by decide +kernel

theorem place (t : Fin cfg0.N) (a : Fin 512) (j : Fin 2048) (r : Fin 32768) (hr : r.val = 512 * t.val + a.val) :
    ((cfg0.win 8).blk t).view.emb (ix2 a j) = (ix2 r j : S32768x2048.Idx) := by
  funext d
  fin_cases d <;> apply Fin.ext
  · show win0_8.index t 0 * 512 + 1 * a.val = r.val
    rw [index_8, hr]; show t.val * 512 + 1 * a.val = _; omega
  · show win0_8.index t 1 * 2048 + 1 * j.val = j.val
    rw [index_8]; simp

/-- The result array at a row and a column. -/
theorem whole (r : Fin 32768) (j : Fin 2048) : (dats m 0 c).arrAt 8 cfg0.N (ix2 r j : S32768x2048.Idx)
    = result (A m c r.val) (B m c r.val) (C m c r.val) (ga m c) (gb m c) (gc m c) (H m c r.val) (w m c) j := by
  have hN : cfg0.N = 64 := N_0
  have ht : r.val / 512 < cfg0.N := by omega
  have hr : r.val = 512 * (r.val / 512) + r.val % 512 := by omega
  have e := congrFun (blocks8 m c ⟨r.val / 512, ht⟩ (flush0_8 _)) (ix2 (⟨r.val % 512, by omega⟩ : Fin 512) j)
  rw [← place ⟨r.val / 512, ht⟩ (⟨r.val % 512, by omega⟩ : Fin 512) j r hr]
  refine e.trans ?_
  rw [flushed8]
  refine (left_apply m c ⟨r.val / 512, ht⟩ (⟨r.val % 512, by omega⟩ : Fin 512) j).trans ?_
  show result (A m c (512 * (r.val / 512) + r.val % 512)) (B m c (512 * (r.val / 512) + r.val % 512)) (C m c (512 * (r.val / 512) + r.val % 512)) (ga m c) (gb m c) (gc m c)
    (H m c (512 * (r.val / 512) + r.val % 512)) (w m c) j = _
  rw [← hr]

end Cert.MixIdeal.Blk

end
-- ==== Proof.MixReferenceIdeal.Result.lean ====
/- The last step's reference, row by row and column by column. -/
module

public import proofs.«01_k».proof.Proof.Gen.MixReferenceIdeal.Read
public import proofs.«01_k».proof.Proof.MixMath

@[expose] public section

set_option maxRecDepth 16384

noncomputable section

namespace Cert.MixReferenceIdeal.Net

open Idealize.ShloMosaic Idealize.ShloMosaic.TcCoe Idealize.SL Idealize.SL.Sem
open Cert.MixReferenceIdeal Cert.MixReferenceIdeal.Read Cert.MixMath

variable (x0 x1 : (⟨S8x4096x512, .f32⟩ : BufTy).Contents (Elt Ideal)) (x2 : (⟨S8x4096x1024, .f32⟩ : BufTy).Contents (Elt Ideal))
  (x3 x4 : (⟨S4x512, .f32⟩ : BufTy).Contents (Elt Ideal)) (x5 : (⟨S4x1024, .f32⟩ : BufTy).Contents (Elt Ideal))
  (x6 : (⟨S8x4096x2048, .f32⟩ : BufTy).Contents (Elt Ideal)) (x7 : (⟨S4x2048x2048, .f32⟩ : BufTy).Contents (Elt Ideal))

/-- A normalised row. -/
theorem first_apply (b : Fin 8) (s : Fin 4096) (j : Fin 512) :
    val_main_v14 (F := Ideal) x0 x3 (ix3 b s j) = normed 0x44000000#32 (fun k => x0 (ix3 b s k)) (fun k => x3 (ix2 0 k)) j := by
  have hsum : ∀ i : S8x4096.Idx, i = ix2 b s → val_main_v3 (F := Ideal) x0 i = ∑ k : Fin 512, x0 (ix3 b s k) * x0 (ix3 b s k) := by
    rintro i rfl
    rw [val_main_v3_apply]
    refine (congrArg₂ (· + ·) (show _ = (0 : EReal) by unfold val_main_cst; pointwise []) (Finset.sum_congr rfl fun k _ => ?_)).trans (zero_add _)
    rw [val_main_v2_apply, show idx_main_v3 (ix2 b s) k = ix3 b s k from (eq_ix3 _).trans rfl]
    rfl
  rw [val_main_v14_apply, val_main_v11_apply, val_main_v10_apply, val_main_v9_apply, val_main_v8_apply, val_main_v6_apply, val_main_v4_apply,
    val_main_v5_apply, val_main_v7_apply, val_main_v13_apply, val_main_v12_apply, val_main_v1_apply, val_main_v0_apply, hsum _ ((eq_ix2 _).trans rfl)]
  rw [show idx_main_v0 (idx_main_v1 (idx_main_v12 (idx_main_v13 (ix3 b s j)))) = ix2 0 j from (eq_ix2 _).trans (by
    refine congrArg₂ ix2 (Fin.ext rfl) (Fin.ext ?_)
    show j.val % 512 = j.val
    omega)]
  rfl

/-- A normalised row. -/
theorem second_apply (b : Fin 8) (s : Fin 4096) (j : Fin 512) :
    val_main_v29 (F := Ideal) x1 x4 (ix3 b s j) = normed 0x44000000#32 (fun k => x1 (ix3 b s k)) (fun k => x4 (ix2 0 k)) j := by
  have hsum : ∀ i : S8x4096.Idx, i = ix2 b s → val_main_v18 (F := Ideal) x1 i = ∑ k : Fin 512, x1 (ix3 b s k) * x1 (ix3 b s k) := by
    rintro i rfl
    rw [val_main_v18_apply]
    refine (congrArg₂ (· + ·) (show _ = (0 : EReal) by unfold val_main_cst_2; pointwise []) (Finset.sum_congr rfl fun k _ => ?_)).trans (zero_add _)
    rw [val_main_v17_apply, show idx_main_v18 (ix2 b s) k = ix3 b s k from (eq_ix3 _).trans rfl]
    rfl
  rw [val_main_v29_apply, val_main_v26_apply, val_main_v25_apply, val_main_v24_apply, val_main_v23_apply, val_main_v21_apply, val_main_v19_apply,
    val_main_v20_apply, val_main_v22_apply, val_main_v28_apply, val_main_v27_apply, val_main_v16_apply, val_main_v15_apply, hsum _ ((eq_ix2 _).trans rfl)]
  rw [show idx_main_v15 (idx_main_v16 (idx_main_v27 (idx_main_v28 (ix3 b s j)))) = ix2 0 j from (eq_ix2 _).trans (by
    refine congrArg₂ ix2 (Fin.ext rfl) (Fin.ext ?_)
    show j.val % 512 = j.val
    omega)]
  rfl

/-- A normalised row. -/
theorem third_apply (b : Fin 8) (s : Fin 4096) (j : Fin 1024) :
    val_main_v44 (F := Ideal) x2 x5 (ix3 b s j) = normed 0x44800000#32 (fun k => x2 (ix3 b s k)) (fun k => x5 (ix2 0 k)) j := by
  have hsum : ∀ i : S8x4096.Idx, i = ix2 b s → val_main_v33 (F := Ideal) x2 i = ∑ k : Fin 1024, x2 (ix3 b s k) * x2 (ix3 b s k) := by
    rintro i rfl
    rw [val_main_v33_apply]
    refine (congrArg₂ (· + ·) (show _ = (0 : EReal) by unfold val_main_cst_5; pointwise []) (Finset.sum_congr rfl fun k _ => ?_)).trans (zero_add _)
    rw [val_main_v32_apply, show idx_main_v33 (ix2 b s) k = ix3 b s k from (eq_ix3 _).trans rfl]
    rfl
  rw [val_main_v44_apply, val_main_v41_apply, val_main_v40_apply, val_main_v39_apply, val_main_v38_apply, val_main_v36_apply, val_main_v34_apply,
    val_main_v35_apply, val_main_v37_apply, val_main_v43_apply, val_main_v42_apply, val_main_v31_apply, val_main_v30_apply, hsum _ ((eq_ix2 _).trans rfl)]
  rw [show idx_main_v30 (idx_main_v31 (idx_main_v42 (idx_main_v43 (ix3 b s j)))) = ix2 0 j from (eq_ix2 _).trans (by
    refine congrArg₂ ix2 (Fin.ext rfl) (Fin.ext ?_)
    show j.val % 1024 = j.val
    omega)]
  rfl

/-- Three blocks of rows side by side. -/
theorem side_apply (x y : (⟨S8x4096x512, .f32⟩ : BufTy).Contents (Elt Ideal)) (z : (⟨S8x4096x1024, .f32⟩ : BufTy).Contents (Elt Ideal))
    (hd : Shape.Concatenates [S8x4096x512, S8x4096x512, S8x4096x1024] S8x4096x2048 2) (b : Fin 8) (s : Fin 4096) (k : Fin 2048) :
    concatenate S8x4096x2048 2 [⟨S8x4096x512, x⟩, ⟨S8x4096x512, y⟩, ⟨S8x4096x1024, z⟩] hd (ix3 b s k)
      = joined (fun j => x (ix3 b s j)) (fun j => y (ix3 b s j)) (fun j => z (ix3 b s j)) k := by
  unfold joined
  pointwise []

theorem joined_apply (b : Fin 8) (s : Fin 4096) (k : Fin 2048) : val_main_v45 (F := Ideal) x0 x1 x2 x3 x4 x5 (ix3 b s k)
    = joined (normed 0x44000000#32 (fun k => x0 (ix3 b s k)) (fun k => x3 (ix2 0 k))) (normed 0x44000000#32 (fun k => x1 (ix3 b s k)) (fun k => x4 (ix2 0 k)))
        (normed 0x44800000#32 (fun k => x2 (ix3 b s k)) (fun k => x5 (ix2 0 k))) k := by
  unfold val_main_v45
  refine (side_apply _ _ _ _ b s k).trans ?_
  congr 1
  · exact funext fun j => first_apply x0 x3 b s j
  · exact funext fun j => second_apply x1 x4 b s j
  · exact funext fun j => third_apply x2 x5 b s j

theorem weight_apply (k j : Fin 2048) : val_main_v47 (F := Ideal) x7 (ix2 k j) = x7 (ix3 0 k j) := by
  rw [val_main_v47_apply, val_main_v46_apply]
  refine congrArg x7 ((eq_ix3 _).trans (congr (congrArg₂ ix3 (Fin.ext rfl) (Fin.ext ?_)) (Fin.ext ?_)))
  · show (k.val * 2048 + j.val) / 2048 % 2048 = k.val; omega
  · show (k.val * 2048 + j.val) % 2048 = j.val; omega

/-- The result at a row and a column. -/
theorem whole (oa ob : Fin 512 → EReal) (oc : Fin 1024 → EReal) (ga gb : Fin 512 → EReal) (gc : Fin 1024 → EReal) (h : Fin 2048 → EReal) (w : Fin 2048 → Fin 2048 → EReal)
    (r : Fin 32768) (j : Fin 2048)
    (ha : ∀ k : Fin 512, x0 (ix3 (⟨r.val / 4096, by omega⟩ : Fin 8) (⟨r.val % 4096, by omega⟩ : Fin 4096) k) = oa k)
    (hb : ∀ k : Fin 512, x1 (ix3 (⟨r.val / 4096, by omega⟩ : Fin 8) (⟨r.val % 4096, by omega⟩ : Fin 4096) k) = ob k)
    (hc : ∀ k : Fin 1024, x2 (ix3 (⟨r.val / 4096, by omega⟩ : Fin 8) (⟨r.val % 4096, by omega⟩ : Fin 4096) k) = oc k)
    (hga : ∀ k : Fin 512, x3 (ix2 0 k) = ga k) (hgb : ∀ k : Fin 512, x4 (ix2 0 k) = gb k) (hgc : ∀ k : Fin 1024, x5 (ix2 0 k) = gc k)
    (hh : ∀ k : Fin 2048, x6 (ix3 (⟨r.val / 4096, by omega⟩ : Fin 8) (⟨r.val % 4096, by omega⟩ : Fin 4096) k) = h k)
    (hw : ∀ k j : Fin 2048, x7 (ix3 0 k j) = w k j) :
    val_main_v50 (F := Ideal) x0 x1 x2 x3 x4 x5 x6 x7 (ix2 r j) = result oa ob oc ga gb gc h w j := by
  obtain rfl := funext ha
  obtain rfl := funext hb
  obtain rfl := funext hc
  obtain rfl := funext hga
  obtain rfl := funext hgb
  obtain rfl := funext hgc
  rw [val_main_v50_apply]
  have hi : idx_main_v50 (ix2 r j) = ix3 (⟨r.val / 4096, by omega⟩ : Fin 8) (⟨r.val % 4096, by omega⟩ : Fin 4096) j :=
    (eq_ix3 _).trans (congr (congrArg₂ ix3 (Fin.ext (by show (r.val * 2048 + j.val) / 8388608 = r.val / 4096; omega))
      (Fin.ext (by show (r.val * 2048 + j.val) / 2048 % 4096 = r.val % 4096; omega))) (Fin.ext (by show (r.val * 2048 + j.val) % 2048 = j.val; omega)))
  rw [hi, val_main_v49_apply, val_main_v48_apply]
  unfold result
  refine congrArg₂ (· + ·) (hh j) (Finset.sum_congr rfl fun k _ => congrArg₂ (· * ·) ?_ ?_)
  · rw [show lidx_main_v48 (ix3 (⟨r.val / 4096, by omega⟩ : Fin 8) (⟨r.val % 4096, by omega⟩ : Fin 4096) j) k = ix3 (⟨r.val / 4096, by omega⟩ : Fin 8) (⟨r.val % 4096, by omega⟩ : Fin 4096) k from (eq_ix3 _).trans rfl]
    exact joined_apply x0 x1 x2 x3 x4 x5 _ _ k
  · rw [show ridx_main_v48 (ix3 (⟨r.val / 4096, by omega⟩ : Fin 8) (⟨r.val % 4096, by omega⟩ : Fin 4096) j) k = ix2 k j from (eq_ix2 _).trans rfl]
    exact (weight_apply x7 k j).trans (hw k j)

end Cert.MixReferenceIdeal.Net

end
-- ==== Proof.MixAgree.lean ====
/- The last step's call and its reference, on the same arguments, hold the same result. -/
module

public import proofs.«01_k».proof.Proof.MixIdeal.Whole
public import proofs.«01_k».proof.Proof.MixReferenceIdeal.Result

@[expose] public section

set_option maxRecDepth 16384

noncomputable section

namespace Cert.MixAgree

open Idealize.ShloMosaic Idealize.ShloMosaic.TcCoe Idealize.SL.Sem
open Cert.MixIdeal Cert.MixIdeal.Gen Cert.MixIdeal.Blk

theorem equal (m : (ℓ : Loc nD τ sig) → Buf (Elt Ideal) ℓ) (c : Dev nD) :
    Cert.MixReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 8 cfg0.N := by
  have at_ix : ∀ (r : Fin 32768) (j : Fin 2048), Cert.MixReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r j)
      = (dats m 0 c).arrAt 8 cfg0.N (ix2 r j : S32768x2048.Idx) := fun r j =>
    (Cert.MixReferenceIdeal.Net.whole _ _ _ _ _ _ _ _ (A m c r.val) (B m c r.val) (C m c r.val) (ga m c) (gb m c) (gc m c) (H m c r.val) (w m c) r j
      (fun k => by unfold A; rw [dif_pos r.isLt]) (fun k => by unfold B; rw [dif_pos r.isLt]) (fun k => by unfold C; rw [dif_pos r.isLt]) (fun k => rfl) (fun k => rfl) (fun k => rfl)
      (fun k => by unfold H; rw [dif_pos r.isLt]) (fun k j => rfl)).trans (whole m c r j).symm
  funext i
  rw [eq_ix2 i]
  exact at_ix (i 0) (i 1)

end Cert.MixAgree

end
-- ==== Proof.FiniteKeys.lean ====
/- The precondition of the attention to the memory, read: the norm's scale, the query weight and the keys are real numbers. -/
module

public import proofs.«01_k».proof.Pre_finite_keys
public import proofs.«01_k».proof.Proof.Finite

@[expose] public section

set_option maxRecDepth 16384

noncomputable section

namespace Cert.Pre_finite_keys

open Idealize.ShloMosaic

instance facts : Facts where
  bcast_S_S4x2048 := by decide
  reducesTo_S4x2048_S_d0_1 := by decide
  h_S_ := by decide
  bcast_S_S4x2048x512 := by decide
  reducesTo_S4x2048x512_S_d0_1_2 := by decide
  bcast_S_S8x256x512 := by decide
  reducesTo_S8x256x512_S_d0_1_2 := by decide

theorem real (x0 : FVec Ideal S8x4096x2048 .f32) (x1 : FVec Ideal S4x2048 .f32) (x2 : FVec Ideal S4x2048x512 .f32) (x3 x4 : FVec Ideal S8x256x512 .f32) (x5 : FVec Ideal S4x512x2048 .f32)
    (h : fn (F := Ideal) x0 x1 x2 x3 x4 x5 = fun _ => 1#1) :
    (∀ i, ∃ r : ℝ, x1 i = r) ∧ (∀ i, ∃ r : ℝ, x2 i = r) ∧ ∀ i, ∃ r : ℝ, x3 i = r := by
  have h := congrFun h ix0
  unfold fn at h
  dsimp only at h
  have h2 := IntOp.andi_eq_one.1 h
  have h3 := IntOp.andi_eq_one.1 h2.1
  have ht : Ideal.ofBits .f32 0x7F800000#32 = ⊤ := by simp [Ideal.ofBits, Ideal.ieee]
  haveI : Subsingleton S_.Idx := ⟨fun a b => funext fun i => i.elim0⟩
  refine ⟨fun i => ⟨_, (Cert.Pre_finite.real_of_lt (x1 i) ?_).symm⟩, fun i => ⟨_, (Cert.Pre_finite.real_of_lt (x2 i) ?_).symm⟩, fun i => ⟨_, (Cert.Pre_finite.real_of_lt (x3 i) ?_).symm⟩⟩
  · have := Host.reduce_andi_all _ _ _ _ _ h3.1 i
    rw [← ht]; exact this
  · have := Host.reduce_andi_all _ _ _ _ _ h3.2 i
    rw [← ht]; exact this
  · have := Host.reduce_andi_all _ _ _ _ _ h2.2 i
    rw [← ht]; exact this

end Cert.Pre_finite_keys

end
-- ==== Proof.XattnMath.lean ====
/- The mathematics of attention to a memory: a normalised row's heads, each a softmax over the memory's 256 places, computed in two ways. -/
module

public import proofs.«01_k».proof.Proof.MixMath

@[expose] public section

set_option maxRecDepth 16384

noncomputable section

namespace Cert.XattnMath

open Idealize.ShloMosaic
open Cert.MixMath (normed)

/-- The number the scores are scaled by: one over the root of 128. -/
def scale : EReal := Ideal.ofBits .f32 0x3DB504F3#32

/-- A row's query: the normalised row through the query weight. -/
def query (x g : Fin 2048 → EReal) (w : Fin 2048 → Fin 512 → EReal) (l : Fin 512) : EReal :=
  ∑ k : Fin 2048, normed 0x45000000#32 x g k * w k l

/-- The lane of the same head as lane `c`, at place `d` in the head. -/
def lane (c : Fin 512) (d : Fin 128) : Fin 512 := ⟨128 * (c.val / 128) + d.val, by omega⟩

/-- One lane of a head: the weights' products with the values, over the weights' sum; a weight is the exponential of a score less the largest. -/
def head (q : Fin 128 → EReal) (k : Fin 256 → Fin 128 → EReal) (v : Fin 256 → EReal) : EReal :=
  Ideal.div
    (∑ m, Ideal.exp ((∑ d, q d * k m d) - Finset.univ.fold max (Ideal.ofBits .f32 0xFF800000#32) fun m => ∑ d, q d * k m d) * v m)
    (∑ m, Ideal.exp ((∑ d, q d * k m d) - Finset.univ.fold max (Ideal.ofBits .f32 0xFF800000#32) fun m => ∑ d, q d * k m d))

/-- The scaled score of one place of the memory, for the head of lane `c`. -/
def score (q : Fin 512 → EReal) (k : Fin 256 → Fin 512 → EReal) (c : Fin 512) (m : Fin 256) : EReal :=
  (∑ d : Fin 128, q (lane c d) * k m (lane c d)) * scale

/-- The values blended by the softmax of real scores. -/
def blend (e : Fin 256 → ℝ) (v : Fin 256 → EReal) : EReal :=
  ∑ m, ((Real.exp (e m) / ∑ n, Real.exp (e n) : ℝ) : EReal) * v m

/-- The result at a column: the hidden state plus the heads' product with the output weight's column. -/
def result (h : Fin 2048 → EReal) (o : Fin 512 → EReal) (w : Fin 512 → Fin 2048 → EReal) (j : Fin 2048) : EReal :=
  h j + ∑ k : Fin 512, o k * w k j

theorem coe_sum {ι : Type*} (t : Finset ι) (f : ι → ℝ) : ∑ k ∈ t, (f k : EReal) = ((∑ k ∈ t, f k : ℝ) : EReal) := by
  classical
  induction t using Finset.induction_on with
  | empty => simp
  | insert a t ha ih => rw [Finset.sum_insert ha, Finset.sum_insert ha, EReal.coe_add, ih]

/-- A nonnegative real number goes into a sum. -/
theorem sum_mul_coe {ι : Type*} (t : Finset ι) (f : ι → EReal) (r : ℝ) (hr : 0 ≤ r) : (∑ k ∈ t, f k) * (r : EReal) = ∑ k ∈ t, f k * (r : EReal) := by
  classical
  induction t using Finset.induction_on with
  | empty => simp
  | insert a t ha ih =>
    rw [Finset.sum_insert ha, Finset.sum_insert ha, ← ih]
    exact EReal.right_distrib_of_nonneg_of_ne_top (EReal.coe_nonneg.2 hr) (EReal.coe_ne_top r) _ _

/-- Subtracting one number from every score leaves the softmax as it was. -/
theorem share_shift (e : Fin 256 → ℝ) (s : ℝ) (m : Fin 256) :
    Real.exp (e m - s) * (1 / ∑ n, Real.exp (e n - s)) = Real.exp (e m) / ∑ n, Real.exp (e n) := by
  have h : Real.exp (-s) ≠ 0 := (Real.exp_pos _).ne'
  have hd : ∑ n, Real.exp (e n - s) = (∑ n, Real.exp (e n)) * Real.exp (-s) := by
    rw [Finset.sum_mul]; exact Finset.sum_congr rfl fun n _ => by rw [sub_eq_add_neg, Real.exp_add]
  rw [hd, sub_eq_add_neg, Real.exp_add, mul_one_div, mul_div_mul_right _ _ h]

theorem sum_pos (e : Fin 256 → ℝ) (s : ℝ) : 0 < ∑ n, Real.exp (e n - s) :=
  Finset.sum_pos (fun n _ => Real.exp_pos _) ⟨0, Finset.mem_univ _⟩

/-- One way: the products' sum over the weights' sum. -/
theorem sum_first (e : Fin 256 → ℝ) (s : ℝ) (v : Fin 256 → EReal) :
    Ideal.div (∑ m, Ideal.exp ((e m : EReal) - (s : EReal)) * v m) (∑ m, Ideal.exp ((e m : EReal) - (s : EReal))) = blend e v := by
  simp only [← EReal.coe_sub, Ideal.exp_coe, coe_sum]
  rw [Ideal.div_coe (sum_pos e s).ne', sum_mul_coe _ _ _ (one_div_nonneg.2 (sum_pos e s).le)]
  refine Finset.sum_congr rfl fun m _ => ?_
  rw [mul_right_comm, ← EReal.coe_mul, share_shift]

/-- The other: each weight over the weights' sum, then the products' sum. -/
theorem divide_first (e : Fin 256 → ℝ) (s : ℝ) (v : Fin 256 → EReal) :
    (∑ m, v m * Ideal.div (Ideal.exp ((e m : EReal) - (s : EReal))) (∑ m, Ideal.exp ((e m : EReal) - (s : EReal)))) = blend e v := by
  simp only [← EReal.coe_sub, Ideal.exp_coe, coe_sum, Ideal.div_coe (sum_pos e s).ne', ← EReal.coe_mul, share_shift]
  exact Finset.sum_congr rfl fun m _ => mul_comm _ _

/-- The largest of some real numbers is a real number. -/
theorem top_real {ι : Type*} (t : Finset ι) (b : EReal) (hb : b = ⊥) (f : ι → EReal) (hf : ∀ i, ∃ r : ℝ, f i = r) (i : ι) (hi : i ∈ t) :
    ∃ s : ℝ, t.fold max b f = (s : EReal) := by
  classical
  subst hb
  have h1 : t.fold max ⊥ f ≠ ⊤ := by
    have : t.fold max ⊥ f < ⊤ := (Finset.fold_max_lt _).2 ⟨bot_lt_top, fun j _ => by obtain ⟨r, hr⟩ := hf j; rw [hr]; exact EReal.coe_lt_top r⟩
    exact this.ne
  have h2 : t.fold max ⊥ f ≠ ⊥ := by
    have : ⊥ < t.fold max ⊥ f := (Finset.lt_fold_max _).2 (Or.inr ⟨i, hi, by obtain ⟨r, hr⟩ := hf i; rw [hr]; exact EReal.bot_lt_coe r⟩)
    exact this.ne'
  exact ⟨_, (EReal.coe_toReal h1 h2).symm⟩

theorem least : Ideal.ofBits .f32 0xFF800000#32 = ⊥ := by simp [Ideal.ofBits, Ideal.ieee]

theorem scale_real : ∃ r : ℝ, 0 ≤ r ∧ scale = (r : EReal) := by
  refine ⟨(11863283 : ℝ) * (2 : ℝ) ^ (-27 : ℤ), by positivity, show Ideal.ofBits .f32 0x3DB504F3#32 = _ from ?_⟩
  simp [Ideal.ofBits, Ideal.ieee]

theorem width_real : ∃ r : ℝ, 0 < r ∧ Ideal.ofBits .f32 0x45000000#32 = (r : EReal) := by
  refine ⟨(8388608 : ℝ) * (2 : ℝ) ^ (-12 : ℤ), by positivity, show Ideal.ofBits .f32 0x45000000#32 = _ from ?_⟩
  simp [Ideal.ofBits, Ideal.ieee]

theorem small_real : ∃ r : ℝ, 0 < r ∧ Ideal.ofBits .f32 0x3727C5AC#32 = (r : EReal) := by
  refine ⟨(10995116 : ℝ) * (2 : ℝ) ^ (-40 : ℤ), by positivity, show Ideal.ofBits .f32 0x3727C5AC#32 = _ from ?_⟩
  simp [Ideal.ofBits, Ideal.ieee]

theorem square_nonneg (x : EReal) : 0 ≤ x * x := by
  induction x with
  | bot => simp
  | top => simp
  | coe r => rw [← EReal.coe_mul]; exact EReal.coe_nonneg.2 (mul_self_nonneg r)

/-- A row with an infinite element has its root mean square infinite, so it is normalised to zero; any other row's is a real number. -/
theorem normed_real (x g : Fin 2048 → EReal) (hg : ∀ k, ∃ r : ℝ, g k = r) (j : Fin 2048) : ∃ r : ℝ, normed 0x45000000#32 x g j = r := by
  obtain ⟨w, hw, ew⟩ := width_real
  obtain ⟨z, hz, ez⟩ := small_real
  obtain ⟨b, eb⟩ := hg j
  unfold normed
  rw [ew, ez, eb, Ideal.div_coe hw.ne']
  by_cases h : ∃ k, x k = ⊤ ∨ x k = ⊥
  · obtain ⟨k, hk⟩ := h
    have hs : ∑ k, x k * x k = ⊤ := by
      have h1 : x k * x k = ⊤ := by rcases hk with hk | hk <;> rw [hk] <;> simp
      have h2 : x k * x k ≤ ∑ k, x k * x k := Finset.single_le_sum (f := fun k => x k * x k) (fun i _ => square_nonneg (x i)) (Finset.mem_univ k)
      rw [h1] at h2
      exact top_le_iff.1 h2
    rw [hs, EReal.top_mul_coe_of_pos (by positivity), EReal.top_add_coe, Ideal.rsqrt_top, mul_zero, zero_mul]
    exact ⟨0, rfl⟩
  · have hx : ∀ k, ∃ r : ℝ, x k = r := fun k => ⟨(x k).toReal, (EReal.coe_toReal (fun e => h ⟨k, Or.inl e⟩) (fun e => h ⟨k, Or.inr e⟩)).symm⟩
    choose f hf using hx
    simp only [hf, ← EReal.coe_mul, coe_sum, ← EReal.coe_add]
    have hp : 0 < (∑ k, f k * f k) * (1 / w) + z := by
      have : 0 ≤ (∑ k, f k * f k) * (1 / w) := mul_nonneg (Finset.sum_nonneg fun k _ => mul_self_nonneg _) (one_div_pos.2 hw).le
      linarith
    have hr : Ideal.rsqrt (((∑ k, f k * f k) * (1 / w) + z : ℝ) : EReal) = ((Real.sqrt ((∑ k, f k * f k) * (1 / w) + z))⁻¹ : ℝ) := by
      show (if _ < 0 then ⊥ else if _ = 0 then ⊤ else _) = _
      rw [if_neg (not_lt.2 hp.le), if_neg hp.ne']
    rw [hr, ← EReal.coe_mul, ← EReal.coe_mul]
    exact ⟨_, rfl⟩

theorem query_real (x g : Fin 2048 → EReal) (w : Fin 2048 → Fin 512 → EReal) (hg : ∀ k, ∃ r : ℝ, g k = r) (hw : ∀ k l, ∃ r : ℝ, w k l = r) (l : Fin 512) :
    ∃ r : ℝ, query x g w l = r := by
  choose f hf using normed_real x g hg
  choose a ha using fun k => hw k l
  unfold query
  simp only [hf, ha, ← EReal.coe_mul, coe_sum]
  exact ⟨_, rfl⟩

theorem score_real (q : Fin 512 → EReal) (k : Fin 256 → Fin 512 → EReal) (hq : ∀ l, ∃ r : ℝ, q l = r) (hk : ∀ m l, ∃ r : ℝ, k m l = r) (c : Fin 512) (m : Fin 256) :
    ∃ r : ℝ, score q k c m = r := by
  obtain ⟨z, _, ez⟩ := scale_real
  choose f hf using hq
  choose a ha using hk
  unfold score
  simp only [hf, ha, ez, ← EReal.coe_mul, coe_sum]
  exact ⟨_, rfl⟩

/-- Scaling the query scales the score. -/
theorem score_eq (q : Fin 512 → EReal) (k : Fin 256 → Fin 512 → EReal) (c : Fin 512) (m : Fin 256) :
    (∑ d : Fin 128, q (lane c d) * scale * k m (lane c d)) = score q k c m := by
  obtain ⟨z, hz, ez⟩ := scale_real
  unfold score
  rw [ez, sum_mul_coe _ _ _ hz]
  exact Finset.sum_congr rfl fun d _ => mul_right_comm _ _ _

/-- A head of the scaled query is the blend by the softmax of the scaled scores. -/
theorem head_eq (q : Fin 512 → EReal) (k : Fin 256 → Fin 512 → EReal) (v : Fin 256 → EReal) (c : Fin 512) (e : Fin 256 → ℝ) (he : ∀ m, score q k c m = e m) :
    head (fun d => q (lane c d) * scale) (fun m d => k m (lane c d)) v = blend e v := by
  unfold head
  simp only [score_eq, he]
  obtain ⟨s, hs⟩ := top_real Finset.univ _ least (fun m => ((e m : ℝ) : EReal)) (fun m => ⟨_, rfl⟩) 0 (Finset.mem_univ _)
  rw [hs]
  exact sum_first e s v

end Cert.XattnMath

end
-- ==== Proof.XattnIdeal.Block.lean ====
/- What a grid point of the attention to the memory computes, element by element. -/
module

public import proofs.«01_k».proof.Proof.Gen.XattnIdeal.Value
public import proofs.«01_k».proof.Proof.XattnMath

@[expose] public section

set_option maxRecDepth 16384

noncomputable section

namespace Cert.XattnIdeal.Blk

open Idealize.ShloMosaic Idealize.ShloMosaic.TcCoe Idealize.SL Idealize.SL.Sem
open Cert.XattnIdeal Cert.XattnIdeal.Gen Cert.XattnMath
open Cert.MixMath (normed)

/-- The normalised rows. -/
def rows (x : Vec Ideal S1x1024x2048 .f32) (g : Vec Ideal S1x2048 .f32) : FVec Ideal S1024x2048 .bf16 :=
  truncf .bf16 (mulf (mulf (k0_pay2 x) (broadcastTo S1024x2048 (rsqrt (addf (divf (shapeCast S1024x1 (multiReduction .add [1] S1024 (mulf (k0_pay2 x) (k0_pay2 x)) 0x00000000#32 reduces_S1024x2048_S1024 (.inl rfl) rfl) shapeCasts_S1024_S1024x1)
    (broadcast S1024x1 (Scalar.ofBits .f32 0x45000000#32))) (broadcast S1024x1 (Scalar.ofBits .f32 0x3727C5AC#32)))) broadcasts_S1024x1_S1024x2048))
    (broadcastTo S1024x2048 (shapeCast S1x2048 g shapeCasts_S1x2048_S1x2048) broadcasts_S1x2048_S1024x2048)) bitsLt_bf16_f32

theorem rows_apply (x : Vec Ideal S1x1024x2048 .f32) (g : Vec Ideal S1x2048 .f32) (a : Fin 1024) (j : Fin 2048) :
    rows x g (ix2 a j) = normed 0x45000000#32 (fun k => x (ix3 0 a k)) (fun k => g (ix2 0 k)) j := by
  unfold rows k0_pay2 normed
  pointwise []

/-- The scaled queries. -/
def queries (p : FVec Ideal S1024x2048 .bf16) (w : Vec Ideal S1x2048x512 .bf16) : FVec Ideal S1024x512 .f32 :=
  mulf (matmul dot_S1024x2048_S2048x512_S1024x512_1_0_0_1_n_n (φ₂ := .bf16) none p (shapeCast S2048x512 w shapeCasts_S1x2048x512_S2048x512) (constant S1024x512 .f32 0x00000000#32))
    (broadcast S1024x512 (Scalar.ofBits .f32 0x3DB504F3#32))

theorem queries_apply (p : FVec Ideal S1024x2048 .bf16) (w : Vec Ideal S1x2048x512 .bf16) (a : Fin 1024) (l : Fin 512) :
    queries p w (ix2 a l) = (∑ k : Fin 2048, p (ix2 a k) * w (ix3 0 k l)) * scale := by
  unfold queries scale
  pointwise []

theorem queries_eq (x : Vec Ideal S1x1024x2048 .f32) (g : Vec Ideal S1x2048 .f32) (w : Vec Ideal S1x2048x512 .bf16) : k0_pay3 x g w = queries (rows x g) w := rfl

/-- One head's scores, weights and result. -/
def marks (q : FVec Ideal S1024x128 .f32) (k : Vec Ideal S1x256x128 .bf16) : FVec Ideal S1024x256 .f32 :=
  matmul dot_S1024x128_S256x128_S1024x256_1_1_0_0_n_n (φ₂ := .bf16) none (truncf .bf16 q bitsLt_bf16_f32) (shapeCast S256x128 k shapeCasts_S1x256x128_S256x128) (constant S1024x256 .f32 0x00000000#32)

theorem marks_apply (q : FVec Ideal S1024x128 .f32) (k : Vec Ideal S1x256x128 .bf16) (a : Fin 1024) (m : Fin 256) :
    marks q k (ix2 a m) = ∑ d : Fin 128, q (ix2 a d) * k (ix3 0 m d) := by
  unfold marks
  pointwise []

def weights (s : FVec Ideal S1024x256 .f32) : FVec Ideal S1024x256 .f32 :=
  exp (subf s (broadcastTo S1024x256 (shapeCast S1024x1 (multiReduction .maximumf [1] S1024 s 0xFF800000#32 reduces_S1024x256_S1024 (.inl rfl) rfl) shapeCasts_S1024_S1024x1) broadcasts_S1024x1_S1024x256))

theorem weights_apply (s : FVec Ideal S1024x256 .f32) (a : Fin 1024) (m : Fin 256) :
    weights s (ix2 a m) = Ideal.exp (s (ix2 a m) - Finset.univ.fold max (Ideal.ofBits .f32 0xFF800000#32) fun n => s (ix2 a n)) := by
  unfold weights
  pointwise []

def blended (p : FVec Ideal S1024x256 .f32) (v : Vec Ideal S1x256x128 .bf16) : FVec Ideal S1024x128 .f32 :=
  divf (matmul dot_S1024x256_S256x128_S1024x128_1_0_0_1_n_n (φ₂ := .bf16) none (truncf .bf16 p bitsLt_bf16_f32) (shapeCast S256x128 v shapeCasts_S1x256x128_S256x128) (constant S1024x128 .f32 0x00000000#32))
    (broadcastTo S1024x128 (shapeCast S1024x1 (multiReduction .add [1] S1024 p 0x00000000#32 reduces_S1024x256_S1024 (.inl rfl) rfl) shapeCasts_S1024_S1024x1) broadcasts_S1024x1_S1024x128)

theorem blended_apply (p : FVec Ideal S1024x256 .f32) (v : Vec Ideal S1x256x128 .bf16) (a : Fin 1024) (l : Fin 128) :
    blended p v (ix2 a l) = Ideal.div (∑ m : Fin 256, p (ix2 a m) * v (ix3 0 m l)) (∑ m : Fin 256, p (ix2 a m)) := by
  unfold blended
  pointwise []

/-- One head of the block. -/
def piece (q : FVec Ideal S1024x128 .f32) (k v : Vec Ideal S1x256x128 .bf16) : FVec Ideal S1024x128 .f32 := blended (weights (marks q k)) v

theorem piece_apply (q : FVec Ideal S1024x128 .f32) (k v : Vec Ideal S1x256x128 .bf16) (a : Fin 1024) (l : Fin 128) :
    piece q k v (ix2 a l) = head (fun d => q (ix2 a d)) (fun m d => k (ix3 0 m d)) (fun m => v (ix3 0 m l)) := by
  unfold piece head
  rw [blended_apply]
  simp only [weights_apply, marks_apply]

/-- The four heads side by side. -/
def side (x y z w : FVec Ideal S1024x128 .f32) : FVec Ideal S1024x512 .bf16 :=
  truncf .bf16 (concatenate S1024x512 1 [⟨S1024x128, x⟩, ⟨S1024x128, y⟩, ⟨S1024x128, z⟩, ⟨S1024x128, w⟩] concatenates_S1024x128_S1024x128_S1024x128_S1024x128_S1024x512_d1) bitsLt_bf16_f32

theorem side_apply (x y z w : FVec Ideal S1024x128 .f32) (a : Fin 1024) (k : Fin 512) (f : Fin 512 → EReal)
    (hx : ∀ l : Fin 128, x (ix2 a l) = f ⟨l.val, by omega⟩) (hy : ∀ l : Fin 128, y (ix2 a l) = f ⟨128 + l.val, by omega⟩)
    (hz : ∀ l : Fin 128, z (ix2 a l) = f ⟨256 + l.val, by omega⟩) (hw : ∀ l : Fin 128, w (ix2 a l) = f ⟨384 + l.val, by omega⟩) :
    side x y z w (ix2 a k) = f k := by
  unfold side
  pointwise []
  simp only [hx, hy, hz, hw]
  split_ifs <;> exact congrArg f (Fin.ext (by simp only [] <;> omega))

/-- A block plus a product. -/
def added (p : FVec Ideal S1024x512 .bf16) (h : FVec Ideal S1024x2048 .f32) (w : Vec Ideal S1x512x2048 .bf16) : FVec Ideal S1x1024x2048 .f32 :=
  shapeCast S1x1024x2048 (addf h (matmul dot_S1024x512_S512x2048_S1024x2048_1_0_0_1_n_n (φ₂ := .bf16) none p (shapeCast S512x2048 w shapeCasts_S1x512x2048_S512x2048) (constant S1024x2048 .f32 0x00000000#32))) shapeCasts_S1024x2048_S1x1024x2048

theorem added_apply (p : FVec Ideal S1024x512 .bf16) (h : Vec Ideal S1x1024x2048 .f32) (w : Vec Ideal S1x512x2048 .bf16) (a : Fin 1024) (j : Fin 2048) :
    added p (k0_pay2 h) w (ix3 0 a j) = h (ix3 0 a j) + ∑ k : Fin 512, p (ix2 a k) * w (ix3 0 k j) := by
  unfold added k0_pay2
  pointwise []

/-- The queries of one head. -/
def q0 (q : FVec Ideal S1024x512 .f32) : FVec Ideal S1024x128 .f32 := extractStridedSlice S1024x128 ![0, 0] q slices_S1024x512_o0_0_S1024x128
def q1 (q : FVec Ideal S1024x512 .f32) : FVec Ideal S1024x128 .f32 := extractStridedSlice S1024x128 ![0, 128] q slices_S1024x512_o0_128_S1024x128
def q2 (q : FVec Ideal S1024x512 .f32) : FVec Ideal S1024x128 .f32 := extractStridedSlice S1024x128 ![0, 256] q slices_S1024x512_o0_256_S1024x128
def q3 (q : FVec Ideal S1024x512 .f32) : FVec Ideal S1024x128 .f32 := extractStridedSlice S1024x128 ![0, 384] q slices_S1024x512_o0_384_S1024x128

theorem q0_apply (q : FVec Ideal S1024x512 .f32) (a : Fin 1024) (d : Fin 128) : q0 q (ix2 a d) = q (ix2 a ⟨d.val, by omega⟩) := by
  unfold q0; pointwise []
theorem q1_apply (q : FVec Ideal S1024x512 .f32) (a : Fin 1024) (d : Fin 128) : q1 q (ix2 a d) = q (ix2 a ⟨128 + d.val, by omega⟩) := by
  unfold q1; pointwise []
theorem q2_apply (q : FVec Ideal S1024x512 .f32) (a : Fin 1024) (d : Fin 128) : q2 q (ix2 a d) = q (ix2 a ⟨256 + d.val, by omega⟩) := by
  unfold q2; pointwise []
theorem q3_apply (q : FVec Ideal S1024x512 .f32) (a : Fin 1024) (d : Fin 128) : q3 q (ix2 a d) = q (ix2 a ⟨384 + d.val, by omega⟩) := by
  unfold q3; pointwise []

theorem point_eq (x : Vec Ideal S1x1024x2048 .f32) (g : Vec Ideal S1x2048 .f32) (w : Vec Ideal S1x2048x512 .bf16) (k0 v0 k1 v1 k2 v2 k3 v3 : Vec Ideal S1x256x128 .bf16) (o : Vec Ideal S1x512x2048 .bf16) :
    k0_pay1 (k0_pay2 x) (k0_pay3 x g w) (k0_pay7 (k0_pay4 x g w k0) (k0_pay5 x g w k0) (k0_pay6 v0)) (k0_pay8 (k0_pay3 x g w) k1 v1)
      (k0_pay10 (k0_pay3 x g w) k2 v2) (k0_pay11 (k0_pay3 x g w) k2) k3 v3 o
    = added (side (piece (q0 (queries (rows x g) w)) k0 v0) (piece (q1 (queries (rows x g) w)) k1 v1) (piece (q2 (queries (rows x g) w)) k2 v2) (piece (q3 (queries (rows x g) w)) k3 v3)) (k0_pay2 x) o := rfl

theorem normal_apply (x : Vec Ideal S1x1024x2048 .f32) (g : Vec Ideal S1x2048 .f32) (w : Vec Ideal S1x2048x512 .bf16) (a : Fin 1024) (l : Fin 512) :
    queries (rows x g) w (ix2 a l) = query (fun k => x (ix3 0 a k)) (fun k => g (ix2 0 k)) (fun k l => w (ix3 0 k l)) l * scale := by
  rw [queries_apply]
  simp only [rows_apply]
  rfl

/-- The keys and the values of a block's memory: the first 512 lanes and the rest. -/
def keys (y : Vec Ideal S1x256x1024 .bf16) (m : Fin 256) (l : Fin 512) : EReal := y (ix3 0 m ⟨l.val, by omega⟩)
def vals (y : Vec Ideal S1x256x1024 .bf16) (m : Fin 256) (l : Fin 512) : EReal := y (ix3 0 m ⟨512 + l.val, by omega⟩)

theorem ld3 (y : Vec Ideal S1x256x1024 .bf16) (m : Fin 256) (d : Fin 128) (e : Fin 1024) (he : e.val = 0 + d.val) : View.ld y r0_3 (ix3 0 m d) = y (ix3 0 m e) := by
  rw [show View.ld y r0_3 = extractStridedSlice S1x256x128 ![0, 0, 0] y ⟨rfl, inb_S1x256x1024_S1x256x128_0_0_0⟩ from View.ld_unit y _ _ _]
  exact extractStridedSlice_apply _ _ _ _ _ (fun a => match a with
    | ⟨0, _⟩ => rfl
    | ⟨1, _⟩ => (Nat.zero_add _).symm
    | ⟨2, _⟩ => he)

theorem ld4 (y : Vec Ideal S1x256x1024 .bf16) (m : Fin 256) (d : Fin 128) (e : Fin 1024) (he : e.val = 512 + d.val) : View.ld y r0_4 (ix3 0 m d) = y (ix3 0 m e) := by
  rw [show View.ld y r0_4 = extractStridedSlice S1x256x128 ![0, 0, 512] y ⟨rfl, inb_S1x256x1024_S1x256x128_0_0_512⟩ from View.ld_unit y _ _ _]
  exact extractStridedSlice_apply _ _ _ _ _ (fun a => match a with
    | ⟨0, _⟩ => rfl
    | ⟨1, _⟩ => (Nat.zero_add _).symm
    | ⟨2, _⟩ => he)

theorem ld5 (y : Vec Ideal S1x256x1024 .bf16) (m : Fin 256) (d : Fin 128) (e : Fin 1024) (he : e.val = 128 + d.val) : View.ld y r0_5 (ix3 0 m d) = y (ix3 0 m e) := by
  rw [show View.ld y r0_5 = extractStridedSlice S1x256x128 ![0, 0, 128] y ⟨rfl, inb_S1x256x1024_S1x256x128_0_0_128⟩ from View.ld_unit y _ _ _]
  exact extractStridedSlice_apply _ _ _ _ _ (fun a => match a with
    | ⟨0, _⟩ => rfl
    | ⟨1, _⟩ => (Nat.zero_add _).symm
    | ⟨2, _⟩ => he)

theorem ld6 (y : Vec Ideal S1x256x1024 .bf16) (m : Fin 256) (d : Fin 128) (e : Fin 1024) (he : e.val = 640 + d.val) : View.ld y r0_6 (ix3 0 m d) = y (ix3 0 m e) := by
  rw [show View.ld y r0_6 = extractStridedSlice S1x256x128 ![0, 0, 640] y ⟨rfl, inb_S1x256x1024_S1x256x128_0_0_640⟩ from View.ld_unit y _ _ _]
  exact extractStridedSlice_apply _ _ _ _ _ (fun a => match a with
    | ⟨0, _⟩ => rfl
    | ⟨1, _⟩ => (Nat.zero_add _).symm
    | ⟨2, _⟩ => he)

theorem ld7 (y : Vec Ideal S1x256x1024 .bf16) (m : Fin 256) (d : Fin 128) (e : Fin 1024) (he : e.val = 256 + d.val) : View.ld y r0_7 (ix3 0 m d) = y (ix3 0 m e) := by
  rw [show View.ld y r0_7 = extractStridedSlice S1x256x128 ![0, 0, 256] y ⟨rfl, inb_S1x256x1024_S1x256x128_0_0_256⟩ from View.ld_unit y _ _ _]
  exact extractStridedSlice_apply _ _ _ _ _ (fun a => match a with
    | ⟨0, _⟩ => rfl
    | ⟨1, _⟩ => (Nat.zero_add _).symm
    | ⟨2, _⟩ => he)

theorem ld8 (y : Vec Ideal S1x256x1024 .bf16) (m : Fin 256) (d : Fin 128) (e : Fin 1024) (he : e.val = 768 + d.val) : View.ld y r0_8 (ix3 0 m d) = y (ix3 0 m e) := by
  rw [show View.ld y r0_8 = extractStridedSlice S1x256x128 ![0, 0, 768] y ⟨rfl, inb_S1x256x1024_S1x256x128_0_0_768⟩ from View.ld_unit y _ _ _]
  exact extractStridedSlice_apply _ _ _ _ _ (fun a => match a with
    | ⟨0, _⟩ => rfl
    | ⟨1, _⟩ => (Nat.zero_add _).symm
    | ⟨2, _⟩ => he)

theorem ld9 (y : Vec Ideal S1x256x1024 .bf16) (m : Fin 256) (d : Fin 128) (e : Fin 1024) (he : e.val = 384 + d.val) : View.ld y r0_9 (ix3 0 m d) = y (ix3 0 m e) := by
  rw [show View.ld y r0_9 = extractStridedSlice S1x256x128 ![0, 0, 384] y ⟨rfl, inb_S1x256x1024_S1x256x128_0_0_384⟩ from View.ld_unit y _ _ _]
  exact extractStridedSlice_apply _ _ _ _ _ (fun a => match a with
    | ⟨0, _⟩ => rfl
    | ⟨1, _⟩ => (Nat.zero_add _).symm
    | ⟨2, _⟩ => he)

theorem ld10 (y : Vec Ideal S1x256x1024 .bf16) (m : Fin 256) (d : Fin 128) (e : Fin 1024) (he : e.val = 896 + d.val) : View.ld y r0_10 (ix3 0 m d) = y (ix3 0 m e) := by
  rw [show View.ld y r0_10 = extractStridedSlice S1x256x128 ![0, 0, 896] y ⟨rfl, inb_S1x256x1024_S1x256x128_0_0_896⟩ from View.ld_unit y _ _ _]
  exact extractStridedSlice_apply _ _ _ _ _ (fun a => match a with
    | ⟨0, _⟩ => rfl
    | ⟨1, _⟩ => (Nat.zero_add _).symm
    | ⟨2, _⟩ => he)

/-- What a point leaves at a row and a column. -/
def laid (x : Vec Ideal S1x1024x2048 .f32) (g : Vec Ideal S1x2048 .f32) (w : Vec Ideal S1x2048x512 .bf16) (y : Vec Ideal S1x256x1024 .bf16) (a : Fin 1024) (c : Fin 512) : EReal :=
  head (fun d => query (fun k => x (ix3 0 a k)) (fun k => g (ix2 0 k)) (fun k l => w (ix3 0 k l)) (lane c d) * scale) (fun m d => keys y m (lane c d)) (fun m => vals y m c)

theorem piece0_apply (x : Vec Ideal S1x1024x2048 .f32) (g : Vec Ideal S1x2048 .f32) (w : Vec Ideal S1x2048x512 .bf16) (y : Vec Ideal S1x256x1024 .bf16) (a : Fin 1024) (l : Fin 128) :
    piece (q0 (queries (rows x g) w)) (View.ld y r0_3) (View.ld y r0_4) (ix2 a l) = laid x g w y a ⟨l.val, by omega⟩ := by
  refine (piece_apply _ _ _ a l).trans ?_
  unfold laid keys vals
  refine congr (congrArg₂ head (funext fun d => ?_) (funext fun m => funext fun d => ?_)) (funext fun m => ?_)
  · rw [q0_apply, normal_apply]
    exact congrArg (fun l => query (fun k => x (ix3 0 a k)) (fun k => g (ix2 0 k)) (fun k l => w (ix3 0 k l)) l * scale) (Fin.ext (by simp only [lane] <;> omega))
  · exact ld3 y m d _ (by simp only [lane] <;> omega)
  · exact ld4 y m l _ (by simp only [] <;> omega)

theorem piece1_apply (x : Vec Ideal S1x1024x2048 .f32) (g : Vec Ideal S1x2048 .f32) (w : Vec Ideal S1x2048x512 .bf16) (y : Vec Ideal S1x256x1024 .bf16) (a : Fin 1024) (l : Fin 128) :
    piece (q1 (queries (rows x g) w)) (View.ld y r0_5) (View.ld y r0_6) (ix2 a l) = laid x g w y a ⟨128 + l.val, by omega⟩ := by
  refine (piece_apply _ _ _ a l).trans ?_
  unfold laid keys vals
  refine congr (congrArg₂ head (funext fun d => ?_) (funext fun m => funext fun d => ?_)) (funext fun m => ?_)
  · rw [q1_apply, normal_apply]
    exact congrArg (fun l => query (fun k => x (ix3 0 a k)) (fun k => g (ix2 0 k)) (fun k l => w (ix3 0 k l)) l * scale) (Fin.ext (by simp only [lane] <;> omega))
  · exact ld5 y m d _ (by simp only [lane] <;> omega)
  · exact ld6 y m l _ (by simp only [] <;> omega)

theorem piece2_apply (x : Vec Ideal S1x1024x2048 .f32) (g : Vec Ideal S1x2048 .f32) (w : Vec Ideal S1x2048x512 .bf16) (y : Vec Ideal S1x256x1024 .bf16) (a : Fin 1024) (l : Fin 128) :
    piece (q2 (queries (rows x g) w)) (View.ld y r0_7) (View.ld y r0_8) (ix2 a l) = laid x g w y a ⟨256 + l.val, by omega⟩ := by
  refine (piece_apply _ _ _ a l).trans ?_
  unfold laid keys vals
  refine congr (congrArg₂ head (funext fun d => ?_) (funext fun m => funext fun d => ?_)) (funext fun m => ?_)
  · rw [q2_apply, normal_apply]
    exact congrArg (fun l => query (fun k => x (ix3 0 a k)) (fun k => g (ix2 0 k)) (fun k l => w (ix3 0 k l)) l * scale) (Fin.ext (by simp only [lane] <;> omega))
  · exact ld7 y m d _ (by simp only [lane] <;> omega)
  · exact ld8 y m l _ (by simp only [] <;> omega)

theorem piece3_apply (x : Vec Ideal S1x1024x2048 .f32) (g : Vec Ideal S1x2048 .f32) (w : Vec Ideal S1x2048x512 .bf16) (y : Vec Ideal S1x256x1024 .bf16) (a : Fin 1024) (l : Fin 128) :
    piece (q3 (queries (rows x g) w)) (View.ld y r0_9) (View.ld y r0_10) (ix2 a l) = laid x g w y a ⟨384 + l.val, by omega⟩ := by
  refine (piece_apply _ _ _ a l).trans ?_
  unfold laid keys vals
  refine congr (congrArg₂ head (funext fun d => ?_) (funext fun m => funext fun d => ?_)) (funext fun m => ?_)
  · rw [q3_apply, normal_apply]
    exact congrArg (fun l => query (fun k => x (ix3 0 a k)) (fun k => g (ix2 0 k)) (fun k l => w (ix3 0 k l)) l * scale) (Fin.ext (by simp only [lane] <;> omega))
  · exact ld9 y m d _ (by simp only [lane] <;> omega)
  · exact ld10 y m l _ (by simp only [] <;> omega)

/-- What a point stores, at a row and a column. -/
theorem point_apply (x : Vec Ideal S1x1024x2048 .f32) (g : Vec Ideal S1x2048 .f32) (w : Vec Ideal S1x2048x512 .bf16) (y : Vec Ideal S1x256x1024 .bf16) (o : Vec Ideal S1x512x2048 .bf16) (a : Fin 1024) (j : Fin 2048) :
    out0_5 x g w y o (ix3 0 a j) = result (fun k => x (ix3 0 a k)) (laid x g w y a) (fun k j => o (ix3 0 k j)) j := by
  have two : (![0, 0] : Fin 2 → ℕ) = fun _ => 0 := by funext d; fin_cases d <;> rfl
  have three : (![0, 0, 0] : Fin 3 → ℕ) = fun _ => 0 := by funext d; fin_cases d <;> rfl
  unfold out0_5 k0_pay12
  rw [show View.ld x r0_0 = x from View.ld_unit_zero three _ _, show View.ld g r0_1 = g from View.ld_unit_zero two _ _,
    show View.ld w r0_2 = w from View.ld_unit_zero three _ _, show View.ld o r0_11 = o from View.ld_unit_zero three _ _, point_eq]
  refine (congrFun (View.canon_unit_zero three _ _) (ix3 0 a j)).trans ?_
  refine (added_apply _ x o a j).trans ?_
  unfold result
  exact congrArg (x (ix3 0 a j) + ·) (Finset.sum_congr rfl fun k _ => congrArg (· * o (ix3 0 k j)) (side_apply _ _ _ _ a k (laid x g w y a)
    (piece0_apply x g w y a) (piece1_apply x g w y a) (piece2_apply x g w y a) (piece3_apply x g w y a)))

end Cert.XattnIdeal.Blk

end
-- ==== Proof.XattnIdeal.Inputs.lean ====
/- What the input blocks of the attention to the memory hold, off the call's arguments. -/
module

public import proofs.«01_k».proof.Proof.XattnIdeal.Block

@[expose] public section

set_option maxRecDepth 16384

noncomputable section

namespace Cert.XattnIdeal.Blk

open Idealize.ShloMosaic Idealize.ShloMosaic.TcCoe Idealize.SL Idealize.SL.Sem
open Cert.XattnIdeal Cert.XattnIdeal.Gen Cert.XattnIdeal.Value Cert.XattnMath
open Cert.MixMath (normed)

variable (m : (ℓ : Loc nD τ sig) → Buf (Elt Ideal) ℓ) (c : Dev nD)

/-- The arguments: rows of the hidden state, the norm's scale, the query weight, the memory's keys and values, the output weight. -/
def H (b : Fin 8) (s : ℕ) (j : Fin 2048) : EReal :=
  if h : s < 4096 then m ((c : Thread nD τ).loc main_arg0) (ix3 b (⟨s, h⟩ : Fin 4096) j) else 0
def g (j : Fin 2048) : EReal := m ((c : Thread nD τ).loc main_arg1) (ix2 (0 : Fin 4) j)
def wq (k : Fin 2048) (l : Fin 512) : EReal := m ((c : Thread nD τ).loc main_arg2) (ix3 (0 : Fin 4) k l)
def K (b : Fin 8) (n : Fin 256) (l : Fin 512) : EReal := m ((c : Thread nD τ).loc main_arg3) (ix3 b n l)
def VV (b : Fin 8) (n : Fin 256) (l : Fin 512) : EReal := m ((c : Thread nD τ).loc main_arg4) (ix3 b n l)
def wo (l : Fin 512) (j : Fin 2048) : EReal := m ((c : Thread nD τ).loc main_arg5) (ix3 (0 : Fin 4) l j)

theorem g_eq : V m c main_v6 = shapeCast S1x2048 (shapeCast S2048 (extractStridedSlice S1x2048 ![0, 0] (m ((c : Thread nD τ).loc main_arg1)) slices_S4x2048_S1x2048_0_0) shapeCasts_S1x2048_S2048) shapeCasts_S2048_S1x2048 := rfl

theorem g_apply (j : Fin 2048) : V m c main_v6 (ix2 0 j) = g m c j := by
  rw [g_eq]
  unfold g
  pointwise []

/-- The keys and the values side by side. -/
def both (a b : S8x256x512.Idx → EReal) : S8x256x1024.Idx → EReal :=
  concatenate S8x256x1024 2 [⟨S8x256x512, a⟩, ⟨S8x256x512, b⟩] concatenates_S8x256x512_S8x256x512_S8x256x1024_d2

theorem both_left (x y : S8x256x512.Idx → EReal) (b : Fin 8) (n : Fin 256) (l : Fin 512) : both x y (ix3 b n ⟨l.val, by omega⟩) = x (ix3 b n l) := by
  unfold both
  pointwise []

theorem both_right (x y : S8x256x512.Idx → EReal) (b : Fin 8) (n : Fin 256) (l : Fin 512) : both x y (ix3 b n ⟨512 + l.val, by omega⟩) = y (ix3 b n l) := by
  unfold both
  pointwise []

theorem both_eq : V m c main_v1 = both (m ((c : Thread nD τ).loc main_arg3)) (m ((c : Thread nD τ).loc main_arg4)) := rfl

theorem lt_points (t : Fin cfg0.N) : t.val < 32 := by
  have := t.isLt
  have hN : cfg0.N = 32 := N_0
  omega

theorem index_0 : ∀ t : Fin cfg0.N, win0_0.index t = ![t.val / 4, t.val % 4, 0] := by decide +kernel

theorem H_blk (t : Fin cfg0.N) (b : Fin 8) (hb : t.val / 4 = b.val) (a : Fin 1024) (j : Fin 2048) : iblk m c 0 t (ix3 0 a j) = H m c b (1024 * (t.val % 4) + a.val) j := by
  have ht := lt_points t
  unfold H
  rw [dif_pos (show 1024 * (t.val % 4) + a.val < 4096 by omega)]
  show m ((c : Thread nD τ).loc main_arg0) (((cfg0.win 0).blk t).view.emb (ix3 0 a j)) = _
  congr 1
  funext d
  fin_cases d <;> apply Fin.ext
  · show win0_0.index t 0 * 1 + 1 * 0 = b.val
    rw [index_0]; show t.val / 4 * 1 + 1 * 0 = _; omega
  · show win0_0.index t 1 * 1024 + 1 * a.val = 1024 * (t.val % 4) + a.val
    rw [index_0]; show t.val % 4 * 1024 + 1 * a.val = _; omega
  · show win0_0.index t 2 * 2048 + 1 * j.val = j.val
    rw [index_0]; simp

theorem index_1 : ∀ t : Fin cfg0.N, win0_1.index t = ![0, 0] := by decide +kernel

theorem g_blk (t : Fin cfg0.N) (j : Fin 2048) : iblk m c 1 t (ix2 0 j) = g m c j := by
  rw [← g_apply m c j]
  show V m c main_v6 (((cfg0.win 1).blk t).view.emb (ix2 0 j)) = _
  congr 1
  funext d
  fin_cases d <;> apply Fin.ext
  · show win0_1.index t 0 * 1 + 1 * 0 = 0
    rw [index_1]; rfl
  · show win0_1.index t 1 * 2048 + 1 * j.val = j.val
    rw [index_1]; simp

theorem index_2 : ∀ t : Fin cfg0.N, win0_2.index t = ![0, 0, 0] := by decide +kernel

theorem wq_blk (t : Fin cfg0.N) (k : Fin 2048) (l : Fin 512) : iblk m c 2 t (ix3 0 k l) = wq m c k l := by
  unfold wq
  show m ((c : Thread nD τ).loc main_arg2) (((cfg0.win 2).blk t).view.emb (ix3 0 k l)) = _
  congr 1
  funext d
  fin_cases d <;> apply Fin.ext
  · show win0_2.index t 0 * 1 + 1 * 0 = 0
    rw [index_2]; rfl
  · show win0_2.index t 1 * 2048 + 1 * k.val = k.val
    rw [index_2]; simp
  · show win0_2.index t 2 * 512 + 1 * l.val = l.val
    rw [index_2]; simp

theorem index_3 : ∀ t : Fin cfg0.N, win0_3.index t = ![t.val / 4, 0, 0] := by decide +kernel

theorem memory_blk (t : Fin cfg0.N) (b : Fin 8) (hb : t.val / 4 = b.val) (n : Fin 256) (l : Fin 1024) : iblk m c 3 t (ix3 0 n l) = V m c main_v1 (ix3 b n l) := by
  show V m c main_v1 (((cfg0.win 3).blk t).view.emb (ix3 0 n l)) = _
  congr 1
  funext d
  fin_cases d <;> apply Fin.ext
  · show win0_3.index t 0 * 1 + 1 * 0 = b.val
    rw [index_3]; show t.val / 4 * 1 + 1 * 0 = _; omega
  · show win0_3.index t 1 * 256 + 1 * n.val = n.val
    rw [index_3]; simp
  · show win0_3.index t 2 * 1024 + 1 * l.val = l.val
    rw [index_3]; simp

theorem K_blk (t : Fin cfg0.N) (b : Fin 8) (hb : t.val / 4 = b.val) (n : Fin 256) (l : Fin 512) : keys (iblk m c 3 t) n l = K m c b n l := by
  refine (memory_blk m c t b hb n _).trans ?_
  rw [both_eq]
  exact both_left _ _ b n l

theorem VV_blk (t : Fin cfg0.N) (b : Fin 8) (hb : t.val / 4 = b.val) (n : Fin 256) (l : Fin 512) : vals (iblk m c 3 t) n l = VV m c b n l := by
  refine (memory_blk m c t b hb n _).trans ?_
  rw [both_eq]
  exact both_right _ _ b n l

theorem index_4 : ∀ t : Fin cfg0.N, win0_4.index t = ![0, 0, 0] := by decide +kernel

theorem wo_blk (t : Fin cfg0.N) (l : Fin 512) (j : Fin 2048) : iblk m c 4 t (ix3 0 l j) = wo m c l j := by
  unfold wo
  show m ((c : Thread nD τ).loc main_arg5) (((cfg0.win 4).blk t).view.emb (ix3 0 l j)) = _
  congr 1
  funext d
  fin_cases d <;> apply Fin.ext
  · show win0_4.index t 0 * 1 + 1 * 0 = 0
    rw [index_4]; rfl
  · show win0_4.index t 1 * 512 + 1 * l.val = l.val
    rw [index_4]; simp
  · show win0_4.index t 2 * 2048 + 1 * j.val = j.val
    rw [index_4]; simp

end Cert.XattnIdeal.Blk

end
-- ==== Proof.XattnIdeal.Whole.lean ====
/- What the result array of the attention to the memory holds. -/
module

public import proofs.«01_k».proof.Proof.XattnIdeal.Inputs

@[expose] public section

set_option maxRecDepth 16384

noncomputable section

namespace Cert.XattnIdeal.Blk

open Idealize.ShloMosaic Idealize.ShloMosaic.TcCoe Idealize.SL Idealize.SL.Sem
open Cert.XattnIdeal Cert.XattnIdeal.Gen Cert.XattnIdeal.Value Cert.XattnMath
open Cert.MixMath (normed)

variable (m : (ℓ : Loc nD τ sig) → Buf (Elt Ideal) ℓ) (c : Dev nD)

/-- The heads of a row: at lane `l`, its head's softmax over the memory. -/
def heads (b : Fin 8) (s : ℕ) (l : Fin 512) : EReal :=
  head (fun d => query (H m c b s) (g m c) (wq m c) (lane l d) * scale) (fun n d => K m c b n (lane l d)) (fun n => VV m c b n l)

/-- What a point leaves in its block, at a row and a column. -/
theorem left_apply (t : Fin cfg0.N) (b : Fin 8) (hb : t.val / 4 = b.val) (a : Fin 1024) (j : Fin 2048) :
    out0_5 (iblk m c 0 t) (iblk m c 1 t) (iblk m c 2 t) (iblk m c 3 t) (iblk m c 4 t) (ix3 0 a j)
      = result (H m c b (1024 * (t.val % 4) + a.val)) (heads m c b (1024 * (t.val % 4) + a.val)) (wo m c) j := by
  refine (point_apply (iblk m c 0 t) (iblk m c 1 t) (iblk m c 2 t) (iblk m c 3 t) (iblk m c 4 t) a j).trans ?_
  have hH : (fun k => iblk m c 0 t (ix3 0 a k)) = H m c b (1024 * (t.val % 4) + a.val) := funext fun k => H_blk m c t b hb a k
  have hg : (fun k => iblk m c 1 t (ix2 0 k)) = g m c := funext fun k => g_blk m c t k
  have hq : (fun k l => iblk m c 2 t (ix3 0 k l)) = wq m c := funext fun k => funext fun l => wq_blk m c t k l
  have ho : (fun k j => iblk m c 4 t (ix3 0 k j)) = wo m c := funext fun k => funext fun j => wo_blk m c t k j
  have hl : laid (iblk m c 0 t) (iblk m c 1 t) (iblk m c 2 t) (iblk m c 3 t) a = heads m c b (1024 * (t.val % 4) + a.val) := by
    funext l
    unfold laid heads
    rw [hH, hg, hq]
    simp only [K_blk m c t b hb, VV_blk m c t b hb]
  rw [hH, ho, hl]

theorem index_5 : ∀ t : Fin cfg0.N, win0_5.index t = ![t.val / 4, t.val % 4, 0] := by decide +kernel

theorem place (t : Fin cfg0.N) (a : Fin 1024) (j : Fin 2048) (b : Fin 8) (s : Fin 4096) (hb : t.val / 4 = b.val) (hs : s.val = 1024 * (t.val % 4) + a.val) :
    ((cfg0.win 5).blk t).view.emb (ix3 0 a j) = (ix3 b s j : S8x4096x2048.Idx) := by
  funext d
  fin_cases d <;> apply Fin.ext
  · show win0_5.index t 0 * 1 + 1 * 0 = b.val
    rw [index_5]; show t.val / 4 * 1 + 1 * 0 = _; omega
  · show win0_5.index t 1 * 1024 + 1 * a.val = s.val
    rw [index_5, hs]; show t.val % 4 * 1024 + 1 * a.val = _; omega
  · show win0_5.index t 2 * 2048 + 1 * j.val = j.val
    rw [index_5]; simp

/-- The result array at a batch, a row and a column. -/
theorem whole (b : Fin 8) (s : Fin 4096) (j : Fin 2048) : (dats m 0 c).arrAt 5 cfg0.N (ix3 b s j : S8x4096x2048.Idx)
    = result (H m c b s.val) (heads m c b s.val) (wo m c) j := by
  have hN : cfg0.N = 32 := N_0
  have ht : 4 * b.val + s.val / 1024 < cfg0.N := by omega
  have hb : (4 * b.val + s.val / 1024) / 4 = b.val := by omega
  have hs : s.val = 1024 * ((4 * b.val + s.val / 1024) % 4) + s.val % 1024 := by omega
  have e := congrFun (blocks5 m c ⟨4 * b.val + s.val / 1024, ht⟩ (flush0_5 _)) (ix3 0 (⟨s.val % 1024, by omega⟩ : Fin 1024) j)
  rw [← place ⟨4 * b.val + s.val / 1024, ht⟩ (⟨s.val % 1024, by omega⟩ : Fin 1024) j b s hb hs]
  refine e.trans ?_
  rw [flushed5]
  refine (left_apply m c ⟨4 * b.val + s.val / 1024, ht⟩ b hb (⟨s.val % 1024, by omega⟩ : Fin 1024) j).trans ?_
  show result (H m c b (1024 * ((4 * b.val + s.val / 1024) % 4) + s.val % 1024)) (heads m c b (1024 * ((4 * b.val + s.val / 1024) % 4) + s.val % 1024)) (wo m c) j = _
  rw [← hs]

end Cert.XattnIdeal.Blk

end
-- ==== Proof.XattnReferenceIdeal.Result.lean ====
/- The reference's attention to the memory, row by row and lane by lane. -/
module

public import proofs.«01_k».proof.Proof.Gen.XattnReferenceIdeal.Read
public import proofs.«01_k».proof.Proof.XattnMath

@[expose] public section

set_option maxRecDepth 16384

noncomputable section

namespace Cert.XattnReferenceIdeal.Net

open Idealize.ShloMosaic Idealize.ShloMosaic.TcCoe Idealize.SL Idealize.SL.Sem
open Cert.XattnReferenceIdeal Cert.XattnReferenceIdeal.Read Cert.XattnMath
open Cert.MixMath (normed)

variable (x0 : (⟨S8x4096x2048, .f32⟩ : BufTy).Contents (Elt Ideal)) (x1 : (⟨S4x2048, .f32⟩ : BufTy).Contents (Elt Ideal)) (x2 : (⟨S4x2048x512, .f32⟩ : BufTy).Contents (Elt Ideal))
  (x3 x4 : (⟨S8x256x512, .f32⟩ : BufTy).Contents (Elt Ideal)) (x5 : (⟨S4x512x2048, .f32⟩ : BufTy).Contents (Elt Ideal))

/-- A normalised row. -/
theorem rows_apply (b : Fin 8) (s : Fin 4096) (j : Fin 2048) :
    val_main_v14 (F := Ideal) x0 x1 (ix3 b s j) = normed 0x45000000#32 (fun k => x0 (ix3 b s k)) (fun k => x1 (ix2 0 k)) j := by
  have hsum : ∀ i : S8x4096.Idx, i = ix2 b s → val_main_v3 (F := Ideal) x0 i = ∑ k : Fin 2048, x0 (ix3 b s k) * x0 (ix3 b s k) := by
    rintro i rfl
    rw [val_main_v3_apply]
    refine (congrArg₂ (· + ·) (show _ = (0 : EReal) by unfold val_main_cst; pointwise []) (Finset.sum_congr rfl fun k _ => ?_)).trans (zero_add _)
    rw [val_main_v2_apply, show idx_main_v3 (ix2 b s) k = ix3 b s k from (eq_ix3 _).trans rfl]
    rfl
  rw [val_main_v14_apply, val_main_v11_apply, val_main_v10_apply, val_main_v9_apply, val_main_v8_apply, val_main_v6_apply, val_main_v4_apply,
    val_main_v5_apply, val_main_v7_apply, val_main_v13_apply, val_main_v12_apply, val_main_v1_apply, val_main_v0_apply, hsum _ ((eq_ix2 _).trans rfl)]
  rw [show idx_main_v0 (idx_main_v1 (idx_main_v12 (idx_main_v13 (ix3 b s j)))) = ix2 0 j from (eq_ix2 _).trans (by
    refine congrArg₂ ix2 (Fin.ext rfl) (Fin.ext ?_)
    show j.val % 2048 = j.val
    omega)]
  rfl

theorem weight_apply (k : Fin 2048) (l : Fin 512) : val_main_v16 (F := Ideal) x2 (ix2 k l) = x2 (ix3 0 k l) := by
  rw [val_main_v16_apply, val_main_v15_apply]
  refine congrArg x2 ((eq_ix3 _).trans (congr (congrArg₂ ix3 (Fin.ext rfl) (Fin.ext ?_)) (Fin.ext ?_)))
  · show (k.val * 512 + l.val) / 512 % 2048 = k.val; omega
  · show (k.val * 512 + l.val) % 512 = l.val; omega

/-- A row's query. -/
def Q (b : Fin 8) (s : Fin 4096) : Fin 512 → EReal := query (fun k => x0 (ix3 b s k)) (fun k => x1 (ix2 0 k)) (fun k l => x2 (ix3 0 k l))

theorem query_apply (b : Fin 8) (s : Fin 4096) (l : Fin 512) : val_main_v17 (F := Ideal) x0 x1 x2 (ix3 b s l) = Q x0 x1 x2 b s l := by
  rw [val_main_v17_apply]
  unfold Q query
  refine Finset.sum_congr rfl fun k _ => congrArg₂ (· * ·) ?_ ?_
  · rw [show lidx_main_v17 (ix3 b s l) k = ix3 b s k from (eq_ix3 _).trans rfl]
    exact rows_apply x0 x1 b s k
  · rw [show ridx_main_v17 (ix3 b s l) k = ix2 k l from (eq_ix2 _).trans rfl]
    exact weight_apply x2 k l

/-- A score, for the head of lane `c`. -/
theorem score_apply (b : Fin 8) (s : Fin 4096) (n : Fin 256) (c : Fin 512) (h : Fin 4) (hc : h.val = c.val / 128) :
    val_main_v23 (F := Ideal) x0 x1 x2 x3 (ix4 b h s n) = score (Q x0 x1 x2 b s) (fun n l => x3 (ix3 b n l)) c n := by
  rw [val_main_v23_apply, val_main_v21_apply, val_main_v22_apply]
  unfold score
  refine congrArg₂ (· * ·) (Finset.sum_congr rfl fun d _ => congrArg₂ (· * ·) ?_ ?_) rfl
  · rw [show lidx_main_v21 (ix4 b h s n) d = ix4 b s h d from (eq_ix4 _).trans rfl, val_main_v18_apply]
    have e : idx_main_v18 (ix4 b s h d) = ix3 b s (lane c d) := (eq_ix3 _).trans (congr (congrArg₂ ix3
      (Fin.ext (by show (((b.val * 4096 + s.val) * 4 + h.val) * 128 + d.val) / 2097152 = b.val; omega))
      (Fin.ext (by show (((b.val * 4096 + s.val) * 4 + h.val) * 128 + d.val) / 512 % 4096 = s.val; omega)))
      (Fin.ext (by show (((b.val * 4096 + s.val) * 4 + h.val) * 128 + d.val) % 512 = 128 * (c.val / 128) + d.val; omega)))
    rw [e]
    exact query_apply x0 x1 x2 b s _
  · rw [show ridx_main_v21 (ix4 b h s n) d = ix4 b n h d from (eq_ix4 _).trans rfl, val_main_v19_apply]
    exact congrArg x3 ((eq_ix3 _).trans (congr (congrArg₂ ix3
      (Fin.ext (by show (((b.val * 256 + n.val) * 4 + h.val) * 128 + d.val) / 131072 = b.val; omega))
      (Fin.ext (by show (((b.val * 256 + n.val) * 4 + h.val) * 128 + d.val) / 512 % 256 = n.val; omega)))
      (Fin.ext (by show (((b.val * 256 + n.val) * 4 + h.val) * 128 + d.val) % 512 = 128 * (c.val / 128) + d.val; omega))))

theorem most (b : Fin 8) (h : Fin 4) (s : Fin 4096) :
    val_main_v24 (F := Ideal) x0 x1 x2 x3 (ix3 b h s) = Finset.univ.fold max (Ideal.ofBits .f32 0xFF800000#32) fun n => val_main_v23 (F := Ideal) x0 x1 x2 x3 (ix4 b h s n) := by
  unfold val_main_v24
  generalize val_main_v23 (F := Ideal) x0 x1 x2 x3 = y
  pointwise []
  rfl

/-- The scores are real numbers. -/
theorem scores_real (hg : ∀ k, ∃ r : ℝ, x1 (ix2 0 k) = r) (hw : ∀ k l, ∃ r : ℝ, x2 (ix3 0 k l) = r) (hk : ∀ b n l, ∃ r : ℝ, x3 (ix3 b n l) = r) (i : S8x4x4096x256.Idx) :
    ∃ r : ℝ, val_main_v23 (F := Ideal) x0 x1 x2 x3 i = r := by
  have at_ix : ∀ (b : Fin 8) (h : Fin 4) (s : Fin 4096) (n : Fin 256), ∃ r : ℝ, val_main_v23 (F := Ideal) x0 x1 x2 x3 (ix4 b h s n) = r := fun b h s n => by
    rw [score_apply x0 x1 x2 x3 b s n ⟨128 * h.val, by omega⟩ h (by show h.val = 128 * h.val / 128; omega)]
    exact score_real _ _ (query_real _ _ _ hg hw) (fun n l => hk b n l) _ _
  rw [eq_ix4 i]
  exact at_ix (i 0) (i 1) (i 2) (i 3)

theorem top_apply (hg : ∀ k, ∃ r : ℝ, x1 (ix2 0 k) = r) (hw : ∀ k l, ∃ r : ℝ, x2 (ix3 0 k l) = r) (hk : ∀ b n l, ∃ r : ℝ, x3 (ix3 b n l) = r) (b : Fin 8) (h : Fin 4) (s : Fin 4096) :
    ∃ r : ℝ, val_main_v26 (F := Ideal) x0 x1 x2 x3 (ix3 b h s) = r := by
  obtain ⟨r, hr⟩ := top_real Finset.univ _ least (fun n => val_main_v23 (F := Ideal) x0 x1 x2 x3 (ix4 b h s n)) (fun n => scores_real x0 x1 x2 x3 hg hw hk _) 0 (Finset.mem_univ _)
  refine ⟨r, ?_⟩
  rw [val_main_v26_apply, most, hr, val_main_v25_apply]
  show max (Ideal.ofBits .f32 0xFF800000#32) (r : EReal) = _
  rw [least]
  exact max_eq_right bot_le

/-- A softmax weight. -/
theorem share_apply (b : Fin 8) (h : Fin 4) (s : Fin 4096) (e : Fin 256 → ℝ) (he : ∀ n, val_main_v23 (F := Ideal) x0 x1 x2 x3 (ix4 b h s n) = e n)
    (r : ℝ) (hr : val_main_v26 (F := Ideal) x0 x1 x2 x3 (ix3 b h s) = r) (n : Fin 256) :
    val_main_v34 (F := Ideal) x0 x1 x2 x3 (ix4 b h s n) = Ideal.div (Ideal.exp ((e n : EReal) - (r : EReal))) (∑ m, Ideal.exp ((e m : EReal) - (r : EReal))) := by
  have hx : ∀ n, val_main_v30 (F := Ideal) x0 x1 x2 x3 (ix4 b h s n) = Ideal.exp ((e n : EReal) - (r : EReal)) := fun n => by
    rw [val_main_v30_apply, val_main_v29_apply, val_main_v28_apply, val_main_v27_apply, he,
      show idx_main_v27 (idx_main_v28 (ix4 b h s n)) = ix3 b h s from (eq_ix3 _).trans rfl, hr]
    rfl
  rw [val_main_v34_apply, hx, val_main_v33_apply, val_main_v32_apply, show idx_main_v32 (idx_main_v33 (ix4 b h s n)) = ix3 b h s from (eq_ix3 _).trans rfl, val_main_v31_apply]
  refine congrArg (Ideal.div (Ideal.exp ((e n : EReal) - (r : EReal)))) ?_
  refine (congrArg₂ (· + ·) (show _ = (0 : EReal) by unfold val_main_cst_5; pointwise []) (Finset.sum_congr rfl fun k _ => ?_)).trans (zero_add _)
  rw [show idx_main_v31 (ix3 b h s) k = ix4 b h s k from (eq_ix4 _).trans rfl]
  exact hx k

/-- A lane of the heads side by side. -/
theorem lane_apply (hg : ∀ k, ∃ r : ℝ, x1 (ix2 0 k) = r) (hw : ∀ k l, ∃ r : ℝ, x2 (ix3 0 k l) = r) (hk : ∀ b n l, ∃ r : ℝ, x3 (ix3 b n l) = r) (b : Fin 8) (s : Fin 4096) (c : Fin 512)
    (e : Fin 256 → ℝ) (he : ∀ n, score (Q x0 x1 x2 b s) (fun n l => x3 (ix3 b n l)) c n = e n) :
    val_main_v37 (F := Ideal) x0 x1 x2 x3 x4 (ix3 b s c) = blend e fun n => x4 (ix3 b n c) := by
  have hi : idx_main_v37 (ix3 b s c) = ix4 b s (⟨c.val / 128, by omega⟩ : Fin 4) (⟨c.val % 128, by omega⟩ : Fin 128) := (eq_ix4 _).trans (congr (congr (congrArg₂ ix4
    (Fin.ext (by show ((b.val * 4096 + s.val) * 512 + c.val) / 2097152 = b.val; omega))
    (Fin.ext (by show ((b.val * 4096 + s.val) * 512 + c.val) / 512 % 4096 = s.val; omega)))
    (Fin.ext (by show ((b.val * 4096 + s.val) * 512 + c.val) / 128 % 4 = c.val / 128; omega)))
    (Fin.ext (by show ((b.val * 4096 + s.val) * 512 + c.val) % 128 = c.val % 128; omega)))
  obtain ⟨r, hr⟩ := top_apply x0 x1 x2 x3 hg hw hk b ⟨c.val / 128, by omega⟩ s
  rw [val_main_v37_apply, hi, val_main_v36_apply,
    show idx_main_v36 (ix4 b s (⟨c.val / 128, by omega⟩ : Fin 4) (⟨c.val % 128, by omega⟩ : Fin 128)) = ix4 b ⟨c.val / 128, by omega⟩ ⟨c.val % 128, by omega⟩ s from (eq_ix4 _).trans rfl,
    val_main_v35_apply, ← divide_first e r]
  refine Finset.sum_congr rfl fun n _ => congrArg₂ (· * ·) ?_ ?_
  · rw [show lidx_main_v35 (ix4 b ⟨c.val / 128, by omega⟩ ⟨c.val % 128, by omega⟩ s) n = ix4 b n (⟨c.val / 128, by omega⟩ : Fin 4) (⟨c.val % 128, by omega⟩ : Fin 128) from (eq_ix4 _).trans rfl, val_main_v20_apply]
    exact congrArg x4 ((eq_ix3 _).trans (congr (congrArg₂ ix3
      (Fin.ext (by show (((b.val * 256 + n.val) * 4 + c.val / 128) * 128 + c.val % 128) / 131072 = b.val; omega))
      (Fin.ext (by show (((b.val * 256 + n.val) * 4 + c.val / 128) * 128 + c.val % 128) / 512 % 256 = n.val; omega)))
      (Fin.ext (by show (((b.val * 256 + n.val) * 4 + c.val / 128) * 128 + c.val % 128) % 512 = c.val; omega))))
  · rw [show ridx_main_v35 (ix4 b ⟨c.val / 128, by omega⟩ ⟨c.val % 128, by omega⟩ s) n = ix4 b (⟨c.val / 128, by omega⟩ : Fin 4) s n from (eq_ix4 _).trans rfl]
    exact share_apply x0 x1 x2 x3 b _ s e (fun n => (score_apply x0 x1 x2 x3 b s n c _ rfl).trans (he n)) r hr n

theorem out_apply (l : Fin 512) (j : Fin 2048) : val_main_v39 (F := Ideal) x5 (ix2 l j) = x5 (ix3 0 l j) := by
  rw [val_main_v39_apply, val_main_v38_apply]
  refine congrArg x5 ((eq_ix3 _).trans (congr (congrArg₂ ix3 (Fin.ext rfl) (Fin.ext ?_)) (Fin.ext ?_)))
  · show (l.val * 2048 + j.val) / 2048 % 512 = l.val; omega
  · show (l.val * 2048 + j.val) % 2048 = j.val; omega

/-- The result at a batch, a row and a column. -/
theorem whole (o : Fin 512 → EReal) (b : Fin 8) (s : Fin 4096) (j : Fin 2048) (ho : ∀ l, val_main_v37 (F := Ideal) x0 x1 x2 x3 x4 (ix3 b s l) = o l) :
    val_main_v41 (F := Ideal) x0 x1 x2 x3 x4 x5 (ix3 b s j) = result (fun k => x0 (ix3 b s k)) o (fun l j => x5 (ix3 0 l j)) j := by
  rw [val_main_v41_apply, val_main_v40_apply]
  refine congrArg (x0 (ix3 b s j) + ·) (Finset.sum_congr rfl fun l _ => congrArg₂ (· * ·) ?_ ?_)
  · rw [show lidx_main_v40 (ix3 b s j) l = ix3 b s l from (eq_ix3 _).trans rfl]
    exact ho l
  · rw [show ridx_main_v40 (ix3 b s j) l = ix2 l j from (eq_ix2 _).trans rfl]
    exact out_apply x5 l j

end Cert.XattnReferenceIdeal.Net

end
-- ==== Proof.XattnAgree.lean ====
/- The two programs' attention to the memory agrees. -/
module

public import proofs.«01_k».proof.Proof.FiniteKeys
public import proofs.«01_k».proof.Proof.XattnIdeal.Whole
public import proofs.«01_k».proof.Proof.XattnReferenceIdeal.Result

@[expose] public section

set_option maxRecDepth 16384

noncomputable section

namespace Cert.XattnAgree

open Idealize.ShloMosaic Idealize.ShloMosaic.TcCoe Idealize.SL Idealize.SL.Sem
open Cert.XattnIdeal Cert.XattnIdeal.Gen Cert.XattnIdeal.Blk Cert.XattnMath

theorem equal (m : (ℓ : Loc nD τ sig) → Buf (Elt Ideal) ℓ) (c : Dev nD) (h : Cert.Pre_finite_keys.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1) :
    Cert.XattnReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 5 cfg0.N := by
  obtain ⟨h1, h2, h3⟩ := Cert.Pre_finite_keys.real _ _ _ _ _ _ h
  have at_ix : ∀ (b : Fin 8) (s : Fin 4096) (j : Fin 2048), Cert.XattnReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b s j)
      = (dats m 0 c).arrAt 5 cfg0.N (ix3 b s j : S8x4096x2048.Idx) := fun b s j => by
    have hH : H m c b s.val = fun k => m ((c : Thread nD τ).loc main_arg0) (ix3 b s k) := funext fun k => by unfold H; rw [dif_pos s.isLt]
    rw [whole m c b s j, hH]
    refine Cert.XattnReferenceIdeal.Net.whole _ _ _ _ _ _ (heads m c b s.val) b s j fun l => ?_
    choose e he using score_real (query (H m c b s.val) (g m c) (wq m c)) (K m c b) (query_real _ _ _ (fun k => h1 _) (fun k l => h2 _)) (fun n l => h3 _) l
    refine (Cert.XattnReferenceIdeal.Net.lane_apply _ _ _ _ _ (fun k => h1 _) (fun k l => h2 _) (fun b n l => h3 _) b s l e fun n => ?_).trans (head_eq _ (K m c b) _ l e he).symm
    rw [← he n, hH]
    rfl
  funext i
  rw [eq_ix3 i]
  exact at_ix (i 0) (i 1) (i 2)

end Cert.XattnAgree

end
-- ==== Proof.MemIdeal.Inputs.lean ====
/- What a point leaves, and what the call's input blocks hold, off the call's arguments. -/
module

public import proofs.«01_k».proof.Proof.Gen.MemIdeal.Value
public import proofs.«01_k».proof.Proof.FfnMath
public import Idealize.ShloMosaic.Lib.VecWindow
public import Idealize.ShloMosaic.Lib.Pointwise

@[expose] public section

set_option maxRecDepth 16384

noncomputable section

namespace Cert.MemIdeal.Blk

open Idealize.ShloMosaic Idealize.ShloMosaic.TcCoe Idealize.SL Idealize.SL.Sem
open Cert.MemIdeal Cert.MemIdeal.Gen Cert.FfnMath

section
variable {F : FTy → Type} [FloatOps F]
variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x1024 .bf16) (harg5 : arg5.IsWhole) (arg6 : Memref sig .tc .vmem S512x2048 .bf16) (harg6 : arg6.IsWhole)
  (x0 : Vec F S512x2048 .f32) (x1 : Vec F S1x2048 .f32) (x2 : Vec F S1x2048x1024 .bf16)

omit [FloatOps F] in
/-- A load of a whole array reads what the array holds. -/
theorem loaded {s : Shape} {e : EltTy} (a : Memref sig .tc .vmem s e) (ha : a.IsWhole) (x : Vec F s e) {off : Fin s.rank → ℕ} (inb : ∀ d, off d + s.size d ≤ s.size d) :
    a.view.readAt (Elt F) (Rect.unit off s.size inb).toLoadRect (ha.unread x) = x :=
  (View.readAt_full _ _ _).trans (ha.read_unread _)

/-- A point stores the product of the rows it normalised. -/
theorem out_A (hc0 : cond0_0 i) : out0_A_3 c i arg2 harg2 arg3 harg3 arg4 harg4 arg5 harg5 arg6 harg6 hc0 x0 x1 x2 = k0_pay2 (k0_pay1 x0 x1) x2 := by
  unfold out0_A_3 kernelRun0_A
  dsimp only
  refine (View.read_writes_full _ _ _ _ _).trans ?_
  congr 1
  · unfold kernelRun0_A.sl.v3
    refine (View.readCov_full _ _ _ _ _).trans ?_
    congr 1
    · exact loaded _ _ _ _
    · exact loaded _ _ _ _
  · exact loaded _ _ _ _
end

theorem rows_apply (x : Vec Ideal S512x2048 .f32) (g : Vec Ideal S1x2048 .f32) (a : Fin 512) (j : Fin 2048) :
    k0_pay1 x g (ix2 a j) = scaled (fun k => x (ix2 a k)) (fun k => g (ix2 0 k)) j := by
  unfold k0_pay1 scaled
  pointwise []

theorem product_apply (x : Vec Ideal S512x2048 .bf16) (w : Vec Ideal S1x2048x1024 .bf16) (a : Fin 512) (q : Fin 1024) :
    k0_pay2 x w (ix2 a q) = ∑ k : Fin 2048, x (ix2 a k) * w (ix3 0 k q) := by
  unfold k0_pay2
  pointwise []

variable (m : (ℓ : Loc nD τ sig) → Buf (Elt Ideal) ℓ) (c : Dev nD)

/-- The arguments: a row of the memory, the norm's scales, the first layer's key and value weights side by side, by column. -/
def M (r : Fin 2048) (j : Fin 2048) : EReal := m ((c : Thread nD τ).loc main_arg0) (ix3 (⟨r.val / 256, by omega⟩ : Fin 8) (⟨r.val % 256, by omega⟩ : Fin 256) j)
def g (j : Fin 2048) : EReal := m ((c : Thread nD τ).loc main_arg1) (ix2 (0 : Fin 4) j)
def w (q : Fin 1024) (k : Fin 2048) : EReal :=
  if h : q.val < 512 then m ((c : Thread nD τ).loc main_arg2) (ix3 (0 : Fin 4) k (⟨q.val, h⟩ : Fin 512))
  else m ((c : Thread nD τ).loc main_arg3) (ix3 (0 : Fin 4) k (⟨q.val - 512, by omega⟩ : Fin 512))

/-- Two weights side by side. -/
def both (x y : S4x2048x512.Idx → EReal) : S4x2048x1024.Idx → EReal :=
  concatenate S4x2048x1024 2 [⟨S4x2048x512, x⟩, ⟨S4x2048x512, y⟩] concatenates_S4x2048x512_S4x2048x512_S4x2048x1024_d2

theorem both_left (x y : S4x2048x512.Idx → EReal) (k : Fin 2048) (l : Fin 512) : both x y (ix3 0 k ⟨l.val, by omega⟩) = x (ix3 0 k l) := by
  unfold both
  pointwise []

theorem both_right (x y : S4x2048x512.Idx → EReal) (k : Fin 2048) (l : Fin 512) : both x y (ix3 0 k ⟨512 + l.val, by omega⟩) = y (ix3 0 k l) := by
  unfold both
  pointwise []

theorem memory_eq : V m c main_v2 = shapeCast S2048x2048 (m ((c : Thread nD τ).loc main_arg0)) shapeCasts_S8x256x2048_S2048x2048 := rfl
theorem norm_eq : V m c main_v5 = shapeCast S1x2048 (shapeCast S2048 (extractStridedSlice S1x2048 ![0, 0] (m ((c : Thread nD τ).loc main_arg1)) slices_S4x2048_S1x2048_0_0) shapeCasts_S1x2048_S2048) shapeCasts_S2048_S1x2048 := rfl
theorem weight_eq : V m c main_v1 = both (m ((c : Thread nD τ).loc main_arg2)) (m ((c : Thread nD τ).loc main_arg3)) := rfl

theorem memory_apply (r : Fin 2048) (j : Fin 2048) : V m c main_v2 (ix2 r j) = M m c r j := by
  rw [memory_eq]
  unfold M
  exact shapeCast_apply _ _ (ix2 r j) (ix3 (⟨r.val / 256, by omega⟩ : Fin 8) (⟨r.val % 256, by omega⟩ : Fin 256) j)
    (by rw [Shape.rowMajor_val_three, Shape.rowMajor_val_two]; show (r.val / 256 * 256 + r.val % 256) * 2048 + j.val = r.val * 2048 + j.val; omega)

theorem norm_apply (j : Fin 2048) : V m c main_v5 (ix2 0 j) = g m c j := by
  rw [norm_eq]
  unfold g
  pointwise []

theorem weight_apply (k : Fin 2048) (q : Fin 1024) : V m c main_v1 (ix3 0 k q) = w m c q k := by
  rw [weight_eq]
  unfold w
  split
  · rename_i h
    exact both_left _ _ k ⟨q.val, h⟩
  · rename_i h
    refine (congrArg (fun z : Fin 1024 => both (m ((c : Thread nD τ).loc main_arg2)) (m ((c : Thread nD τ).loc main_arg3)) (ix3 0 k z)) (Fin.ext ?_)).trans
      (both_right _ _ k (⟨q.val - 512, by omega⟩ : Fin 512))
    show q.val = 512 + (q.val - 512)
    omega

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![0, 0, 0] := by decide +kernel

theorem lt_points (t : Fin cfg0.N) : t.val < 4 := Nat.lt_of_lt_of_eq t.isLt N_0

theorem memory_blk (t : Fin cfg0.N) (a : Fin 512) (j : Fin 2048) (r : Fin 2048) (hr : r.val = 512 * t.val + a.val) : iblk m c 0 t (ix2 a j) = M m c r j := by
  rw [← memory_apply m c r j]
  show V m c main_v2 (((cfg0.win 0).blk t).view.emb (ix2 a j)) = _
  congr 1
  funext d
  fin_cases d <;> apply Fin.ext
  · show win0_0.index t 0 * 512 + 1 * a.val = r.val
    rw [index_0, hr]; show t.val * 512 + 1 * a.val = _; omega
  · show win0_0.index t 1 * 2048 + 1 * j.val = j.val
    rw [index_0]; simp

theorem norm_blk (t : Fin cfg0.N) (j : Fin 2048) : iblk m c 1 t (ix2 0 j) = g m c j := by
  rw [← norm_apply m c j]
  show V m c main_v5 (((cfg0.win 1).blk t).view.emb (ix2 0 j)) = _
  congr 1
  funext d
  fin_cases d <;> apply Fin.ext
  · show win0_1.index t 0 * 1 + 1 * 0 = 0
    rw [index_1]; rfl
  · show win0_1.index t 1 * 2048 + 1 * j.val = j.val
    rw [index_1]; simp

theorem weight_blk (t : Fin cfg0.N) (k : Fin 2048) (q : Fin 1024) : iblk m c 2 t (ix3 0 k q) = w m c q k := by
  rw [← weight_apply m c k q]
  show V m c main_v1 (((cfg0.win 2).blk t).view.emb (ix3 0 k q)) = _
  congr 1
  funext d
  fin_cases d <;> apply Fin.ext
  · show win0_2.index t 0 * 1 + 1 * 0 = 0
    rw [index_2]; rfl
  · show win0_2.index t 1 * 2048 + 1 * k.val = k.val
    rw [index_2]; simp
  · show win0_2.index t 2 * 1024 + 1 * q.val = q.val
    rw [index_2]; simp

end Cert.MemIdeal.Blk

end
-- ==== Proof.MemIdeal.Whole.lean ====
/- What the call's result array holds: the product of the normalised rows and the two weights side by side. -/
module

public import proofs.«01_k».proof.Proof.MemIdeal.Inputs

@[expose] public section

set_option maxRecDepth 16384

noncomputable section

namespace Cert.MemIdeal.Blk

open Idealize.ShloMosaic Idealize.ShloMosaic.TcCoe Idealize.SL Idealize.SL.Sem
open Cert.MemIdeal Cert.MemIdeal.Gen Cert.MemIdeal.Value Cert.FfnMath

variable (m : (ℓ : Loc nD τ sig) → Buf (Elt Ideal) ℓ) (c : Dev nD)

/-- A product block, off rows, scales and a weight's columns. -/
theorem block_apply (x : Vec Ideal S512x2048 .f32) (y : Vec Ideal S1x2048 .f32) (z : Vec Ideal S1x2048x1024 .bf16) (a : Fin 512) (q : Fin 1024) (h s v : Fin 2048 → EReal)
    (hx : ∀ k, x (ix2 a k) = h k) (hy : ∀ k, y (ix2 0 k) = s k) (hz : ∀ k, z (ix3 0 k q) = v k) :
    k0_pay2 (k0_pay1 x y) z (ix2 a q) = ∑ k : Fin 2048, scaled h s k * v k := by
  rw [product_apply]
  refine Finset.sum_congr rfl fun k _ => ?_
  rw [rows_apply, hz k]
  simp only [hx, hy]

theorem index_3 : ∀ t : Fin cfg0.N, win0_3.index t = ![t.val, 0] := by decide +kernel

theorem place (t : Fin cfg0.N) (a : Fin 512) (q : Fin 1024) (r : Fin 2048) (hr : r.val = 512 * t.val + a.val) :
    ((cfg0.win 3).blk t).view.emb (ix2 a q) = (ix2 r q : S2048x1024.Idx) := by
  funext d
  fin_cases d <;> apply Fin.ext
  · show win0_3.index t 0 * 512 + 1 * a.val = r.val
    rw [index_3, hr]; show t.val * 512 + 1 * a.val = _; omega
  · show win0_3.index t 1 * 1024 + 1 * q.val = q.val
    rw [index_3]; simp

/-- The result array at a row and a column. -/
theorem whole (r : Fin 2048) (q : Fin 1024) : (dats m 0 c).arrAt 3 cfg0.N (ix2 r q : S2048x1024.Idx) = ∑ k : Fin 2048, scaled (M m c r) (g m c) k * w m c q k := by
  have hN : cfg0.N = 4 := N_0
  have ht : r.val / 512 < cfg0.N := by omega
  have hr : r.val = 512 * (r.val / 512) + r.val % 512 := by omega
  have e := congrFun (blocks3 m c ⟨r.val / 512, ht⟩ (flush0_3 _)) (ix2 (⟨r.val % 512, by omega⟩ : Fin 512) q)
  rw [← place ⟨r.val / 512, ht⟩ (⟨r.val % 512, by omega⟩ : Fin 512) q r hr]
  refine e.trans ?_
  rw [flushed3_A, out_A]
  exact block_apply _ _ _ _ q _ _ _ (fun k => memory_blk m c _ _ k r hr) (fun k => norm_blk m c _ k) (fun k => weight_blk m c _ k q)

end Cert.MemIdeal.Blk

end
-- ==== Proof.MemReferenceIdeal.Result.lean ====
/- The reference's result at a row and a column. -/
module

public import proofs.«01_k».proof.Proof.Gen.MemReferenceIdeal.Read
public import proofs.«01_k».proof.Proof.FfnMath
public import Idealize.ShloMosaic.Lib.Pointwise
public import Idealize.ShloMosaic.Lib.IdealHost

@[expose] public section

set_option maxRecDepth 16384

noncomputable section

namespace Cert.MemReferenceIdeal.Net

open Idealize.ShloMosaic Idealize.ShloMosaic.TcCoe Idealize.SL Idealize.SL.Sem
open Cert.MemReferenceIdeal Cert.MemReferenceIdeal.Read Cert.FfnMath

variable (x0 : (⟨S8x256x2048, .f32⟩ : BufTy).Contents (Elt Ideal)) (x1 : (⟨S4x2048, .f32⟩ : BufTy).Contents (Elt Ideal))
  (x2 x3 : (⟨S4x2048x512, .f32⟩ : BufTy).Contents (Elt Ideal))

/-- A normalised row. -/
theorem rows_apply (b : Fin 8) (s : Fin 256) (j : Fin 2048) :
    val_main_v14 (F := Ideal) x0 x1 (ix3 b s j) = scaled (fun k => x0 (ix3 b s k)) (fun k => x1 (ix2 0 k)) j := by
  have hsum : ∀ i : S8x256.Idx, i = ix2 b s → val_main_v3 (F := Ideal) x0 i = ∑ k : Fin 2048, x0 (ix3 b s k) * x0 (ix3 b s k) := by
    rintro i rfl
    rw [val_main_v3_apply]
    refine (congrArg₂ (· + ·) (show _ = (0 : EReal) by unfold val_main_cst; pointwise []) (Finset.sum_congr rfl fun k _ => ?_)).trans (zero_add _)
    rw [val_main_v2_apply, show idx_main_v3 (ix2 b s) k = ix3 b s k from (eq_ix3 _).trans rfl]
    rfl
  rw [val_main_v14_apply, val_main_v11_apply, val_main_v10_apply, val_main_v9_apply, val_main_v8_apply, val_main_v6_apply, val_main_v4_apply,
    val_main_v5_apply, val_main_v7_apply, val_main_v13_apply, val_main_v12_apply, val_main_v1_apply, val_main_v0_apply, hsum _ ((eq_ix2 _).trans rfl)]
  rw [show idx_main_v0 (idx_main_v1 (idx_main_v12 (idx_main_v13 (ix3 b s j)))) = ix2 0 j from (eq_ix2 _).trans (by
    refine congrArg₂ ix2 (Fin.ext rfl) (Fin.ext ?_)
    show j.val % 2048 = j.val
    omega)]
  rfl

/-- The first layer's weights by column. -/
theorem keys_weight_apply (k : Fin 2048) (q : Fin 512) : val_main_v16 (F := Ideal) x2 (ix2 k q) = x2 (ix3 0 k q) := by
  rw [val_main_v16_apply, val_main_v15_apply]
  refine congrArg x2 ((eq_ix3 _).trans (congr (congrArg₂ ix3 (Fin.ext rfl) (Fin.ext ?_)) (Fin.ext ?_)))
  · show (k.val * 512 + q.val) / 512 % 2048 = k.val; omega
  · show (k.val * 512 + q.val) % 512 = q.val; omega

theorem values_weight_apply (k : Fin 2048) (q : Fin 512) : val_main_v19 (F := Ideal) x3 (ix2 k q) = x3 (ix3 0 k q) := by
  rw [val_main_v19_apply, val_main_v18_apply]
  refine congrArg x3 ((eq_ix3 _).trans (congr (congrArg₂ ix3 (Fin.ext rfl) (Fin.ext ?_)) (Fin.ext ?_)))
  · show (k.val * 512 + q.val) / 512 % 2048 = k.val; omega
  · show (k.val * 512 + q.val) % 512 = q.val; omega

/-- The two products at a row and a column. -/
theorem keys_apply (b : Fin 8) (s : Fin 256) (q : Fin 512) : val_main_v17 (F := Ideal) x0 x1 x2 (ix3 b s q)
    = ∑ k : Fin 2048, scaled (fun k => x0 (ix3 b s k)) (fun k => x1 (ix2 0 k)) k * x2 (ix3 0 k q) := by
  rw [val_main_v17_apply]
  refine Finset.sum_congr rfl fun k _ => congrArg₂ (· * ·) ?_ ?_
  · rw [show lidx_main_v17 (ix3 b s q) k = ix3 b s k from (eq_ix3 _).trans rfl]
    exact rows_apply x0 x1 b s k
  · rw [show ridx_main_v17 (ix3 b s q) k = ix2 k q from (eq_ix2 _).trans rfl]
    exact keys_weight_apply x2 k q

theorem values_apply (b : Fin 8) (s : Fin 256) (q : Fin 512) : val_main_v20 (F := Ideal) x0 x1 x3 (ix3 b s q)
    = ∑ k : Fin 2048, scaled (fun k => x0 (ix3 b s k)) (fun k => x1 (ix2 0 k)) k * x3 (ix3 0 k q) := by
  rw [val_main_v20_apply]
  refine Finset.sum_congr rfl fun k _ => congrArg₂ (· * ·) ?_ ?_
  · rw [show lidx_main_v20 (ix3 b s q) k = ix3 b s k from (eq_ix3 _).trans rfl]
    exact rows_apply x0 x1 b s k
  · rw [show ridx_main_v20 (ix3 b s q) k = ix2 k q from (eq_ix2 _).trans rfl]
    exact values_weight_apply x3 k q

theorem left (hd : Shape.Concatenates [S8x256x512, S8x256x512] S8x256x1024 2) (x y : S8x256x512.Idx → EReal) (b : Fin 8) (s : Fin 256) (l : Fin 512) :
    concatenate S8x256x1024 2 [⟨S8x256x512, x⟩, ⟨S8x256x512, y⟩] hd (ix3 b s ⟨l.val, by omega⟩) = x (ix3 b s l) := by
  pointwise []

theorem right (hd : Shape.Concatenates [S8x256x512, S8x256x512] S8x256x1024 2) (x y : S8x256x512.Idx → EReal) (b : Fin 8) (s : Fin 256) (l : Fin 512) :
    concatenate S8x256x1024 2 [⟨S8x256x512, x⟩, ⟨S8x256x512, y⟩] hd (ix3 b s ⟨512 + l.val, by omega⟩) = y (ix3 b s l) := by
  pointwise []

theorem unfolded (r : Fin 2048) (q : Fin 1024) : idx_main_v22 (ix2 r q) = ix3 (⟨r.val / 256, by omega⟩ : Fin 8) (⟨r.val % 256, by omega⟩ : Fin 256) q :=
  (eq_ix3 _).trans (congr (congrArg₂ ix3 (Fin.ext (by show (r.val * 1024 + q.val) / 262144 = r.val / 256; omega))
    (Fin.ext (by show (r.val * 1024 + q.val) / 1024 % 256 = r.val % 256; omega))) (Fin.ext (by show (r.val * 1024 + q.val) % 1024 = q.val; omega)))

/-- The result at a row and a column of the keys. -/
theorem whole_left (r : Fin 2048) (l : Fin 512) : val_main_v23 (F := Ideal) x0 x1 x2 x3 (ix2 r ⟨l.val, by omega⟩)
    = ∑ k : Fin 2048, scaled (fun k => x0 (ix3 (⟨r.val / 256, by omega⟩ : Fin 8) (⟨r.val % 256, by omega⟩ : Fin 256) k)) (fun k => x1 (ix2 0 k)) k * x2 (ix3 0 k l) := by
  rw [val_main_v23_apply, val_main_v22_apply, unfolded]
  unfold val_main_v21
  exact (left _ _ _ _ _ l).trans (keys_apply x0 x1 x2 _ _ l)

/-- The result at a row and a column of the values. -/
theorem whole_right (r : Fin 2048) (l : Fin 512) : val_main_v23 (F := Ideal) x0 x1 x2 x3 (ix2 r ⟨512 + l.val, by omega⟩)
    = ∑ k : Fin 2048, scaled (fun k => x0 (ix3 (⟨r.val / 256, by omega⟩ : Fin 8) (⟨r.val % 256, by omega⟩ : Fin 256) k)) (fun k => x1 (ix2 0 k)) k * x3 (ix3 0 k l) := by
  rw [val_main_v23_apply, val_main_v22_apply, unfolded]
  unfold val_main_v21
  exact (right _ _ _ _ _ l).trans (values_apply x0 x1 x3 _ _ l)

end Cert.MemReferenceIdeal.Net

end
-- ==== Proof.MemAgree.lean ====
/- The call on the memory and its reference agree, as real arithmetic. -/
module

public import proofs.«01_k».proof.Proof.MemIdeal.Whole
public import proofs.«01_k».proof.Proof.MemReferenceIdeal.Result

@[expose] public section

set_option maxRecDepth 16384

noncomputable section

namespace Cert.MemAgree

open Idealize.ShloMosaic Idealize.ShloMosaic.TcCoe Idealize.SL Idealize.SL.Sem
open Cert.MemIdeal Cert.MemIdeal.Gen Cert.MemIdeal.Blk

theorem equal (m : (ℓ : Loc nD τ sig) → Buf (Elt Ideal) ℓ) (c : Dev nD) :
    Cert.MemReferenceIdeal.Read.val_main_v23 (F := Ideal) (m ((c : Thread nD τ).loc main_arg0)) (m ((c : Thread nD τ).loc main_arg1)) (m ((c : Thread nD τ).loc main_arg2)) (m ((c : Thread nD τ).loc main_arg3)) = (dats m 0 c).arrAt 3 cfg0.N := by
  have at_ix : ∀ (r : Fin 2048) (q : Fin 1024), Cert.MemReferenceIdeal.Read.val_main_v23 (F := Ideal) (m ((c : Thread nD τ).loc main_arg0)) (m ((c : Thread nD τ).loc main_arg1)) (m ((c : Thread nD τ).loc main_arg2)) (m ((c : Thread nD τ).loc main_arg3)) (ix2 r q)
      = (dats m 0 c).arrAt 3 cfg0.N (ix2 r q : S2048x1024.Idx) := fun r q => by
    rw [whole m c r q]
    unfold w
    by_cases h : q.val < 512
    · simp only [dif_pos h]
      exact Cert.MemReferenceIdeal.Net.whole_left _ _ _ _ r ⟨q.val, h⟩
    · simp only [dif_neg h]
      refine Eq.trans ?_ (Cert.MemReferenceIdeal.Net.whole_right _ _ (m ((c : Thread nD τ).loc main_arg2)) _ r ⟨q.val - 512, by omega⟩)
      congr 1
      refine congrArg (ix2 r) (Fin.ext ?_)
      show q.val = 512 + (q.val - 512)
      omega
  funext i
  rw [eq_ix2 i]
  exact at_ix (i 0) (i 1)

end Cert.MemAgree

end
-- ==== Proof.lean ====
/- The claims, from the modules under Proof/. -/
module

public import proofs.«01_k».proof.Defs
public import proofs.«01_k».proof.Proof.Kernel.Frame
public import proofs.«01_k».proof.Proof.Agree
public import proofs.«01_k».proof.Proof.Gen.Ffn.Frame
public import proofs.«01_k».proof.Proof.FfnAgree
public import proofs.«01_k».proof.Proof.Gen.FfnMid.Frame
public import proofs.«01_k».proof.Proof.FfnMidAgree
public import proofs.«01_k».proof.Proof.Gen.Slabs.Frame
public import proofs.«01_k».proof.Proof.SlabsAgree
public import proofs.«01_k».proof.Proof.Gen.Mix.Frame
public import proofs.«01_k».proof.Proof.MixAgree
public import proofs.«01_k».proof.Proof.Gen.Xattn.Frame
public import proofs.«01_k».proof.Proof.XattnAgree
public import proofs.«01_k».proof.Proof.Gen.Mem.Frame
public import proofs.«01_k».proof.Proof.MemAgree
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constants are what the two literals round. -/
theorem preserves_Kernel_KernelIdeal : preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "scale" .f32 0x3E38AA3B#32 (((1 / 8) * (Real.log 2)⁻¹ : ℝ) : EReal) rfl⟩

theorem algebraic_KernelIdeal_ReferenceIdeal : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v101_eq, (hagree c).1, (hagree c).2]
  exact Cert.Agree.equal m c (hpre c)

theorem quiescent_FfnReferenceIdeal : quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

theorem algebraic_FfnIdeal_FfnReferenceIdeal : algebraic_FfnIdeal_FfnReferenceIdeal := by
  intro m ρ m' ρ' _ hagree
  refine ⟨_, Cert.FfnIdeal.Value.run (F := Ideal) m ρ, ?_⟩
  refine (θ_run Cert.FfnReferenceIdeal.defs _ _).mono (fun _ h c => ⟨?_, (h c).2⟩) (Cert.FfnReferenceIdeal.Value.run (F := Ideal) m' ρ')
  obtain ⟨e0, e1, e2, e3, e4, e5⟩ := hagree c
  rw [(h c).1, Cert.FfnReferenceIdeal.Read.val_main_v40_eq, e0, e1, e2, e3, e4, e5]
  exact Cert.FfnAgree.equal m c

theorem quiescent_FfnMidReferenceIdeal : quiescent_FfnMidReferenceIdeal := fun m ρ _ =>
  (θ_run Cert.FfnMidReferenceIdeal.defs _ _).mono (fun r h => ⟨fun c => (h c).2, sem_eq_zero_of_no_sems (by decide) r.2⟩)
    (Cert.FfnMidReferenceIdeal.Value.run (F := Ideal) m ρ)

theorem algebraic_FfnMidIdeal_FfnMidReferenceIdeal : algebraic_FfnMidIdeal_FfnMidReferenceIdeal := by
  intro m ρ m' ρ' _ hagree
  refine ⟨_, Cert.FfnMidIdeal.Value.run (F := Ideal) m ρ, ?_⟩
  refine (θ_run Cert.FfnMidReferenceIdeal.defs _ _).mono (fun _ h c => ⟨?_, (h c).2⟩) (Cert.FfnMidReferenceIdeal.Value.run (F := Ideal) m' ρ')
  obtain ⟨e0, e1, e2, e3, e4, e5⟩ := hagree c
  rw [(h c).1, Cert.FfnMidReferenceIdeal.Read.val_main_v27_eq, e0, e1, e2, e3, e4]
  exact Cert.FfnMidAgree.equal m c

theorem quiescent_SlabsReferenceIdeal : quiescent_SlabsReferenceIdeal := fun m ρ _ =>
  (θ_run Cert.SlabsReferenceIdeal.defs _ _).mono (fun r h => ⟨fun c => (h c).2, sem_eq_zero_of_no_sems (by decide) r.2⟩)
    (Cert.SlabsReferenceIdeal.Value.run (F := Ideal) m ρ)

theorem algebraic_SlabsIdeal_SlabsReferenceIdeal : algebraic_SlabsIdeal_SlabsReferenceIdeal := by
  intro m ρ m' ρ' _ hagree
  refine ⟨_, Cert.SlabsIdeal.Value.run (F := Ideal) m ρ, ?_⟩
  refine (θ_run Cert.SlabsReferenceIdeal.defs _ _).mono (fun _ h c => ⟨?_, (h c).2⟩) (Cert.SlabsReferenceIdeal.Value.run (F := Ideal) m' ρ')
  obtain ⟨e0, e1, e2⟩ := hagree c
  rw [(h c).1, Cert.SlabsReferenceIdeal.Read.val_main_v19_eq, e0, e1, e2]
  exact Cert.SlabsAgree.equal m c

theorem quiescent_MixReferenceIdeal : quiescent_MixReferenceIdeal := fun m ρ _ =>
  (θ_run Cert.MixReferenceIdeal.defs _ _).mono (fun r h => ⟨fun c => (h c).2, sem_eq_zero_of_no_sems (by decide) r.2⟩)
    (Cert.MixReferenceIdeal.Value.run (F := Ideal) m ρ)

theorem algebraic_MixIdeal_MixReferenceIdeal : algebraic_MixIdeal_MixReferenceIdeal := by
  intro m ρ m' ρ' _ hagree
  refine ⟨_, Cert.MixIdeal.Value.run_blocks (F := Ideal) m ρ, ?_⟩
  refine (θ_run Cert.MixReferenceIdeal.defs _ _).mono (fun _ h c => ⟨?_, (h c).2⟩) (Cert.MixReferenceIdeal.Value.run (F := Ideal) m' ρ')
  obtain ⟨e0, e1, e2, e3, e4, e5, e6, e7⟩ := hagree c
  rw [(h c).1, Cert.MixReferenceIdeal.Read.val_main_v50_eq, e0, e1, e2, e3, e4, e5, e6, e7]
  exact Cert.MixAgree.equal m c

theorem quiescent_XattnReferenceIdeal : quiescent_XattnReferenceIdeal := fun m ρ _ =>
  (θ_run Cert.XattnReferenceIdeal.defs _ _).mono (fun r h => ⟨fun c => (h c).2, sem_eq_zero_of_no_sems (by decide) r.2⟩)
    (Cert.XattnReferenceIdeal.Value.run (F := Ideal) m ρ)

theorem algebraic_XattnIdeal_XattnReferenceIdeal : algebraic_XattnIdeal_XattnReferenceIdeal_pre_finite_keys := by
  intro m ρ m' ρ' hpre hagree
  refine ⟨_, Cert.XattnIdeal.Value.run_blocks (F := Ideal) m ρ, ?_⟩
  refine (θ_run Cert.XattnReferenceIdeal.defs _ _).mono (fun _ h c => ⟨?_, (h c).2⟩) (Cert.XattnReferenceIdeal.Value.run (F := Ideal) m' ρ')
  obtain ⟨e0, e1, e2, e3, e4, e5⟩ := hagree c
  rw [(h c).1, Cert.XattnReferenceIdeal.Read.val_main_v41_eq, e0, e1, e2, e3, e4, e5]
  exact Cert.XattnAgree.equal m c (hpre c)

theorem quiescent_MemReferenceIdeal : quiescent_MemReferenceIdeal := fun m ρ _ =>
  (θ_run Cert.MemReferenceIdeal.defs _ _).mono (fun r h => ⟨fun c => (h c).2, sem_eq_zero_of_no_sems (by decide) r.2⟩)
    (Cert.MemReferenceIdeal.Value.run (F := Ideal) m ρ)

theorem algebraic_MemIdeal_MemReferenceIdeal : algebraic_MemIdeal_MemReferenceIdeal := by
  intro m ρ m' ρ' _ hagree
  refine ⟨_, Cert.MemIdeal.Value.run_blocks (F := Ideal) m ρ, ?_⟩
  refine (θ_run Cert.MemReferenceIdeal.defs _ _).mono (fun _ h c => ⟨?_, (h c).2⟩) (Cert.MemReferenceIdeal.Value.run (F := Ideal) m' ρ')
  obtain ⟨e0, e1, e2, e3⟩ := hagree c
  rw [(h c).1, Cert.MemReferenceIdeal.Read.val_main_v23_eq, e0, e1, e2, e3]
  exact Cert.MemAgree.equal m c

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.FfnMid.Gen.facts, Cert.FfnMidIdeal.Gen.facts, Cert.FfnMidReferenceIdeal.Gen.facts,
  Cert.Slabs.Gen.facts, Cert.SlabsIdeal.Gen.facts, Cert.SlabsReferenceIdeal.Gen.facts,
  Cert.Mix.Gen.facts, Cert.MixIdeal.Gen.facts, Cert.MixReferenceIdeal.Gen.facts,
  Cert.Xattn.Gen.facts, Cert.XattnIdeal.Gen.facts, Cert.XattnReferenceIdeal.Gen.facts,
  Cert.Mem.Gen.facts, Cert.MemIdeal.Gen.facts, Cert.MemReferenceIdeal.Gen.facts,
  Cert.Pre_finite.facts, Cert.Pre_finite_keys.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Ffn.Gen.frame m ρ, fun m ρ _ => Cert.FfnIdeal.Gen.frame m ρ, quiescent_FfnReferenceIdeal,
  fun m ρ _ => Cert.FfnMid.Gen.frame m ρ, fun m ρ _ => Cert.FfnMidIdeal.Gen.frame m ρ, quiescent_FfnMidReferenceIdeal,
  fun m ρ _ => Cert.Slabs.Gen.frame m ρ, fun m ρ _ => Cert.SlabsIdeal.Gen.frame m ρ, quiescent_SlabsReferenceIdeal,
  fun m ρ _ => Cert.Mix.Gen.frame m ρ, fun m ρ _ => Cert.MixIdeal.Gen.frame m ρ, quiescent_MixReferenceIdeal,
  fun m ρ _ => Cert.Xattn.Gen.frame m ρ, fun m ρ _ => Cert.XattnIdeal.Gen.frame m ρ, fun m ρ _ => Cert.XattnIdeal.Gen.frame m ρ,
  quiescent_XattnReferenceIdeal, fun m ρ _ => quiescent_XattnReferenceIdeal m ρ trivial,
  fun m ρ _ => Cert.Mem.Gen.frame m ρ, fun m ρ _ => Cert.MemIdeal.Gen.frame m ρ, quiescent_MemReferenceIdeal,
  preserves_Kernel_KernelIdeal, algebraic_KernelIdeal_ReferenceIdeal, trivial, algebraic_FfnIdeal_FfnReferenceIdeal, trivial, algebraic_FfnMidIdeal_FfnMidReferenceIdeal,
  trivial, algebraic_SlabsIdeal_SlabsReferenceIdeal, trivial, algebraic_MixIdeal_MixReferenceIdeal,
  trivial, algebraic_XattnIdeal_XattnReferenceIdeal, trivial, algebraic_MemIdeal_MemReferenceIdeal⟩

end Cert.Proof

end
